-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def preserves_Kernel_KernelIdeal : Prop :=
  IdealRules.named_const.Statement Cert.KernelIdeal.κ "s" .f32 0x3D93CD3A#32 (((Real.sqrt 192)⁻¹ : ℝ) : EReal)
  ∧ IdealRules.named_const.Statement Cert.KernelIdeal.κ "mask" .f32 0xFF7F0000#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v1_1)) (v3 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_v1_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_v65) = v2 c
          ∧ r.2.mem ((c.tc : Thread Cert.ReferenceIdeal.nD Cert.ReferenceIdeal.τ).loc Cert.ReferenceIdeal.main_v49) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)) (v1 : (c : Dev Cert.Kernel2Ideal.nD) → Buf (Elt Ideal) ((c.tc : Thread Cert.Kernel2Ideal.nD Cert.Kernel2Ideal.τ).loc Cert.Kernel2Ideal.main_v1)) (v2 : (c : Dev Cert.Kernel2Ideal.nD) → Buf (Elt Ideal) ((c.tc : Thread Cert.Kernel2Ideal.nD Cert.Kernel2Ideal.τ).loc Cert.Kernel2Ideal.main_v2)) (v3 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_v1) = v1 c
          ∧ r.2.mem ((c.tc : Thread Cert.Kernel2Ideal.nD Cert.Kernel2Ideal.τ).loc Cert.Kernel2Ideal.main_v2) = v2 c
          ∧ r.2.mem ((c.tc : Thread Cert.Kernel2Ideal.nD Cert.Kernel2Ideal.τ).loc Cert.Kernel2Ideal.main_v3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v11) = v0 c
          ∧ r.2.mem ((c.tc : Thread Cert.Reference2Ideal.nD Cert.Reference2Ideal.τ).loc Cert.Reference2Ideal.main_v25) = v1 c
          ∧ r.2.mem ((c.tc : Thread Cert.Reference2Ideal.nD Cert.Reference2Ideal.τ).loc Cert.Reference2Ideal.main_v27) = v2 c
          ∧ r.2.mem ((c.tc : Thread Cert.Reference2Ideal.nD Cert.Reference2Ideal.τ).loc Cert.Reference2Ideal.main_v13) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v0)) (v1 : (c : Dev Cert.Kernel3Ideal.nD) → Buf (Elt Ideal) ((c.tc : Thread Cert.Kernel3Ideal.nD Cert.Kernel3Ideal.τ).loc Cert.Kernel3Ideal.main_v1)) (v2 : (c : Dev Cert.Kernel3Ideal.nD) → Buf (Elt Ideal) ((c.tc : Thread Cert.Kernel3Ideal.nD Cert.Kernel3Ideal.τ).loc Cert.Kernel3Ideal.main_v2)) (v3 : (c : Dev Cert.Kernel3Ideal.nD) → Buf (Elt Ideal) ((c.tc : Thread Cert.Kernel3Ideal.nD Cert.Kernel3Ideal.τ).loc Cert.Kernel3Ideal.main_v3)) (v4 : (c : Dev Cert.Kernel3Ideal.nD) → Buf (Elt Ideal) ((c.tc : Thread Cert.Kernel3Ideal.nD Cert.Kernel3Ideal.τ).loc Cert.Kernel3Ideal.main_v4)) (v5 : (c : Dev Cert.Kernel3Ideal.nD) → Buf (Elt Ideal) ((c.tc : Thread Cert.Kernel3Ideal.nD Cert.Kernel3Ideal.τ).loc Cert.Kernel3Ideal.main_v5)) (v6 : (c : Dev Cert.Kernel3Ideal.nD) → Buf (Elt Ideal) ((c.tc : Thread Cert.Kernel3Ideal.nD Cert.Kernel3Ideal.τ).loc Cert.Kernel3Ideal.main_v6)) (v7 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_v1) = v1 c
          ∧ r.2.mem ((c.tc : Thread Cert.Kernel3Ideal.nD Cert.Kernel3Ideal.τ).loc Cert.Kernel3Ideal.main_v2) = v2 c
          ∧ r.2.mem ((c.tc : Thread Cert.Kernel3Ideal.nD Cert.Kernel3Ideal.τ).loc Cert.Kernel3Ideal.main_v3) = v3 c
          ∧ r.2.mem ((c.tc : Thread Cert.Kernel3Ideal.nD Cert.Kernel3Ideal.τ).loc Cert.Kernel3Ideal.main_v4) = v4 c
          ∧ r.2.mem ((c.tc : Thread Cert.Kernel3Ideal.nD Cert.Kernel3Ideal.τ).loc Cert.Kernel3Ideal.main_v5) = v5 c
          ∧ r.2.mem ((c.tc : Thread Cert.Kernel3Ideal.nD Cert.Kernel3Ideal.τ).loc Cert.Kernel3Ideal.main_v6) = v6 c
          ∧ r.2.mem ((c.tc : Thread Cert.Kernel3Ideal.nD Cert.Kernel3Ideal.τ).loc Cert.Kernel3Ideal.main_v7) = v7 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_v21) = v1 c
          ∧ r.2.mem ((c.tc : Thread Cert.Reference3Ideal.nD Cert.Reference3Ideal.τ).loc Cert.Reference3Ideal.main_v35) = v2 c
          ∧ r.2.mem ((c.tc : Thread Cert.Reference3Ideal.nD Cert.Reference3Ideal.τ).loc Cert.Reference3Ideal.main_v22) = v3 c
          ∧ r.2.mem ((c.tc : Thread Cert.Reference3Ideal.nD Cert.Reference3Ideal.τ).loc Cert.Reference3Ideal.main_v23) = v4 c
          ∧ r.2.mem ((c.tc : Thread Cert.Reference3Ideal.nD Cert.Reference3Ideal.τ).loc Cert.Reference3Ideal.main_v36) = v5 c
          ∧ r.2.mem ((c.tc : Thread Cert.Reference3Ideal.nD Cert.Reference3Ideal.τ).loc Cert.Reference3Ideal.main_v37) = v6 c
          ∧ r.2.mem ((c.tc : Thread Cert.Reference3Ideal.nD Cert.Reference3Ideal.τ).loc Cert.Reference3Ideal.main_v11) = v7 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0)) (v1 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_v1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v12) = v0 c
          ∧ r.2.mem ((c.tc : Thread Cert.Reference4Ideal.nD Cert.Reference4Ideal.τ).loc Cert.Reference4Ideal.main_v28) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v35) = v0 c
          ∧ r.2.mem ((c.tc : Thread Cert.Reference7Ideal.nD Cert.Reference7Ideal.τ).loc Cert.Reference7Ideal.main_v18) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v13) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference8Ideal [hKernel9Ideal : Cert.Kernel9Ideal.Facts] [hReference8Ideal : Cert.Reference8Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel9Ideal m →
    (∀ c : Dev Cert.Kernel9Ideal.nD,
      m' ((c.tc : Thread Cert.Reference8Ideal.nD Cert.Reference8Ideal.τ).loc Cert.Reference8Ideal.main_arg0) = m ((c.tc : Thread Cert.Kernel9Ideal.nD Cert.Kernel9Ideal.τ).loc Cert.Kernel9Ideal.main_arg0)
      ∧ m' ((c.tc : Thread Cert.Reference8Ideal.nD Cert.Reference8Ideal.τ).loc Cert.Reference8Ideal.main_arg1) = m ((c.tc : Thread Cert.Kernel9Ideal.nD Cert.Kernel9Ideal.τ).loc Cert.Kernel9Ideal.main_arg1)
      ∧ m' ((c.tc : Thread Cert.Reference8Ideal.nD Cert.Reference8Ideal.τ).loc Cert.Reference8Ideal.main_arg2) = m ((c.tc : Thread Cert.Kernel9Ideal.nD Cert.Kernel9Ideal.τ).loc Cert.Kernel9Ideal.main_arg2)
      ∧ m' ((c.tc : Thread Cert.Reference8Ideal.nD Cert.Reference8Ideal.τ).loc Cert.Reference8Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v13) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel10_Kernel10Ideal : Prop :=
  True

def algebraic_Kernel10Ideal_Reference6Ideal [hKernel10Ideal : Cert.Kernel10Ideal.Facts] [hReference6Ideal : Cert.Reference6Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel10Ideal m →
    (∀ c : Dev Cert.Kernel10Ideal.nD,
      m' ((c.tc : Thread Cert.Reference6Ideal.nD Cert.Reference6Ideal.τ).loc Cert.Reference6Ideal.main_arg0) = m ((c.tc : Thread Cert.Kernel10Ideal.nD Cert.Kernel10Ideal.τ).loc Cert.Kernel10Ideal.main_arg0)
      ∧ m' ((c.tc : Thread Cert.Reference6Ideal.nD Cert.Reference6Ideal.τ).loc Cert.Reference6Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v23) = v0 c
          ∧ r.2.mem ((c.tc : Thread Cert.Reference11Ideal.nD Cert.Reference11Ideal.τ).loc Cert.Reference11Ideal.main_v4) = v1 c
          ∧ r.2.mem ((c.tc : Thread Cert.Reference11Ideal.nD Cert.Reference11Ideal.τ).loc Cert.Reference11Ideal.main_v10) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference11Ideal [hKernel12Ideal : Cert.Kernel12Ideal.Facts] [hReference11Ideal : Cert.Reference11Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel12Ideal m →
    (∀ c : Dev Cert.Kernel12Ideal.nD,
      m' ((c.tc : Thread Cert.Reference11Ideal.nD Cert.Reference11Ideal.τ).loc Cert.Reference11Ideal.main_arg0) = m ((c.tc : Thread Cert.Kernel12Ideal.nD Cert.Kernel12Ideal.τ).loc Cert.Kernel12Ideal.main_arg0)
      ∧ m' ((c.tc : Thread Cert.Reference11Ideal.nD Cert.Reference11Ideal.τ).loc Cert.Reference11Ideal.main_arg1) = m ((c.tc : Thread Cert.Kernel12Ideal.nD Cert.Kernel12Ideal.τ).loc Cert.Kernel12Ideal.main_arg1)
      ∧ m' ((c.tc : Thread Cert.Reference11Ideal.nD Cert.Reference11Ideal.τ).loc Cert.Reference11Ideal.main_arg2) = m ((c.tc : Thread Cert.Kernel12Ideal.nD Cert.Kernel12Ideal.τ).loc Cert.Kernel12Ideal.main_arg2)
      ∧ m' ((c.tc : Thread Cert.Reference11Ideal.nD Cert.Reference11Ideal.τ).loc Cert.Reference11Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v23) = v0 c
          ∧ r.2.mem ((c.tc : Thread Cert.Reference11Ideal.nD Cert.Reference11Ideal.τ).loc Cert.Reference11Ideal.main_v4) = v1 c
          ∧ r.2.mem ((c.tc : Thread Cert.Reference11Ideal.nD Cert.Reference11Ideal.τ).loc Cert.Reference11Ideal.main_v10) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel13_Kernel13Ideal : Prop :=
  True

def algebraic_Kernel13Ideal_Reference7Ideal [hKernel13Ideal : Cert.Kernel13Ideal.Facts] [hReference7Ideal : Cert.Reference7Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel13Ideal m →
    (∀ c : Dev Cert.Kernel13Ideal.nD,
      m' ((c.tc : Thread Cert.Reference7Ideal.nD Cert.Reference7Ideal.τ).loc Cert.Reference7Ideal.main_arg0) = m ((c.tc : Thread Cert.Kernel13Ideal.nD Cert.Kernel13Ideal.τ).loc Cert.Kernel13Ideal.main_arg0)
      ∧ m' ((c.tc : Thread Cert.Reference7Ideal.nD Cert.Reference7Ideal.τ).loc Cert.Reference7Ideal.main_arg1) = m ((c.tc : Thread Cert.Kernel13Ideal.nD Cert.Kernel13Ideal.τ).loc Cert.Kernel13Ideal.main_arg1)
      ∧ m' ((c.tc : Thread Cert.Reference7Ideal.nD Cert.Reference7Ideal.τ).loc Cert.Reference7Ideal.main_arg2) = m ((c.tc : Thread Cert.Kernel13Ideal.nD Cert.Kernel13Ideal.τ).loc Cert.Kernel13Ideal.main_arg2)
      ∧ m' ((c.tc : Thread Cert.Reference7Ideal.nD Cert.Reference7Ideal.τ).loc Cert.Reference7Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v35) = v0 c
          ∧ r.2.mem ((c.tc : Thread Cert.Reference7Ideal.nD Cert.Reference7Ideal.τ).loc Cert.Reference7Ideal.main_v18) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference14Ideal [hKernel16Ideal : Cert.Kernel16Ideal.Facts] [hReference14Ideal : Cert.Reference14Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel16Ideal m →
    (∀ c : Dev Cert.Kernel16Ideal.nD,
      m' ((c.tc : Thread Cert.Reference14Ideal.nD Cert.Reference14Ideal.τ).loc Cert.Reference14Ideal.main_arg0) = m ((c.tc : Thread Cert.Kernel16Ideal.nD Cert.Kernel16Ideal.τ).loc Cert.Kernel16Ideal.main_arg0)
      ∧ m' ((c.tc : Thread Cert.Reference14Ideal.nD Cert.Reference14Ideal.τ).loc Cert.Reference14Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel17_Kernel17Ideal : Prop :=
  True

def algebraic_Kernel17Ideal_Reference15Ideal [hKernel17Ideal : Cert.Kernel17Ideal.Facts] [hReference15Ideal : Cert.Reference15Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel17Ideal m →
    (∀ c : Dev Cert.Kernel17Ideal.nD,
      m' ((c.tc : Thread Cert.Reference15Ideal.nD Cert.Reference15Ideal.τ).loc Cert.Reference15Ideal.main_arg0) = m ((c.tc : Thread Cert.Kernel17Ideal.nD Cert.Kernel17Ideal.τ).loc Cert.Kernel17Ideal.main_arg0)
      ∧ m' ((c.tc : Thread Cert.Reference15Ideal.nD Cert.Reference15Ideal.τ).loc Cert.Reference15Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v14) = v0 c
          ∧ r.2.mem ((c.tc : Thread Cert.Reference18Ideal.nD Cert.Reference18Ideal.τ).loc Cert.Reference18Ideal.main_v15) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hKernel10 : Cert.Kernel10.Facts) (hKernel10Ideal : Cert.Kernel10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hKernel13 : Cert.Kernel13.Facts) (hKernel13Ideal : Cert.Kernel13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hKernel17 : Cert.Kernel17.Facts) (hKernel17Ideal : Cert.Kernel17Ideal.Facts) (hKernel18 : Cert.Kernel18.Facts) (hKernel18Ideal : Cert.Kernel18Ideal.Facts) (hReference18Ideal : Cert.Reference18Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel10 (hKernel10 := hKernel10)
    ∧ quiescent_Kernel10Ideal (hKernel10Ideal := hKernel10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Kernel13 (hKernel13 := hKernel13)
    ∧ quiescent_Kernel13Ideal (hKernel13Ideal := hKernel13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Kernel17 (hKernel17 := hKernel17)
    ∧ quiescent_Kernel17Ideal (hKernel17Ideal := hKernel17Ideal)
    ∧ quiescent_Kernel18 (hKernel18 := hKernel18)
    ∧ quiescent_Kernel18Ideal (hKernel18Ideal := hKernel18Ideal)
    ∧ quiescent_Reference18Ideal (hReference18Ideal := hReference18Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference8Ideal (hKernel9Ideal := hKernel9Ideal) (hReference8Ideal := hReference8Ideal)
    ∧ preserves_Kernel10_Kernel10Ideal
    ∧ algebraic_Kernel10Ideal_Reference6Ideal (hKernel10Ideal := hKernel10Ideal) (hReference6Ideal := hReference6Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference11Ideal (hKernel12Ideal := hKernel12Ideal) (hReference11Ideal := hReference11Ideal)
    ∧ preserves_Kernel13_Kernel13Ideal
    ∧ algebraic_Kernel13Ideal_Reference7Ideal (hKernel13Ideal := hKernel13Ideal) (hReference7Ideal := hReference7Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference14Ideal (hKernel16Ideal := hKernel16Ideal) (hReference14Ideal := hReference14Ideal)
    ∧ preserves_Kernel17_Kernel17Ideal
    ∧ algebraic_Kernel17Ideal_Reference15Ideal (hKernel17Ideal := hKernel17Ideal) (hReference15Ideal := hReference15Ideal)
    ∧ preserves_Kernel18_Kernel18Ideal
    ∧ algebraic_Kernel18Ideal_Reference18Ideal (hKernel18Ideal := hKernel18Ideal) (hReference18Ideal := hReference18Ideal)
-- ==== Pre_finite.lean ====
abbrev S12x2048x256 : Shape := ⟨3, ![12, 2048, 256]⟩
abbrev S12x2048x128 : Shape := ⟨3, ![12, 2048, 128]⟩
abbrev S2048x1536 : Shape := ⟨2, ![2048, 1536]⟩
abbrev S_ : Shape := ⟨0, ![]⟩

class Facts : Prop where
  bcast_S_S12x2048x256 : S_.BroadcastsInDim S12x2048x256 (![] : Fin 0 → Fin S12x2048x256.rank)
  bcast_S_S12x2048x128 : S_.BroadcastsInDim S12x2048x128 (![] : Fin 0 → Fin S12x2048x128.rank)
  bcast_S_S2048x1536 : S_.BroadcastsInDim S2048x1536 (![] : Fin 0 → Fin S2048x1536.rank)

variable [Facts]

def fn {F : FTy → Type} [FloatOps F] (main_arg0 : FVec F S12x2048x256 .bf16) (main_arg1 : FVec F S12x2048x256 .bf16) (main_arg2 : FVec F S12x2048x128 .bf16) (main_arg3 : FVec F S2048x1536 .f32) : IVec S12x2048x256 1 × IVec S12x2048x256 1 × IVec S12x2048x128 1 × IVec S2048x1536 1 :=
  let main_v0 : FVec F S12x2048x256 .bf16 := Host.absf main_arg0
  let main_cst : FVec F S_ .bf16 := constant S_ .bf16 0x7F80#16
  let main_v1 : FVec F S12x2048x256 .bf16 := broadcastInDim S12x2048x256 ![] bcast_S_S12x2048x256 main_cst
  let main_v2 : IVec S12x2048x256 1 := cmpf .olt main_v0 main_v1
  let main_v3 : FVec F S12x2048x256 .bf16 := Host.absf main_arg1
  let main_cst_0 : FVec F S_ .bf16 := constant S_ .bf16 0x7F80#16
  let main_v4 : FVec F S12x2048x256 .bf16 := broadcastInDim S12x2048x256 ![] bcast_S_S12x2048x256 main_cst_0
  let main_v5 : IVec S12x2048x256 1 := cmpf .olt main_v3 main_v4
  let main_v6 : FVec F S12x2048x128 .bf16 := Host.absf main_arg2
  let main_cst_1 : FVec F S_ .bf16 := constant S_ .bf16 0x7F80#16
  let main_v7 : FVec F S12x2048x128 .bf16 := broadcastInDim S12x2048x128 ![] bcast_S_S12x2048x128 main_cst_1
  let main_v8 : IVec S12x2048x128 1 := cmpf .olt main_v6 main_v7
  let main_v9 : FVec F S2048x1536 .f32 := Host.absf main_arg3
  let main_cst_2 : FVec F S_ .f32 := constant S_ .f32 0x7F800000#32
  let main_v10 : FVec F S2048x1536 .f32 := broadcastInDim S2048x1536 ![] bcast_S_S2048x1536 main_cst_2
  let main_v11 : IVec S2048x1536 1 := cmpf .olt main_v9 main_v10
  (main_v2, main_v5, main_v8, main_v11)
-- ==== Kernel.lean ====
abbrev S12x2048x256 : Shape := ⟨3, ![12, 2048, 256]⟩
abbrev S12x2048x128 : Shape := ⟨3, ![12, 2048, 128]⟩
abbrev S2048x1536 : Shape := ⟨2, ![2048, 1536]⟩
abbrev S12x2048x1 : Shape := ⟨3, ![12, 2048, 1]⟩
abbrev S4x512x256 : Shape := ⟨3, ![4, 512, 256]⟩
abbrev S4x2048x256 : Shape := ⟨3, ![4, 2048, 256]⟩
abbrev S4x2048x128 : Shape := ⟨3, ![4, 2048, 128]⟩
abbrev S512x512 : Shape := ⟨2, ![512, 512]⟩
abbrev S4x512x1 : Shape := ⟨3, ![4, 512, 1]⟩
abbrev S1x512x256 : Shape := ⟨3, ![1, 512, 256]⟩
abbrev S512x256 : Shape := ⟨2, ![512, 256]⟩
abbrev S512 : Shape := ⟨1, ![512]⟩
abbrev S512x1 : Shape := ⟨2, ![512, 1]⟩
abbrev S1x512x128 : Shape := ⟨3, ![1, 512, 128]⟩
abbrev S512x128 : Shape := ⟨2, ![512, 128]⟩
abbrev S1x512x1 : Shape := ⟨3, ![1, 512, 1]⟩
abbrev S1x1024x256 : Shape := ⟨3, ![1, 1024, 256]⟩
abbrev S1024x256 : Shape := ⟨2, ![1024, 256]⟩
abbrev S512x1024 : Shape := ⟨2, ![512, 1024]⟩
abbrev S1x1024x128 : Shape := ⟨3, ![1, 1024, 128]⟩
abbrev S1024x128 : Shape := ⟨2, ![1024, 128]⟩
abbrev S1x1536x256 : Shape := ⟨3, ![1, 1536, 256]⟩
abbrev S1536x256 : Shape := ⟨2, ![1536, 256]⟩
abbrev S512x1536 : Shape := ⟨2, ![512, 1536]⟩
abbrev S1x1536x128 : Shape := ⟨3, ![1, 1536, 128]⟩
abbrev S1536x128 : Shape := ⟨2, ![1536, 128]⟩
abbrev S1x2048x256 : Shape := ⟨3, ![1, 2048, 256]⟩
abbrev S2048x256 : Shape := ⟨2, ![2048, 256]⟩
abbrev S512x2048 : Shape := ⟨2, ![512, 2048]⟩
abbrev S1x2048x128 : Shape := ⟨3, ![1, 2048, 128]⟩
abbrev S2048x128 : Shape := ⟨2, ![2048, 128]⟩
abbrev S2x512x256 : Shape := ⟨3, ![2, 512, 256]⟩
abbrev S2x2048x256 : Shape := ⟨3, ![2, 2048, 256]⟩
abbrev S2x2048x128 : Shape := ⟨3, ![2, 2048, 128]⟩
abbrev S2x512x1 : Shape := ⟨3, ![2, 512, 1]⟩

abbrev nBuf : Space → Nat
  | .hbm => 9
  | .vmem => 28
  | .smem => 0
  | _ => 0

abbrev bufTy : (tb : Table) → Fin (tcTables nBuf tb) → BufTy
  | .hbm, ⟨0, _⟩ => ⟨S12x2048x256, .bf16⟩
  | .hbm, ⟨1, _⟩ => ⟨S12x2048x256, .bf16⟩
  | .hbm, ⟨2, _⟩ => ⟨S12x2048x128, .bf16⟩
  | .hbm, ⟨3, _⟩ => ⟨S2048x1536, .f32⟩
  | .hbm, ⟨4, _⟩ => ⟨S2048x1536, .f32⟩
  | .hbm, ⟨5, _⟩ => ⟨S12x2048x1, .f32⟩
  | .hbm, ⟨6, _⟩ => ⟨S12x2048x256, .f32⟩
  | .hbm, ⟨7, _⟩ => ⟨S12x2048x256, .f32⟩
  | .hbm, ⟨8, _⟩ => ⟨S12x2048x128, .f32⟩
  | .local _ .vmem, ⟨0, _⟩ => ⟨S4x512x256, .bf16⟩
  | .local _ .vmem, ⟨1, _⟩ => ⟨S4x512x256, .bf16⟩
  | .local _ .vmem, ⟨2, _⟩ => ⟨S4x2048x256, .bf16⟩
  | .local _ .vmem, ⟨3, _⟩ => ⟨S4x2048x256, .bf16⟩
  | .local _ .vmem, ⟨4, _⟩ => ⟨S4x2048x128, .bf16⟩
  | .local _ .vmem, ⟨5, _⟩ => ⟨S4x2048x128, .bf16⟩
  | .local _ .vmem, ⟨6, _⟩ => ⟨S512x512, .f32⟩
  | .local _ .vmem, ⟨7, _⟩ => ⟨S512x512, .f32⟩
  | .local _ .vmem, ⟨8, _⟩ => ⟨S4x512x1, .f32⟩
  | .local _ .vmem, ⟨9, _⟩ => ⟨S4x512x1, .f32⟩
  | .local _ .vmem, ⟨10, _⟩ => ⟨S2x512x256, .bf16⟩
  | .local _ .vmem, ⟨11, _⟩ => ⟨S2x512x256, .bf16⟩
  | .local _ .vmem, ⟨12, _⟩ => ⟨S2x2048x256, .bf16⟩
  | .local _ .vmem, ⟨13, _⟩ => ⟨S2x2048x256, .bf16⟩
  | .local _ .vmem, ⟨14, _⟩ => ⟨S2x2048x128, .bf16⟩
  | .local _ .vmem, ⟨15, _⟩ => ⟨S2x2048x128, .bf16⟩
  | .local _ .vmem, ⟨16, _⟩ => ⟨S512x256, .f32⟩
  | .local _ .vmem, ⟨17, _⟩ => ⟨S512x256, .f32⟩
  | .local _ .vmem, ⟨18, _⟩ => ⟨S2x512x1, .f32⟩
  | .local _ .vmem, ⟨19, _⟩ => ⟨S2x512x1, .f32⟩
  | .local _ .vmem, ⟨20, _⟩ => ⟨S512x256, .f32⟩
  | .local _ .vmem, ⟨21, _⟩ => ⟨S512x256, .f32⟩
  | .local _ .vmem, ⟨22, _⟩ => ⟨S2x512x256, .f32⟩
  | .local _ .vmem, ⟨23, _⟩ => ⟨S2x512x256, .f32⟩
  | .local _ .vmem, ⟨24, _⟩ => ⟨S2x2048x256, .f32⟩
  | .local _ .vmem, ⟨25, _⟩ => ⟨S2x2048x256, .f32⟩
  | .local _ .vmem, ⟨26, _⟩ => ⟨S2x2048x128, .f32⟩
  | .local _ .vmem, ⟨27, _⟩ => ⟨S2x2048x128, .f32⟩
  | _, _ => ⟨S12x2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨2, ![3, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c2_i32 : BitVec 32 := 2#32
  let v6 : BitVec 1 := Scalar.cmpi .eq arg1 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![6, 4], ![false, false]⟩

def k1_cond2 (i : grid1.Coords) : BitVec 1 :=
  let arg1 : BitVec 32 := BitVec.ofNat 32 (i 1).val
  let c0_i32_1 : BitVec 32 := 0#32
  let v3 : BitVec 1 := Scalar.cmpi .eq arg1 c0_i32_1
  let v4 : BitVec 32 := Scalar.extui v3
  let c0_i32_2 : BitVec 32 := 0#32
  let v5 : BitVec 1 := Scalar.cmpi .ne v4 c0_i32_2
  v5

def k1_cond3 (i : grid1.Coords) : BitVec 1 :=
  let arg1 : BitVec 32 := BitVec.ofNat 32 (i 1).val
  let c1_i32 : BitVec 32 := 1#32
  let v6 : BitVec 1 := Scalar.cmpi .eq arg1 c1_i32
  let v7 : BitVec 32 := Scalar.extui v6
  let c0_i32_3 : BitVec 32 := 0#32
  let v8 : BitVec 1 := Scalar.cmpi .ne v7 c0_i32_3
  v8

def k1_cond4 (i : grid1.Coords) : BitVec 1 :=
  let arg1 : BitVec 32 := BitVec.ofNat 32 (i 1).val
  let c2_i32 : BitVec 32 := 2#32
  let v9 : BitVec 1 := Scalar.cmpi .eq arg1 c2_i32
  let v10 : BitVec 32 := Scalar.extui v9
  let c0_i32_4 : BitVec 32 := 0#32
  let v11 : BitVec 1 := Scalar.cmpi .ne v10 c0_i32_4
  v11

def k1_cond5 (i : grid1.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_5 : BitVec 32 := 0#32
  let v14 : BitVec 1 := Scalar.cmpi .ne v13 c0_i32_5
  v14

def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2x512x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2x2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2x2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S2x512x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S512x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S2x512x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S2x2048x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S2x2048x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]
-- ==== KernelIdeal.lean ====
variable {F : FTy → Type} [FloatOps F] [Named F]
def κ : String → Option EReal := fun
  | "mask" => some ⊥
  | "s" => some (((Real.sqrt 192)⁻¹ : ℝ) : EReal)
  | _ => none
-- ==== ReferenceIdeal.lean ====
abbrev S12x2048x256 : Shape := ⟨3, ![12, 2048, 256]⟩
abbrev S12x2048x128 : Shape := ⟨3, ![12, 2048, 128]⟩
abbrev S2048x1536 : Shape := ⟨2, ![2048, 1536]⟩
abbrev S12x2048x2048 : Shape := ⟨3, ![12, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S12x2048 : Shape := ⟨2, ![12, 2048]⟩
abbrev S12x2048x1 : Shape := ⟨3, ![12, 2048, 1]⟩
abbrev S12x128x2048 : Shape := ⟨3, ![12, 128, 2048]⟩
abbrev S2048x12x128 : Shape := ⟨3, ![2048, 12, 128]⟩

abbrev nBuf : Space → Nat
  | .hbm => 92
  | .vmem => 0
  | .smem => 0
  | _ => 0

abbrev bufTy : (tb : Table) → Fin (tcTables nBuf tb) → BufTy
  | .hbm, ⟨0, _⟩ => ⟨S12x2048x256, .bf16⟩
  | .hbm, ⟨1, _⟩ => ⟨S12x2048x256, .bf16⟩
  | .hbm, ⟨2, _⟩ => ⟨S12x2048x128, .bf16⟩
  | .hbm, ⟨3, _⟩ => ⟨S2048x1536, .f32⟩
  | .hbm, ⟨4, _⟩ => ⟨S12x2048x256, .f32⟩
  | .hbm, ⟨5, _⟩ => ⟨S12x2048x256, .f32⟩
  | .hbm, ⟨6, _⟩ => ⟨S12x2048x128, .f32⟩
  | .hbm, ⟨7, _⟩ => ⟨S12x2048x2048, .f32⟩
  | .hbm, ⟨8, _⟩ => ⟨S_, .f32⟩
  | .hbm, ⟨9, _⟩ => ⟨S_, .f32⟩
  | .hbm, ⟨10, _⟩ => ⟨S12x2048x2048, .f32⟩
  | .hbm, ⟨11, _⟩ => ⟨S12x2048x2048, .f32⟩
  | .hbm, ⟨12, _⟩ => ⟨S2048, .i32⟩
  | .hbm, ⟨13, _⟩ => ⟨S1x2048, .i32⟩
  | .hbm, ⟨14, _⟩ => ⟨S2048x1, .i32⟩
  | .hbm, ⟨15, _⟩ => ⟨S2048x2048, .i32⟩
  | .hbm, ⟨16, _⟩ => ⟨S2048x2048, .i32⟩
  | .hbm, ⟨17, _⟩ => ⟨S2048x2048, .i1⟩
  | .hbm, ⟨18, _⟩ => ⟨S_, .f32⟩
  | .hbm, ⟨19, _⟩ => ⟨S_, .f32⟩
  | .hbm, ⟨20, _⟩ => ⟨S12x2048x2048, .i1⟩
  | .hbm, ⟨21, _⟩ => ⟨S12x2048x2048, .f32⟩
  | .hbm, ⟨22, _⟩ => ⟨S12x2048x2048, .f32⟩
  | .hbm, ⟨23, _⟩ => ⟨S_, .f32⟩
  | .hbm, ⟨24, _⟩ => ⟨S12x2048x2048, .f32⟩
  | .hbm, ⟨25, _⟩ => ⟨S_, .f32⟩
  | .hbm, ⟨26, _⟩ => ⟨S12x2048, .f32⟩
  | .hbm, ⟨27, _⟩ => ⟨S12x2048x1, .f32⟩
  | .hbm, ⟨28, _⟩ => ⟨S12x2048x2048, .f32⟩
  | .hbm, ⟨29, _⟩ => ⟨S12x2048x2048, .i1⟩
  | .hbm, ⟨30, _⟩ => ⟨S12x2048x2048, .f32⟩
  | .hbm, ⟨31, _⟩ => ⟨S_, .f32⟩
  | .hbm, ⟨32, _⟩ => ⟨S12x2048, .f32⟩
  | .hbm, ⟨33, _⟩ => ⟨S_, .f32⟩
  | .hbm, ⟨34, _⟩ => ⟨S12x2048, .f32⟩
  | .hbm, ⟨35, _⟩ => ⟨S12x2048, .f32⟩
  | .hbm, ⟨36, _⟩ => ⟨S_, .f32⟩
  | .hbm, ⟨37, _⟩ => ⟨S12x2048, .f32⟩
  | .hbm, ⟨38, _⟩ => ⟨S12x2048, .i1⟩
  | .hbm, ⟨39, _⟩ => ⟨S_, .f32⟩
  | .hbm, ⟨40, _⟩ => ⟨S12x2048, .f32⟩
  | .hbm, ⟨41, _⟩ => ⟨S12x2048, .i1⟩
  | .hbm, ⟨42, _⟩ => ⟨S_, .f32⟩
  | .hbm, ⟨43, _⟩ => ⟨S12x2048, .f32⟩
  | .hbm, ⟨44, _⟩ => ⟨S_, .f32⟩
  | .hbm, ⟨45, _⟩ => ⟨S12x2048, .f32⟩
  | .hbm, ⟨46, _⟩ => ⟨S_, .f32⟩
  | .hbm, ⟨47, _⟩ => ⟨S12x2048, .f32⟩
  | .hbm, ⟨48, _⟩ => ⟨S12x2048, .f32⟩
  | .hbm, ⟨49, _⟩ => ⟨S12x2048, .f32⟩
  | .hbm, ⟨50, _⟩ => ⟨S12x2048x1, .f32⟩
  | .hbm, ⟨51, _⟩ => ⟨S12x2048x2048, .f32⟩
  | .hbm, ⟨52, _⟩ => ⟨S12x2048x2048, .f32⟩
  | .hbm, ⟨53, _⟩ => ⟨S12x2048x2048, .f32⟩
  | .hbm, ⟨54, _⟩ => ⟨S_, .f32⟩
  | .hbm, ⟨55, _⟩ => ⟨S12x2048, .f32⟩
  | .hbm, ⟨56, _⟩ => ⟨S12x2048x1, .f32⟩
  | .hbm, ⟨57, _⟩ => ⟨S12x2048x2048, .f32⟩
  | .hbm, ⟨58, _⟩ => ⟨S12x2048x2048, .f32⟩
  | .hbm, ⟨59, _⟩ => ⟨S12x2048x1, .f32⟩
  | .hbm, ⟨60, _⟩ => ⟨S_, .f32⟩
  | .hbm, ⟨61, _⟩ => ⟨S12x2048x1, .f32⟩
  | .hbm, ⟨62, _⟩ => ⟨S12x2048x1, .f32⟩
  | .hbm, ⟨63, _⟩ => ⟨S12x128x2048, .f32⟩
  | .hbm, ⟨64, _⟩ => ⟨S2048x12x128, .f32⟩
  | .hbm, ⟨65, _⟩ => ⟨S2048x1536, .f32⟩
  | .hbm, ⟨66, _⟩ => ⟨S2048x12x128, .f32⟩
  | .hbm, ⟨67, _⟩ => ⟨S12x128x2048, .f32⟩
  | .hbm, ⟨68, _⟩ => ⟨S12x2048x2048, .f32⟩
  | .hbm, ⟨69, _⟩ => ⟨S12x128x2048, .f32⟩
  | .hbm, ⟨70, _⟩ => ⟨S12x2048x128, .f32⟩
  | .hbm, ⟨71, _⟩ => ⟨S12x2048x2048, .f32⟩
  | .hbm, ⟨72, _⟩ => ⟨S12x2048x2048, .f32⟩
  | .hbm, ⟨73, _⟩ => ⟨S12x2048x2048, .f32⟩
  | .hbm, ⟨74, _⟩ => ⟨S_, .f32⟩
  | .hbm, ⟨75, _⟩ => ⟨S12x2048, .f32⟩
  | .hbm, ⟨76, _⟩ => ⟨S12x2048x1, .f32⟩
  | .hbm, ⟨77, _⟩ => ⟨S12x2048x1, .f32⟩
  | .hbm, ⟨78, _⟩ => ⟨S12x2048x2048, .f32⟩
  | .hbm, ⟨79, _⟩ => ⟨S12x2048x2048, .f32⟩
  | .hbm, ⟨80, _⟩ => ⟨S_, .f32⟩
  | .hbm, ⟨81, _⟩ => ⟨S12x2048, .f32⟩
  | .hbm, ⟨82, _⟩ => ⟨S12x2048x2048, .f32⟩
  | .hbm, ⟨83, _⟩ => ⟨S12x2048x2048, .f32⟩
  | .hbm, ⟨84, _⟩ => ⟨S12x2048x2048, .f32⟩
  | .hbm, ⟨85, _⟩ => ⟨S_, .f32⟩
  | .hbm, ⟨86, _⟩ => ⟨S12x2048x2048, .f32⟩
  | .hbm, ⟨87, _⟩ => ⟨S12x2048x2048, .f32⟩
  | .hbm, ⟨88, _⟩ => ⟨S12x2048x2048, .f32⟩
  | .hbm, ⟨89, _⟩ => ⟨S12x2048x2048, .f32⟩
  | .hbm, ⟨90, _⟩ => ⟨S12x2048x256, .f32⟩
  | .hbm, ⟨91, _⟩ => ⟨S12x2048x256, .f32⟩
  | _, _ => ⟨S12x2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_call0_v0 : Ref sig .tc := ⟨.hbm, 19, rfl⟩
abbrev main_v13_1 : Ref sig .tc := ⟨.hbm, 20, rfl⟩
abbrev main_call0_v2 : Ref sig .tc := ⟨.hbm, 21, rfl⟩
abbrev main_v13_0 : Ref sig .tc := ⟨.hbm, 22, rfl⟩
abbrev main_call0_cst : Ref sig .tc := ⟨.hbm, 23, rfl⟩
abbrev main_v13_2 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_cst_8 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_9 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_10 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_11 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_call1_cst : Ref sig .tc := ⟨.hbm, 85, rfl⟩
abbrev main_call1_v0 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩

abbrev nD : Nat := 1
abbrev τ : Topo := Topo.v7x

variable {F : FTy → Type} [FloatOps F]
-- ==== Kernel2.lean ====
abbrev S2048x1024 : Shape := ⟨2, ![2048, 1024]⟩
abbrev S4x1024x1024 : Shape := ⟨3, ![4, 1024, 1024]⟩
abbrev S2048x4096 : Shape := ⟨2, ![2048, 4096]⟩
abbrev S2048x1536 : Shape := ⟨2, ![2048, 1536]⟩
abbrev S4x1536x768 : Shape := ⟨3, ![4, 1536, 768]⟩
abbrev S2048x3072 : Shape := ⟨2, ![2048, 3072]⟩
abbrev S1x1024x1024 : Shape := ⟨3, ![1, 1024, 1024]⟩
abbrev S1024x1024 : Shape := ⟨2, ![1024, 1024]⟩
abbrev S1x1536x768 : Shape := ⟨3, ![1, 1536, 768]⟩
abbrev S2048x768 : Shape := ⟨2, ![2048, 768]⟩
abbrev S1536x768 : Shape := ⟨2, ![1536, 768]⟩
abbrev S2048x512 : Shape := ⟨2, ![2048, 512]⟩
abbrev S1x512x768 : Shape := ⟨3, ![1, 512, 768]⟩
abbrev S512x768 : Shape := ⟨2, ![512, 768]⟩

abbrev nBuf : Space → Nat
  | .hbm => 10
  | .vmem => 21
  | .smem => 0
  | _ => 0

abbrev bufTy : (tb : Table) → Fin (tcTables nBuf tb) → BufTy
  | .hbm, ⟨0, _⟩ => ⟨S2048x1024, .bf16⟩
  | .hbm, ⟨1, _⟩ => ⟨S4x1024x1024, .bf16⟩
  | .hbm, ⟨2, _⟩ => ⟨S2048x4096, .bf16⟩
  | .hbm, ⟨3, _⟩ => ⟨S2048x1536, .bf16⟩
  | .hbm, ⟨4, _⟩ => ⟨S4x1536x768, .bf16⟩
  | .hbm, ⟨5, _⟩ => ⟨S2048x3072, .bf16⟩
  | .hbm, ⟨6, _⟩ => ⟨S2048x4096, .bf16⟩
  | .hbm, ⟨7, _⟩ => ⟨S2048x3072, .bf16⟩
  | .hbm, ⟨8, _⟩ => ⟨S4x1536x768, .bf16⟩
  | .hbm, ⟨9, _⟩ => ⟨S4x1024x1024, .bf16⟩
  | .local _ .vmem, ⟨0, _⟩ => ⟨S2048x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1536, .bf16⟩
  | .local _ .vmem, ⟨6, _⟩ => ⟨S1x1536x768, .bf16⟩
  | .local _ .vmem, ⟨7, _⟩ => ⟨S1x1536x768, .bf16⟩
  | .local _ .vmem, ⟨8, _⟩ => ⟨S2048x768, .bf16⟩
  | .local _ .vmem, ⟨9, _⟩ => ⟨S2048x768, .bf16⟩
  | .local _ .vmem, ⟨10, _⟩ => ⟨S2048x512, .bf16⟩
  | .local _ .vmem, ⟨11, _⟩ => ⟨S2048x512, .bf16⟩
  | .local _ .vmem, ⟨12, _⟩ => ⟨S2048x768, .bf16⟩
  | .local _ .vmem, ⟨13, _⟩ => ⟨S2048x768, .bf16⟩
  | .local _ .vmem, ⟨14, _⟩ => ⟨S1x512x768, .bf16⟩
  | .local _ .vmem, ⟨15, _⟩ => ⟨S1x512x768, .bf16⟩
  | .local _ .vmem, ⟨16, _⟩ => ⟨S2048x1024, .bf16⟩
  | .local _ .vmem, ⟨17, _⟩ => ⟨S2048x1024, .bf16⟩
  | .local _ .vmem, ⟨18, _⟩ => ⟨S2048x1024, .bf16⟩
  | .local _ .vmem, ⟨19, _⟩ => ⟨S1x1024x1024, .bf16⟩
  | .local _ .vmem, ⟨20, _⟩ => ⟨S1x1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg2_1 : Ref sig .tc := ⟨.vmem, 20, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc3_sem0_0 : DmaSem sig := 16
abbrev cc3_sem1_0 : DmaSem sig := 17
abbrev cc3_sem1_1 : DmaSem sig := 18
abbrev cc3_sem2_0 : DmaSem sig := 19
abbrev cc3_sem2_1 : DmaSem sig := 20

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![1, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S2048x1536 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S1x1536x768 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x768 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![3, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 arg0
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v16.toNat, v17.toNat, v27.toNat]

abbrev stage2_0 : Fin 2 → Memref sig .tc .vmem S2048x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x768 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x512x768 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![1, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 arg0
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v16.toNat, v17.toNat, v27.toNat]

abbrev stage3_0 : Fin 1 → Memref sig .tc .vmem S2048x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false]

abbrev stage3_1 : Fin 2 → Memref sig .tc .vmem S2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1x1024x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]
-- ==== Reference2Ideal.lean ====
abbrev S2048x1024 : Shape := ⟨2, ![2048, 1024]⟩
abbrev S4x1024x1024 : Shape := ⟨3, ![4, 1024, 1024]⟩
abbrev S2048x4096 : Shape := ⟨2, ![2048, 4096]⟩
abbrev S2048x1536 : Shape := ⟨2, ![2048, 1536]⟩
abbrev S4x1536x768 : Shape := ⟨3, ![4, 1536, 768]⟩
abbrev S2048x3072 : Shape := ⟨2, ![2048, 3072]⟩
abbrev S1024x4x1024 : Shape := ⟨3, ![1024, 4, 1024]⟩
abbrev S1024x4096 : Shape := ⟨2, ![1024, 4096]⟩
abbrev S4096x1024 : Shape := ⟨2, ![4096, 1024]⟩
abbrev S1536x4x768 : Shape := ⟨3, ![1536, 4, 768]⟩
abbrev S1536x3072 : Shape := ⟨2, ![1536, 3072]⟩
abbrev S3072x1536 : Shape := ⟨2, ![3072, 1536]⟩

abbrev nBuf : Space → Nat
  | .hbm => 34
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S4x1024x1024, .bf16⟩
  | .hbm, ⟨2, _⟩ => ⟨S2048x4096, .bf16⟩
  | .hbm, ⟨3, _⟩ => ⟨S2048x1536, .bf16⟩
  | .hbm, ⟨4, _⟩ => ⟨S4x1536x768, .bf16⟩
  | .hbm, ⟨5, _⟩ => ⟨S2048x3072, .bf16⟩
  | .hbm, ⟨6, _⟩ => ⟨S2048x1024, .f32⟩
  | .hbm, ⟨7, _⟩ => ⟨S4x1024x1024, .f32⟩
  | .hbm, ⟨8, _⟩ => ⟨S1024x4x1024, .f32⟩
  | .hbm, ⟨9, _⟩ => ⟨S1024x4096, .f32⟩
  | .hbm, ⟨10, _⟩ => ⟨S2048x4096, .f32⟩
  | .hbm, ⟨11, _⟩ => ⟨S2048x4096, .f32⟩
  | .hbm, ⟨12, _⟩ => ⟨S4096x1024, .f32⟩
  | .hbm, ⟨13, _⟩ => ⟨S1024x4096, .f32⟩
  | .hbm, ⟨14, _⟩ => ⟨S2048x1024, .f32⟩
  | .hbm, ⟨15, _⟩ => ⟨S1024x4x1024, .f32⟩
  | .hbm, ⟨16, _⟩ => ⟨S4x1024x1024, .f32⟩
  | .hbm, ⟨17, _⟩ => ⟨S2048x4096, .bf16⟩
  | .hbm, ⟨18, _⟩ => ⟨S2048x1024, .bf16⟩
  | .hbm, ⟨19, _⟩ => ⟨S4x1024x1024, .bf16⟩
  | .hbm, ⟨20, _⟩ => ⟨S2048x1536, .f32⟩
  | .hbm, ⟨21, _⟩ => ⟨S4x1536x768, .f32⟩
  | .hbm, ⟨22, _⟩ => ⟨S1536x4x768, .f32⟩
  | .hbm, ⟨23, _⟩ => ⟨S1536x3072, .f32⟩
  | .hbm, ⟨24, _⟩ => ⟨S2048x3072, .f32⟩
  | .hbm, ⟨25, _⟩ => ⟨S2048x3072, .f32⟩
  | .hbm, ⟨26, _⟩ => ⟨S3072x1536, .f32⟩
  | .hbm, ⟨27, _⟩ => ⟨S1536x3072, .f32⟩
  | .hbm, ⟨28, _⟩ => ⟨S2048x1536, .f32⟩
  | .hbm, ⟨29, _⟩ => ⟨S1536x4x768, .f32⟩
  | .hbm, ⟨30, _⟩ => ⟨S4x1536x768, .f32⟩
  | .hbm, ⟨31, _⟩ => ⟨S2048x3072, .bf16⟩
  | .hbm, ⟨32, _⟩ => ⟨S2048x1536, .bf16⟩
  | .hbm, ⟨33, _⟩ => ⟨S4x1536x768, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩

abbrev nD : Nat := 1
abbrev τ : Topo := Topo.v7x

variable {F : FTy → Type} [FloatOps F]
-- ==== Kernel3.lean ====
abbrev S2048x1024 : Shape := ⟨2, ![2048, 1024]⟩
abbrev S3456x1024 : Shape := ⟨2, ![3456, 1024]⟩
abbrev S2048x3456 : Shape := ⟨2, ![2048, 3456]⟩
abbrev S2048x512 : Shape := ⟨2, ![2048, 512]⟩
abbrev S2304x512 : Shape := ⟨2, ![2304, 512]⟩
abbrev S2048x2304 : Shape := ⟨2, ![2048, 2304]⟩
abbrev S2048x256 : Shape := ⟨2, ![2048, 256]⟩
abbrev S4x256x768 : Shape := ⟨3, ![4, 256, 768]⟩
abbrev S2048x3072 : Shape := ⟨2, ![2048, 3072]⟩
abbrev S384x1024 : Shape := ⟨2, ![384, 1024]⟩
abbrev S2048x384 : Shape := ⟨2, ![2048, 384]⟩
abbrev S768x512 : Shape := ⟨2, ![768, 512]⟩
abbrev S2048x768 : Shape := ⟨2, ![2048, 768]⟩
abbrev S1x256x768 : Shape := ⟨3, ![1, 256, 768]⟩
abbrev S256x768 : Shape := ⟨2, ![256, 768]⟩
abbrev S256x512 : Shape := ⟨2, ![256, 512]⟩
abbrev S2048x128 : Shape := ⟨2, ![2048, 128]⟩
abbrev S128x1024 : Shape := ⟨2, ![128, 1024]⟩

abbrev nBuf : Space → Nat
  | .hbm => 17
  | .vmem => 39
  | .smem => 0
  | _ => 0

abbrev bufTy : (tb : Table) → Fin (tcTables nBuf tb) → BufTy
  | .hbm, ⟨0, _⟩ => ⟨S2048x1024, .bf16⟩
  | .hbm, ⟨1, _⟩ => ⟨S3456x1024, .bf16⟩
  | .hbm, ⟨2, _⟩ => ⟨S2048x3456, .bf16⟩
  | .hbm, ⟨3, _⟩ => ⟨S2048x512, .bf16⟩
  | .hbm, ⟨4, _⟩ => ⟨S2304x512, .bf16⟩
  | .hbm, ⟨5, _⟩ => ⟨S2048x2304, .bf16⟩
  | .hbm, ⟨6, _⟩ => ⟨S2048x256, .bf16⟩
  | .hbm, ⟨7, _⟩ => ⟨S4x256x768, .bf16⟩
  | .hbm, ⟨8, _⟩ => ⟨S2048x3072, .bf16⟩
  | .hbm, ⟨9, _⟩ => ⟨S2048x3456, .bf16⟩
  | .hbm, ⟨10, _⟩ => ⟨S2048x2304, .bf16⟩
  | .hbm, ⟨11, _⟩ => ⟨S2048x3072, .bf16⟩
  | .hbm, ⟨12, _⟩ => ⟨S2048x512, .bf16⟩
  | .hbm, ⟨13, _⟩ => ⟨S2304x512, .bf16⟩
  | .hbm, ⟨14, _⟩ => ⟨S2048x256, .bf16⟩
  | .hbm, ⟨15, _⟩ => ⟨S4x256x768, .bf16⟩
  | .hbm, ⟨16, _⟩ => ⟨S3456x1024, .bf16⟩
  | .local _ .vmem, ⟨0, _⟩ => ⟨S2048x1024, .bf16⟩
  | .local _ .vmem, ⟨1, _⟩ => ⟨S384x1024, .bf16⟩
  | .local _ .vmem, ⟨2, _⟩ => ⟨S384x1024, .bf16⟩
  | .local _ .vmem, ⟨3, _⟩ => ⟨S2048x384, .bf16⟩
  | .local _ .vmem, ⟨4, _⟩ => ⟨S2048x384, .bf16⟩
  | .local _ .vmem, ⟨5, _⟩ => ⟨S2048x512, .bf16⟩
  | .local _ .vmem, ⟨6, _⟩ => ⟨S768x512, .bf16⟩
  | .local _ .vmem, ⟨7, _⟩ => ⟨S768x512, .bf16⟩
  | .local _ .vmem, ⟨8, _⟩ => ⟨S2048x768, .bf16⟩
  | .local _ .vmem, ⟨9, _⟩ => ⟨S2048x768, .bf16⟩
  | .local _ .vmem, ⟨10, _⟩ => ⟨S2048x256, .bf16⟩
  | .local _ .vmem, ⟨11, _⟩ => ⟨S1x256x768, .bf16⟩
  | .local _ .vmem, ⟨12, _⟩ => ⟨S1x256x768, .bf16⟩
  | .local _ .vmem, ⟨13, _⟩ => ⟨S2048x768, .bf16⟩
  | .local _ .vmem, ⟨14, _⟩ => ⟨S2048x768, .bf16⟩
  | .local _ .vmem, ⟨15, _⟩ => ⟨S2048x2304, .bf16⟩
  | .local _ .vmem, ⟨16, _⟩ => ⟨S2304x512, .bf16⟩
  | .local _ .vmem, ⟨17, _⟩ => ⟨S2048x512, .bf16⟩
  | .local _ .vmem, ⟨18, _⟩ => ⟨S2048x256, .bf16⟩
  | .local _ .vmem, ⟨19, _⟩ => ⟨S2048x256, .bf16⟩
  | .local _ .vmem, ⟨20, _⟩ => ⟨S2048x512, .bf16⟩
  | .local _ .vmem, ⟨21, _⟩ => ⟨S256x512, .bf16⟩
  | .local _ .vmem, ⟨22, _⟩ => ⟨S256x512, .bf16⟩
  | .local _ .vmem, ⟨23, _⟩ => ⟨S2048x3072, .bf16⟩
  | .local _ .vmem, ⟨24, _⟩ => ⟨S1x256x768, .bf16⟩
  | .local _ .vmem, ⟨25, _⟩ => ⟨S1x256x768, .bf16⟩
  | .local _ .vmem, ⟨26, _⟩ => ⟨S1x256x768, .bf16⟩
  | .local _ .vmem, ⟨27, _⟩ => ⟨S1x256x768, .bf16⟩
  | .local _ .vmem, ⟨28, _⟩ => ⟨S2048x256, .bf16⟩
  | .local _ .vmem, ⟨29, _⟩ => ⟨S2048x256, .bf16⟩
  | .local _ .vmem, ⟨30, _⟩ => ⟨S2048x768, .bf16⟩
  | .local _ .vmem, ⟨31, _⟩ => ⟨S2048x768, .bf16⟩
  | .local _ .vmem, ⟨32, _⟩ => ⟨S1x256x768, .bf16⟩
  | .local _ .vmem, ⟨33, _⟩ => ⟨S1x256x768, .bf16⟩
  | .local _ .vmem, ⟨34, _⟩ => ⟨S2048x128, .bf16⟩
  | .local _ .vmem, ⟨35, _⟩ => ⟨S2048x128, .bf16⟩
  | .local _ .vmem, ⟨36, _⟩ => ⟨S2048x1024, .bf16⟩
  | .local _ .vmem, ⟨37, _⟩ => ⟨S128x1024, .bf16⟩
  | .local _ .vmem, ⟨38, _⟩ => ⟨S128x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg1_0 : Ref sig .tc := ⟨.vmem, 16, rfl⟩
abbrev cc3_stg2_0 : Ref sig .tc := ⟨.vmem, 17, rfl⟩
abbrev cc4_stg0_0 : Ref sig .tc := ⟨.vmem, 18, rfl⟩
abbrev cc4_stg0_1 : Ref sig .tc := ⟨.vmem, 19, rfl⟩
abbrev cc4_stg1_0 : Ref sig .tc := ⟨.vmem, 20, rfl⟩
abbrev cc4_stg2_0 : Ref sig .tc := ⟨.vmem, 21, rfl⟩
abbrev cc4_stg2_1 : Ref sig .tc := ⟨.vmem, 22, rfl⟩
abbrev cc5_stg0_0 : Ref sig .tc := ⟨.vmem, 23, rfl⟩
abbrev cc5_stg1_0 : Ref sig .tc := ⟨.vmem, 24, rfl⟩
abbrev cc5_stg2_0 : Ref sig .tc := ⟨.vmem, 25, rfl⟩
abbrev cc5_stg3_0 : Ref sig .tc := ⟨.vmem, 26, rfl⟩
abbrev cc5_stg4_0 : Ref sig .tc := ⟨.vmem, 27, rfl⟩
abbrev cc5_stg5_0 : Ref sig .tc := ⟨.vmem, 28, rfl⟩
abbrev cc6_stg0_0 : Ref sig .tc := ⟨.vmem, 29, rfl⟩
abbrev cc6_stg1_0 : Ref sig .tc := ⟨.vmem, 30, rfl⟩
abbrev cc6_stg1_1 : Ref sig .tc := ⟨.vmem, 31, rfl⟩
abbrev cc6_stg2_0 : Ref sig .tc := ⟨.vmem, 32, rfl⟩
abbrev cc6_stg2_1 : Ref sig .tc := ⟨.vmem, 33, rfl⟩
abbrev cc7_stg0_0 : Ref sig .tc := ⟨.vmem, 34, rfl⟩
abbrev cc7_stg0_1 : Ref sig .tc := ⟨.vmem, 35, rfl⟩
abbrev cc7_stg1_0 : Ref sig .tc := ⟨.vmem, 36, rfl⟩
abbrev cc7_stg2_0 : Ref sig .tc := ⟨.vmem, 37, rfl⟩
abbrev cc7_stg2_1 : Ref sig .tc := ⟨.vmem, 38, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem1_1 : DmaSem sig := 12
abbrev cc2_sem2_0 : DmaSem sig := 13
abbrev cc2_sem2_1 : DmaSem sig := 14
abbrev cc3_sem0_0 : DmaSem sig := 15
abbrev cc3_sem1_0 : DmaSem sig := 16
abbrev cc3_sem2_0 : DmaSem sig := 17
abbrev cc4_sem0_0 : DmaSem sig := 18
abbrev cc4_sem0_1 : DmaSem sig := 19
abbrev cc4_sem1_0 : DmaSem sig := 20
abbrev cc4_sem2_0 : DmaSem sig := 21
abbrev cc4_sem2_1 : DmaSem sig := 22
abbrev cc5_sem0_0 : DmaSem sig := 23
abbrev cc5_sem1_0 : DmaSem sig := 24
abbrev cc5_sem2_0 : DmaSem sig := 25
abbrev cc5_sem3_0 : DmaSem sig := 26
abbrev cc5_sem4_0 : DmaSem sig := 27
abbrev cc5_sem5_0 : DmaSem sig := 28
abbrev cc6_sem0_0 : DmaSem sig := 29
abbrev cc6_sem1_0 : DmaSem sig := 30
abbrev cc6_sem1_1 : DmaSem sig := 31
abbrev cc6_sem2_0 : DmaSem sig := 32
abbrev cc6_sem2_1 : DmaSem sig := 33
abbrev cc7_sem0_0 : DmaSem sig := 34
abbrev cc7_sem0_1 : DmaSem sig := 35
abbrev cc7_sem1_0 : DmaSem sig := 36
abbrev cc7_sem2_0 : DmaSem sig := 37
abbrev cc7_sem2_1 : DmaSem sig := 38

abbrev nD : Nat := 1
abbrev τ : Topo := Topo.v7x

variable {F : FTy → Type} [FloatOps F]

abbrev grid0 : Pipeline.Grid := ⟨2, ![1, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S384x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![1, 3], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S2048x512 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S768x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x768 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![1, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 1 → Memref sig .tc .vmem S2048x256 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false]

abbrev stage2_1 : Fin 2 → Memref sig .tc .vmem S1x256x768 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x768 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![1, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 1 → Memref sig .tc .vmem S2048x2304 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false]

abbrev stage3_1 : Fin 1 → Memref sig .tc .vmem S2304x512 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 1 → Memref sig .tc .vmem S2048x512 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, true]

abbrev grid4 : Pipeline.Grid := ⟨2, ![9, 1], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S2048x256 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 1 → Memref sig .tc .vmem S2048x512 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true]

abbrev stage4_2 : Fin 2 → Memref sig .tc .vmem S256x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![1, 1], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, v0.toNat, c0_i32_1.toNat]

def cc5_transform_2 (i : grid5.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let c0_i32_0 : BitVec 32 := 0#32
  let c0_i32_1 : BitVec 32 := 0#32
  ![c1_i32.toNat, v0.toNat, c0_i32_0.toNat]

def cc5_transform_3 (i : grid5.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c2_i32 : BitVec 32 := 2#32
  let c0_i32_0 : BitVec 32 := 0#32
  let c0_i32_1 : BitVec 32 := 0#32
  ![c2_i32.toNat, v0.toNat, c0_i32_0.toNat]

def cc5_transform_4 (i : grid5.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c3_i32 : BitVec 32 := 3#32
  let c0_i32_0 : BitVec 32 := 0#32
  let c0_i32_1 : BitVec 32 := 0#32
  ![c3_i32.toNat, v0.toNat, c0_i32_0.toNat]

def cc5_transform_5 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 1 → Memref sig .tc .vmem S2048x3072 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false]

abbrev stage5_1 : Fin 1 → Memref sig .tc .vmem S1x256x768 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true]

abbrev stage5_2 : Fin 1 → Memref sig .tc .vmem S1x256x768 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, true]

abbrev stage5_3 : Fin 1 → Memref sig .tc .vmem S1x256x768 .bf16 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false, true]

abbrev stage5_4 : Fin 1 → Memref sig .tc .vmem S1x256x768 .bf16 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false, true]

abbrev stage5_5 : Fin 1 → Memref sig .tc .vmem S2048x256 .bf16 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![true, true]

abbrev grid6 : Pipeline.Grid := ⟨2, ![1, 4], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_2 (i : grid6.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 arg0
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v16.toNat, v17.toNat, v27.toNat]

abbrev stage6_0 : Fin 1 → Memref sig .tc .vmem S2048x256 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true, false]

abbrev stage6_1 : Fin 2 → Memref sig .tc .vmem S2048x768 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S1x256x768 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev grid7 : Pipeline.Grid := ⟨2, ![27, 1], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage7_0 : Fin 2 → Memref sig .tc .vmem S2048x128 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 1 → Memref sig .tc .vmem S2048x1024 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, true]

abbrev stage7_2 : Fin 2 → Memref sig .tc .vmem S128x1024 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]
-- ==== Reference3Ideal.lean ====
abbrev S2048x1024 : Shape := ⟨2, ![2048, 1024]⟩
abbrev S3456x1024 : Shape := ⟨2, ![3456, 1024]⟩
abbrev S2048x3456 : Shape := ⟨2, ![2048, 3456]⟩
abbrev S2048x512 : Shape := ⟨2, ![2048, 512]⟩
abbrev S2304x512 : Shape := ⟨2, ![2304, 512]⟩
abbrev S2048x2304 : Shape := ⟨2, ![2048, 2304]⟩
abbrev S2048x256 : Shape := ⟨2, ![2048, 256]⟩
abbrev S4x256x768 : Shape := ⟨3, ![4, 256, 768]⟩
abbrev S2048x3072 : Shape := ⟨2, ![2048, 3072]⟩
abbrev S1024x3456 : Shape := ⟨2, ![1024, 3456]⟩
abbrev S512x2304 : Shape := ⟨2, ![512, 2304]⟩
abbrev S256x4x768 : Shape := ⟨3, ![256, 4, 768]⟩
abbrev S256x3072 : Shape := ⟨2, ![256, 3072]⟩
abbrev S3072x256 : Shape := ⟨2, ![3072, 256]⟩

abbrev nBuf : Space → Nat
  | .hbm => 47
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S3456x1024, .bf16⟩
  | .hbm, ⟨2, _⟩ => ⟨S2048x3456, .bf16⟩
  | .hbm, ⟨3, _⟩ => ⟨S2048x512, .bf16⟩
  | .hbm, ⟨4, _⟩ => ⟨S2304x512, .bf16⟩
  | .hbm, ⟨5, _⟩ => ⟨S2048x2304, .bf16⟩
  | .hbm, ⟨6, _⟩ => ⟨S2048x256, .bf16⟩
  | .hbm, ⟨7, _⟩ => ⟨S4x256x768, .bf16⟩
  | .hbm, ⟨8, _⟩ => ⟨S2048x3072, .bf16⟩
  | .hbm, ⟨9, _⟩ => ⟨S2048x1024, .f32⟩
  | .hbm, ⟨10, _⟩ => ⟨S3456x1024, .f32⟩
  | .hbm, ⟨11, _⟩ => ⟨S1024x3456, .f32⟩
  | .hbm, ⟨12, _⟩ => ⟨S2048x3456, .f32⟩
  | .hbm, ⟨13, _⟩ => ⟨S2048x3456, .f32⟩
  | .hbm, ⟨14, _⟩ => ⟨S3456x1024, .f32⟩
  | .hbm, ⟨15, _⟩ => ⟨S1024x3456, .f32⟩
  | .hbm, ⟨16, _⟩ => ⟨S2048x1024, .f32⟩
  | .hbm, ⟨17, _⟩ => ⟨S3456x1024, .f32⟩
  | .hbm, ⟨18, _⟩ => ⟨S2048x3456, .bf16⟩
  | .hbm, ⟨19, _⟩ => ⟨S2048x1024, .bf16⟩
  | .hbm, ⟨20, _⟩ => ⟨S3456x1024, .bf16⟩
  | .hbm, ⟨21, _⟩ => ⟨S2048x512, .f32⟩
  | .hbm, ⟨22, _⟩ => ⟨S2304x512, .f32⟩
  | .hbm, ⟨23, _⟩ => ⟨S512x2304, .f32⟩
  | .hbm, ⟨24, _⟩ => ⟨S2048x2304, .f32⟩
  | .hbm, ⟨25, _⟩ => ⟨S2048x2304, .f32⟩
  | .hbm, ⟨26, _⟩ => ⟨S2304x512, .f32⟩
  | .hbm, ⟨27, _⟩ => ⟨S512x2304, .f32⟩
  | .hbm, ⟨28, _⟩ => ⟨S2048x512, .f32⟩
  | .hbm, ⟨29, _⟩ => ⟨S2304x512, .f32⟩
  | .hbm, ⟨30, _⟩ => ⟨S2048x2304, .bf16⟩
  | .hbm, ⟨31, _⟩ => ⟨S2048x512, .bf16⟩
  | .hbm, ⟨32, _⟩ => ⟨S2304x512, .bf16⟩
  | .hbm, ⟨33, _⟩ => ⟨S2048x256, .f32⟩
  | .hbm, ⟨34, _⟩ => ⟨S4x256x768, .f32⟩
  | .hbm, ⟨35, _⟩ => ⟨S256x4x768, .f32⟩
  | .hbm, ⟨36, _⟩ => ⟨S256x3072, .f32⟩
  | .hbm, ⟨37, _⟩ => ⟨S2048x3072, .f32⟩
  | .hbm, ⟨38, _⟩ => ⟨S2048x3072, .f32⟩
  | .hbm, ⟨39, _⟩ => ⟨S3072x256, .f32⟩
  | .hbm, ⟨40, _⟩ => ⟨S256x3072, .f32⟩
  | .hbm, ⟨41, _⟩ => ⟨S2048x256, .f32⟩
  | .hbm, ⟨42, _⟩ => ⟨S256x4x768, .f32⟩
  | .hbm, ⟨43, _⟩ => ⟨S4x256x768, .f32⟩
  | .hbm, ⟨44, _⟩ => ⟨S2048x3072, .bf16⟩
  | .hbm, ⟨45, _⟩ => ⟨S2048x256, .bf16⟩
  | .hbm, ⟨46, _⟩ => ⟨S4x256x768, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩

abbrev nD : Nat := 1
abbrev τ : Topo := Topo.v7x

variable {F : FTy → Type} [FloatOps F]
-- ==== Kernel4.lean ====
abbrev S2048x1024 : Shape := ⟨2, ![2048, 1024]⟩
abbrev S1x1024 : Shape := ⟨2, ![1, 1024]⟩
abbrev S2048x3072 : Shape := ⟨2, ![2048, 3072]⟩
abbrev S2048x512 : Shape := ⟨2, ![2048, 512]⟩
abbrev S2048x4096 : Shape := ⟨2, ![2048, 4096]⟩
abbrev S512x1024 : Shape := ⟨2, ![512, 1024]⟩
abbrev S512 : Shape := ⟨1, ![512]⟩
abbrev S512x1 : Shape := ⟨2, ![512, 1]⟩
abbrev S2048x2048 : Shape := ⟨2, ![2048, 2048]⟩
abbrev S512x3072 : Shape := ⟨2, ![512, 3072]⟩
abbrev S512x512 : Shape := ⟨2, ![512, 512]⟩
abbrev S512x2048 : Shape := ⟨2, ![512, 2048]⟩
abbrev S512x1536 : Shape := ⟨2, ![512, 1536]⟩

abbrev nBuf : Space → Nat
  | .hbm => 7
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x3072, .bf16⟩
  | .hbm, ⟨3, _⟩ => ⟨S2048x512, .f32⟩
  | .hbm, ⟨4, _⟩ => ⟨S2048x4096, .bf16⟩
  | .hbm, ⟨5, _⟩ => ⟨S2048x1024, .bf16⟩
  | .hbm, ⟨6, _⟩ => ⟨S2048x2048, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S512x3072, .bf16⟩
  | .local _ .vmem, ⟨6, _⟩ => ⟨S512x3072, .bf16⟩
  | .local _ .vmem, ⟨7, _⟩ => ⟨S512x512, .f32⟩
  | .local _ .vmem, ⟨8, _⟩ => ⟨S512x512, .f32⟩
  | .local _ .vmem, ⟨9, _⟩ => ⟨S512x2048, .bf16⟩
  | .local _ .vmem, ⟨10, _⟩ => ⟨S512x2048, .bf16⟩
  | .local _ .vmem, ⟨11, _⟩ => ⟨S512x2048, .bf16⟩
  | .local _ .vmem, ⟨12, _⟩ => ⟨S512x2048, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c1_i32 : BitVec 32 := 1#32
  let c0_i32 : BitVec 32 := 0#32
  ![arg0.toNat, c1_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x3072 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== Reference4Ideal.lean ====
abbrev S2048x1024 : Shape := ⟨2, ![2048, 1024]⟩
abbrev S1x1024 : Shape := ⟨2, ![1, 1024]⟩
abbrev S2048x3072 : Shape := ⟨2, ![2048, 3072]⟩
abbrev S2048x512 : Shape := ⟨2, ![2048, 512]⟩
abbrev S2048x4096 : Shape := ⟨2, ![2048, 4096]⟩
abbrev S_ : Shape := ⟨0, ![]⟩
abbrev S2048 : Shape := ⟨1, ![2048]⟩
abbrev S2048x1 : Shape := ⟨2, ![2048, 1]⟩
abbrev S2048x1536 : Shape := ⟨2, ![2048, 1536]⟩
abbrev S2048x2048 : Shape := ⟨2, ![2048, 2048]⟩

abbrev nBuf : Space → Nat
  | .hbm => 47
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x3072, .bf16⟩
  | .hbm, ⟨3, _⟩ => ⟨S2048x512, .f32⟩
  | .hbm, ⟨4, _⟩ => ⟨S2048x4096, .bf16⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .bf16⟩
  | .hbm, ⟨21, _⟩ => ⟨S2048x3072, .f32⟩
  | .hbm, ⟨22, _⟩ => ⟨S2048x4096, .f32⟩
  | .hbm, ⟨23, _⟩ => ⟨S2048x1536, .f32⟩
  | .hbm, ⟨24, _⟩ => ⟨S2048x1536, .f32⟩
  | .hbm, ⟨25, _⟩ => ⟨S2048x1536, .f32⟩
  | .hbm, ⟨26, _⟩ => ⟨S2048x1536, .f32⟩
  | .hbm, ⟨27, _⟩ => ⟨S_, .f32⟩
  | .hbm, ⟨28, _⟩ => ⟨S2048x1536, .f32⟩
  | .hbm, ⟨29, _⟩ => ⟨S2048x1536, .f32⟩
  | .hbm, ⟨30, _⟩ => ⟨S_, .f32⟩
  | .hbm, ⟨31, _⟩ => ⟨S2048x1536, .f32⟩
  | .hbm, ⟨32, _⟩ => ⟨S2048x1536, .f32⟩
  | .hbm, ⟨33, _⟩ => ⟨S2048x1536, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S_, .f32⟩
  | .hbm, ⟨39, _⟩ => ⟨S2048x2048, .f32⟩
  | .hbm, ⟨40, _⟩ => ⟨S2048x2048, .f32⟩
  | .hbm, ⟨41, _⟩ => ⟨S_, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩

abbrev nD : Nat := 1
abbrev τ : Topo := Topo.v7x

variable {F : FTy → Type} [FloatOps F]
-- ==== Kernel5.lean ====
abbrev S2048x2048 : Shape := ⟨2, ![2048, 2048]⟩
abbrev S4x768x1024 : Shape := ⟨3, ![4, 768, 1024]⟩
abbrev S2048x1024 : Shape := ⟨2, ![2048, 1024]⟩
abbrev S1024x2048 : Shape := ⟨2, ![1024, 2048]⟩
abbrev S1x512x1024 : Shape := ⟨3, ![1, 512, 1024]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 4
  | .vmem => 10
  | .smem => 0
  | _ => 0

abbrev bufTy : (tb : Table) → Fin (tcTables nBuf tb) → BufTy
  | .hbm, ⟨0, _⟩ => ⟨S2048x2048, .bf16⟩
  | .hbm, ⟨1, _⟩ => ⟨S4x768x1024, .bf16⟩
  | .hbm, ⟨2, _⟩ => ⟨S2048x1024, .f32⟩
  | .hbm, ⟨3, _⟩ => ⟨S2048x1024, .f32⟩
  | .local _ .vmem, ⟨0, _⟩ => ⟨S1024x2048, .bf16⟩
  | .local _ .vmem, ⟨1, _⟩ => ⟨S1024x2048, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1x512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference5Ideal.lean ====
abbrev S2048x2048 : Shape := ⟨2, ![2048, 2048]⟩
abbrev S4x768x1024 : Shape := ⟨3, ![4, 768, 1024]⟩
abbrev S2048x1024 : Shape := ⟨2, ![2048, 1024]⟩
abbrev S4x512x1024 : Shape := ⟨3, ![4, 512, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x768x1024, .bf16⟩
  | .hbm, ⟨2, _⟩ => ⟨S2048x1024, .f32⟩
  | .hbm, ⟨3, _⟩ => ⟨S2048x2048, .f32⟩
  | .hbm, ⟨4, _⟩ => ⟨S4x768x1024, .f32⟩
  | .hbm, ⟨5, _⟩ => ⟨S4x512x1024, .f32⟩
  | .hbm, ⟨6, _⟩ => ⟨S2048x1024, .f32⟩
  | .hbm, ⟨7, _⟩ => ⟨S2048x1024, .f32⟩
  | .hbm, ⟨8, _⟩ => ⟨S2048x1024, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S2048x1024 : Shape := ⟨2, ![2048, 1024]⟩
abbrev S4x768x1024 : Shape := ⟨3, ![4, 768, 1024]⟩
abbrev S2048x2048 : Shape := ⟨2, ![2048, 2048]⟩
abbrev S1x512x1024 : Shape := ⟨3, ![1, 512, 1024]⟩
abbrev S2048x512 : Shape := ⟨2, ![2048, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S4x768x1024, .bf16⟩
  | .hbm, ⟨2, _⟩ => ⟨S2048x2048, .bf16⟩
  | .local _ .vmem, ⟨0, _⟩ => ⟨S2048x1024, .f32⟩
  | .local _ .vmem, ⟨1, _⟩ => ⟨S1x512x1024, .bf16⟩
  | .local _ .vmem, ⟨2, _⟩ => ⟨S1x512x1024, .bf16⟩
  | .local _ .vmem, ⟨3, _⟩ => ⟨S2048x512, .bf16⟩
  | .local _ .vmem, ⟨4, _⟩ => ⟨S2048x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let v27 : BitVec 32 := Scalar.addi c0_i32_11 v26
  let c0_i32_12 : BitVec 32 := 0#32
  let c0_i32_13 : BitVec 32 := 0#32
  ![v16.toNat, v27.toNat, c0_i32_12.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S2048x1024 : Shape := ⟨2, ![2048, 1024]⟩
abbrev S4x768x1024 : Shape := ⟨3, ![4, 768, 1024]⟩
abbrev S_ : Shape := ⟨0, ![]⟩
abbrev S2048x2048 : Shape := ⟨2, ![2048, 2048]⟩
abbrev S4x512x1024 : Shape := ⟨3, ![4, 512, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S4x768x1024, .bf16⟩
  | .hbm, ⟨2, _⟩ => ⟨S_, .f32⟩
  | .hbm, ⟨3, _⟩ => ⟨S2048x2048, .f32⟩
  | .hbm, ⟨4, _⟩ => ⟨S4x768x1024, .f32⟩
  | .hbm, ⟨5, _⟩ => ⟨S4x512x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x2048, .f32⟩
  | .hbm, ⟨10, _⟩ => ⟨S2048x2048, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel7.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .bf16⟩
  | .hbm, ⟨3, _⟩ => ⟨S2048x1024, .f32⟩
  | .hbm, ⟨4, _⟩ => ⟨S2048x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v40 : BitVec 1 := Scalar.cmpi .eq arg0 c0_i32
  let v41 : BitVec 32 := Scalar.extui v40
  let c0_i32_16 : BitVec 32 := 0#32
  let v42 : BitVec 1 := Scalar.cmpi .ne v41 c0_i32_16
  v42

def k0_cond2 (i : grid0.Coords) : BitVec 1 :=
  let arg0 : BitVec 32 := BitVec.ofNat 32 (i 0).val
  let c0_i32 : BitVec 32 := 0#32
  let v40 : BitVec 1 := Scalar.cmpi .eq arg0 c0_i32
  let v_true : BitVec 1 := 1#1
  let v43 : BitVec 1 := Scalar.xori v40 v_true
  let v44 : BitVec 32 := Scalar.extui v43
  let c0_i32_17 : BitVec 32 := 0#32
  let v45 : BitVec 1 := Scalar.cmpi .ne v44 c0_i32_17
  v45

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference7Ideal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 48
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .bf16⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S2048, .f32⟩
  | .hbm, ⟨33, _⟩ => ⟨S2048x1, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S_, .f32⟩
  | .hbm, ⟨42, _⟩ => ⟨S2048, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel8.lean ====
abbrev S2048x2048 : Shape := ⟨2, ![2048, 2048]⟩
abbrev S2048x1024 : Shape := ⟨2, ![2048, 1024]⟩
abbrev S256x1024 : Shape := ⟨2, ![256, 1024]⟩
abbrev S4x768x1024 : Shape := ⟨3, ![4, 768, 1024]⟩
abbrev S2048x512 : Shape := ⟨2, ![2048, 512]⟩
abbrev S1x512x1024 : Shape := ⟨3, ![1, 512, 1024]⟩
abbrev S512x1024 : Shape := ⟨2, ![512, 1024]⟩
abbrev S256x256 : Shape := ⟨2, ![256, 256]⟩
abbrev S1x256x1024 : Shape := ⟨3, ![1, 256, 1024]⟩

abbrev nBuf : Space → Nat
  | .hbm => 6
  | .vmem => 10
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .f32⟩
  | .hbm, ⟨2, _⟩ => ⟨S256x1024, .bf16⟩
  | .hbm, ⟨3, _⟩ => ⟨S256x1024, .f32⟩
  | .hbm, ⟨4, _⟩ => ⟨S4x768x1024, .bf16⟩
  | .hbm, ⟨5, _⟩ => ⟨S4x768x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .f32⟩
  | .local _ .vmem, ⟨3, _⟩ => ⟨S1x512x1024, .bf16⟩
  | .local _ .vmem, ⟨4, _⟩ => ⟨S1x512x1024, .bf16⟩
  | .local _ .vmem, ⟨5, _⟩ => ⟨S256x256, .bf16⟩
  | .local _ .vmem, ⟨6, _⟩ => ⟨S256x256, .bf16⟩
  | .local _ .vmem, ⟨7, _⟩ => ⟨S256x1024, .f32⟩
  | .local _ .vmem, ⟨8, _⟩ => ⟨S1x256x1024, .bf16⟩
  | .local _ .vmem, ⟨9, _⟩ => ⟨S1x256x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let v27 : BitVec 32 := Scalar.addi c0_i32_11 v26
  let c0_i32_12 : BitVec 32 := 0#32
  ![v16.toNat, v27.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c2_i32 : BitVec 32 := 2#32
  let v27 : BitVec 32 := Scalar.addi c2_i32 v26
  let c0_i32_11 : BitVec 32 := 0#32
  ![v16.toNat, v27.toNat, arg1.toNat]

abbrev stage1_0 : Fin 2 → Memref sig .tc .vmem S256x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S256x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S1x256x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== Reference8Ideal.lean ====
abbrev S2048x2048 : Shape := ⟨2, ![2048, 2048]⟩
abbrev S2048x1024 : Shape := ⟨2, ![2048, 1024]⟩
abbrev S256x1024 : Shape := ⟨2, ![256, 1024]⟩
abbrev S_ : Shape := ⟨0, ![]⟩
abbrev S1024x1024 : Shape := ⟨2, ![1024, 1024]⟩
abbrev S1024x2048 : Shape := ⟨2, ![1024, 2048]⟩
abbrev S4x512x1024 : Shape := ⟨3, ![4, 512, 1024]⟩
abbrev S4x256x1024 : Shape := ⟨3, ![4, 256, 1024]⟩
abbrev S4x768x1024 : Shape := ⟨3, ![4, 768, 1024]⟩

abbrev nBuf : Space → Nat
  | .hbm => 20
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .f32⟩
  | .hbm, ⟨2, _⟩ => ⟨S256x1024, .bf16⟩
  | .hbm, ⟨3, _⟩ => ⟨S256x1024, .f32⟩
  | .hbm, ⟨4, _⟩ => ⟨S_, .f32⟩
  | .hbm, ⟨5, _⟩ => ⟨S2048x1024, .f32⟩
  | .hbm, ⟨6, _⟩ => ⟨S_, .f32⟩
  | .hbm, ⟨7, _⟩ => ⟨S1024x1024, .f32⟩
  | .hbm, ⟨8, _⟩ => ⟨S2048x2048, .f32⟩
  | .hbm, ⟨9, _⟩ => ⟨S2048x1024, .f32⟩
  | .hbm, ⟨10, _⟩ => ⟨S256x1024, .f32⟩
  | .hbm, ⟨11, _⟩ => ⟨S256x1024, .f32⟩
  | .hbm, ⟨12, _⟩ => ⟨S1024x1024, .f32⟩
  | .hbm, ⟨13, _⟩ => ⟨S1024x1024, .f32⟩
  | .hbm, ⟨14, _⟩ => ⟨S1024x2048, .f32⟩
  | .hbm, ⟨15, _⟩ => ⟨S2048x1024, .f32⟩
  | .hbm, ⟨16, _⟩ => ⟨S4x512x1024, .f32⟩
  | .hbm, ⟨17, _⟩ => ⟨S4x256x1024, .f32⟩
  | .hbm, ⟨18, _⟩ => ⟨S4x768x1024, .f32⟩
  | .hbm, ⟨19, _⟩ => ⟨S4x768x1024, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel9.lean ====
abbrev S2048x2048 : Shape := ⟨2, ![2048, 2048]⟩
abbrev S2048x1024 : Shape := ⟨2, ![2048, 1024]⟩
abbrev S256x1024 : Shape := ⟨2, ![256, 1024]⟩
abbrev S4x768x1024 : Shape := ⟨3, ![4, 768, 1024]⟩
abbrev S2048x512 : Shape := ⟨2, ![2048, 512]⟩
abbrev S1x512x1024 : Shape := ⟨3, ![1, 512, 1024]⟩
abbrev S512x1024 : Shape := ⟨2, ![512, 1024]⟩
abbrev S256x256 : Shape := ⟨2, ![256, 256]⟩
abbrev S1x256x1024 : Shape := ⟨3, ![1, 256, 1024]⟩

abbrev nBuf : Space → Nat
  | .hbm => 6
  | .vmem => 10
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .f32⟩
  | .hbm, ⟨2, _⟩ => ⟨S256x1024, .bf16⟩
  | .hbm, ⟨3, _⟩ => ⟨S256x1024, .f32⟩
  | .hbm, ⟨4, _⟩ => ⟨S4x768x1024, .bf16⟩
  | .hbm, ⟨5, _⟩ => ⟨S4x768x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .f32⟩
  | .local _ .vmem, ⟨3, _⟩ => ⟨S1x512x1024, .bf16⟩
  | .local _ .vmem, ⟨4, _⟩ => ⟨S1x512x1024, .bf16⟩
  | .local _ .vmem, ⟨5, _⟩ => ⟨S256x256, .bf16⟩
  | .local _ .vmem, ⟨6, _⟩ => ⟨S256x256, .bf16⟩
  | .local _ .vmem, ⟨7, _⟩ => ⟨S256x1024, .f32⟩
  | .local _ .vmem, ⟨8, _⟩ => ⟨S1x256x1024, .bf16⟩
  | .local _ .vmem, ⟨9, _⟩ => ⟨S1x256x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let v27 : BitVec 32 := Scalar.addi c0_i32_11 v26
  let c0_i32_12 : BitVec 32 := 0#32
  ![v16.toNat, v27.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c2_i32 : BitVec 32 := 2#32
  let v27 : BitVec 32 := Scalar.addi c2_i32 v26
  let c0_i32_11 : BitVec 32 := 0#32
  ![v16.toNat, v27.toNat, arg1.toNat]

abbrev stage1_0 : Fin 2 → Memref sig .tc .vmem S256x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S256x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S1x256x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== Kernel10.lean ====
abbrev S2048x1024 : Shape := ⟨2, ![2048, 1024]⟩
abbrev S4x768x1024 : Shape := ⟨3, ![4, 768, 1024]⟩
abbrev S2048x2048 : Shape := ⟨2, ![2048, 2048]⟩
abbrev S1x512x1024 : Shape := ⟨3, ![1, 512, 1024]⟩
abbrev S2048x512 : Shape := ⟨2, ![2048, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S4x768x1024, .bf16⟩
  | .hbm, ⟨2, _⟩ => ⟨S2048x2048, .bf16⟩
  | .local _ .vmem, ⟨0, _⟩ => ⟨S2048x1024, .f32⟩
  | .local _ .vmem, ⟨1, _⟩ => ⟨S1x512x1024, .bf16⟩
  | .local _ .vmem, ⟨2, _⟩ => ⟨S1x512x1024, .bf16⟩
  | .local _ .vmem, ⟨3, _⟩ => ⟨S2048x512, .bf16⟩
  | .local _ .vmem, ⟨4, _⟩ => ⟨S2048x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let v27 : BitVec 32 := Scalar.addi c0_i32_11 v26
  let c0_i32_12 : BitVec 32 := 0#32
  let c0_i32_13 : BitVec 32 := 0#32
  ![v16.toNat, v27.toNat, c0_i32_12.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Kernel11.lean ====
abbrev S1024x1024 : Shape := ⟨2, ![1024, 1024]⟩
abbrev S512x1024 : Shape := ⟨2, ![512, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference11Ideal.lean ====
abbrev S1024x1024 : Shape := ⟨2, ![1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel12.lean ====
abbrev S1024x1024 : Shape := ⟨2, ![1024, 1024]⟩
abbrev S512x1024 : Shape := ⟨2, ![512, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel13.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .bf16⟩
  | .hbm, ⟨3, _⟩ => ⟨S2048x1024, .f32⟩
  | .hbm, ⟨4, _⟩ => ⟨S2048x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v40 : BitVec 1 := Scalar.cmpi .eq arg0 c0_i32
  let v41 : BitVec 32 := Scalar.extui v40
  let c0_i32_16 : BitVec 32 := 0#32
  let v42 : BitVec 1 := Scalar.cmpi .ne v41 c0_i32_16
  v42

def k0_cond2 (i : grid0.Coords) : BitVec 1 :=
  let arg0 : BitVec 32 := BitVec.ofNat 32 (i 0).val
  let c0_i32 : BitVec 32 := 0#32
  let v40 : BitVec 1 := Scalar.cmpi .eq arg0 c0_i32
  let v_true : BitVec 1 := 1#1
  let v43 : BitVec 1 := Scalar.xori v40 v_true
  let v44 : BitVec 32 := Scalar.extui v43
  let c0_i32_17 : BitVec 32 := 0#32
  let v45 : BitVec 1 := Scalar.cmpi .ne v44 c0_i32_17
  v45

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Kernel14.lean ====
abbrev S256x1024 : Shape := ⟨2, ![256, 1024]⟩
abbrev S4x768x1024 : Shape := ⟨3, ![4, 768, 1024]⟩
abbrev S1x256x1024 : Shape := ⟨3, ![1, 256, 1024]⟩
abbrev S256x256 : Shape := ⟨2, ![256, 256]⟩

abbrev nBuf : Space → Nat
  | .hbm => 3
  | .vmem => 6
  | .smem => 0
  | _ => 0

abbrev bufTy : (tb : Table) → Fin (tcTables nBuf tb) → BufTy
  | .hbm, ⟨0, _⟩ => ⟨S256x1024, .bf16⟩
  | .hbm, ⟨1, _⟩ => ⟨S4x768x1024, .bf16⟩
  | .hbm, ⟨2, _⟩ => ⟨S256x1024, .f32⟩
  | .local _ .vmem, ⟨0, _⟩ => ⟨S256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S256x1024, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![c0_i32.toNat, c2_i32.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c2_i32 : BitVec 32 := 2#32
  let c0_i32 : BitVec 32 := 0#32
  ![c1_i32.toNat, c2_i32.toNat, arg1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c2_i32_0 : BitVec 32 := 2#32
  let c0_i32 : BitVec 32 := 0#32
  ![c2_i32.toNat, c2_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c2_i32 : BitVec 32 := 2#32
  let c0_i32 : BitVec 32 := 0#32
  ![c3_i32.toNat, c2_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1x256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1x256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]
-- ==== Reference14Ideal.lean ====
abbrev S256x1024 : Shape := ⟨2, ![256, 1024]⟩
abbrev S4x768x1024 : Shape := ⟨3, ![4, 768, 1024]⟩
abbrev S4x256x1024 : Shape := ⟨3, ![4, 256, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S4x768x1024, .bf16⟩
  | .hbm, ⟨2, _⟩ => ⟨S256x1024, .f32⟩
  | .hbm, ⟨3, _⟩ => ⟨S4x768x1024, .f32⟩
  | .hbm, ⟨4, _⟩ => ⟨S4x256x1024, .f32⟩
  | .hbm, ⟨5, _⟩ => ⟨S1024x1024, .f32⟩
  | .hbm, ⟨6, _⟩ => ⟨S256x1024, .f32⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel15.lean ====
abbrev S256x1024 : Shape := ⟨2, ![256, 1024]⟩
abbrev S4x768x1024 : Shape := ⟨3, ![4, 768, 1024]⟩
abbrev S1x256x1024 : Shape := ⟨3, ![1, 256, 1024]⟩
abbrev S256x256 : Shape := ⟨2, ![256, 256]⟩

abbrev nBuf : Space → Nat
  | .hbm => 3
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S4x768x1024, .bf16⟩
  | .hbm, ⟨2, _⟩ => ⟨S256x1024, .f32⟩
  | .local _ .vmem, ⟨0, _⟩ => ⟨S256x1024, .f32⟩
  | .local _ .vmem, ⟨1, _⟩ => ⟨S1x256x1024, .bf16⟩
  | .local _ .vmem, ⟨2, _⟩ => ⟨S1x256x1024, .bf16⟩
  | .local _ .vmem, ⟨3, _⟩ => ⟨S256x256, .f32⟩
  | .local _ .vmem, ⟨4, _⟩ => ⟨S256x256, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c2_i32 : BitVec 32 := 2#32
  let v27 : BitVec 32 := Scalar.addi c2_i32 v26
  let c0_i32_11 : BitVec 32 := 0#32
  let c0_i32_12 : BitVec 32 := 0#32
  ![v16.toNat, v27.toNat, c0_i32_11.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference15Ideal.lean ====
abbrev S256x1024 : Shape := ⟨2, ![256, 1024]⟩
abbrev S4x768x1024 : Shape := ⟨3, ![4, 768, 1024]⟩
abbrev S_ : Shape := ⟨0, ![]⟩
abbrev S4x256x1024 : Shape := ⟨3, ![4, 256, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S4x768x1024, .bf16⟩
  | .hbm, ⟨2, _⟩ => ⟨S_, .f32⟩
  | .hbm, ⟨3, _⟩ => ⟨S256x1024, .f32⟩
  | .hbm, ⟨4, _⟩ => ⟨S4x768x1024, .f32⟩
  | .hbm, ⟨5, _⟩ => ⟨S4x256x1024, .f32⟩
  | .hbm, ⟨6, _⟩ => ⟨S1024x1024, .f32⟩
  | .hbm, ⟨7, _⟩ => ⟨S256x1024, .f32⟩
  | .hbm, ⟨8, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel16.lean ====
abbrev S256x1024 : Shape := ⟨2, ![256, 1024]⟩
abbrev S4x768x1024 : Shape := ⟨3, ![4, 768, 1024]⟩
abbrev S1x256x1024 : Shape := ⟨3, ![1, 256, 1024]⟩
abbrev S256x256 : Shape := ⟨2, ![256, 256]⟩

abbrev nBuf : Space → Nat
  | .hbm => 3
  | .vmem => 6
  | .smem => 0
  | _ => 0

abbrev bufTy : (tb : Table) → Fin (tcTables nBuf tb) → BufTy
  | .hbm, ⟨0, _⟩ => ⟨S256x1024, .bf16⟩
  | .hbm, ⟨1, _⟩ => ⟨S4x768x1024, .bf16⟩
  | .hbm, ⟨2, _⟩ => ⟨S256x1024, .f32⟩
  | .local _ .vmem, ⟨0, _⟩ => ⟨S256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S256x1024, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![c0_i32.toNat, c2_i32.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c2_i32 : BitVec 32 := 2#32
  let c0_i32 : BitVec 32 := 0#32
  ![c1_i32.toNat, c2_i32.toNat, arg1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c2_i32_0 : BitVec 32 := 2#32
  let c0_i32 : BitVec 32 := 0#32
  ![c2_i32.toNat, c2_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c2_i32 : BitVec 32 := 2#32
  let c0_i32 : BitVec 32 := 0#32
  ![c3_i32.toNat, c2_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1x256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1x256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]
-- ==== Kernel17.lean ====
abbrev S256x1024 : Shape := ⟨2, ![256, 1024]⟩
abbrev S4x768x1024 : Shape := ⟨3, ![4, 768, 1024]⟩
abbrev S1x256x1024 : Shape := ⟨3, ![1, 256, 1024]⟩
abbrev S256x256 : Shape := ⟨2, ![256, 256]⟩

abbrev nBuf : Space → Nat
  | .hbm => 3
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S4x768x1024, .bf16⟩
  | .hbm, ⟨2, _⟩ => ⟨S256x1024, .f32⟩
  | .local _ .vmem, ⟨0, _⟩ => ⟨S256x1024, .f32⟩
  | .local _ .vmem, ⟨1, _⟩ => ⟨S1x256x1024, .bf16⟩
  | .local _ .vmem, ⟨2, _⟩ => ⟨S1x256x1024, .bf16⟩
  | .local _ .vmem, ⟨3, _⟩ => ⟨S256x256, .f32⟩
  | .local _ .vmem, ⟨4, _⟩ => ⟨S256x256, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c2_i32 : BitVec 32 := 2#32
  let v27 : BitVec 32 := Scalar.addi c2_i32 v26
  let c0_i32_11 : BitVec 32 := 0#32
  let c0_i32_12 : BitVec 32 := 0#32
  ![v16.toNat, v27.toNat, c0_i32_11.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Kernel18.lean ====
abbrev S2048x1024 : Shape := ⟨2, ![2048, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1x1, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference18Ideal.lean ====
abbrev S2048x1024 : Shape := ⟨2, ![2048, 1024]⟩
abbrev S_ : Shape := ⟨0, ![]⟩
abbrev S2048 : Shape := ⟨1, ![2048]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S2048x1024, .f32⟩
  | .hbm, ⟨24, _⟩ => ⟨S2048x1024, .f32⟩
  | .hbm, ⟨25, _⟩ => ⟨S1x1, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Proof.FwdSetup.lean ====
/- What the runs of the forward attention share (`Cert.KernelIdeal`): the branch conditions in closed form, the four cases,
   the staging buffers at a point, each input's block. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- rectangles of long axes are compared coordinate by coordinate
set_option maxRecDepth 16384

noncomputable section

namespace Cert.KernelIdeal.Attn

open Cert.KernelIdeal.Gen
open Idealize.ShloMosaic Idealize.ShloMosaic.TcCoe Idealize.ShloMosaic.Tactic
open Idealize.SL
open RA BI BI.BIBase BI.Laws ProofMode Idealize.SL.Sem Rounds
open Idealize.ShloMosaic.Pipeline (Dat Cfg Window BodyObligation cellOf)

variable {F : FTy → Type} [FloatOps F] [Named F]

local notation "𝕄" => MT nD τ sig Unit (Elt F) ℕ (UR sig nD τ) ℕ

/-- Branch condition 1 of the body. -/
abbrev cond0_1 (i : grid0.Coords) : Prop := k0_cond1 i = 1#1
/-- It holds exactly at the points whose query block is 0. -/
theorem hcond0_1 : ∀ t : Fin cfg0.N, cond0_1 (grid0.coords t) ↔ t.val % 4 = 0 :=
  (fun t => by
    have ht : t.val < 12 := Nat.lt_of_lt_of_eq t.isLt N_0
    have e0 : (grid0.coords t 0).val = t.val / 4 % 3 := Pipeline.Grid.coords_val t 0 (by decide) rfl
    have e1 : (grid0.coords t 1).val = t.val / 1 % 4 := Pipeline.Grid.coords_val t 1 (by decide) rfl
    simp only [cond0_1, k0_cond1, e0, e1]
    word_cmp
   : ∀ t : Fin grid0.N, cond0_1 (grid0.coords t) ↔ t.val % 4 = 0)

/-- Branch condition 2 of the body. -/
abbrev cond0_2 (i : grid0.Coords) : Prop := k0_cond2 i = 1#1
/-- It holds exactly at the points whose query block is 1. -/
theorem hcond0_2 : ∀ t : Fin cfg0.N, cond0_2 (grid0.coords t) ↔ t.val % 4 = 1 :=
  (fun t => by
    have ht : t.val < 12 := Nat.lt_of_lt_of_eq t.isLt N_0
    have e0 : (grid0.coords t 0).val = t.val / 4 % 3 := Pipeline.Grid.coords_val t 0 (by decide) rfl
    have e1 : (grid0.coords t 1).val = t.val / 1 % 4 := Pipeline.Grid.coords_val t 1 (by decide) rfl
    simp only [cond0_2, k0_cond2, e0, e1]
    word_cmp
   : ∀ t : Fin grid0.N, cond0_2 (grid0.coords t) ↔ t.val % 4 = 1)

/-- Branch condition 3 of the body. -/
abbrev cond0_3 (i : grid0.Coords) : Prop := k0_cond3 i = 1#1
/-- It holds exactly at the points whose query block is 2. -/
theorem hcond0_3 : ∀ t : Fin cfg0.N, cond0_3 (grid0.coords t) ↔ t.val % 4 = 2 :=
  (fun t => by
    have ht : t.val < 12 := Nat.lt_of_lt_of_eq t.isLt N_0
    have e0 : (grid0.coords t 0).val = t.val / 4 % 3 := Pipeline.Grid.coords_val t 0 (by decide) rfl
    have e1 : (grid0.coords t 1).val = t.val / 1 % 4 := Pipeline.Grid.coords_val t 1 (by decide) rfl
    simp only [cond0_3, k0_cond3, e0, e1]
    word_cmp
   : ∀ t : Fin grid0.N, cond0_3 (grid0.coords t) ↔ t.val % 4 = 2)

/-- Branch condition 4 of the body. -/
abbrev cond0_4 (i : grid0.Coords) : Prop := k0_cond4 i = 1#1
/-- It holds exactly at the points whose query block is 3. -/
theorem hcond0_4 : ∀ t : Fin cfg0.N, cond0_4 (grid0.coords t) ↔ t.val % 4 = 3 :=
  (fun t => by
    have ht : t.val < 12 := Nat.lt_of_lt_of_eq t.isLt N_0
    have e0 : (grid0.coords t 0).val = t.val / 4 % 3 := Pipeline.Grid.coords_val t 0 (by decide) rfl
    have e1 : (grid0.coords t 1).val = t.val / 1 % 4 := Pipeline.Grid.coords_val t 1 (by decide) rfl
    simp only [cond0_4, k0_cond4, e0, e1]
    word_cmp
   : ∀ t : Fin grid0.N, cond0_4 (grid0.coords t) ↔ t.val % 4 = 3)

/-- Case A: the query block is 0. -/
abbrev conds0_A (i : grid0.Coords) : Prop := cond0_1 i ∧ ¬cond0_2 i ∧ ¬cond0_3 i ∧ ¬cond0_4 i
theorem case0_A (t : Fin cfg0.N) (h : t.val % 4 = 0) : conds0_A (grid0.coords t) :=
  ⟨(hcond0_1 t).mpr h, fun e => by have := (hcond0_2 t).mp e; omega, fun e => by have := (hcond0_3 t).mp e; omega, fun e => by have := (hcond0_4 t).mp e; omega⟩

/-- Case B: the query block is 1. -/
abbrev conds0_B (i : grid0.Coords) : Prop := ¬cond0_1 i ∧ cond0_2 i ∧ ¬cond0_3 i ∧ ¬cond0_4 i
theorem case0_B (t : Fin cfg0.N) (h : t.val % 4 = 1) : conds0_B (grid0.coords t) :=
  ⟨fun e => by have := (hcond0_1 t).mp e; omega, (hcond0_2 t).mpr h, fun e => by have := (hcond0_3 t).mp e; omega, fun e => by have := (hcond0_4 t).mp e; omega⟩

/-- Case C: the query block is 2. -/
abbrev conds0_C (i : grid0.Coords) : Prop := ¬cond0_1 i ∧ ¬cond0_2 i ∧ cond0_3 i ∧ ¬cond0_4 i
theorem case0_C (t : Fin cfg0.N) (h : t.val % 4 = 2) : conds0_C (grid0.coords t) :=
  ⟨fun e => by have := (hcond0_1 t).mp e; omega, fun e => by have := (hcond0_2 t).mp e; omega, (hcond0_3 t).mpr h, fun e => by have := (hcond0_4 t).mp e; omega⟩

/-- Case D: the query block is 3. -/
abbrev conds0_D (i : grid0.Coords) : Prop := ¬cond0_1 i ∧ ¬cond0_2 i ∧ ¬cond0_3 i ∧ cond0_4 i
theorem case0_D (t : Fin cfg0.N) (h : t.val % 4 = 3) : conds0_D (grid0.coords t) :=
  ⟨fun e => by have := (hcond0_1 t).mp e; omega, fun e => by have := (hcond0_2 t).mp e; omega, fun e => by have := (hcond0_3 t).mp e; omega, (hcond0_4 t).mpr h⟩

/-- Every window is used at every point. -/
theorem live0 : ∀ (w : Fin cfg0.W) (t : Fin cfg0.N), cfg0.idle w (grid0.coords t) = false := by decide +kernel

abbrev ms0_0 (t : Fin cfg0.N) : Memref sig .tc .vmem S4x512x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x2048x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x2048x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4x512x1 .f32 := win0_4.stage (cfg0.slots t 4)
abbrev hs0_4 (t : Fin cfg0.N) : (ms0_4 t).IsWhole := hstage0_4 ((cfg0.slots t 4).cast nbuf0_4)

section Blocks
variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end Blocks

end Cert.KernelIdeal.Attn

end
-- ==== Proof.FwdRunA.lean ====
/- The body of the forward attention run in case A (query block 0), on any whole staging buffers (`Cert.KernelIdeal`). -/
module

public import proofs.«01_k».proof.Proof.FwdSetup

@[expose] public section

-- rectangles of long axes are compared coordinate by coordinate
set_option maxRecDepth 16384

noncomputable section

namespace Cert.KernelIdeal.Attn

open Cert.KernelIdeal.Gen
open Idealize.ShloMosaic Idealize.ShloMosaic.TcCoe Idealize.ShloMosaic.Tactic
open Idealize.SL
open RA BI BI.BIBase BI.Laws ProofMode Idealize.SL.Sem Rounds
open Idealize.ShloMosaic.Pipeline (Dat Cfg Window BodyObligation cellOf)

variable {F : FTy → Type} [FloatOps F] [Named F]

local notation "𝕄" => MT nD τ sig Unit (Elt F) ℕ (UR sig nD τ) ℕ

section Case
variable (c : Dev nD) (i : grid0.Coords) {arg2 : Memref sig .tc .vmem S4x512x256 .bf16} (h2 : arg2.IsWhole) {arg3 : Memref sig .tc .vmem S4x2048x256 .bf16} (h3 : arg3.IsWhole) {arg4 : Memref sig .tc .vmem S4x2048x128 .bf16} (h4 : arg4.IsWhole) {arg5 : Memref sig .tc .vmem S512x512 .f32} (h5 : arg5.IsWhole) {arg6 : Memref sig .tc .vmem S4x512x1 .f32} (h6 : arg6.IsWhole)
  (hc : conds0_A i) (x0 : Vec F S4x512x256 .bf16) (x1 : Vec F S4x2048x256 .bf16) (x2 : Vec F S4x2048x128 .bf16)

set_option maxHeartbeats 1000000 in
/-- What the body's stores leave in each result's staging buffer, as pieces, last first, with the proof that the body run on
    the inputs' blocks ends with those pieces written. -/
noncomputable def run0_A :
    Σ' (L3 : List (View.Piece (Elt F) S512x512 .f32)), { L4 : List (View.Piece (Elt F) S4x512x1 .f32) //
      ∀ (E : Set ℕ) (K : PUnit → sProp 𝕄),
        iprop(owns c.tc arg2 fullShare x0 ∗ owns c.tc arg3 fullShare x1 ∗ owns c.tc arg4 fullShare x2 ∗ (∃ d, owns c.tc arg5 fullShare d) ∗ (∃ d, owns c.tc arg6 fullShare d)
            ∗ (iprop(owns c.tc arg2 fullShare x0 ∗ owns c.tc arg3 fullShare x1 ∗ owns c.tc arg4 fullShare x2 ∗ (∃ f, arg5.view.loc c.tc ↦[arg5.view.set]{fullShare} arg5.view.writes (Elt F) f L3) ∗ (∃ f, arg6.view.loc c.tc ↦[arg6.view.set]{fullShare} arg6.view.writes (Elt F) f L4)) -∗ K ⟨⟩))
          ⊢ wp frame (wpE (defs₀ (F := F)) Variants.none c none) E (cc0_l1_attn i arg2 h2 arg3 h3 arg4 h4 arg5 h5 arg6 h6) K } := by
  refine ⟨?_, ?_, fun E K => ?run⟩
  case run =>
    obtain ⟨hc1, hc2, hc3, hc4⟩ := hc
    simp only [cc0_l1_attn_eq_skeleton]; unfold cc0_l1_attn_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := h2.eq_unread hf0; obtain rfl := h3.eq_unread hf1; obtain rfl := h4.eq_unread hf2
    sl_exec (disch := first | sl_exact hc1 | sl_exact hc2 | sl_exact hc3 | sl_exact hc4)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]; · iexists _; iexact H3
    iexists _; iexact H4

/-- The pieces cover result 0's block. -/
theorem cover0_A_3 (y : S512x512.Idx) : ∃ pc ∈ (run0_A c i h2 h3 h4 h5 h6 hc x0 x1 x2).1, y ∈ pc.1.set :=
  View.cover_of_tiledL (run0_A c i h2 h3 h4 h5 h6 hc x0 x1 x2).1 S512x128.size (by sl_kernel_rfl) y
/-- What case A leaves in result 0's staging buffer. -/
def out0_A_3 : Vec F S512x512 .f32 :=
  arg5.view.read (Elt F) (arg5.view.writes (Elt F) arg5.view.junk (run0_A c i h2 h3 h4 h5 h6 hc x0 x1 x2).1)

/-- The pieces cover result 1's block. -/
theorem cover0_A_4 (y : S4x512x1.Idx) : ∃ pc ∈ (run0_A c i h2 h3 h4 h5 h6 hc x0 x1 x2).2.1, y ∈ pc.1.set :=
  View.cover_of_tiledL (run0_A c i h2 h3 h4 h5 h6 hc x0 x1 x2).2.1 S1x512x1.size (by sl_kernel_rfl) y
/-- What case A leaves in result 1's staging buffer. -/
def out0_A_4 : Vec F S4x512x1 .f32 :=
  arg6.view.read (Elt F) (arg6.view.writes (Elt F) arg6.view.junk (run0_A c i h2 h3 h4 h5 h6 hc x0 x1 x2).2.1)

end Case

end Cert.KernelIdeal.Attn

end
-- ==== Proof.FwdRunB.lean ====
/- The body of the forward attention run in case B (query block 1), on any whole staging buffers (`Cert.KernelIdeal`). -/
module

public import proofs.«01_k».proof.Proof.FwdRunA

@[expose] public section

-- rectangles of long axes are compared coordinate by coordinate
set_option maxRecDepth 16384

noncomputable section

namespace Cert.KernelIdeal.Attn

open Cert.KernelIdeal.Gen
open Idealize.ShloMosaic Idealize.ShloMosaic.TcCoe Idealize.ShloMosaic.Tactic
open Idealize.SL
open RA BI BI.BIBase BI.Laws ProofMode Idealize.SL.Sem Rounds
open Idealize.ShloMosaic.Pipeline (Dat Cfg Window BodyObligation cellOf)

variable {F : FTy → Type} [FloatOps F] [Named F]

local notation "𝕄" => MT nD τ sig Unit (Elt F) ℕ (UR sig nD τ) ℕ

section Case
variable (c : Dev nD) (i : grid0.Coords) {arg2 : Memref sig .tc .vmem S4x512x256 .bf16} (h2 : arg2.IsWhole) {arg3 : Memref sig .tc .vmem S4x2048x256 .bf16} (h3 : arg3.IsWhole) {arg4 : Memref sig .tc .vmem S4x2048x128 .bf16} (h4 : arg4.IsWhole) {arg5 : Memref sig .tc .vmem S512x512 .f32} (h5 : arg5.IsWhole) {arg6 : Memref sig .tc .vmem S4x512x1 .f32} (h6 : arg6.IsWhole)
  (hc : conds0_B i) (x0 : Vec F S4x512x256 .bf16) (x1 : Vec F S4x2048x256 .bf16) (x2 : Vec F S4x2048x128 .bf16)

set_option maxHeartbeats 1000000 in
/-- What the body's stores leave in each result's staging buffer, as pieces, last first, with the proof that the body run on
    the inputs' blocks ends with those pieces written. -/
noncomputable def run0_B :
    Σ' (L3 : List (View.Piece (Elt F) S512x512 .f32)), { L4 : List (View.Piece (Elt F) S4x512x1 .f32) //
      ∀ (E : Set ℕ) (K : PUnit → sProp 𝕄),
        iprop(owns c.tc arg2 fullShare x0 ∗ owns c.tc arg3 fullShare x1 ∗ owns c.tc arg4 fullShare x2 ∗ (∃ d, owns c.tc arg5 fullShare d) ∗ (∃ d, owns c.tc arg6 fullShare d)
            ∗ (iprop(owns c.tc arg2 fullShare x0 ∗ owns c.tc arg3 fullShare x1 ∗ owns c.tc arg4 fullShare x2 ∗ (∃ f, arg5.view.loc c.tc ↦[arg5.view.set]{fullShare} arg5.view.writes (Elt F) f L3) ∗ (∃ f, arg6.view.loc c.tc ↦[arg6.view.set]{fullShare} arg6.view.writes (Elt F) f L4)) -∗ K ⟨⟩))
          ⊢ wp frame (wpE (defs₀ (F := F)) Variants.none c none) E (cc0_l1_attn i arg2 h2 arg3 h3 arg4 h4 arg5 h5 arg6 h6) K } := by
  refine ⟨?_, ?_, fun E K => ?run⟩
  case run =>
    obtain ⟨hc1, hc2, hc3, hc4⟩ := hc
    simp only [cc0_l1_attn_eq_skeleton]; unfold cc0_l1_attn_skel
    simp only [k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := h2.eq_unread hf0; obtain rfl := h3.eq_unread hf1; obtain rfl := h4.eq_unread hf2
    sl_exec (disch := first | sl_exact hc1 | sl_exact hc2 | sl_exact hc3 | sl_exact hc4)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]; · iexists _; iexact H3
    iexists _; iexact H4

/-- The pieces cover result 0's block. -/
theorem cover0_B_3 (y : S512x512.Idx) : ∃ pc ∈ (run0_B c i h2 h3 h4 h5 h6 hc x0 x1 x2).1, y ∈ pc.1.set :=
  View.cover_of_tiledL (run0_B c i h2 h3 h4 h5 h6 hc x0 x1 x2).1 S512x128.size (by sl_kernel_rfl) y
/-- What case B leaves in result 0's staging buffer. -/
def out0_B_3 : Vec F S512x512 .f32 :=
  arg5.view.read (Elt F) (arg5.view.writes (Elt F) arg5.view.junk (run0_B c i h2 h3 h4 h5 h6 hc x0 x1 x2).1)

/-- The pieces cover result 1's block. -/
theorem cover0_B_4 (y : S4x512x1.Idx) : ∃ pc ∈ (run0_B c i h2 h3 h4 h5 h6 hc x0 x1 x2).2.1, y ∈ pc.1.set :=
  View.cover_of_tiledL (run0_B c i h2 h3 h4 h5 h6 hc x0 x1 x2).2.1 S1x512x1.size (by sl_kernel_rfl) y
/-- What case B leaves in result 1's staging buffer. -/
def out0_B_4 : Vec F S4x512x1 .f32 :=
  arg6.view.read (Elt F) (arg6.view.writes (Elt F) arg6.view.junk (run0_B c i h2 h3 h4 h5 h6 hc x0 x1 x2).2.1)

end Case

end Cert.KernelIdeal.Attn

end
-- ==== Proof.FwdRunC.lean ====
/- The body of the forward attention run in case C (query block 2), on any whole staging buffers (`Cert.KernelIdeal`). -/
module

public import proofs.«01_k».proof.Proof.FwdRunB

@[expose] public section

-- rectangles of long axes are compared coordinate by coordinate
set_option maxRecDepth 16384

noncomputable section

namespace Cert.KernelIdeal.Attn

open Cert.KernelIdeal.Gen
open Idealize.ShloMosaic Idealize.ShloMosaic.TcCoe Idealize.ShloMosaic.Tactic
open Idealize.SL
open RA BI BI.BIBase BI.Laws ProofMode Idealize.SL.Sem Rounds
open Idealize.ShloMosaic.Pipeline (Dat Cfg Window BodyObligation cellOf)

variable {F : FTy → Type} [FloatOps F] [Named F]

local notation "𝕄" => MT nD τ sig Unit (Elt F) ℕ (UR sig nD τ) ℕ

section Case
variable (c : Dev nD) (i : grid0.Coords) {arg2 : Memref sig .tc .vmem S4x512x256 .bf16} (h2 : arg2.IsWhole) {arg3 : Memref sig .tc .vmem S4x2048x256 .bf16} (h3 : arg3.IsWhole) {arg4 : Memref sig .tc .vmem S4x2048x128 .bf16} (h4 : arg4.IsWhole) {arg5 : Memref sig .tc .vmem S512x512 .f32} (h5 : arg5.IsWhole) {arg6 : Memref sig .tc .vmem S4x512x1 .f32} (h6 : arg6.IsWhole)
  (hc : conds0_C i) (x0 : Vec F S4x512x256 .bf16) (x1 : Vec F S4x2048x256 .bf16) (x2 : Vec F S4x2048x128 .bf16)

set_option maxHeartbeats 1000000 in
/-- What the body's stores leave in each result's staging buffer, as pieces, last first, with the proof that the body run on
    the inputs' blocks ends with those pieces written. -/
noncomputable def run0_C :
    Σ' (L3 : List (View.Piece (Elt F) S512x512 .f32)), { L4 : List (View.Piece (Elt F) S4x512x1 .f32) //
      ∀ (E : Set ℕ) (K : PUnit → sProp 𝕄),
        iprop(owns c.tc arg2 fullShare x0 ∗ owns c.tc arg3 fullShare x1 ∗ owns c.tc arg4 fullShare x2 ∗ (∃ d, owns c.tc arg5 fullShare d) ∗ (∃ d, owns c.tc arg6 fullShare d)
            ∗ (iprop(owns c.tc arg2 fullShare x0 ∗ owns c.tc arg3 fullShare x1 ∗ owns c.tc arg4 fullShare x2 ∗ (∃ f, arg5.view.loc c.tc ↦[arg5.view.set]{fullShare} arg5.view.writes (Elt F) f L3) ∗ (∃ f, arg6.view.loc c.tc ↦[arg6.view.set]{fullShare} arg6.view.writes (Elt F) f L4)) -∗ K ⟨⟩))
          ⊢ wp frame (wpE (defs₀ (F := F)) Variants.none c none) E (cc0_l1_attn i arg2 h2 arg3 h3 arg4 h4 arg5 h5 arg6 h6) K } := by
  refine ⟨?_, ?_, fun E K => ?run⟩
  case run =>
    obtain ⟨hc1, hc2, hc3, hc4⟩ := hc
    simp only [cc0_l1_attn_eq_skeleton]; unfold cc0_l1_attn_skel
    simp only [k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := h2.eq_unread hf0; obtain rfl := h3.eq_unread hf1; obtain rfl := h4.eq_unread hf2
    sl_exec (disch := first | sl_exact hc1 | sl_exact hc2 | sl_exact hc3 | sl_exact hc4)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]; · iexists _; iexact H3
    iexists _; iexact H4

/-- The pieces cover result 0's block. -/
theorem cover0_C_3 (y : S512x512.Idx) : ∃ pc ∈ (run0_C c i h2 h3 h4 h5 h6 hc x0 x1 x2).1, y ∈ pc.1.set :=
  View.cover_of_tiledL (run0_C c i h2 h3 h4 h5 h6 hc x0 x1 x2).1 S512x128.size (by sl_kernel_rfl) y
/-- What case C leaves in result 0's staging buffer. -/
def out0_C_3 : Vec F S512x512 .f32 :=
  arg5.view.read (Elt F) (arg5.view.writes (Elt F) arg5.view.junk (run0_C c i h2 h3 h4 h5 h6 hc x0 x1 x2).1)

/-- The pieces cover result 1's block. -/
theorem cover0_C_4 (y : S4x512x1.Idx) : ∃ pc ∈ (run0_C c i h2 h3 h4 h5 h6 hc x0 x1 x2).2.1, y ∈ pc.1.set :=
  View.cover_of_tiledL (run0_C c i h2 h3 h4 h5 h6 hc x0 x1 x2).2.1 S1x512x1.size (by sl_kernel_rfl) y
/-- What case C leaves in result 1's staging buffer. -/
def out0_C_4 : Vec F S4x512x1 .f32 :=
  arg6.view.read (Elt F) (arg6.view.writes (Elt F) arg6.view.junk (run0_C c i h2 h3 h4 h5 h6 hc x0 x1 x2).2.1)

end Case

end Cert.KernelIdeal.Attn

end
-- ==== Proof.FwdRunD.lean ====
/- The body of the forward attention run in case D (query block 3), on any whole staging buffers (`Cert.KernelIdeal`). -/
module

public import proofs.«01_k».proof.Proof.FwdRunC

@[expose] public section

-- rectangles of long axes are compared coordinate by coordinate
set_option maxRecDepth 16384

noncomputable section

namespace Cert.KernelIdeal.Attn

open Cert.KernelIdeal.Gen
open Idealize.ShloMosaic Idealize.ShloMosaic.TcCoe Idealize.ShloMosaic.Tactic
open Idealize.SL
open RA BI BI.BIBase BI.Laws ProofMode Idealize.SL.Sem Rounds
open Idealize.ShloMosaic.Pipeline (Dat Cfg Window BodyObligation cellOf)

variable {F : FTy → Type} [FloatOps F] [Named F]

local notation "𝕄" => MT nD τ sig Unit (Elt F) ℕ (UR sig nD τ) ℕ

section Case
variable (c : Dev nD) (i : grid0.Coords) {arg2 : Memref sig .tc .vmem S4x512x256 .bf16} (h2 : arg2.IsWhole) {arg3 : Memref sig .tc .vmem S4x2048x256 .bf16} (h3 : arg3.IsWhole) {arg4 : Memref sig .tc .vmem S4x2048x128 .bf16} (h4 : arg4.IsWhole) {arg5 : Memref sig .tc .vmem S512x512 .f32} (h5 : arg5.IsWhole) {arg6 : Memref sig .tc .vmem S4x512x1 .f32} (h6 : arg6.IsWhole)
  (hc : conds0_D i) (x0 : Vec F S4x512x256 .bf16) (x1 : Vec F S4x2048x256 .bf16) (x2 : Vec F S4x2048x128 .bf16)

set_option maxHeartbeats 1000000 in
/-- What the body's stores leave in each result's staging buffer, as pieces, last first, with the proof that the body run on
    the inputs' blocks ends with those pieces written. -/
noncomputable def run0_D :
    Σ' (L3 : List (View.Piece (Elt F) S512x512 .f32)), { L4 : List (View.Piece (Elt F) S4x512x1 .f32) //
      ∀ (E : Set ℕ) (K : PUnit → sProp 𝕄),
        iprop(owns c.tc arg2 fullShare x0 ∗ owns c.tc arg3 fullShare x1 ∗ owns c.tc arg4 fullShare x2 ∗ (∃ d, owns c.tc arg5 fullShare d) ∗ (∃ d, owns c.tc arg6 fullShare d)
            ∗ (iprop(owns c.tc arg2 fullShare x0 ∗ owns c.tc arg3 fullShare x1 ∗ owns c.tc arg4 fullShare x2 ∗ (∃ f, arg5.view.loc c.tc ↦[arg5.view.set]{fullShare} arg5.view.writes (Elt F) f L3) ∗ (∃ f, arg6.view.loc c.tc ↦[arg6.view.set]{fullShare} arg6.view.writes (Elt F) f L4)) -∗ K ⟨⟩))
          ⊢ wp frame (wpE (defs₀ (F := F)) Variants.none c none) E (cc0_l1_attn i arg2 h2 arg3 h3 arg4 h4 arg5 h5 arg6 h6) K } := by
  refine ⟨?_, ?_, fun E K => ?run⟩
  case run =>
    obtain ⟨hc1, hc2, hc3, hc4⟩ := hc
    simp only [cc0_l1_attn_eq_skeleton]; unfold cc0_l1_attn_skel
    simp only [k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := h2.eq_unread hf0; obtain rfl := h3.eq_unread hf1; obtain rfl := h4.eq_unread hf2
    sl_exec (disch := first | sl_exact hc1 | sl_exact hc2 | sl_exact hc3 | sl_exact hc4)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]; · iexists _; iexact H3
    iexists _; iexact H4

/-- The pieces cover result 0's block. -/
theorem cover0_D_3 (y : S512x512.Idx) : ∃ pc ∈ (run0_D c i h2 h3 h4 h5 h6 hc x0 x1 x2).1, y ∈ pc.1.set :=
  View.cover_of_tiledL (run0_D c i h2 h3 h4 h5 h6 hc x0 x1 x2).1 S512x128.size (by sl_kernel_rfl) y
/-- What case D leaves in result 0's staging buffer. -/
def out0_D_3 : Vec F S512x512 .f32 :=
  arg5.view.read (Elt F) (arg5.view.writes (Elt F) arg5.view.junk (run0_D c i h2 h3 h4 h5 h6 hc x0 x1 x2).1)

/-- The pieces cover result 1's block. -/
theorem cover0_D_4 (y : S4x512x1.Idx) : ∃ pc ∈ (run0_D c i h2 h3 h4 h5 h6 hc x0 x1 x2).2.1, y ∈ pc.1.set :=
  View.cover_of_tiledL (run0_D c i h2 h3 h4 h5 h6 hc x0 x1 x2).2.1 S1x512x1.size (by sl_kernel_rfl) y
/-- What case D leaves in result 1's staging buffer. -/
def out0_D_4 : Vec F S4x512x1 .f32 :=
  arg6.view.read (Elt F) (arg6.view.writes (Elt F) arg6.view.junk (run0_D c i h2 h3 h4 h5 h6 hc x0 x1 x2).2.1)

end Case

end Cert.KernelIdeal.Attn

end
-- ==== Proof.FwdDat.lean ====
/- The forward attention over its grid (`Cert.KernelIdeal`): what its results' staging buffers hold after each point, and the
   obligation of the pipeline met at every point. -/
module

public import proofs.«01_k».proof.Proof.FwdRunD
public import Idealize.ShloMosaic.Lib.Claim
public import Idealize.ShloMosaic.Lib.Pipeline.TableIdle

@[expose] public section

-- rectangles of long axes are compared coordinate by coordinate
set_option maxRecDepth 16384

noncomputable section

namespace Cert.KernelIdeal.Attn

open Cert.KernelIdeal.Gen
open Idealize.ShloMosaic Idealize.ShloMosaic.TcCoe Idealize.ShloMosaic.Tactic
open Idealize.SL
open RA BI BI.BIBase BI.Laws ProofMode Idealize.SL.Sem Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- What the body leaves in the results' staging buffers at a point of case A. -/
def pt0_A (c : Dev nD) (t : Fin cfg0.N) (h : t.val % 4 = 0) : Vec F S512x512 .f32 × Vec F S4x512x1 .f32 :=
  (out0_A_3 c (grid0.coords t) (hs0_0 t) (hs0_1 t) (hs0_2 t) (hs0_3 t) (hs0_4 t) (case0_A t h) (iblk0 V c 0 t) (iblk0 V c 1 t) (iblk0 V c 2 t),
   out0_A_4 c (grid0.coords t) (hs0_0 t) (hs0_1 t) (hs0_2 t) (hs0_3 t) (hs0_4 t) (case0_A t h) (iblk0 V c 0 t) (iblk0 V c 1 t) (iblk0 V c 2 t))

/-- What the body leaves in the results' staging buffers at a point of case B. -/
def pt0_B (c : Dev nD) (t : Fin cfg0.N) (h : t.val % 4 = 1) : Vec F S512x512 .f32 × Vec F S4x512x1 .f32 :=
  (out0_B_3 c (grid0.coords t) (hs0_0 t) (hs0_1 t) (hs0_2 t) (hs0_3 t) (hs0_4 t) (case0_B t h) (iblk0 V c 0 t) (iblk0 V c 1 t) (iblk0 V c 2 t),
   out0_B_4 c (grid0.coords t) (hs0_0 t) (hs0_1 t) (hs0_2 t) (hs0_3 t) (hs0_4 t) (case0_B t h) (iblk0 V c 0 t) (iblk0 V c 1 t) (iblk0 V c 2 t))

/-- What the body leaves in the results' staging buffers at a point of case C. -/
def pt0_C (c : Dev nD) (t : Fin cfg0.N) (h : t.val % 4 = 2) : Vec F S512x512 .f32 × Vec F S4x512x1 .f32 :=
  (out0_C_3 c (grid0.coords t) (hs0_0 t) (hs0_1 t) (hs0_2 t) (hs0_3 t) (hs0_4 t) (case0_C t h) (iblk0 V c 0 t) (iblk0 V c 1 t) (iblk0 V c 2 t),
   out0_C_4 c (grid0.coords t) (hs0_0 t) (hs0_1 t) (hs0_2 t) (hs0_3 t) (hs0_4 t) (case0_C t h) (iblk0 V c 0 t) (iblk0 V c 1 t) (iblk0 V c 2 t))

/-- What the body leaves in the results' staging buffers at a point of case D. -/
def pt0_D (c : Dev nD) (t : Fin cfg0.N) (h : t.val % 4 = 3) : Vec F S512x512 .f32 × Vec F S4x512x1 .f32 :=
  (out0_D_3 c (grid0.coords t) (hs0_0 t) (hs0_1 t) (hs0_2 t) (hs0_3 t) (hs0_4 t) (case0_D t h) (iblk0 V c 0 t) (iblk0 V c 1 t) (iblk0 V c 2 t),
   out0_D_4 c (grid0.coords t) (hs0_0 t) (hs0_1 t) (hs0_2 t) (hs0_3 t) (hs0_4 t) (case0_D t h) (iblk0 V c 0 t) (iblk0 V c 1 t) (iblk0 V c 2 t))

/-- What the results' staging buffers hold after point `t`. -/
def outs0 (c : Dev nD) (t : Fin cfg0.N) : Vec F S512x512 .f32 × Vec F S4x512x1 .f32 :=
  if h0 : t.val % 4 = 0 then pt0_A V c t h0
  else if h1 : t.val % 4 = 1 then pt0_B V c t h1
  else if h2 : t.val % 4 = 2 then pt0_C V c t h2
  else pt0_D V c t (by omega)

theorem outs0_A (c : Dev nD) (t : Fin cfg0.N) (h : t.val % 4 = 0) : outs0 V c t = pt0_A V c t h :=
  dif_pos h

theorem outs0_B (c : Dev nD) (t : Fin cfg0.N) (h : t.val % 4 = 1) : outs0 V c t = pt0_B V c t h :=
  (dif_neg (show ¬ t.val % 4 = 0 by (try dsimp only at h); omega)).trans (dif_pos h)

theorem outs0_C (c : Dev nD) (t : Fin cfg0.N) (h : t.val % 4 = 2) : outs0 V c t = pt0_C V c t h :=
  (dif_neg (show ¬ t.val % 4 = 0 by (try dsimp only at h); omega)).trans ((dif_neg (show ¬ t.val % 4 = 1 by (try dsimp only at h); omega)).trans (dif_pos h))

theorem outs0_D (c : Dev nD) (t : Fin cfg0.N) (h : t.val % 4 = 3) : outs0 V c t = pt0_D V c t h :=
  (dif_neg (show ¬ t.val % 4 = 0 by (try dsimp only at h); omega)).trans ((dif_neg (show ¬ t.val % 4 = 1 by (try dsimp only at h); omega)).trans (dif_neg (show ¬ t.val % 4 = 2 by (try dsimp only at h); omega)))

/-- The pipeline's proof data on core `c`: the arrays as the call finds them; after the body at point `t` each input's buffer
    at its block and the results' at `outs0`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outs0 V c t).1
    | ⟨4, _⟩ => (outs0 V c t).2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outs0 V c t).1 := by dsimp only [dat0]
theorem after0_4 (c : Dev nD) (t : Fin cfg0.N) : (dat0 V c).after 4 t = (outs0 V c t).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns c.tc (ms0_0 t) fullShare ((dat0 V c).before 0 t d))
    ∗ (∃ d, owns c.tc (ms0_1 t) fullShare ((dat0 V c).before 1 t d))
    ∗ (∃ d, owns c.tc (ms0_2 t) fullShare ((dat0 V c).before 2 t d))
    ∗ (∃ d, owns c.tc (ms0_3 t) fullShare ((dat0 V c).before 3 t d))
    ∗ (∃ d, owns c.tc (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

theorem leaves0_0 (c : Dev nD) (t : Fin cfg0.N) :
    (dat0 V c).leavesExact 0 t = owns c.tc (ms0_0 t) fullShare ((dat0 V c).after 0 t) := by
  unfold Dat.leavesExact; rw [live0 0 t]
theorem leaves0_1 (c : Dev nD) (t : Fin cfg0.N) :
    (dat0 V c).leavesExact 1 t = owns c.tc (ms0_1 t) fullShare ((dat0 V c).after 1 t) := by
  unfold Dat.leavesExact; rw [live0 1 t]
theorem leaves0_2 (c : Dev nD) (t : Fin cfg0.N) :
    (dat0 V c).leavesExact 2 t = owns c.tc (ms0_2 t) fullShare ((dat0 V c).after 2 t) := by
  unfold Dat.leavesExact; rw [live0 2 t]
theorem leaves0_3 (c : Dev nD) (t : Fin cfg0.N) :
    (dat0 V c).leavesExact 3 t = owns c.tc (ms0_3 t) fullShare ((dat0 V c).after 3 t) := by
  unfold Dat.leavesExact; rw [live0 3 t]
theorem leaves0_4 (c : Dev nD) (t : Fin cfg0.N) :
    (dat0 V c).leavesExact 4 t = owns c.tc (ms0_4 t) fullShare ((dat0 V c).after 4 t) := by
  unfold Dat.leavesExact; rw [live0 4 t]

set_option maxHeartbeats 1600000 in
/-- The body at any point: the case its query block selects, run on the inputs' blocks. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    leaves0_0, leaves0_1, leaves0_2, leaves0_3, leaves0_4,
    after0_0, after0_1, after0_2, after0_3, after0_4]
  have hN : t.val % 4 = 0 ∨ t.val % 4 = 1 ∨ t.val % 4 = 2 ∨ t.val % 4 = 3 := by omega
  rcases hN with h | h | h | h
  · rw [outs0_A V c t h]
    unfold pt0_A out0_A_3 out0_A_4; (try dsimp only)
    iintro ⟨HΦ, Ho, ⟨%d0, H0⟩, ⟨%d1, H1⟩, ⟨%d2, H2⟩, ⟨%d3, H3⟩, ⟨%d4, H4⟩⟩
    iapply ((run0_A c (grid0.coords t) _ _ _ _ _ (case0_A t h) (iblk0 V c 0 t) (iblk0 V c 1 t) (iblk0 V c 2 t)).2.2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_A_3 c _ _ _ _ _ _ _ _ _ _)
    unfold owns; iexists _; isplitr
    swap; · iexact H4
    ipureintro; exact View.read_writes_of_cover _ _ _ _ _ (cover0_A_4 c _ _ _ _ _ _ _ _ _ _)
  · rw [outs0_B V c t h]
    unfold pt0_B out0_B_3 out0_B_4; (try dsimp only)
    iintro ⟨HΦ, Ho, ⟨%d0, H0⟩, ⟨%d1, H1⟩, ⟨%d2, H2⟩, ⟨%d3, H3⟩, ⟨%d4, H4⟩⟩
    iapply ((run0_B c (grid0.coords t) _ _ _ _ _ (case0_B t h) (iblk0 V c 0 t) (iblk0 V c 1 t) (iblk0 V c 2 t)).2.2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_B_3 c _ _ _ _ _ _ _ _ _ _)
    unfold owns; iexists _; isplitr
    swap; · iexact H4
    ipureintro; exact View.read_writes_of_cover _ _ _ _ _ (cover0_B_4 c _ _ _ _ _ _ _ _ _ _)
  · rw [outs0_C V c t h]
    unfold pt0_C out0_C_3 out0_C_4; (try dsimp only)
    iintro ⟨HΦ, Ho, ⟨%d0, H0⟩, ⟨%d1, H1⟩, ⟨%d2, H2⟩, ⟨%d3, H3⟩, ⟨%d4, H4⟩⟩
    iapply ((run0_C c (grid0.coords t) _ _ _ _ _ (case0_C t h) (iblk0 V c 0 t) (iblk0 V c 1 t) (iblk0 V c 2 t)).2.2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_C_3 c _ _ _ _ _ _ _ _ _ _)
    unfold owns; iexists _; isplitr
    swap; · iexact H4
    ipureintro; exact View.read_writes_of_cover _ _ _ _ _ (cover0_C_4 c _ _ _ _ _ _ _ _ _ _)
  · rw [outs0_D V c t h]
    unfold pt0_D out0_D_3 out0_D_4; (try dsimp only)
    iintro ⟨HΦ, Ho, ⟨%d0, H0⟩, ⟨%d1, H1⟩, ⟨%d2, H2⟩, ⟨%d3, H3⟩, ⟨%d4, H4⟩⟩
    iapply ((run0_D c (grid0.coords t) _ _ _ _ _ (case0_D t h) (iblk0 V c 0 t) (iblk0 V c 1 t) (iblk0 V c 2 t)).2.2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_D_3 c _ _ _ _ _ _ _ _ _ _)
    unfold owns; iexists _; isplitr
    swap; · iexact H4
    ipureintro; exact View.read_writes_of_cover _ _ _ _ _ (cover0_D_4 c _ _ _ _ _ _ _ _ _ _)

theorem defs₀_row0 (t : Fin cfg0.N) :
    defs₀ (F := F) .tc cfg0.body (cfg0.bodyArgs t (cfg0.slots t)) = bodyAt0 t := by
  unfold defs₀; rw [Defs.onTc_tc]

/-- The pipeline's obligation at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Attn

end
-- ==== Proof.BwdSetup.lean ====
/- What the runs of the backward attention share (`Cert.KernelIdeal`): the branch conditions in closed form, the four cases,
   the staging buffers at a point, each input's block. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- rectangles of long axes are compared coordinate by coordinate
set_option maxRecDepth 16384

noncomputable section

namespace Cert.KernelIdeal.Attn

open Cert.KernelIdeal.Gen
open Idealize.ShloMosaic Idealize.ShloMosaic.TcCoe Idealize.ShloMosaic.Tactic
open Idealize.SL
open RA BI BI.BIBase BI.Laws ProofMode Idealize.SL.Sem Rounds
open Idealize.ShloMosaic.Pipeline (Dat Cfg Window BodyObligation cellOf)

variable {F : FTy → Type} [FloatOps F] [Named F]

local notation "𝕄" => MT nD τ sig Unit (Elt F) ℕ (UR sig nD τ) ℕ

/-- Branch condition 1 of the body. -/
abbrev cond1_1 (i : grid1.Coords) : Prop := k1_cond1 i = 1#1
/-- It holds exactly at the points whose query block is 0. -/
theorem hcond1_1 : ∀ t : Fin cfg1.N, cond1_1 (grid1.coords t) ↔ t.val % 4 = 0 :=
  (fun t => by
    have ht : t.val < 24 := Nat.lt_of_lt_of_eq t.isLt N_1
    have e0 : (grid1.coords t 0).val = t.val / 4 % 6 := Pipeline.Grid.coords_val t 0 (by decide) rfl
    have e1 : (grid1.coords t 1).val = t.val / 1 % 4 := Pipeline.Grid.coords_val t 1 (by decide) rfl
    simp only [cond1_1, k1_cond1, e0, e1]
    word_cmp
   : ∀ t : Fin grid1.N, cond1_1 (grid1.coords t) ↔ t.val % 4 = 0)

/-- Branch condition 2 of the body. -/
abbrev cond1_2 (i : grid1.Coords) : Prop := k1_cond2 i = 1#1
/-- It holds exactly at the points whose query block is 0. -/
theorem hcond1_2 : ∀ t : Fin cfg1.N, cond1_2 (grid1.coords t) ↔ t.val % 4 = 0 :=
  (fun t => by
    have ht : t.val < 24 := Nat.lt_of_lt_of_eq t.isLt N_1
    have e0 : (grid1.coords t 0).val = t.val / 4 % 6 := Pipeline.Grid.coords_val t 0 (by decide) rfl
    have e1 : (grid1.coords t 1).val = t.val / 1 % 4 := Pipeline.Grid.coords_val t 1 (by decide) rfl
    simp only [cond1_2, k1_cond2, e0, e1]
    word_cmp
   : ∀ t : Fin grid1.N, cond1_2 (grid1.coords t) ↔ t.val % 4 = 0)

/-- Branch condition 3 of the body. -/
abbrev cond1_3 (i : grid1.Coords) : Prop := k1_cond3 i = 1#1
/-- It holds exactly at the points whose query block is 1. -/
theorem hcond1_3 : ∀ t : Fin cfg1.N, cond1_3 (grid1.coords t) ↔ t.val % 4 = 1 :=
  (fun t => by
    have ht : t.val < 24 := Nat.lt_of_lt_of_eq t.isLt N_1
    have e0 : (grid1.coords t 0).val = t.val / 4 % 6 := Pipeline.Grid.coords_val t 0 (by decide) rfl
    have e1 : (grid1.coords t 1).val = t.val / 1 % 4 := Pipeline.Grid.coords_val t 1 (by decide) rfl
    simp only [cond1_3, k1_cond3, e0, e1]
    word_cmp
   : ∀ t : Fin grid1.N, cond1_3 (grid1.coords t) ↔ t.val % 4 = 1)

/-- Branch condition 4 of the body. -/
abbrev cond1_4 (i : grid1.Coords) : Prop := k1_cond4 i = 1#1
/-- It holds exactly at the points whose query block is 2. -/
theorem hcond1_4 : ∀ t : Fin cfg1.N, cond1_4 (grid1.coords t) ↔ t.val % 4 = 2 :=
  (fun t => by
    have ht : t.val < 24 := Nat.lt_of_lt_of_eq t.isLt N_1
    have e0 : (grid1.coords t 0).val = t.val / 4 % 6 := Pipeline.Grid.coords_val t 0 (by decide) rfl
    have e1 : (grid1.coords t 1).val = t.val / 1 % 4 := Pipeline.Grid.coords_val t 1 (by decide) rfl
    simp only [cond1_4, k1_cond4, e0, e1]
    word_cmp
   : ∀ t : Fin grid1.N, cond1_4 (grid1.coords t) ↔ t.val % 4 = 2)

/-- Branch condition 5 of the body. -/
abbrev cond1_5 (i : grid1.Coords) : Prop := k1_cond5 i = 1#1
/-- It holds exactly at the points whose query block is 3. -/
theorem hcond1_5 : ∀ t : Fin cfg1.N, cond1_5 (grid1.coords t) ↔ t.val % 4 = 3 :=
  (fun t => by
    have ht : t.val < 24 := Nat.lt_of_lt_of_eq t.isLt N_1
    have e0 : (grid1.coords t 0).val = t.val / 4 % 6 := Pipeline.Grid.coords_val t 0 (by decide) rfl
    have e1 : (grid1.coords t 1).val = t.val / 1 % 4 := Pipeline.Grid.coords_val t 1 (by decide) rfl
    simp only [cond1_5, k1_cond5, e0, e1]
    word_cmp
   : ∀ t : Fin grid1.N, cond1_5 (grid1.coords t) ↔ t.val % 4 = 3)

/-- Case A: the query block is 0. -/
abbrev conds1_A (i : grid1.Coords) : Prop := cond1_1 i ∧ cond1_2 i ∧ ¬cond1_3 i ∧ ¬cond1_4 i ∧ ¬cond1_5 i
theorem case1_A (t : Fin cfg1.N) (h : t.val % 4 = 0) : conds1_A (grid1.coords t) :=
  ⟨(hcond1_1 t).mpr h, (hcond1_2 t).mpr h, fun e => by have := (hcond1_3 t).mp e; omega, fun e => by have := (hcond1_4 t).mp e; omega, fun e => by have := (hcond1_5 t).mp e; omega⟩

/-- Case B: the query block is 1. -/
abbrev conds1_B (i : grid1.Coords) : Prop := ¬cond1_1 i ∧ ¬cond1_2 i ∧ cond1_3 i ∧ ¬cond1_4 i ∧ ¬cond1_5 i
theorem case1_B (t : Fin cfg1.N) (h : t.val % 4 = 1) : conds1_B (grid1.coords t) :=
  ⟨fun e => by have := (hcond1_1 t).mp e; omega, fun e => by have := (hcond1_2 t).mp e; omega, (hcond1_3 t).mpr h, fun e => by have := (hcond1_4 t).mp e; omega, fun e => by have := (hcond1_5 t).mp e; omega⟩

/-- Case C: the query block is 2. -/
abbrev conds1_C (i : grid1.Coords) : Prop := ¬cond1_1 i ∧ ¬cond1_2 i ∧ ¬cond1_3 i ∧ cond1_4 i ∧ ¬cond1_5 i
theorem case1_C (t : Fin cfg1.N) (h : t.val % 4 = 2) : conds1_C (grid1.coords t) :=
  ⟨fun e => by have := (hcond1_1 t).mp e; omega, fun e => by have := (hcond1_2 t).mp e; omega, fun e => by have := (hcond1_3 t).mp e; omega, (hcond1_4 t).mpr h, fun e => by have := (hcond1_5 t).mp e; omega⟩

/-- Case D: the query block is 3. -/
abbrev conds1_D (i : grid1.Coords) : Prop := ¬cond1_1 i ∧ ¬cond1_2 i ∧ ¬cond1_3 i ∧ ¬cond1_4 i ∧ cond1_5 i
theorem case1_D (t : Fin cfg1.N) (h : t.val % 4 = 3) : conds1_D (grid1.coords t) :=
  ⟨fun e => by have := (hcond1_1 t).mp e; omega, fun e => by have := (hcond1_2 t).mp e; omega, fun e => by have := (hcond1_3 t).mp e; omega, fun e => by have := (hcond1_4 t).mp e; omega, (hcond1_5 t).mpr h⟩

/-- Every window is used at every point. -/
theorem live1 : ∀ (w : Fin cfg1.W) (t : Fin cfg1.N), cfg1.idle w (grid1.coords t) = false := by decide +kernel

abbrev ms1_0 (t : Fin cfg1.N) : Memref sig .tc .vmem S2x512x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2x2048x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2x2048x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2x512x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S2x512x256 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S2x2048x256 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S2x2048x128 .f32 := win1_8.stage (cfg1.slots t 8)
abbrev hs1_8 (t : Fin cfg1.N) : (ms1_8 t).IsWhole := hstage1_8 ((cfg1.slots t 8).cast nbuf1_8)

section Blocks
variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

end Blocks

end Cert.KernelIdeal.Attn

end
-- ==== Proof.BwdRunA.lean ====
/- The body of the backward attention run in case A (query block 0), on any whole staging buffers (`Cert.KernelIdeal`). -/
module

public import proofs.«01_k».proof.Proof.BwdSetup

@[expose] public section

-- rectangles of long axes are compared coordinate by coordinate
set_option maxRecDepth 16384

noncomputable section

namespace Cert.KernelIdeal.Attn

open Cert.KernelIdeal.Gen
open Idealize.ShloMosaic Idealize.ShloMosaic.TcCoe Idealize.ShloMosaic.Tactic
open Idealize.SL
open RA BI BI.BIBase BI.Laws ProofMode Idealize.SL.Sem Rounds
open Idealize.ShloMosaic.Pipeline (Dat Cfg Window BodyObligation cellOf)

variable {F : FTy → Type} [FloatOps F] [Named F]

local notation "𝕄" => MT nD τ sig Unit (Elt F) ℕ (UR sig nD τ) ℕ

section Case
variable (c : Dev nD) (i : grid1.Coords) {arg2 : Memref sig .tc .vmem S2x512x256 .bf16} (h2 : arg2.IsWhole) {arg3 : Memref sig .tc .vmem S2x2048x256 .bf16} (h3 : arg3.IsWhole) {arg4 : Memref sig .tc .vmem S2x2048x128 .bf16} (h4 : arg4.IsWhole) {arg5 : Memref sig .tc .vmem S512x256 .f32} (h5 : arg5.IsWhole) {arg6 : Memref sig .tc .vmem S2x512x1 .f32} (h6 : arg6.IsWhole) {arg7 : Memref sig .tc .vmem S512x256 .f32} (h7 : arg7.IsWhole) {arg8 : Memref sig .tc .vmem S2x512x256 .f32} (h8 : arg8.IsWhole) {arg9 : Memref sig .tc .vmem S2x2048x256 .f32} (h9 : arg9.IsWhole) {arg10 : Memref sig .tc .vmem S2x2048x128 .f32} (h10 : arg10.IsWhole)
  (hc : conds1_A i) (x0 : Vec F S2x512x256 .bf16) (x1 : Vec F S2x2048x256 .bf16) (x2 : Vec F S2x2048x128 .bf16) (x3 : Vec F S512x256 .f32) (x4 : Vec F S2x512x1 .f32) (x5 : Vec F S512x256 .f32)

set_option maxHeartbeats 1000000 in
/-- What the body's stores leave in each result's staging buffer, as pieces, last first, with the proof that the body run on
    the inputs' blocks ends with those pieces written. -/
noncomputable def run1_A :
    Σ' (L6 : List (View.Piece (Elt F) S2x512x256 .f32)), Σ' (L7 : List (View.Piece (Elt F) S2x2048x256 .f32)), { L8 : List (View.Piece (Elt F) S2x2048x128 .f32) //
      ∀ (E : Set ℕ) (K : PUnit → sProp 𝕄),
        iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ (∃ d, owns c.tc arg8 fullShare d) ∗ (∃ d, owns c.tc arg9 fullShare d) ∗ (∃ d, owns c.tc arg10 fullShare d)
            ∗ (iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ (∃ f, arg8.view.loc c.tc ↦[arg8.view.set]{fullShare} arg8.view.writes (Elt F) f L6) ∗ (∃ f, arg9.view.loc c.tc ↦[arg9.view.set]{fullShare} arg9.view.writes (Elt F) f L7) ∗ (∃ f, arg10.view.loc c.tc ↦[arg10.view.set]{fullShare} arg10.view.writes (Elt F) f L8)) -∗ K ⟨⟩))
          ⊢ wp frame (wpE (defs₀ (F := F)) Variants.none c none) E (cc1_l1_attn_bwd i arg2 h2 arg3 h3 arg4 h4 arg5 h5 arg6 h6 arg7 h7 arg8 h8 arg9 h9 arg10 h10) K } := by
  refine ⟨?_, ?_, ?_, fun E K => ?run⟩
  case run =>
    obtain ⟨hc1, hc2, hc3, hc4, hc5⟩ := hc
    simp only [cc1_l1_attn_bwd_eq_skeleton]; unfold cc1_l1_attn_bwd_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := h2.eq_unread hf0; obtain rfl := h3.eq_unread hf1; obtain rfl := h4.eq_unread hf2; obtain rfl := h5.eq_unread hf3; obtain rfl := h6.eq_unread hf4; obtain rfl := h7.eq_unread hf5
    sl_exec (disch := first | sl_exact hc1 | sl_exact hc2 | sl_exact hc3 | sl_exact hc4 | sl_exact hc5)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H6]; · iexists _; iexact H6
    isplitl [H7]; · iexists _; iexact H7
    iexists _; iexact H8

/-- The pieces cover result 0's block. -/
theorem cover1_A_6 (y : S2x512x256.Idx) : ∃ pc ∈ (run1_A c i h2 h3 h4 h5 h6 h7 h8 h9 h10 hc x0 x1 x2 x3 x4 x5).1, y ∈ pc.1.set :=
  View.cover_of_tiledL (run1_A c i h2 h3 h4 h5 h6 h7 h8 h9 h10 hc x0 x1 x2 x3 x4 x5).1 S1x512x256.size (by sl_kernel_rfl) y
/-- What case A leaves in result 0's staging buffer. -/
def out1_A_6 : Vec F S2x512x256 .f32 :=
  arg8.view.read (Elt F) (arg8.view.writes (Elt F) arg8.view.junk (run1_A c i h2 h3 h4 h5 h6 h7 h8 h9 h10 hc x0 x1 x2 x3 x4 x5).1)

/-- The pieces cover result 1's block. -/
theorem cover1_A_7 (y : S2x2048x256.Idx) : ∃ pc ∈ (run1_A c i h2 h3 h4 h5 h6 h7 h8 h9 h10 hc x0 x1 x2 x3 x4 x5).2.1, y ∈ pc.1.set :=
  View.cover_of_tiledBy (run1_A c i h2 h3 h4 h5 h6 h7 h8 h9 h10 hc x0 x1 x2 x3 x4 x5).2.1 ![1, 512, 256] (by sl_kernel_rfl) y
/-- What case A leaves in result 1's staging buffer. -/
def out1_A_7 : Vec F S2x2048x256 .f32 :=
  arg9.view.read (Elt F) (arg9.view.writes (Elt F) arg9.view.junk (run1_A c i h2 h3 h4 h5 h6 h7 h8 h9 h10 hc x0 x1 x2 x3 x4 x5).2.1)

/-- The pieces cover result 2's block. -/
theorem cover1_A_8 (y : S2x2048x128.Idx) : ∃ pc ∈ (run1_A c i h2 h3 h4 h5 h6 h7 h8 h9 h10 hc x0 x1 x2 x3 x4 x5).2.2.1, y ∈ pc.1.set :=
  View.cover_of_tiledBy (run1_A c i h2 h3 h4 h5 h6 h7 h8 h9 h10 hc x0 x1 x2 x3 x4 x5).2.2.1 ![1, 512, 128] (by sl_kernel_rfl) y
/-- What case A leaves in result 2's staging buffer. -/
def out1_A_8 : Vec F S2x2048x128 .f32 :=
  arg10.view.read (Elt F) (arg10.view.writes (Elt F) arg10.view.junk (run1_A c i h2 h3 h4 h5 h6 h7 h8 h9 h10 hc x0 x1 x2 x3 x4 x5).2.2.1)

end Case

end Cert.KernelIdeal.Attn

end
-- ==== Proof.BwdRunB.lean ====
/- The body of the backward attention run in case B (query block 1), on any whole staging buffers (`Cert.KernelIdeal`). -/
module

public import proofs.«01_k».proof.Proof.BwdRunA

@[expose] public section

-- rectangles of long axes are compared coordinate by coordinate
set_option maxRecDepth 16384

noncomputable section

namespace Cert.KernelIdeal.Attn

open Cert.KernelIdeal.Gen
open Idealize.ShloMosaic Idealize.ShloMosaic.TcCoe Idealize.ShloMosaic.Tactic
open Idealize.SL
open RA BI BI.BIBase BI.Laws ProofMode Idealize.SL.Sem Rounds
open Idealize.ShloMosaic.Pipeline (Dat Cfg Window BodyObligation cellOf)

variable {F : FTy → Type} [FloatOps F] [Named F]

local notation "𝕄" => MT nD τ sig Unit (Elt F) ℕ (UR sig nD τ) ℕ

section Case
variable (c : Dev nD) (i : grid1.Coords) {arg2 : Memref sig .tc .vmem S2x512x256 .bf16} (h2 : arg2.IsWhole) {arg3 : Memref sig .tc .vmem S2x2048x256 .bf16} (h3 : arg3.IsWhole) {arg4 : Memref sig .tc .vmem S2x2048x128 .bf16} (h4 : arg4.IsWhole) {arg5 : Memref sig .tc .vmem S512x256 .f32} (h5 : arg5.IsWhole) {arg6 : Memref sig .tc .vmem S2x512x1 .f32} (h6 : arg6.IsWhole) {arg7 : Memref sig .tc .vmem S512x256 .f32} (h7 : arg7.IsWhole) {arg8 : Memref sig .tc .vmem S2x512x256 .f32} (h8 : arg8.IsWhole) {arg9 : Memref sig .tc .vmem S2x2048x256 .f32} (h9 : arg9.IsWhole) {arg10 : Memref sig .tc .vmem S2x2048x128 .f32} (h10 : arg10.IsWhole)
  (hc : conds1_B i) (x0 : Vec F S2x512x256 .bf16) (x1 : Vec F S2x2048x256 .bf16) (x2 : Vec F S2x2048x128 .bf16) (x3 : Vec F S512x256 .f32) (x4 : Vec F S2x512x1 .f32) (x5 : Vec F S512x256 .f32) (xo7 : Vec F S2x2048x256 .f32) (xo8 : Vec F S2x2048x128 .f32)

set_option maxHeartbeats 1000000 in
/-- What the body's stores leave in each result's staging buffer, as pieces, last first, with the proof that the body run on
    the inputs' blocks and on what the two accumulators held ends with those pieces written. -/
noncomputable def run1_B :
    Σ' (L6 : List (View.Piece (Elt F) S2x512x256 .f32)), Σ' (L7 : List (View.Piece (Elt F) S2x2048x256 .f32)), { L8 : List (View.Piece (Elt F) S2x2048x128 .f32) //
      ∀ (E : Set ℕ) (K : PUnit → sProp 𝕄),
        iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ (∃ d, owns c.tc arg8 fullShare d) ∗ owns c.tc arg9 fullShare xo7 ∗ owns c.tc arg10 fullShare xo8
            ∗ (iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ (∃ f, arg8.view.loc c.tc ↦[arg8.view.set]{fullShare} arg8.view.writes (Elt F) f L6) ∗ (arg9.view.loc c.tc ↦[arg9.view.set]{fullShare} arg9.view.writes (Elt F) (h9.unread xo7) L7) ∗ (arg10.view.loc c.tc ↦[arg10.view.set]{fullShare} arg10.view.writes (Elt F) (h10.unread xo8) L8)) -∗ K ⟨⟩))
          ⊢ wp frame (wpE (defs₀ (F := F)) Variants.none c none) E (cc1_l1_attn_bwd i arg2 h2 arg3 h3 arg4 h4 arg5 h5 arg6 h6 arg7 h7 arg8 h8 arg9 h9 arg10 h10) K } := by
  refine ⟨?_, ?_, ?_, fun E K => ?run⟩
  case run =>
    obtain ⟨hc1, hc2, hc3, hc4, hc5⟩ := hc
    simp only [cc1_l1_attn_bwd_eq_skeleton]; unfold cc1_l1_attn_bwd_skel
    simp only [k1_part4_eq_skeleton, k1_part5_eq_skeleton, k1_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := h2.eq_unread hf0; obtain rfl := h3.eq_unread hf1; obtain rfl := h4.eq_unread hf2; obtain rfl := h5.eq_unread hf3; obtain rfl := h6.eq_unread hf4; obtain rfl := h7.eq_unread hf5; obtain rfl := h9.eq_unread hf7; obtain rfl := h10.eq_unread hf8
    sl_exec (disch := first | sl_exact hc1 | sl_exact hc2 | sl_exact hc3 | sl_exact hc4 | sl_exact hc5)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H6]; · iexists _; iexact H6
    isplitl [H7]; · iexact H7
    iexact H8

/-- The pieces cover result 0's block. -/
theorem cover1_B_6 (y : S2x512x256.Idx) : ∃ pc ∈ (run1_B c i h2 h3 h4 h5 h6 h7 h8 h9 h10 hc x0 x1 x2 x3 x4 x5 xo7 xo8).1, y ∈ pc.1.set :=
  View.cover_of_tiledL (run1_B c i h2 h3 h4 h5 h6 h7 h8 h9 h10 hc x0 x1 x2 x3 x4 x5 xo7 xo8).1 S1x512x256.size (by sl_kernel_rfl) y
/-- What case B leaves in result 0's staging buffer. -/
def out1_B_6 : Vec F S2x512x256 .f32 :=
  arg8.view.read (Elt F) (arg8.view.writes (Elt F) arg8.view.junk (run1_B c i h2 h3 h4 h5 h6 h7 h8 h9 h10 hc x0 x1 x2 x3 x4 x5 xo7 xo8).1)

/-- What case B leaves in result 1's staging buffer, which held `xo7`. -/
def out1_B_7 : Vec F S2x2048x256 .f32 :=
  arg9.view.read (Elt F) (arg9.view.writes (Elt F) (h9.unread xo7) (run1_B c i h2 h3 h4 h5 h6 h7 h8 h9 h10 hc x0 x1 x2 x3 x4 x5 xo7 xo8).2.1)

/-- What case B leaves in result 2's staging buffer, which held `xo8`. -/
def out1_B_8 : Vec F S2x2048x128 .f32 :=
  arg10.view.read (Elt F) (arg10.view.writes (Elt F) (h10.unread xo8) (run1_B c i h2 h3 h4 h5 h6 h7 h8 h9 h10 hc x0 x1 x2 x3 x4 x5 xo7 xo8).2.2.1)

end Case

end Cert.KernelIdeal.Attn

end
-- ==== Proof.BwdRunC.lean ====
/- The body of the backward attention run in case C (query block 2), on any whole staging buffers (`Cert.KernelIdeal`). -/
module

public import proofs.«01_k».proof.Proof.BwdRunB

@[expose] public section

-- rectangles of long axes are compared coordinate by coordinate
set_option maxRecDepth 16384

noncomputable section

namespace Cert.KernelIdeal.Attn

open Cert.KernelIdeal.Gen
open Idealize.ShloMosaic Idealize.ShloMosaic.TcCoe Idealize.ShloMosaic.Tactic
open Idealize.SL
open RA BI BI.BIBase BI.Laws ProofMode Idealize.SL.Sem Rounds
open Idealize.ShloMosaic.Pipeline (Dat Cfg Window BodyObligation cellOf)

variable {F : FTy → Type} [FloatOps F] [Named F]

local notation "𝕄" => MT nD τ sig Unit (Elt F) ℕ (UR sig nD τ) ℕ

section Case
variable (c : Dev nD) (i : grid1.Coords) {arg2 : Memref sig .tc .vmem S2x512x256 .bf16} (h2 : arg2.IsWhole) {arg3 : Memref sig .tc .vmem S2x2048x256 .bf16} (h3 : arg3.IsWhole) {arg4 : Memref sig .tc .vmem S2x2048x128 .bf16} (h4 : arg4.IsWhole) {arg5 : Memref sig .tc .vmem S512x256 .f32} (h5 : arg5.IsWhole) {arg6 : Memref sig .tc .vmem S2x512x1 .f32} (h6 : arg6.IsWhole) {arg7 : Memref sig .tc .vmem S512x256 .f32} (h7 : arg7.IsWhole) {arg8 : Memref sig .tc .vmem S2x512x256 .f32} (h8 : arg8.IsWhole) {arg9 : Memref sig .tc .vmem S2x2048x256 .f32} (h9 : arg9.IsWhole) {arg10 : Memref sig .tc .vmem S2x2048x128 .f32} (h10 : arg10.IsWhole)
  (hc : conds1_C i) (x0 : Vec F S2x512x256 .bf16) (x1 : Vec F S2x2048x256 .bf16) (x2 : Vec F S2x2048x128 .bf16) (x3 : Vec F S512x256 .f32) (x4 : Vec F S2x512x1 .f32) (x5 : Vec F S512x256 .f32) (xo7 : Vec F S2x2048x256 .f32) (xo8 : Vec F S2x2048x128 .f32)

set_option maxHeartbeats 1000000 in
/-- What the body's stores leave in each result's staging buffer, as pieces, last first, with the proof that the body run on
    the inputs' blocks and on what the two accumulators held ends with those pieces written. -/
noncomputable def run1_C :
    Σ' (L6 : List (View.Piece (Elt F) S2x512x256 .f32)), Σ' (L7 : List (View.Piece (Elt F) S2x2048x256 .f32)), { L8 : List (View.Piece (Elt F) S2x2048x128 .f32) //
      ∀ (E : Set ℕ) (K : PUnit → sProp 𝕄),
        iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ (∃ d, owns c.tc arg8 fullShare d) ∗ owns c.tc arg9 fullShare xo7 ∗ owns c.tc arg10 fullShare xo8
            ∗ (iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ (∃ f, arg8.view.loc c.tc ↦[arg8.view.set]{fullShare} arg8.view.writes (Elt F) f L6) ∗ (arg9.view.loc c.tc ↦[arg9.view.set]{fullShare} arg9.view.writes (Elt F) (h9.unread xo7) L7) ∗ (arg10.view.loc c.tc ↦[arg10.view.set]{fullShare} arg10.view.writes (Elt F) (h10.unread xo8) L8)) -∗ K ⟨⟩))
          ⊢ wp frame (wpE (defs₀ (F := F)) Variants.none c none) E (cc1_l1_attn_bwd i arg2 h2 arg3 h3 arg4 h4 arg5 h5 arg6 h6 arg7 h7 arg8 h8 arg9 h9 arg10 h10) K } := by
  refine ⟨?_, ?_, ?_, fun E K => ?run⟩
  case run =>
    obtain ⟨hc1, hc2, hc3, hc4, hc5⟩ := hc
    simp only [cc1_l1_attn_bwd_eq_skeleton]; unfold cc1_l1_attn_bwd_skel
    simp only [k1_part7_eq_skeleton, k1_part8_eq_skeleton, k1_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := h2.eq_unread hf0; obtain rfl := h3.eq_unread hf1; obtain rfl := h4.eq_unread hf2; obtain rfl := h5.eq_unread hf3; obtain rfl := h6.eq_unread hf4; obtain rfl := h7.eq_unread hf5; obtain rfl := h9.eq_unread hf7; obtain rfl := h10.eq_unread hf8
    sl_exec (disch := first | sl_exact hc1 | sl_exact hc2 | sl_exact hc3 | sl_exact hc4 | sl_exact hc5)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H6]; · iexists _; iexact H6
    isplitl [H7]; · iexact H7
    iexact H8

/-- The pieces cover result 0's block. -/
theorem cover1_C_6 (y : S2x512x256.Idx) : ∃ pc ∈ (run1_C c i h2 h3 h4 h5 h6 h7 h8 h9 h10 hc x0 x1 x2 x3 x4 x5 xo7 xo8).1, y ∈ pc.1.set :=
  View.cover_of_tiledL (run1_C c i h2 h3 h4 h5 h6 h7 h8 h9 h10 hc x0 x1 x2 x3 x4 x5 xo7 xo8).1 S1x512x256.size (by sl_kernel_rfl) y
/-- What case C leaves in result 0's staging buffer. -/
def out1_C_6 : Vec F S2x512x256 .f32 :=
  arg8.view.read (Elt F) (arg8.view.writes (Elt F) arg8.view.junk (run1_C c i h2 h3 h4 h5 h6 h7 h8 h9 h10 hc x0 x1 x2 x3 x4 x5 xo7 xo8).1)

/-- What case C leaves in result 1's staging buffer, which held `xo7`. -/
def out1_C_7 : Vec F S2x2048x256 .f32 :=
  arg9.view.read (Elt F) (arg9.view.writes (Elt F) (h9.unread xo7) (run1_C c i h2 h3 h4 h5 h6 h7 h8 h9 h10 hc x0 x1 x2 x3 x4 x5 xo7 xo8).2.1)

/-- What case C leaves in result 2's staging buffer, which held `xo8`. -/
def out1_C_8 : Vec F S2x2048x128 .f32 :=
  arg10.view.read (Elt F) (arg10.view.writes (Elt F) (h10.unread xo8) (run1_C c i h2 h3 h4 h5 h6 h7 h8 h9 h10 hc x0 x1 x2 x3 x4 x5 xo7 xo8).2.2.1)

end Case

end Cert.KernelIdeal.Attn

end
-- ==== Proof.BwdRunD.lean ====
/- The body of the backward attention run in case D (query block 3), on any whole staging buffers (`Cert.KernelIdeal`). -/
module

public import proofs.«01_k».proof.Proof.BwdRunC

@[expose] public section

-- rectangles of long axes are compared coordinate by coordinate
set_option maxRecDepth 16384

noncomputable section

namespace Cert.KernelIdeal.Attn

open Cert.KernelIdeal.Gen
open Idealize.ShloMosaic Idealize.ShloMosaic.TcCoe Idealize.ShloMosaic.Tactic
open Idealize.SL
open RA BI BI.BIBase BI.Laws ProofMode Idealize.SL.Sem Rounds
open Idealize.ShloMosaic.Pipeline (Dat Cfg Window BodyObligation cellOf)

variable {F : FTy → Type} [FloatOps F] [Named F]

local notation "𝕄" => MT nD τ sig Unit (Elt F) ℕ (UR sig nD τ) ℕ

section Case
variable (c : Dev nD) (i : grid1.Coords) {arg2 : Memref sig .tc .vmem S2x512x256 .bf16} (h2 : arg2.IsWhole) {arg3 : Memref sig .tc .vmem S2x2048x256 .bf16} (h3 : arg3.IsWhole) {arg4 : Memref sig .tc .vmem S2x2048x128 .bf16} (h4 : arg4.IsWhole) {arg5 : Memref sig .tc .vmem S512x256 .f32} (h5 : arg5.IsWhole) {arg6 : Memref sig .tc .vmem S2x512x1 .f32} (h6 : arg6.IsWhole) {arg7 : Memref sig .tc .vmem S512x256 .f32} (h7 : arg7.IsWhole) {arg8 : Memref sig .tc .vmem S2x512x256 .f32} (h8 : arg8.IsWhole) {arg9 : Memref sig .tc .vmem S2x2048x256 .f32} (h9 : arg9.IsWhole) {arg10 : Memref sig .tc .vmem S2x2048x128 .f32} (h10 : arg10.IsWhole)
  (hc : conds1_D i) (x0 : Vec F S2x512x256 .bf16) (x1 : Vec F S2x2048x256 .bf16) (x2 : Vec F S2x2048x128 .bf16) (x3 : Vec F S512x256 .f32) (x4 : Vec F S2x512x1 .f32) (x5 : Vec F S512x256 .f32) (xo7 : Vec F S2x2048x256 .f32) (xo8 : Vec F S2x2048x128 .f32)

set_option maxHeartbeats 1000000 in
/-- What the body's stores leave in each result's staging buffer, as pieces, last first, with the proof that the body run on
    the inputs' blocks and on what the two accumulators held ends with those pieces written. -/
noncomputable def run1_D :
    Σ' (L6 : List (View.Piece (Elt F) S2x512x256 .f32)), Σ' (L7 : List (View.Piece (Elt F) S2x2048x256 .f32)), { L8 : List (View.Piece (Elt F) S2x2048x128 .f32) //
      ∀ (E : Set ℕ) (K : PUnit → sProp 𝕄),
        iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ (∃ d, owns c.tc arg8 fullShare d) ∗ owns c.tc arg9 fullShare xo7 ∗ owns c.tc arg10 fullShare xo8
            ∗ (iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ (∃ f, arg8.view.loc c.tc ↦[arg8.view.set]{fullShare} arg8.view.writes (Elt F) f L6) ∗ (arg9.view.loc c.tc ↦[arg9.view.set]{fullShare} arg9.view.writes (Elt F) (h9.unread xo7) L7) ∗ (arg10.view.loc c.tc ↦[arg10.view.set]{fullShare} arg10.view.writes (Elt F) (h10.unread xo8) L8)) -∗ K ⟨⟩))
          ⊢ wp frame (wpE (defs₀ (F := F)) Variants.none c none) E (cc1_l1_attn_bwd i arg2 h2 arg3 h3 arg4 h4 arg5 h5 arg6 h6 arg7 h7 arg8 h8 arg9 h9 arg10 h10) K } := by
  refine ⟨?_, ?_, ?_, fun E K => ?run⟩
  case run =>
    obtain ⟨hc1, hc2, hc3, hc4, hc5⟩ := hc
    simp only [cc1_l1_attn_bwd_eq_skeleton]; unfold cc1_l1_attn_bwd_skel
    simp only [k1_part10_eq_skeleton, k1_part11_eq_skeleton, k1_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := h2.eq_unread hf0; obtain rfl := h3.eq_unread hf1; obtain rfl := h4.eq_unread hf2; obtain rfl := h5.eq_unread hf3; obtain rfl := h6.eq_unread hf4; obtain rfl := h7.eq_unread hf5; obtain rfl := h9.eq_unread hf7; obtain rfl := h10.eq_unread hf8
    sl_exec (disch := first | sl_exact hc1 | sl_exact hc2 | sl_exact hc3 | sl_exact hc4 | sl_exact hc5)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H6]; · iexists _; iexact H6
    isplitl [H7]; · iexact H7
    iexact H8

/-- The pieces cover result 0's block. -/
theorem cover1_D_6 (y : S2x512x256.Idx) : ∃ pc ∈ (run1_D c i h2 h3 h4 h5 h6 h7 h8 h9 h10 hc x0 x1 x2 x3 x4 x5 xo7 xo8).1, y ∈ pc.1.set :=
  View.cover_of_tiledL (run1_D c i h2 h3 h4 h5 h6 h7 h8 h9 h10 hc x0 x1 x2 x3 x4 x5 xo7 xo8).1 S1x512x256.size (by sl_kernel_rfl) y
/-- What case D leaves in result 0's staging buffer. -/
def out1_D_6 : Vec F S2x512x256 .f32 :=
  arg8.view.read (Elt F) (arg8.view.writes (Elt F) arg8.view.junk (run1_D c i h2 h3 h4 h5 h6 h7 h8 h9 h10 hc x0 x1 x2 x3 x4 x5 xo7 xo8).1)

/-- What case D leaves in result 1's staging buffer, which held `xo7`. -/
def out1_D_7 : Vec F S2x2048x256 .f32 :=
  arg9.view.read (Elt F) (arg9.view.writes (Elt F) (h9.unread xo7) (run1_D c i h2 h3 h4 h5 h6 h7 h8 h9 h10 hc x0 x1 x2 x3 x4 x5 xo7 xo8).2.1)

/-- What case D leaves in result 2's staging buffer, which held `xo8`. -/
def out1_D_8 : Vec F S2x2048x128 .f32 :=
  arg10.view.read (Elt F) (arg10.view.writes (Elt F) (h10.unread xo8) (run1_D c i h2 h3 h4 h5 h6 h7 h8 h9 h10 hc x0 x1 x2 x3 x4 x5 xo7 xo8).2.2.1)

end Case

end Cert.KernelIdeal.Attn

end
-- ==== Proof.BwdDat.lean ====
/- The backward attention over its grid (`Cert.KernelIdeal`): what its results' staging buffers hold after each point, and the
   obligation of the pipeline met at every point. -/
module

public import proofs.«01_k».proof.Proof.BwdRunD
public import Idealize.ShloMosaic.Lib.Claim
public import Idealize.ShloMosaic.Lib.Pipeline.TableIdle

@[expose] public section

-- rectangles of long axes are compared coordinate by coordinate
set_option maxRecDepth 16384

noncomputable section

namespace Cert.KernelIdeal.Attn

open Cert.KernelIdeal.Gen
open Idealize.ShloMosaic Idealize.ShloMosaic.TcCoe Idealize.ShloMosaic.Tactic
open Idealize.SL
open RA BI BI.BIBase BI.Laws ProofMode Idealize.SL.Sem Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- What the body leaves in the results' staging buffers at a point of case A. -/
def pt1_A (c : Dev nD) (t : Fin cfg1.N) (h : t.val % 4 = 0) : Vec F S2x512x256 .f32 × Vec F S2x2048x256 .f32 × Vec F S2x2048x128 .f32 :=
  (out1_A_6 c (grid1.coords t) (hs1_0 t) (hs1_1 t) (hs1_2 t) (hs1_3 t) (hs1_4 t) (hs1_5 t) (hs1_6 t) (hs1_7 t) (hs1_8 t) (case1_A t h) (iblk1 V c 0 t) (iblk1 V c 1 t) (iblk1 V c 2 t) (iblk1 V c 3 t) (iblk1 V c 4 t) (iblk1 V c 5 t),
   out1_A_7 c (grid1.coords t) (hs1_0 t) (hs1_1 t) (hs1_2 t) (hs1_3 t) (hs1_4 t) (hs1_5 t) (hs1_6 t) (hs1_7 t) (hs1_8 t) (case1_A t h) (iblk1 V c 0 t) (iblk1 V c 1 t) (iblk1 V c 2 t) (iblk1 V c 3 t) (iblk1 V c 4 t) (iblk1 V c 5 t),
   out1_A_8 c (grid1.coords t) (hs1_0 t) (hs1_1 t) (hs1_2 t) (hs1_3 t) (hs1_4 t) (hs1_5 t) (hs1_6 t) (hs1_7 t) (hs1_8 t) (case1_A t h) (iblk1 V c 0 t) (iblk1 V c 1 t) (iblk1 V c 2 t) (iblk1 V c 3 t) (iblk1 V c 4 t) (iblk1 V c 5 t))

/-- What the body leaves in the results' staging buffers at a point of case B. -/
def pt1_B (c : Dev nD) (t : Fin cfg1.N) (h : t.val % 4 = 1) (xo7 : Vec F S2x2048x256 .f32) (xo8 : Vec F S2x2048x128 .f32) : Vec F S2x512x256 .f32 × Vec F S2x2048x256 .f32 × Vec F S2x2048x128 .f32 :=
  (out1_B_6 c (grid1.coords t) (hs1_0 t) (hs1_1 t) (hs1_2 t) (hs1_3 t) (hs1_4 t) (hs1_5 t) (hs1_6 t) (hs1_7 t) (hs1_8 t) (case1_B t h) (iblk1 V c 0 t) (iblk1 V c 1 t) (iblk1 V c 2 t) (iblk1 V c 3 t) (iblk1 V c 4 t) (iblk1 V c 5 t) xo7 xo8,
   out1_B_7 c (grid1.coords t) (hs1_0 t) (hs1_1 t) (hs1_2 t) (hs1_3 t) (hs1_4 t) (hs1_5 t) (hs1_6 t) (hs1_7 t) (hs1_8 t) (case1_B t h) (iblk1 V c 0 t) (iblk1 V c 1 t) (iblk1 V c 2 t) (iblk1 V c 3 t) (iblk1 V c 4 t) (iblk1 V c 5 t) xo7 xo8,
   out1_B_8 c (grid1.coords t) (hs1_0 t) (hs1_1 t) (hs1_2 t) (hs1_3 t) (hs1_4 t) (hs1_5 t) (hs1_6 t) (hs1_7 t) (hs1_8 t) (case1_B t h) (iblk1 V c 0 t) (iblk1 V c 1 t) (iblk1 V c 2 t) (iblk1 V c 3 t) (iblk1 V c 4 t) (iblk1 V c 5 t) xo7 xo8)

/-- What the body leaves in the results' staging buffers at a point of case C. -/
def pt1_C (c : Dev nD) (t : Fin cfg1.N) (h : t.val % 4 = 2) (xo7 : Vec F S2x2048x256 .f32) (xo8 : Vec F S2x2048x128 .f32) : Vec F S2x512x256 .f32 × Vec F S2x2048x256 .f32 × Vec F S2x2048x128 .f32 :=
  (out1_C_6 c (grid1.coords t) (hs1_0 t) (hs1_1 t) (hs1_2 t) (hs1_3 t) (hs1_4 t) (hs1_5 t) (hs1_6 t) (hs1_7 t) (hs1_8 t) (case1_C t h) (iblk1 V c 0 t) (iblk1 V c 1 t) (iblk1 V c 2 t) (iblk1 V c 3 t) (iblk1 V c 4 t) (iblk1 V c 5 t) xo7 xo8,
   out1_C_7 c (grid1.coords t) (hs1_0 t) (hs1_1 t) (hs1_2 t) (hs1_3 t) (hs1_4 t) (hs1_5 t) (hs1_6 t) (hs1_7 t) (hs1_8 t) (case1_C t h) (iblk1 V c 0 t) (iblk1 V c 1 t) (iblk1 V c 2 t) (iblk1 V c 3 t) (iblk1 V c 4 t) (iblk1 V c 5 t) xo7 xo8,
   out1_C_8 c (grid1.coords t) (hs1_0 t) (hs1_1 t) (hs1_2 t) (hs1_3 t) (hs1_4 t) (hs1_5 t) (hs1_6 t) (hs1_7 t) (hs1_8 t) (case1_C t h) (iblk1 V c 0 t) (iblk1 V c 1 t) (iblk1 V c 2 t) (iblk1 V c 3 t) (iblk1 V c 4 t) (iblk1 V c 5 t) xo7 xo8)

/-- What the body leaves in the results' staging buffers at a point of case D. -/
def pt1_D (c : Dev nD) (t : Fin cfg1.N) (h : t.val % 4 = 3) (xo7 : Vec F S2x2048x256 .f32) (xo8 : Vec F S2x2048x128 .f32) : Vec F S2x512x256 .f32 × Vec F S2x2048x256 .f32 × Vec F S2x2048x128 .f32 :=
  (out1_D_6 c (grid1.coords t) (hs1_0 t) (hs1_1 t) (hs1_2 t) (hs1_3 t) (hs1_4 t) (hs1_5 t) (hs1_6 t) (hs1_7 t) (hs1_8 t) (case1_D t h) (iblk1 V c 0 t) (iblk1 V c 1 t) (iblk1 V c 2 t) (iblk1 V c 3 t) (iblk1 V c 4 t) (iblk1 V c 5 t) xo7 xo8,
   out1_D_7 c (grid1.coords t) (hs1_0 t) (hs1_1 t) (hs1_2 t) (hs1_3 t) (hs1_4 t) (hs1_5 t) (hs1_6 t) (hs1_7 t) (hs1_8 t) (case1_D t h) (iblk1 V c 0 t) (iblk1 V c 1 t) (iblk1 V c 2 t) (iblk1 V c 3 t) (iblk1 V c 4 t) (iblk1 V c 5 t) xo7 xo8,
   out1_D_8 c (grid1.coords t) (hs1_0 t) (hs1_1 t) (hs1_2 t) (hs1_3 t) (hs1_4 t) (hs1_5 t) (hs1_6 t) (hs1_7 t) (hs1_8 t) (case1_D t h) (iblk1 V c 0 t) (iblk1 V c 1 t) (iblk1 V c 2 t) (iblk1 V c 3 t) (iblk1 V c 4 t) (iblk1 V c 5 t) xo7 xo8)

/-- What the results' staging buffers hold after point `n`: the two accumulated ones start afresh where the query block is 0
    and go on from the point before elsewhere. -/
def outs1 (c : Dev nD) : (n : ℕ) → n < cfg1.N → Vec F S2x512x256 .f32 × Vec F S2x2048x256 .f32 × Vec F S2x2048x128 .f32
  | 0, hn => pt1_A V c ⟨0, hn⟩ rfl
  | n + 1, hn =>
    if h0 : (n + 1) % 4 = 0 then pt1_A V c ⟨n + 1, hn⟩ h0
    else if h1 : (n + 1) % 4 = 1 then pt1_B V c ⟨n + 1, hn⟩ h1 (outs1 c n (Nat.lt_of_succ_lt hn)).2.1 (outs1 c n (Nat.lt_of_succ_lt hn)).2.2
    else if h2 : (n + 1) % 4 = 2 then pt1_C V c ⟨n + 1, hn⟩ h2 (outs1 c n (Nat.lt_of_succ_lt hn)).2.1 (outs1 c n (Nat.lt_of_succ_lt hn)).2.2
    else pt1_D V c ⟨n + 1, hn⟩ (by show (n + 1) % 4 = 3; omega) (outs1 c n (Nat.lt_of_succ_lt hn)).2.1 (outs1 c n (Nat.lt_of_succ_lt hn)).2.2

theorem outs1_A (c : Dev nD) (t : Fin cfg1.N) (h : t.val % 4 = 0) :
    outs1 V c t.val t.isLt = pt1_A V c t h := by
  obtain ⟨n, hn⟩ := t
  cases n with
  | zero => exact rfl
  | succ n => exact dif_pos h

theorem outs1_B (c : Dev nD) (t : Fin cfg1.N) (h : t.val % 4 = 1) :
    outs1 V c t.val t.isLt = pt1_B V c t h
      (outs1 V c (t.val - 1) (Nat.lt_of_le_of_lt (Nat.sub_le _ _) t.isLt)).2.1
      (outs1 V c (t.val - 1) (Nat.lt_of_le_of_lt (Nat.sub_le _ _) t.isLt)).2.2 := by
  obtain ⟨n, hn⟩ := t
  cases n with
  | zero => exact (by exfalso; (try dsimp only at h); omega)
  | succ n => exact (dif_neg (show ¬ (n + 1) % 4 = 0 by (try dsimp only at h); omega)).trans (dif_pos h)

theorem outs1_C (c : Dev nD) (t : Fin cfg1.N) (h : t.val % 4 = 2) :
    outs1 V c t.val t.isLt = pt1_C V c t h
      (outs1 V c (t.val - 1) (Nat.lt_of_le_of_lt (Nat.sub_le _ _) t.isLt)).2.1
      (outs1 V c (t.val - 1) (Nat.lt_of_le_of_lt (Nat.sub_le _ _) t.isLt)).2.2 := by
  obtain ⟨n, hn⟩ := t
  cases n with
  | zero => exact (by exfalso; (try dsimp only at h); omega)
  | succ n => exact (dif_neg (show ¬ (n + 1) % 4 = 0 by (try dsimp only at h); omega)).trans ((dif_neg (show ¬ (n + 1) % 4 = 1 by (try dsimp only at h); omega)).trans (dif_pos h))

theorem outs1_D (c : Dev nD) (t : Fin cfg1.N) (h : t.val % 4 = 3) :
    outs1 V c t.val t.isLt = pt1_D V c t h
      (outs1 V c (t.val - 1) (Nat.lt_of_le_of_lt (Nat.sub_le _ _) t.isLt)).2.1
      (outs1 V c (t.val - 1) (Nat.lt_of_le_of_lt (Nat.sub_le _ _) t.isLt)).2.2 := by
  obtain ⟨n, hn⟩ := t
  cases n with
  | zero => exact (by exfalso; (try dsimp only at h); omega)
  | succ n => exact (dif_neg (show ¬ (n + 1) % 4 = 0 by (try dsimp only at h); omega)).trans ((dif_neg (show ¬ (n + 1) % 4 = 1 by (try dsimp only at h); omega)).trans (dif_neg (show ¬ (n + 1) % 4 = 2 by (try dsimp only at h); omega)))

/-- The pipeline's proof data on core `c`: the arrays as the call finds them; after the body at point `t` each input's buffer
    at its block and the results' at `outs1`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outs1 V c t.val t.isLt).1
    | ⟨7, _⟩ => (outs1 V c t.val t.isLt).2.1
    | ⟨8, _⟩ => (outs1 V c t.val t.isLt).2.2
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outs1 V c t.val t.isLt).1 := by dsimp only [dat1]
theorem after1_7 (c : Dev nD) (t : Fin cfg1.N) : (dat1 V c).after 7 t = (outs1 V c t.val t.isLt).2.1 := by dsimp only [dat1]
theorem after1_8 (c : Dev nD) (t : Fin cfg1.N) : (dat1 V c).after 8 t = (outs1 V c t.val t.isLt).2.2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- Window 7's buffer holds nothing of its block yet at the points whose query block is 0, and only there. -/
def freshTab1_7 : ℕ → Bool
  | 0 => true
  | n + 1 => (0x888888 : ℕ).testBit n
theorem freshTab1_7_step : ∀ t : Fin cfg1.N,
    freshTab1_7 (t.val + 1) = ((cfg1.win 7).flush t || (cfg1.idle 7 (cfg1.grid.coords t) && freshTab1_7 t.val)) := by decide +kernel
theorem notFresh1_7 : ∀ t : Fin cfg1.N, ¬ t.val % 4 = 0 → cfg1.fresh 7 t.val = false := fun t h =>
  (Pipeline.Cfg.fresh_tab cfg1 7 freshTab1_7 rfl freshTab1_7_step t.val (Nat.le_of_lt t.isLt)).trans
    ((by decide +kernel : ∀ t : Fin cfg1.N, ¬ t.val % 4 = 0 → freshTab1_7 t.val = false) t h)
/-- Elsewhere it holds what the point before left. -/
theorem before1_7 (c : Dev nD) (t : Fin cfg1.N) (h : ¬ t.val % 4 = 0) (d) :
    (dat1 V c).before 7 t d = (outs1 V c (t.val - 1) (Nat.lt_of_le_of_lt (Nat.sub_le _ _) t.isLt)).2.1 := by
  rw [Dat.before_out_traj _ 7 rfl (fun _ _ => rfl)
      (fun t _ hi _ => absurd hi (by rw [live1 7 t]; exact Bool.false_ne_true)) t.val t rfl d,
    if_neg (by rw [notFresh1_7 t h]; exact Bool.false_ne_true)]
  dsimp only [dat1]

/-- Window 8's buffer holds nothing of its block yet at the points whose query block is 0, and only there. -/
def freshTab1_8 : ℕ → Bool
  | 0 => true
  | n + 1 => (0x888888 : ℕ).testBit n
theorem freshTab1_8_step : ∀ t : Fin cfg1.N,
    freshTab1_8 (t.val + 1) = ((cfg1.win 8).flush t || (cfg1.idle 8 (cfg1.grid.coords t) && freshTab1_8 t.val)) := by decide +kernel
theorem notFresh1_8 : ∀ t : Fin cfg1.N, ¬ t.val % 4 = 0 → cfg1.fresh 8 t.val = false := fun t h =>
  (Pipeline.Cfg.fresh_tab cfg1 8 freshTab1_8 rfl freshTab1_8_step t.val (Nat.le_of_lt t.isLt)).trans
    ((by decide +kernel : ∀ t : Fin cfg1.N, ¬ t.val % 4 = 0 → freshTab1_8 t.val = false) t h)
/-- Elsewhere it holds what the point before left. -/
theorem before1_8 (c : Dev nD) (t : Fin cfg1.N) (h : ¬ t.val % 4 = 0) (d) :
    (dat1 V c).before 8 t d = (outs1 V c (t.val - 1) (Nat.lt_of_le_of_lt (Nat.sub_le _ _) t.isLt)).2.2 := by
  rw [Dat.before_out_traj _ 8 rfl (fun _ _ => rfl)
      (fun t _ hi _ => absurd hi (by rw [live1 8 t]; exact Bool.false_ne_true)) t.val t rfl d,
    if_neg (by rw [notFresh1_8 t h]; exact Bool.false_ne_true)]
  dsimp only [dat1]

/-- What the body is called with at point `t`, -/
def bodyPre1 (c : Dev nD) (t : Fin cfg1.N) : sProp 𝕄 :=
  iprop((dat1 V c).Φ t.castSucc ∗ (dat1 V c).owesAt () t.castSucc
    ∗ (∃ d, owns c.tc (ms1_0 t) fullShare ((dat1 V c).before 0 t d))
    ∗ (∃ d, owns c.tc (ms1_1 t) fullShare ((dat1 V c).before 1 t d))
    ∗ (∃ d, owns c.tc (ms1_2 t) fullShare ((dat1 V c).before 2 t d))
    ∗ (∃ d, owns c.tc (ms1_3 t) fullShare ((dat1 V c).before 3 t d))
    ∗ (∃ d, owns c.tc (ms1_4 t) fullShare ((dat1 V c).before 4 t d))
    ∗ (∃ d, owns c.tc (ms1_5 t) fullShare ((dat1 V c).before 5 t d))
    ∗ (∃ d, owns c.tc (ms1_6 t) fullShare ((dat1 V c).before 6 t d))
    ∗ (∃ d, owns c.tc (ms1_7 t) fullShare ((dat1 V c).before 7 t d))
    ∗ (∃ d, owns c.tc (ms1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

theorem leaves1_0 (c : Dev nD) (t : Fin cfg1.N) :
    (dat1 V c).leavesExact 0 t = owns c.tc (ms1_0 t) fullShare ((dat1 V c).after 0 t) := by
  unfold Dat.leavesExact; rw [live1 0 t]
theorem leaves1_1 (c : Dev nD) (t : Fin cfg1.N) :
    (dat1 V c).leavesExact 1 t = owns c.tc (ms1_1 t) fullShare ((dat1 V c).after 1 t) := by
  unfold Dat.leavesExact; rw [live1 1 t]
theorem leaves1_2 (c : Dev nD) (t : Fin cfg1.N) :
    (dat1 V c).leavesExact 2 t = owns c.tc (ms1_2 t) fullShare ((dat1 V c).after 2 t) := by
  unfold Dat.leavesExact; rw [live1 2 t]
theorem leaves1_3 (c : Dev nD) (t : Fin cfg1.N) :
    (dat1 V c).leavesExact 3 t = owns c.tc (ms1_3 t) fullShare ((dat1 V c).after 3 t) := by
  unfold Dat.leavesExact; rw [live1 3 t]
theorem leaves1_4 (c : Dev nD) (t : Fin cfg1.N) :
    (dat1 V c).leavesExact 4 t = owns c.tc (ms1_4 t) fullShare ((dat1 V c).after 4 t) := by
  unfold Dat.leavesExact; rw [live1 4 t]
theorem leaves1_5 (c : Dev nD) (t : Fin cfg1.N) :
    (dat1 V c).leavesExact 5 t = owns c.tc (ms1_5 t) fullShare ((dat1 V c).after 5 t) := by
  unfold Dat.leavesExact; rw [live1 5 t]
theorem leaves1_6 (c : Dev nD) (t : Fin cfg1.N) :
    (dat1 V c).leavesExact 6 t = owns c.tc (ms1_6 t) fullShare ((dat1 V c).after 6 t) := by
  unfold Dat.leavesExact; rw [live1 6 t]
theorem leaves1_7 (c : Dev nD) (t : Fin cfg1.N) :
    (dat1 V c).leavesExact 7 t = owns c.tc (ms1_7 t) fullShare ((dat1 V c).after 7 t) := by
  unfold Dat.leavesExact; rw [live1 7 t]
theorem leaves1_8 (c : Dev nD) (t : Fin cfg1.N) :
    (dat1 V c).leavesExact 8 t = owns c.tc (ms1_8 t) fullShare ((dat1 V c).after 8 t) := by
  unfold Dat.leavesExact; rw [live1 8 t]

set_option maxHeartbeats 1600000 in
/-- The body at any point: the case its query block selects, run on the inputs' blocks. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    leaves1_0, leaves1_1, leaves1_2, leaves1_3, leaves1_4, leaves1_5, leaves1_6, leaves1_7, leaves1_8,
    after1_0, after1_1, after1_2, after1_3, after1_4, after1_5, after1_6, after1_7, after1_8]
  have hN : t.val % 4 = 0 ∨ t.val % 4 = 1 ∨ t.val % 4 = 2 ∨ t.val % 4 = 3 := by omega
  rcases hN with h | h | h | h
  · rw [outs1_A V c t h]
    unfold pt1_A out1_A_6 out1_A_7 out1_A_8; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((run1_A c (grid1.coords t) _ _ _ _ _ _ _ _ _ (case1_A t h) (iblk1 V c 0 t) (iblk1 V c 1 t) (iblk1 V c 2 t) (iblk1 V c 3 t) (iblk1 V c 4 t) (iblk1 V c 5 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover1_A_6 c _ _ _ _ _ _ _ _ _ _ _ _ _ _ _ _ _)
    isplitl [H7]
    · unfold owns; iexists _; isplitr
      swap; · iexact H7
      ipureintro; exact View.read_writes_of_cover _ _ _ _ _ (cover1_A_7 c _ _ _ _ _ _ _ _ _ _ _ _ _ _ _ _ _)
    unfold owns; iexists _; isplitr
    swap; · iexact H8
    ipureintro; exact View.read_writes_of_cover _ _ _ _ _ (cover1_A_8 c _ _ _ _ _ _ _ _ _ _ _ _ _ _ _ _ _)
  · rw [outs1_B V c t h]
    simp only [before1_7 V c t (show ¬ t.val % 4 = 0 by omega), before1_8 V c t (show ¬ t.val % 4 = 0 by omega)]
    unfold pt1_B out1_B_6 out1_B_7 out1_B_8; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((run1_B c (grid1.coords t) _ _ _ _ _ _ _ _ _ (case1_B t h) (iblk1 V c 0 t) (iblk1 V c 1 t) (iblk1 V c 2 t) (iblk1 V c 3 t) (iblk1 V c 4 t) (iblk1 V c 5 t) _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    iintro ⟨H0, H1, H2, H3, H4, H5, ⟨%e6, H6⟩, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover1_B_6 c _ _ _ _ _ _ _ _ _ _ _ _ _ _ _ _ _ _ _)
    isplitl [H7]
    · unfold owns; iexists _; isplitr
      swap; · iexact H7
      ipureintro; exact rfl
    unfold owns; iexists _; isplitr
    swap; · iexact H8
    ipureintro; exact rfl
  · rw [outs1_C V c t h]
    simp only [before1_7 V c t (show ¬ t.val % 4 = 0 by omega), before1_8 V c t (show ¬ t.val % 4 = 0 by omega)]
    unfold pt1_C out1_C_6 out1_C_7 out1_C_8; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((run1_C c (grid1.coords t) _ _ _ _ _ _ _ _ _ (case1_C t h) (iblk1 V c 0 t) (iblk1 V c 1 t) (iblk1 V c 2 t) (iblk1 V c 3 t) (iblk1 V c 4 t) (iblk1 V c 5 t) _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    iintro ⟨H0, H1, H2, H3, H4, H5, ⟨%e6, H6⟩, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover1_C_6 c _ _ _ _ _ _ _ _ _ _ _ _ _ _ _ _ _ _ _)
    isplitl [H7]
    · unfold owns; iexists _; isplitr
      swap; · iexact H7
      ipureintro; exact rfl
    unfold owns; iexists _; isplitr
    swap; · iexact H8
    ipureintro; exact rfl
  · rw [outs1_D V c t h]
    simp only [before1_7 V c t (show ¬ t.val % 4 = 0 by omega), before1_8 V c t (show ¬ t.val % 4 = 0 by omega)]
    unfold pt1_D out1_D_6 out1_D_7 out1_D_8; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((run1_D c (grid1.coords t) _ _ _ _ _ _ _ _ _ (case1_D t h) (iblk1 V c 0 t) (iblk1 V c 1 t) (iblk1 V c 2 t) (iblk1 V c 3 t) (iblk1 V c 4 t) (iblk1 V c 5 t) _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    iintro ⟨H0, H1, H2, H3, H4, H5, ⟨%e6, H6⟩, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover1_D_6 c _ _ _ _ _ _ _ _ _ _ _ _ _ _ _ _ _ _ _)
    isplitl [H7]
    · unfold owns; iexists _; isplitr
      swap; · iexact H7
      ipureintro; exact rfl
    unfold owns; iexists _; isplitr
    swap; · iexact H8
    ipureintro; exact rfl

theorem defs₀_row1 (t : Fin cfg1.N) :
    defs₀ (F := F) .tc cfg1.body (cfg1.bodyArgs t (cfg1.slots t)) = bodyAt1 t := by
  unfold defs₀; rw [Defs.onTc_tc]

/-- The pipeline's obligation at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Attn

end
-- ==== Proof.Launched.lean ====
/- The two calls one after the other (`Cert.KernelIdeal`): from the launch to the return every buffer's contents are known, so the
   arguments end as launched and each result is what its call's write-backs leave. -/
module

public import proofs.«01_k».proof.Proof.FwdDat
public import proofs.«01_k».proof.Proof.BwdDat

@[expose] public section

-- rectangles of long axes are compared coordinate by coordinate
set_option maxRecDepth 16384

noncomputable section

namespace Cert.KernelIdeal.Attn

open Cert.KernelIdeal.Gen
open Idealize.ShloMosaic Idealize.ShloMosaic.TcCoe Idealize.ShloMosaic.Tactic
open Idealize.SL
open RA BI BI.BIBase BI.Laws ProofMode Idealize.SL.Sem Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- @main's argument arrays, as TensorCore references: what the frame claim reads back. -/
abbrev argRefs : List (Ref sig .tc) := [main_arg0, main_arg1, main_arg2, main_arg3]

/-! ## The buffer contents at each segment boundary: a fold through @main, and what each item leaves unchanged -/

/-- Core `c`'s buffers at launch (region 0's entry). -/
abbrev W0 : Dev nD → Valuation τ sig (Elt F) := fun c b => (s₀ m ρ).mem ((c : Dev nD), b)
theorem W0_args (c : Dev nD) : ∀ a ∈ argRefs, W0 m ρ c (Proc.devRef .tc a) = m (c.tc.loc a) := fun _ _ => rfl
/-- The same read at the TensorCore's references (what region 0's proof data take). -/
abbrev V0 : (c : Dev nD) → (b : Ref sig .tc) → Buf (Elt F) ((c : Thread nD τ).loc b) := fun c b => W0 m ρ c b
/-- At region 0's exit: its arrays at what the pipeline leaves (the inputs as entered, each output's write-backs
    folded: `Dat.arrAt … N`), every other buffer as entered (Lib/Pipeline/FrameSuffix.lean `withArrays`) (region 1's entry). -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- A reference that is none of region 0's OUTPUT arrays keeps its entry contents across it: an input window's
    array is never written back (`Dat.arrAt_in`, `A_eq0`); any other buffer is left as is. -/
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((dat0 (V0 m ρ) c).arrAt_in w (h w rfl) _).trans (A_eq0 (V0 m ρ) c w))
  · exact W1_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W1_args (c : Dev nD) : ∀ a ∈ argRefs, W1 m ρ c (Proc.devRef .tc a) = m (c.tc.loc a) :=
  fun a ha => (W1_of m ρ c a (argsIn0 a ha)).trans (W0_args m ρ c a ha)
/-- The same read at the TensorCore's references (region 0's exit contents). -/
abbrev V1 : (c : Dev nD) → (b : Ref sig .tc) → Buf (Elt F) ((c : Thread nD τ).loc b) := fun c b => W1 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- A reference that is none of region 1's OUTPUT arrays keeps its entry contents across it: an input window's
    array is never written back (`Dat.arrAt_in`, `A_eq1`); any other buffer is left as is. -/
theorem W2_of (c : Dev nD) (r : Ref sig .tc) (h : ∀ w : Fin cfg1.W, Pipeline.arrRef spec1 w = r → (cfg1.win w).isOut = false) :
    W2 m ρ c (Proc.devRef .tc r) = W1 m ρ c (Proc.devRef .tc r) := by
  by_cases hw : ∃ w : Fin cfg1.W, Pipeline.arrRef spec1 w = r
  · obtain ⟨w, rfl⟩ := hw
    exact (W2_arr m ρ c w).trans (((dat1 (V1 m ρ) c).arrAt_in w (h w rfl) _).trans (A_eq1 (V1 m ρ) c w))
  · exact W2_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W2_args (c : Dev nD) : ∀ a ∈ argRefs, W2 m ρ c (Proc.devRef .tc a) = m (c.tc.loc a) :=
  fun a ha => (W2_of m ρ c a (argsIn1 a ha)).trans (W1_args m ρ c a ha)
/-- The same read at the TensorCore's references (region 1's exit contents). -/
abbrev V2 : (c : Dev nD) → (b : Ref sig .tc) → Buf (Elt F) ((c : Thread nD τ).loc b) := fun c b => W2 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ### The arguments end as launched: no host stretch writes one and no region may change one (a region reads it
    through an input window or bypasses it) -/

theorem W2_main_arg0 (c : Dev nD) : W2 m ρ c (Proc.devRef .tc main_arg0) = m (c.tc.loc main_arg0) :=
  W2_args m ρ c main_arg0 (by decide)
theorem W2_main_arg1 (c : Dev nD) : W2 m ρ c (Proc.devRef .tc main_arg1) = m (c.tc.loc main_arg1) :=
  W2_args m ρ c main_arg1 (by decide)
theorem W2_main_arg2 (c : Dev nD) : W2 m ρ c (Proc.devRef .tc main_arg2) = m (c.tc.loc main_arg2) :=
  W2_args m ρ c main_arg2 (by decide)
theorem W2_main_arg3 (c : Dev nD) : W2 m ρ c (Proc.devRef .tc main_arg3) = m (c.tc.loc main_arg3) :=
  W2_args m ρ c main_arg3 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes c.tc (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W2`, the generator register at some state. -/
abbrev Tₙ (c : Dev nD) : sProp 𝕄 := iprop(StableHlo.held c.tc (Pipeline.ucRefs τ sig) (W2 m ρ c) ∗ ∃ r, prngReg c r)

/-! ## The regions as segments -/

set_option backward.isDefEq.respectTransparency.types false in
/-- REGION 0 (custom_call 0) over the thread state: entered from every unscoped buffer at `W0`, left at `W1`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held c.tc (Pipeline.ucRefs τ sig) (W0 m ρ c) ∗ R c)
  post c := iprop(StableHlo.held c.tc (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 (custom_call 1) over the thread state: entered from every unscoped buffer at `W1`, left at `W2`
    (what the launch reads at the end). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held c.tc (Pipeline.ucRefs τ sig) (W1 m ρ c) ∗ R c)
  post c := iprop(Tₙ m ρ c ∗ ∃ W, owes c.tc (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) (A_eq1 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 2 segments in order: a host segment per stretch from its boundary's contents, a region per pallas_call. -/
abbrev segs : List (Pipeline.Seg (pcfgs (F := F)) adm (pdats m ρ) () defs₀ 𝒱₀ L lv) :=
  [ .region (reg0 m ρ),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- Every weakly fair execution ends, nothing faulting, with every buffer at `W2` and every semaphore counter at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W2 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held c.tc (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m (c.tc.loc b)) = StableHlo.held c.tc (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz => ⟨h, funext fun g => hz g (.inr (no_unscoped g.2))⟩)

/-- The frame: the arguments end as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨(h.1 c _ (mem_uc main_arg0 (by decide))).trans (W2_main_arg0 m ρ c),
     (h.1 c _ (mem_uc main_arg1 (by decide))).trans (W2_main_arg1 m ρ c),
     (h.1 c _ (mem_uc main_arg2 (by decide))).trans (W2_main_arg2 m ρ c),
     (h.1 c _ (mem_uc main_arg3 (by decide))).trans (W2_main_arg3 m ρ c)⟩, h.2⟩) (run_all m ρ)

end Cert.KernelIdeal.Attn

end
-- ==== Proof.AttnMath.lean ====
/- Causal attention and its gradients over the real numbers: the values both programs reach, and the few facts about sums, row
   maxima and exponentials of extended reals the readings of the programs use. -/
module

public import Idealize.ShloMosaic.PureOps.Ideal.Laws
public import Mathlib.Analysis.SpecialFunctions.Log.Basic

@[expose] public section

noncomputable section

namespace AttnMath

open Idealize.ShloMosaic

/-- The four arguments as real functions of natural coordinates: head, row, column (the cotangent: row, column). -/
structure Args where
  q : ℕ → ℕ → ℕ → ℝ
  k : ℕ → ℕ → ℕ → ℝ
  v : ℕ → ℕ → ℕ → ℝ
  ct : ℕ → ℕ → ℝ

/-- The scale of the scores. -/
def scale : ℝ := (Real.sqrt 192)⁻¹

/-- The greatest of `s 0, …, s r`. -/
def top (s : ℕ → ℝ) (r : ℕ) : ℝ := (Finset.range (r + 1)).sup' ⟨0, by simp⟩ s

variable (A : Args)

/-- The score of query row `r` against key row `j`. -/
def Args.sc (h r j : ℕ) : ℝ := (∑ d ∈ Finset.range 256, A.q h r d * A.k h j d) * scale
/-- The greatest score of a row, over the keys up to it. -/
def Args.mx (h r : ℕ) : ℝ := top (A.sc h r) r
/-- The exponential of a score less its row's greatest; zero at the keys after the row. -/
def Args.ex (h r j : ℕ) : ℝ := if j ≤ r then Real.exp (A.sc h r j - A.mx h r) else 0
/-- The row's sum of exponentials. -/
def Args.tot (h r : ℕ) : ℝ := ∑ j ∈ Finset.range 2048, A.ex h r j
/-- The attention's result. -/
def Args.out (h r d : ℕ) : ℝ := (∑ j ∈ Finset.range 2048, A.ex h r j * A.v h j d) / A.tot h r
/-- The row's log-sum-exp. -/
def Args.lse (h r : ℕ) : ℝ := A.mx h r + Real.log (A.tot h r)
/-- The probabilities. -/
def Args.pr (h r j : ℕ) : ℝ := A.ex h r j / A.tot h r
/-- The cotangent of the probabilities. -/
def Args.dp (h r j : ℕ) : ℝ := ∑ d ∈ Finset.range 128, A.ct r (128 * h + d) * A.v h j d
/-- The row's sum of cotangent times result. -/
def Args.del (h r : ℕ) : ℝ := ∑ d ∈ Finset.range 128, A.ct r (128 * h + d) * A.out h r d
/-- The cotangent of the scores, times the scale. -/
def Args.ds (h r j : ℕ) : ℝ := A.pr h r j * (A.dp h r j - A.del h r) * scale
/-- The queries' gradient. -/
def Args.dq (h r x : ℕ) : ℝ := ∑ j ∈ Finset.range 2048, A.ds h r j * A.k h j x
/-- The keys' gradient, from the query rows before `n`. -/
def Args.dkUpTo (n h j x : ℕ) : ℝ := ∑ r ∈ Finset.range n, A.ds h r j * A.q h r x
/-- The values' gradient, from the query rows before `n`. -/
def Args.dvUpTo (n h j x : ℕ) : ℝ := ∑ r ∈ Finset.range n, A.pr h r j * A.ct r (128 * h + x)

section Sums

theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A sum over a short axis is the sum over a longer range of a function that vanishes past it. -/
theorem sum_axis {n : ℕ} (m : ℕ) (hm : n ≤ m) (f : ℕ → ℝ) (h0 : ∀ j, n ≤ j → j < m → f j = 0) :
    (∑ i : Fin n, ((f i.val : ℝ) : EReal)) = ((∑ j ∈ Finset.range m, f j : ℝ) : EReal) := by
  rw [coe_sum, Finset.sum_fin_eq_sum_range]
  congr 1
  rw [← Finset.sum_subset (Finset.range_subset_range.2 hm) (f := f)]
  · exact Finset.sum_congr rfl fun i hi => by rw [dif_pos (Finset.mem_range.1 hi)]
  · intro x hx hx'
    exact h0 x (by simpa using hx') (Finset.mem_range.1 hx)

theorem sum_axis_self {n : ℕ} (f : ℕ → ℝ) :
    (∑ i : Fin n, ((f i.val : ℝ) : EReal)) = ((∑ j ∈ Finset.range n, f j : ℝ) : EReal) :=
  sum_axis n le_rfl f fun j h h' => absurd h' (by omega)

/-- The greatest over an axis of the entries up to `r`, the others −∞. -/
theorem fold_max_axis {n : ℕ} (s : ℕ → ℝ) (r : ℕ) (hr : r < n) :
    (Finset.univ : Finset (Fin n)).fold max (⊥ : EReal) (fun j => if j.val ≤ r then ((s j.val : ℝ) : EReal) else ⊥)
      = ((top s r : ℝ) : EReal) := by
  apply le_antisymm
  · rw [Finset.fold_max_le]
    refine ⟨bot_le, fun j _ => ?_⟩
    split
    · next h => exact EReal.coe_le_coe_iff.2 (Finset.le_sup' s (by simp; omega))
    · exact bot_le
  · obtain ⟨i, hi, he⟩ := Finset.exists_mem_eq_sup' (s := Finset.range (r + 1)) ⟨0, by simp⟩ s
    rw [Finset.le_fold_max]
    refine Or.inr ⟨⟨i, by have := Finset.mem_range.1 hi; omega⟩, Finset.mem_univ _, ?_⟩
    have hir : i ≤ r := by have := Finset.mem_range.1 hi; omega
    simp only [hir, if_true]
    exact EReal.coe_le_coe_iff.2 (le_of_eq he)

theorem exp_masked (p : Prop) [Decidable p] (x m : ℝ) :
    Ideal.exp ((if p then (x : EReal) else ⊥) - (m : EReal)) = ((if p then Real.exp (x - m) else 0 : ℝ) : EReal) := by
  split
  · rw [← EReal.coe_sub, Ideal.exp_coe]
  · simp

theorem div_real (x y : ℝ) (h : y ≠ 0) : Ideal.div (x : EReal) (y : EReal) = ((x / y : ℝ) : EReal) := by
  rw [Ideal.div_coe h, ← EReal.coe_mul, mul_one_div]

end Sums

section Facts
variable {A}

theorem ex_nonneg (h r j : ℕ) : 0 ≤ A.ex h r j := by
  unfold Args.ex; split
  · exact (Real.exp_pos _).le
  · exact le_rfl

variable (A)

theorem tot_pos (h r : ℕ) (hr : r < 2048) : 0 < A.tot h r := by
  unfold Args.tot
  refine Finset.sum_pos' (fun j _ => ex_nonneg h r j) ⟨r, Finset.mem_range.2 hr, ?_⟩
  simp only [Args.ex, le_refl, if_true]
  exact Real.exp_pos _

theorem ex_eq_zero (h r j : ℕ) (hj : r < j) : A.ex h r j = 0 := if_neg (by omega)

theorem pr_eq_zero (h r j : ℕ) (hj : r < j) : A.pr h r j = 0 := by rw [Args.pr, ex_eq_zero A h r j hj, zero_div]

theorem ds_eq_zero (h r j : ℕ) (hj : r < j) : A.ds h r j = 0 := by
  rw [Args.ds, pr_eq_zero A h r j hj, zero_mul, zero_mul]

/-- The probabilities as the exponential of a score less its row's log-sum-exp. -/
theorem exp_lse (h r j : ℕ) (hr : r < 2048) :
    (if j ≤ r then Real.exp (A.sc h r j - A.lse h r) else 0) = A.pr h r j := by
  unfold Args.pr Args.ex
  split
  · rw [Args.lse, ← sub_sub, Real.exp_sub, Real.exp_log (tot_pos A h r hr)]
  · rw [zero_div]

/-- A row's sum over the first `n` keys, past the row, is its sum over all. -/
theorem sum_keys {n : ℕ} (hn : n ≤ 2048) (r : ℕ) (hr : r < n) (f : ℕ → ℝ) (h0 : ∀ j, r < j → f j = 0) :
    (∑ j ∈ Finset.range n, f j) = ∑ j ∈ Finset.range 2048, f j :=
  Finset.sum_subset (Finset.range_subset_range.2 hn) fun x _ hx => h0 x (by simp at hx; omega)

end Facts

end AttnMath
-- ==== Proof.Tiles.lean ====
/- Vectors of extended reals that hold real numbers: one relation per layout (a matrix, a matrix behind a unit axis, a column, a
   matrix with masked entries), and for each vector operation of the two kernels the fact that carries the relation through it. -/
module

public import proofs.«01_k».proof.Proof.AttnMath
public import Idealize.ShloMosaic.PureOps.Ideal.Laws
public import Idealize.ShloMosaic.Lib.MatmulPlain
public import Idealize.ShloMosaic.Lib.ValueLayout
public import Idealize.ShloMosaic.Lib.Pipeline.Value

@[expose] public section

noncomputable section

namespace AttnMath

open Idealize.ShloMosaic
open Idealize.ShloMosaic.ValueIdx

abbrev Sh2 (a b : ℕ) : Shape := ⟨2, ![a, b]⟩
abbrev Sh3 (a b : ℕ) : Shape := ⟨3, ![1, a, b]⟩

/-- The matrix `x` holds the reals `f`. -/
def Is2 {a b : ℕ} {φ : FTy} (x : FVec Ideal (Sh2 a b) φ) (f : ℕ → ℕ → ℝ) : Prop :=
  ∀ (i : Fin a) (j : Fin b), x (ix2 i j) = ((f i.val j.val : ℝ) : EReal)
/-- The matrix `x` behind a unit axis holds the reals `f`. -/
def Is3 {a b : ℕ} {φ : FTy} (x : FVec Ideal (Sh3 a b) φ) (f : ℕ → ℕ → ℝ) : Prop :=
  ∀ (i : Fin a) (j : Fin b), x (ix3 (0 : Fin 1) i j) = ((f i.val j.val : ℝ) : EReal)
/-- The column `x` holds the reals `f`. -/
def IsC {a : ℕ} {φ : FTy} (x : FVec Ideal (Sh2 a 1) φ) (f : ℕ → ℝ) : Prop :=
  ∀ i : Fin a, x (ix2 i (0 : Fin 1)) = ((f i.val : ℝ) : EReal)
/-- The matrix `x` holds the reals `f` where `j ≤ o + i`, and −∞ elsewhere. -/
def IsM {a b : ℕ} {φ : FTy} (o : ℕ) (x : FVec Ideal (Sh2 a b) φ) (f : ℕ → ℕ → ℝ) : Prop :=
  ∀ (i : Fin a) (j : Fin b), x (ix2 i j) = if j.val ≤ o + i.val then ((f i.val j.val : ℝ) : EReal) else ⊥

section Ops
variable {a b c n : ℕ} {φ ψ : FTy}

theorem Is2.congr {x : FVec Ideal (Sh2 a b) φ} {f g : ℕ → ℕ → ℝ} (hx : Is2 x f)
    (h : ∀ i j, i < a → j < b → f i j = g i j) : Is2 x g :=
  fun i j => by rw [hx i j, h i j i.isLt j.isLt]

theorem Is3.congr {x : FVec Ideal (Sh3 a b) φ} {f g : ℕ → ℕ → ℝ} (hx : Is3 x f)
    (h : ∀ i j, i < a → j < b → f i j = g i j) : Is3 x g :=
  fun i j => by rw [hx i j, h i j i.isLt j.isLt]

theorem Is3.drop {x : FVec Ideal (Sh3 a b) φ} {f : ℕ → ℕ → ℝ} (hx : Is3 x f) (h : (Sh3 a b).ShapeCasts (Sh2 a b)) :
    Is2 (φ := φ) (shapeCast (Sh2 a b) x h) f :=
  fun i j => (shapeCast_1ab_ab_apply x h i j).trans (hx i j)

theorem Is2.lift {x : FVec Ideal (Sh2 a b) φ} {f : ℕ → ℕ → ℝ} (hx : Is2 x f) (h : (Sh2 a b).ShapeCasts (Sh3 a b)) :
    Is3 (φ := φ) (shapeCast (Sh3 a b) x h) f :=
  fun i j => (shapeCast_ab_1ab_apply x h 0 i j).trans (hx i j)

theorem Is2.recast {x : FVec Ideal (Sh2 a b) φ} {f : ℕ → ℕ → ℝ} (hx : Is2 x f) (h : (Sh2 a b).ShapeCasts (Sh2 a b)) :
    Is2 (φ := φ) (shapeCast (Sh2 a b) x h) f :=
  fun i j => (shapeCast_apply x h (ix2 i j) (ix2 i j) rfl).trans (hx i j)

theorem Is3.dropC {x : FVec Ideal (Sh3 a 1) φ} {f : ℕ → ℝ} (hx : Is3 x fun i _ => f i) (h : (Sh3 a 1).ShapeCasts (Sh2 a 1)) :
    IsC (φ := φ) (shapeCast (Sh2 a 1) x h) f :=
  fun i => (shapeCast_1ab_ab_apply x h i 0).trans (hx i 0)

theorem IsC.lift {x : FVec Ideal (Sh2 a 1) φ} {f : ℕ → ℝ} (hx : IsC x f) (h : (Sh2 a 1).ShapeCasts (Sh3 a 1)) :
    Is3 (φ := φ) (shapeCast (Sh3 a 1) x h) fun i _ => f i :=
  fun i j => (shapeCast_ab_1ab_apply x h 0 i j).trans (by rw [Subsingleton.elim j 0]; exact hx i)

theorem Is2.trunc {x : FVec Ideal (Sh2 a b) φ} {f : ℕ → ℕ → ℝ} (hx : Is2 x f) (h : ψ.bits < φ.bits) :
    Is2 (truncf ψ x h) f := hx

theorem Is2.slice {x : FVec Ideal (Sh2 n b) φ} {f : ℕ → ℕ → ℝ} (hx : Is2 x f) (o : ℕ)
    (h : (Sh2 n b).Slices ![o, 0] (Sh2 a b)) :
    Is2 (φ := φ) (extractStridedSlice (Sh2 a b) ![o, 0] x h) fun i j => f (o + i) j :=
  fun i j => by
    have hi : o + i.val < n := by
      have := h.2 (0 : Fin 2); have hh := i.isLt
      simp at this; omega
    refine (extractStridedSlice_apply _ x h (ix2 i j) (ix2 ⟨o + i.val, hi⟩ j) fun t => ?_).trans (hx _ _)
    match t with
    | ⟨0, _⟩ => rfl
    | ⟨1, _⟩ => exact (Nat.zero_add _).symm

theorem Is2.add {x y : FVec Ideal (Sh2 a b) φ} {f g : ℕ → ℕ → ℝ} (hx : Is2 x f) (hy : Is2 y g) :
    Is2 (addf x y) fun i j => f i j + g i j :=
  fun i j => by show x _ + y _ = _; rw [hx, hy, EReal.coe_add]

theorem Is2.sub {x y : FVec Ideal (Sh2 a b) φ} {f g : ℕ → ℕ → ℝ} (hx : Is2 x f) (hy : Is2 y g) :
    Is2 (subf x y) fun i j => f i j - g i j :=
  fun i j => by show x _ - y _ = _; rw [hx, hy, EReal.coe_sub]

theorem Is2.mul {x y : FVec Ideal (Sh2 a b) φ} {f g : ℕ → ℕ → ℝ} (hx : Is2 x f) (hy : Is2 y g) :
    Is2 (mulf x y) fun i j => f i j * g i j :=
  fun i j => by show x _ * y _ = _; rw [hx, hy, EReal.coe_mul]

theorem IsC.add {x y : FVec Ideal (Sh2 a 1) φ} {f g : ℕ → ℝ} (hx : IsC x f) (hy : IsC y g) :
    IsC (addf x y) fun i => f i + g i :=
  fun i => by show x _ + y _ = _; rw [hx, hy, EReal.coe_add]

theorem IsC.log {x : FVec Ideal (Sh2 a 1) φ} {f : ℕ → ℝ} (hx : IsC x f) (h0 : ∀ i, i < a → 0 < f i) :
    IsC (Idealize.ShloMosaic.log x) fun i => Real.log (f i) :=
  fun i => by
    show Ideal.log (x _) = _
    rw [hx, Ideal.log_coe, if_neg (not_le.2 (h0 i i.isLt))]

theorem Is2.div {x y : FVec Ideal (Sh2 a b) φ} {f g : ℕ → ℕ → ℝ} (hx : Is2 x f) (hy : Is2 y g)
    (h0 : ∀ i j, i < a → g i j ≠ 0) : Is2 (divf x y) fun i j => f i j / g i j :=
  fun i j => by show Ideal.div (x _) (y _) = _; rw [hx, hy, div_real _ _ (h0 i j i.isLt)]

theorem Is2.const (w : Ideal φ) (r : ℝ) (h : w = (r : EReal)) : Is2 (broadcast (Sh2 a b) w) fun _ _ => r :=
  fun i j => h

theorem Is3.zero {x : FVec Ideal (Sh3 a b) φ} (h : ∀ t, x t = 0) : Is3 x fun _ _ => 0 :=
  fun i j => h _

theorem IsC.spread {x : FVec Ideal (Sh2 a 1) φ} {f : ℕ → ℝ} (hx : IsC x f) (h : (Sh2 a 1).Broadcasts (Sh2 a b)) :
    Is2 (φ := φ) (broadcastTo (Sh2 a b) x h) fun i _ => f i :=
  fun i j => by
    refine (broadcastTo_apply x h (ix2 i j) (ix2 i (0 : Fin 1)) fun t => ?_).trans (hx i)
    match t with
    | ⟨0, _⟩ =>
      show i.val = if a = 1 then 0 else i.val
      split
      · have := i.isLt; omega
      · rfl
    | ⟨1, _⟩ => rfl

theorem row_cast (x : FVec Ideal ⟨1, ![a]⟩ φ) (h : (⟨1, ![a]⟩ : Shape).ShapeCasts (Sh2 a 1)) (i : Fin a) :
    shapeCast (Sh2 a 1) x h (ix2 i (0 : Fin 1)) = x (ix1 i) :=
  shapeCast_apply x h _ _ (by
    rw [Shape.rowMajor_val_one, Shape.rowMajor_val_two]
    show i.val = i.val * 1 + 0
    omega)

theorem Is2.rowSum {x : FVec Ideal (Sh2 a b) .f32} {f : ℕ → ℕ → ℝ} (hx : Is2 x f)
    (h : (Sh2 a b).Reduces [1] ⟨1, ![a]⟩) (hφ : FKind.Formats .f32) (hacc : (0x00000000#32) = FKind.add.neutral .f32 hφ)
    (hc : (⟨1, ![a]⟩ : Shape).ShapeCasts (Sh2 a 1)) :
    IsC (φ := .f32) (shapeCast (Sh2 a 1) (multiReduction .add [1] ⟨1, ![a]⟩ x 0x00000000#32 h hφ hacc) hc)
      fun i => ∑ j ∈ Finset.range b, f i j :=
  fun i => by
    rw [row_cast, Ideal.multiReduction_add_single, ← sum_axis_self]
    refine Finset.sum_congr rfl fun j _ => ?_
    have e : h.lift (ix1 i) j = ix2 i j := by
      funext t; apply Fin.ext
      match t with
      | ⟨0, _⟩ => rfl
      | ⟨1, _⟩ => rfl
    rw [e]; exact hx i j

theorem negInf : (FloatOps.ofBits (F := Ideal) .f32 0xFF800000#32 : EReal) = ⊥ := by
  show Ideal.ofBits _ _ = _; simp [Ideal.ofBits, Ideal.ieee]

theorem zeroBits : (FloatOps.ofBits (F := Ideal) .f32 0x00000000#32 : EReal) = 0 := by
  show Ideal.ofBits _ _ = _; simp [Ideal.ofBits, Ideal.ieee]

/-- The greatest entry of each row of a masked matrix whose mask keeps at least one entry of the axis. -/
theorem IsM.rowMax {o : ℕ} {x : FVec Ideal (Sh2 a b) .f32} {f : ℕ → ℕ → ℝ} (hx : IsM o x f) (hb : o + a ≤ b)
    (h : (Sh2 a b).Reduces [1] ⟨1, ![a]⟩) (hφ : FKind.Formats .f32) (hacc : (0xFF800000#32) = FKind.maximumf.neutral .f32 hφ)
    (hc : (⟨1, ![a]⟩ : Shape).ShapeCasts (Sh2 a 1)) :
    IsC (φ := .f32) (shapeCast (Sh2 a 1) (multiReduction .maximumf [1] ⟨1, ![a]⟩ x 0xFF800000#32 h hφ hacc) hc)
      fun i => top (f i) (o + i) :=
  fun i => by
    rw [row_cast, Ideal.multiReduction_maximumf_single, negInf]
    rw [← fold_max_axis (n := b) (f i) (o + i) (by have := i.isLt; omega)]
    congr 1
    funext j
    have e : h.lift (ix1 i) j = ix2 i j := by
      funext t; apply Fin.ext
      match t with
      | ⟨0, _⟩ => rfl
      | ⟨1, _⟩ => rfl
    show x (h.lift (ix1 i) j) = _
    rw [e]; exact hx i j

/-- The exponential of a masked matrix less a column. -/
theorem IsM.expSub {o : ℕ} {x : FVec Ideal (Sh2 a b) φ} {f : ℕ → ℕ → ℝ} {y : FVec Ideal (Sh2 a 1) φ} {g : ℕ → ℝ}
    (hx : IsM o x f) (hy : IsC y g) (h : (Sh2 a 1).Broadcasts (Sh2 a b)) :
    Is2 (exp (subf x (broadcastTo (Sh2 a b) y h))) fun i j => if j ≤ o + i then Real.exp (f i j - g i) else 0 :=
  fun i j => by
    show Ideal.exp (x (ix2 i j) - broadcastTo (Sh2 a b) y h (ix2 i j)) = _
    rw [hx i j, (hy.spread h) i j, exp_masked]

/-- A square matrix masked by its column index being at most its row index. -/
theorem Is2.mask {x : FVec Ideal (Sh2 a b) φ} {f : ℕ → ℕ → ℝ} (hx : Is2 x f) (w : Ideal φ) (hw : w = (⊥ : EReal))
    (h1 : (Sh2 a b).Iotas .tc 32 [1]) (h0 : (Sh2 a b).Iotas .tc 32 [0]) (ha : a ≤ 2048) (hb : b ≤ 2048) :
    IsM 0 (φ := φ) (select (cmpi .sle (iota .tc (Sh2 a b) 32 [1] h1) (iota .tc (Sh2 a b) 32 [0] h0)) x (broadcast (Sh2 a b) w)) f :=
  fun i j => by
    show Scalar.select (IntOp.cmpi .sle (iota .tc (Sh2 a b) 32 [1] h1 (ix2 i j)) (iota .tc (Sh2 a b) 32 [0] h0 (ix2 i j))) (x (ix2 i j)) w = _
    rw [iota_single_apply, iota_single_apply, hx i j, hw]
    have hj := j.isLt; have hi := i.isLt
    show (if IntOp.cmpi .sle (BitVec.ofNat 32 j.val) (BitVec.ofNat 32 i.val) = 1 then _ else _) = _
    have e : (BitVec.ofNat 32 j.val).sle (BitVec.ofNat 32 i.val) = decide (j.val ≤ 0 + i.val) := by
      rw [BitVec.sle_eq_decide, BitVec.toInt_eq_toNat_of_lt, BitVec.toInt_eq_toNat_of_lt]
      · simp only [BitVec.toNat_ofNat, Nat.zero_add]
        rw [Nat.mod_eq_of_lt (by omega), Nat.mod_eq_of_lt (by omega)]
        exact decide_eq_decide.2 Int.ofNat_le
      · simp only [BitVec.toNat_ofNat]; rw [Nat.mod_eq_of_lt (by omega)]; omega
      · simp only [BitVec.toNat_ofNat]; rw [Nat.mod_eq_of_lt (by omega)]; omega
    have e' : IntOp.cmpi .sle (BitVec.ofNat 32 j.val) (BitVec.ofNat 32 i.val) = BitVec.ofBool (decide (j.val ≤ 0 + i.val)) := by
      rw [← e]; rfl
    rw [e']
    by_cases hh : j.val ≤ 0 + i.val
    · rw [decide_eq_true hh, if_pos hh]; exact if_pos rfl
    · rw [decide_eq_false hh, if_neg hh]; exact if_neg (by decide)

/-- A full matrix beside a masked one: masked past the first's columns. -/
theorem Is2.beside {n m : ℕ} {x : FVec Ideal (Sh2 a n) φ} {y : FVec Ideal (Sh2 a b) φ} {f : ℕ → ℕ → ℝ}
    (hx : Is2 x f) (hy : IsM 0 y fun i j => f i (n + j)) (hm : n + b = m)
    (h : Shape.Concatenates [Sh2 a n, Sh2 a b] (Sh2 a m) 1) :
    IsM n (φ := φ) (concatenate (Sh2 a m) 1 [⟨Sh2 a n, x⟩, ⟨Sh2 a b, y⟩] h) f :=
  fun i j => by
    by_cases hj : j.val < n
    · rw [if_pos (by omega)]
      refine (concatenate_pair_apply_left (1 : Fin 2) x y h (ix2 i j) rfl (ix2 i ⟨j.val, hj⟩) fun t => ?_).trans (hx i ⟨j.val, hj⟩)
      match t with
      | ⟨0, _⟩ => rfl
      | ⟨1, _⟩ => rfl
    · have hlt : j.val - n < b := by have := j.isLt; omega
      refine (concatenate_pair_apply_right (1 : Fin 2) x y h (ix2 i j) rfl rfl (ix2 i ⟨j.val - n, hlt⟩) (fun t ht => ?_) ?_).trans ?_
      · match t with
        | ⟨0, _⟩ => rfl
        | ⟨1, _⟩ => exact absurd rfl ht
      · show j.val - n + n = j.val; omega
      · rw [hy i ⟨j.val - n, hlt⟩]
        have e : n + (j.val - n) = j.val := by omega
        simp only [e, Nat.zero_add]
        by_cases hh : j.val - n ≤ i.val
        · rw [if_pos hh, if_pos (by omega)]
        · rw [if_neg hh, if_neg (by omega)]

/-- A matrix product, rows by columns. -/
theorem Is2.matNN {K : ℕ} {x : FVec Ideal (Sh2 a K) φ} {y : FVec Ideal (Sh2 K b) ψ} {f g : ℕ → ℕ → ℝ} (hx : Is2 x f)
    (hy : Is2 y g) : Is2 (matmul (DotDims.plain a K b) none x y (constant (Sh2 a b) .f32 0x00000000#32))
      fun i j => ∑ t ∈ Finset.range K, f i t * g t j :=
  fun i j => by
    refine (Ideal.matmul_plain_apply none x y _ i j).trans ?_
    show (FloatOps.ofBits (F := Ideal) .f32 0x00000000#32 : EReal) + _ = _
    rw [zeroBits, zero_add, ← sum_axis_self]
    exact Finset.sum_congr rfl fun t _ => by rw [hx, hy, EReal.coe_mul]

/-- A matrix product, rows by rows. -/
theorem Is2.matNT {K : ℕ} {x : FVec Ideal (Sh2 a K) φ} {y : FVec Ideal (Sh2 b K) ψ} {f g : ℕ → ℕ → ℝ} (hx : Is2 x f)
    (hy : Is2 y g) : Is2 (matmul (DotDims.transposedRhs a K b) none x y (constant (Sh2 a b) .f32 0x00000000#32))
      fun i j => ∑ t ∈ Finset.range K, f i t * g j t :=
  fun i j => by
    refine (Ideal.matmul_transposedRhs_apply none x y _ i j).trans ?_
    show (FloatOps.ofBits (F := Ideal) .f32 0x00000000#32 : EReal) + _ = _
    rw [zeroBits, zero_add, ← sum_axis_self]
    exact Finset.sum_congr rfl fun t _ => by rw [hx, hy, EReal.coe_mul]

/-- The dimension numbers of a product of columns by columns. -/
def colDims (K a b : ℕ) : DotDims (Sh2 K a) (Sh2 K b) (Sh2 a b) where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

/-- A matrix product, columns by columns. -/
theorem Is2.matTN {K : ℕ} {x : FVec Ideal (Sh2 K a) φ} {y : FVec Ideal (Sh2 K b) ψ} {f g : ℕ → ℕ → ℝ} (hx : Is2 x f)
    (hy : Is2 y g) : Is2 (matmul (colDims K a b) none x y (constant (Sh2 a b) .f32 0x00000000#32))
      fun i j => ∑ t ∈ Finset.range K, f t i * g t j :=
  fun i j => by
    have hr : (colDims K a b).contr.rank = 1 := rfl
    have hs : (colDims K a b).contr.size ⟨0, by rw [hr]; exact Nat.one_pos⟩ = K := rfl
    show FloatOps.matmul (colDims K a b) none x y _ (ix2 i j) = _
    rw [Ideal.matmul_apply, ← Equiv.sum_comp (contrEquiv1 _ K hr hs).symm]
    show (FloatOps.ofBits (F := Ideal) .f32 0x00000000#32 : EReal) + _ = _
    rw [zeroBits, zero_add, ← sum_axis_self]
    refine Finset.sum_congr rfl fun t _ => ?_
    have hk := contrEquiv1_symm_val _ K hr hs t
    have el : (colDims K a b).lhsIdx (ix2 i j) ((contrEquiv1 _ K hr hs).symm t) = ix2 t i := by
      funext u; apply Fin.ext
      match u with
      | ⟨0, _⟩ => exact hk
      | ⟨1, _⟩ => rfl
    have er : (colDims K a b).rhsIdx (ix2 i j) ((contrEquiv1 _ K hr hs).symm t) = ix2 t j := by
      funext u; apply Fin.ext
      match u with
      | ⟨0, _⟩ => exact hk
      | ⟨1, _⟩ => rfl
    rw [el, er, hx, hy, EReal.coe_mul]

end Ops

end AttnMath
-- ==== Proof.Slabs.lean ====
/- Staging buffers read head by head: a load of one head's rows from a whole buffer, and what a buffer holds after one store per
   head, for the layouts of the two bodies. -/
module

public import proofs.«01_k».proof.Proof.Tiles
public import Idealize.ShloMosaic.Lib.WritesUnit
public import Idealize.ShloMosaic.Lib.WholeRead

@[expose] public section

noncomputable section

namespace AttnMath

open Idealize.ShloMosaic
open Idealize.ShloMosaic.ValueIdx

/-- The stack of matrices `x` holds the reals `f`. -/
def IsB {c a b : ℕ} {φ : FTy} (x : FVec Ideal ⟨3, ![c, a, b]⟩ φ) (f : ℕ → ℕ → ℕ → ℝ) : Prop :=
  ∀ (h : Fin c) (i : Fin a) (j : Fin b), x (ix3 h i j) = ((f h.val i.val j.val : ℝ) : EReal)

theorem IsB.congr {c a b : ℕ} {φ : FTy} {x : FVec Ideal ⟨3, ![c, a, b]⟩ φ} {f g : ℕ → ℕ → ℕ → ℝ} (hx : IsB x f)
    (h : ∀ e i j, e < c → i < a → j < b → f e i j = g e i j) : IsB x g :=
  fun e i j => by rw [hx e i j, h e i j e.isLt i.isLt j.isLt]

variable {sig : RefSig}

/-- The load of the first `n` rows of matrix `e` of a stack that a whole buffer holds, -/
abbrev ld_b {H N D : ℕ} {m : Memref sig .tc .vmem ⟨3, ![H, N, D]⟩ .bf16} (hm : m.IsWhole) (X : FVec Ideal ⟨3, ![H, N, D]⟩ .bf16)
    (e n : ℕ) (inb : ∀ a, (![e, 0, 0] : Fin 3 → ℕ) a + (![1, n, D] : Fin 3 → ℕ) a ≤ (⟨3, ![H, N, D]⟩ : Shape).size a) :
    FVec Ideal (Sh3 n D) .bf16 :=
  View.readAt (Elt Ideal) m.view (Rect.unit (s := ⟨3, ![H, N, D]⟩) ![e, 0, 0] ![1, n, D] inb).toLoadRect (hm.unread X)

/-- and of 128 columns of a matrix. -/
abbrev lc_b {N D : ℕ} {m : Memref sig .tc .vmem ⟨2, ![N, D]⟩ .bf16} (hm : m.IsWhole) (X : FVec Ideal ⟨2, ![N, D]⟩ .bf16)
    (o : ℕ) (inb : ∀ a, (![0, o] : Fin 2 → ℕ) a + (![N, 128] : Fin 2 → ℕ) a ≤ (⟨2, ![N, D]⟩ : Shape).size a) :
    FVec Ideal (Sh2 N 128) .bf16 :=
  View.readAt (Elt Ideal) m.view (Rect.unit (s := ⟨2, ![N, D]⟩) ![0, o] ![N, 128] inb).toLoadRect (hm.unread X)

/-- The load of the first `n` rows of matrix `e` of a stack that a whole buffer holds, -/
abbrev ld_f {H N D : ℕ} {m : Memref sig .tc .vmem ⟨3, ![H, N, D]⟩ .f32} (hm : m.IsWhole) (X : FVec Ideal ⟨3, ![H, N, D]⟩ .f32)
    (e n : ℕ) (inb : ∀ a, (![e, 0, 0] : Fin 3 → ℕ) a + (![1, n, D] : Fin 3 → ℕ) a ≤ (⟨3, ![H, N, D]⟩ : Shape).size a) :
    FVec Ideal (Sh3 n D) .f32 :=
  View.readAt (Elt Ideal) m.view (Rect.unit (s := ⟨3, ![H, N, D]⟩) ![e, 0, 0] ![1, n, D] inb).toLoadRect (hm.unread X)

/-- and of 128 columns of a matrix. -/
abbrev lc_f {N D : ℕ} {m : Memref sig .tc .vmem ⟨2, ![N, D]⟩ .f32} (hm : m.IsWhole) (X : FVec Ideal ⟨2, ![N, D]⟩ .f32)
    (o : ℕ) (inb : ∀ a, (![0, o] : Fin 2 → ℕ) a + (![N, 128] : Fin 2 → ℕ) a ≤ (⟨2, ![N, D]⟩ : Shape).size a) :
    FVec Ideal (Sh2 N 128) .f32 :=
  View.readAt (Elt Ideal) m.view (Rect.unit (s := ⟨2, ![N, D]⟩) ![0, o] ![N, 128] inb).toLoadRect (hm.unread X)

/-- A load of the first `n` rows of one matrix of a stack. -/
theorem slab_b {H N D n : ℕ} {m : Memref sig .tc .vmem ⟨3, ![H, N, D]⟩ .bf16} (hm : m.IsWhole)
    {X : FVec Ideal ⟨3, ![H, N, D]⟩ .bf16} {f : ℕ → ℕ → ℕ → ℝ} (hX : IsB X f) (e : Fin H) (hn : n ≤ N)
    (inb : ∀ a, (![e.val, 0, 0] : Fin 3 → ℕ) a + (![1, n, D] : Fin 3 → ℕ) a ≤ (⟨3, ![H, N, D]⟩ : Shape).size a) :
    Is3 (ld_b hm X e.val n inb) (f e.val) :=
  fun i j => by
    refine (hm.readAt_unread (Val := Elt Ideal) X _ _).trans ?_
    refine Eq.trans (congrArg X ?_) (hX e ⟨i.val, by have := i.isLt; omega⟩ j)
    funext t; apply Fin.ext
    match t with
    | ⟨0, _⟩ => show e.val + 1 * 0 = e.val; omega
    | ⟨1, _⟩ => show 0 + 1 * i.val = i.val; omega
    | ⟨2, _⟩ => show 0 + 1 * j.val = j.val; omega

/-- A load of 128 columns of a matrix. -/
theorem cols_b {N D : ℕ} {m : Memref sig .tc .vmem ⟨2, ![N, D]⟩ .bf16} (hm : m.IsWhole)
    {X : FVec Ideal ⟨2, ![N, D]⟩ .bf16} {f : ℕ → ℕ → ℝ} (hX : Is2 X f) (o : ℕ) (ho : o + 128 ≤ D)
    (inb : ∀ a, (![0, o] : Fin 2 → ℕ) a + (![N, 128] : Fin 2 → ℕ) a ≤ (⟨2, ![N, D]⟩ : Shape).size a) :
    Is2 (lc_b hm X o inb) fun i d => f i (o + d) :=
  fun i j => by
    refine (hm.readAt_unread (Val := Elt Ideal) X _ _).trans ?_
    refine Eq.trans (congrArg X ?_) (hX i ⟨o + j.val, by have := j.isLt; omega⟩)
    funext t; apply Fin.ext
    match t with
    | ⟨0, _⟩ => show 0 + 1 * i.val = i.val; omega
    | ⟨1, _⟩ => show o + 1 * j.val = o + j.val; omega

/-- A load of the first `n` rows of one matrix of a stack. -/
theorem slab_f {H N D n : ℕ} {m : Memref sig .tc .vmem ⟨3, ![H, N, D]⟩ .f32} (hm : m.IsWhole)
    {X : FVec Ideal ⟨3, ![H, N, D]⟩ .f32} {f : ℕ → ℕ → ℕ → ℝ} (hX : IsB X f) (e : Fin H) (hn : n ≤ N)
    (inb : ∀ a, (![e.val, 0, 0] : Fin 3 → ℕ) a + (![1, n, D] : Fin 3 → ℕ) a ≤ (⟨3, ![H, N, D]⟩ : Shape).size a) :
    Is3 (ld_f hm X e.val n inb) (f e.val) :=
  fun i j => by
    refine (hm.readAt_unread (Val := Elt Ideal) X _ _).trans ?_
    refine Eq.trans (congrArg X ?_) (hX e ⟨i.val, by have := i.isLt; omega⟩ j)
    funext t; apply Fin.ext
    match t with
    | ⟨0, _⟩ => show e.val + 1 * 0 = e.val; omega
    | ⟨1, _⟩ => show 0 + 1 * i.val = i.val; omega
    | ⟨2, _⟩ => show 0 + 1 * j.val = j.val; omega

/-- A load of 128 columns of a matrix. -/
theorem cols_f {N D : ℕ} {m : Memref sig .tc .vmem ⟨2, ![N, D]⟩ .f32} (hm : m.IsWhole)
    {X : FVec Ideal ⟨2, ![N, D]⟩ .f32} {f : ℕ → ℕ → ℝ} (hX : Is2 X f) (o : ℕ) (ho : o + 128 ≤ D)
    (inb : ∀ a, (![0, o] : Fin 2 → ℕ) a + (![N, 128] : Fin 2 → ℕ) a ≤ (⟨2, ![N, D]⟩ : Shape).size a) :
    Is2 (lc_f hm X o inb) fun i d => f i (o + d) :=
  fun i j => by
    refine (hm.readAt_unread (Val := Elt Ideal) X _ _).trans ?_
    refine Eq.trans (congrArg X ?_) (hX i ⟨o + j.val, by have := j.isLt; omega⟩)
    funext t; apply Fin.ext
    match t with
    | ⟨0, _⟩ => show 0 + 1 * i.val = i.val; omega
    | ⟨1, _⟩ => show o + 1 * j.val = o + j.val; omega

section Stores

/-- Four stores of 128 columns each fill a matrix of 512 columns. -/
theorem four_cols (v : View sig .tc .vmem ⟨2, ![512, 512]⟩ .f32) (c : v.ty.Contents (Elt Ideal))
    (w0 w1 w2 w3 : FVec Ideal (Sh2 512 128) .f32) (i0 i1 i2 i3) (g : ℕ → ℕ → ℕ → ℝ)
    (h0 : Is2 w0 (g 0)) (h1 : Is2 w1 (g 1)) (h2 : Is2 w2 (g 2)) (h3 : Is2 w3 (g 3)) :
    Is2 (a := 512) (b := 512) (φ := .f32) (v.read (Elt Ideal) (v.writes (Elt Ideal) c
      [(⟨Rect.unit (s := ⟨2, ![512, 512]⟩) ![0, 384] ![512, 128] i3, w3⟩ : View.Piece (Elt Ideal) ⟨2, ![512, 512]⟩ .f32),
       ⟨Rect.unit (s := ⟨2, ![512, 512]⟩) ![0, 256] ![512, 128] i2, w2⟩,
       ⟨Rect.unit (s := ⟨2, ![512, 512]⟩) ![0, 128] ![512, 128] i1, w1⟩,
       ⟨Rect.unit (s := ⟨2, ![512, 512]⟩) ![0, 0] ![512, 128] i0, w0⟩]))
      fun i x => g (x / 128) i (x % 128) := by
  intro i x
  have hx := x.isLt
  have at' (o : ℕ) (ho : o ≤ x.val) (hlt : x.val < o + 128) (a : Fin 2) :
      ((ix2 i x : (⟨2, ![512, 512]⟩ : Shape).Idx) a).val
        = (![0, o] : Fin 2 → ℕ) a + ((ix2 i (⟨x.val - o, by omega⟩ : Fin 128) : (Sh2 512 128).Idx) a).val := by
    match a with
    | ⟨0, _⟩ => show i.val = 0 + i.val; omega
    | ⟨1, _⟩ => show x.val = o + (x.val - o); omega
  have off' (o : ℕ) (ho : x.val < o ∨ o + 128 ≤ x.val) :
      ((ix2 i x : (⟨2, ![512, 512]⟩ : Shape).Idx) 1).val < (![0, o] : Fin 2 → ℕ) 1 ∨
        (![0, o] : Fin 2 → ℕ) 1 + (![512, 128] : Fin 2 → ℕ) 1 ≤ ((ix2 i x : (⟨2, ![512, 512]⟩ : Shape).Idx) 1).val := ho
  by_cases c3 : 384 ≤ x.val
  · refine (View.read_writes_cons_unit_of_mem v c i3 w3 _ (ix2 i x) (ix2 i ⟨x.val - 384, by omega⟩) rfl (at' 384 c3 (by omega))).trans ?_
    have ed : x.val / 128 = 3 := by omega
    have em : x.val % 128 = x.val - 384 := by omega
    rw [h3]; dsimp only; rw [ed, em]
  refine (View.read_writes_cons_unit_of_not_mem v c i3 w3 _ (ix2 i x) rfl 1 (off' 384 (by omega))).trans ?_
  by_cases c2 : 256 ≤ x.val
  · refine (View.read_writes_cons_unit_of_mem v c i2 w2 _ (ix2 i x) (ix2 i ⟨x.val - 256, by omega⟩) rfl (at' 256 c2 (by omega))).trans ?_
    have ed : x.val / 128 = 2 := by omega
    have em : x.val % 128 = x.val - 256 := by omega
    rw [h2]; dsimp only; rw [ed, em]
  refine (View.read_writes_cons_unit_of_not_mem v c i2 w2 _ (ix2 i x) rfl 1 (off' 256 (by omega))).trans ?_
  by_cases c1 : 128 ≤ x.val
  · refine (View.read_writes_cons_unit_of_mem v c i1 w1 _ (ix2 i x) (ix2 i ⟨x.val - 128, by omega⟩) rfl (at' 128 c1 (by omega))).trans ?_
    have ed : x.val / 128 = 1 := by omega
    have em : x.val % 128 = x.val - 128 := by omega
    rw [h1]; dsimp only; rw [ed, em]
  refine (View.read_writes_cons_unit_of_not_mem v c i1 w1 _ (ix2 i x) rfl 1 (off' 128 (by omega))).trans ?_
  refine (View.read_writes_cons_unit_of_mem v c i0 w0 _ (ix2 i x) (ix2 i ⟨x.val - 0, by omega⟩) rfl (at' 0 (by omega) (by omega))).trans ?_
  have ed : x.val / 128 = 0 := by omega
  have em : x.val % 128 = x.val - 0 := by omega
  rw [h0]; dsimp only; rw [ed, em]

/-- The newest store, of the first `n` rows of matrix `e`, read inside it, -/
theorem slab_hit {H N D n : ℕ} (v : View sig .tc .vmem ⟨3, ![H, N, D]⟩ .f32) (c : v.ty.Contents (Elt Ideal)) (e : Fin H)
    (inb : ∀ a, (![e.val, 0, 0] : Fin 3 → ℕ) a + (![1, n, D] : Fin 3 → ℕ) a ≤ (⟨3, ![H, N, D]⟩ : Shape).size a)
    (w : FVec Ideal (Sh3 n D) .f32) (L : List (View.Piece (Elt Ideal) ⟨3, ![H, N, D]⟩ .f32)) (f : ℕ → ℕ → ℝ) (hw : Is3 w f)
    (h : Fin H) (i : Fin N) (j : Fin D) (he : h = e) (hi : i.val < n) :
    v.read (Elt Ideal) (v.writes (Elt Ideal) c
      ((⟨Rect.unit (s := ⟨3, ![H, N, D]⟩) ![e.val, 0, 0] ![1, n, D] inb, w⟩ : View.Piece (Elt Ideal) _ _) :: L)) (ix3 h i j)
      = ((f i.val j.val : ℝ) : EReal) := by
  subst he
  refine (View.read_writes_cons_unit_of_mem v c inb w L (ix3 h i j) (ix3 (0 : Fin 1) (⟨i.val, hi⟩ : Fin n) j) rfl fun a => ?_).trans
    (hw ⟨i.val, hi⟩ j)
  match a with
  | ⟨0, _⟩ => rfl
  | ⟨1, _⟩ => show i.val = 0 + i.val; omega
  | ⟨2, _⟩ => show j.val = 0 + j.val; omega

/-- and outside it, in another matrix -/
theorem slab_miss {H N D n : ℕ} (v : View sig .tc .vmem ⟨3, ![H, N, D]⟩ .f32) (c : v.ty.Contents (Elt Ideal)) (e : Fin H)
    (inb : ∀ a, (![e.val, 0, 0] : Fin 3 → ℕ) a + (![1, n, D] : Fin 3 → ℕ) a ≤ (⟨3, ![H, N, D]⟩ : Shape).size a)
    (w : FVec Ideal (Sh3 n D) .f32) (L : List (View.Piece (Elt Ideal) ⟨3, ![H, N, D]⟩ .f32))
    (h : Fin H) (i : Fin N) (j : Fin D) (he : h ≠ e ∨ n ≤ i.val) :
    v.read (Elt Ideal) (v.writes (Elt Ideal) c
      ((⟨Rect.unit (s := ⟨3, ![H, N, D]⟩) ![e.val, 0, 0] ![1, n, D] inb, w⟩ : View.Piece (Elt Ideal) _ _) :: L)) (ix3 h i j)
      = v.read (Elt Ideal) (v.writes (Elt Ideal) c L) (ix3 h i j) := by
  rcases he with he | he
  · refine View.read_writes_cons_unit_of_not_mem v c inb w L (ix3 h i j) rfl 0 ?_
    show h.val < e.val ∨ e.val + 1 ≤ h.val
    have : h.val ≠ e.val := fun hh => he (Fin.ext hh)
    omega
  · refine View.read_writes_cons_unit_of_not_mem v c inb w L (ix3 h i j) rfl 1 (Or.inr ?_)
    show 0 + n ≤ i.val
    omega

/-- One store per matrix fills a stack of four. -/
theorem four_slabs {N D : ℕ} (v : View sig .tc .vmem ⟨3, ![4, N, D]⟩ .f32) (c : v.ty.Contents (Elt Ideal))
    (w0 w1 w2 w3 : FVec Ideal (Sh3 N D) .f32) (i0 i1 i2 i3) (g : ℕ → ℕ → ℕ → ℝ)
    (h0 : Is3 w0 (g 0)) (h1 : Is3 w1 (g 1)) (h2 : Is3 w2 (g 2)) (h3 : Is3 w3 (g 3)) :
    IsB (c := 4) (a := N) (b := D) (φ := .f32) (v.read (Elt Ideal) (v.writes (Elt Ideal) c
      [(⟨Rect.unit (s := ⟨3, ![4, N, D]⟩) ![3, 0, 0] ![1, N, D] i3, w3⟩ : View.Piece (Elt Ideal) ⟨3, ![4, N, D]⟩ .f32),
       ⟨Rect.unit (s := ⟨3, ![4, N, D]⟩) ![2, 0, 0] ![1, N, D] i2, w2⟩,
       ⟨Rect.unit (s := ⟨3, ![4, N, D]⟩) ![1, 0, 0] ![1, N, D] i1, w1⟩,
       ⟨Rect.unit (s := ⟨3, ![4, N, D]⟩) ![0, 0, 0] ![1, N, D] i0, w0⟩])) g := by
  intro h i j
  match h with
  | ⟨3, _⟩ => exact slab_hit v c (3 : Fin 4) i3 w3 _ _ h3 _ i j rfl i.isLt
  | ⟨2, _⟩ =>
    exact (slab_miss v c (3 : Fin 4) i3 w3 _ _ i j (Or.inl (Fin.ne_of_val_ne (by show (2 : ℕ) ≠ 3; decide)))).trans
      (slab_hit v c (2 : Fin 4) i2 w2 _ _ h2 _ i j rfl i.isLt)
  | ⟨1, _⟩ =>
    exact (slab_miss v c (3 : Fin 4) i3 w3 _ _ i j (Or.inl (Fin.ne_of_val_ne (by show (1 : ℕ) ≠ 3; decide)))).trans
      ((slab_miss v c (2 : Fin 4) i2 w2 _ _ i j (Or.inl (Fin.ne_of_val_ne (by show (1 : ℕ) ≠ 2; decide)))).trans
      (slab_hit v c (1 : Fin 4) i1 w1 _ _ h1 _ i j rfl i.isLt))
  | ⟨0, _⟩ =>
    exact (slab_miss v c (3 : Fin 4) i3 w3 _ _ i j (Or.inl (Fin.ne_of_val_ne (by show (0 : ℕ) ≠ 3; decide)))).trans
      ((slab_miss v c (2 : Fin 4) i2 w2 _ _ i j (Or.inl (Fin.ne_of_val_ne (by show (0 : ℕ) ≠ 2; decide)))).trans
      ((slab_miss v c (1 : Fin 4) i1 w1 _ _ i j (Or.inl (Fin.ne_of_val_ne (by show (0 : ℕ) ≠ 1; decide)))).trans
      (slab_hit v c (0 : Fin 4) i0 w0 _ _ h0 _ i j rfl i.isLt)))

/-- One store of the first `n` rows per matrix of a stack of two, over any stores before: inside the rows the stored values, -/
theorem two_slabs {N D n : ℕ} (v : View sig .tc .vmem ⟨3, ![2, N, D]⟩ .f32) (c : v.ty.Contents (Elt Ideal))
    (w0 w1 : FVec Ideal (Sh3 n D) .f32) (i0 i1) (L : List (View.Piece (Elt Ideal) ⟨3, ![2, N, D]⟩ .f32)) (g k : ℕ → ℕ → ℕ → ℝ)
    (h0 : Is3 w0 (g 0)) (h1 : Is3 w1 (g 1))
    (hk : ∀ (h : Fin 2) (i : Fin N) (j : Fin D), n ≤ i.val →
      v.read (Elt Ideal) (v.writes (Elt Ideal) c L) (ix3 h i j) = ((k h.val i.val j.val : ℝ) : EReal)) :
    IsB (c := 2) (a := N) (b := D) (φ := .f32) (v.read (Elt Ideal) (v.writes (Elt Ideal) c
      ((⟨Rect.unit (s := ⟨3, ![2, N, D]⟩) ![1, 0, 0] ![1, n, D] i1, w1⟩ : View.Piece (Elt Ideal) ⟨3, ![2, N, D]⟩ .f32) ::
       ⟨Rect.unit (s := ⟨3, ![2, N, D]⟩) ![0, 0, 0] ![1, n, D] i0, w0⟩ :: L)))
      fun h i j => if i < n then g h i j else k h i j := by
  intro h i j
  by_cases hi : i.val < n
  · show _ = (((if i.val < n then g h.val i.val j.val else k h.val i.val j.val : ℝ)) : EReal)
    rw [if_pos hi]
    match h with
    | ⟨1, _⟩ => exact slab_hit v c (1 : Fin 2) i1 w1 _ _ h1 _ i j rfl hi
    | ⟨0, _⟩ =>
      exact (slab_miss v c (1 : Fin 2) i1 w1 _ _ i j (Or.inl (Fin.ne_of_val_ne (by show (0 : ℕ) ≠ 1; decide)))).trans
        (slab_hit v c (0 : Fin 2) i0 w0 _ _ h0 _ i j rfl hi)
  · show _ = (((if i.val < n then g h.val i.val j.val else k h.val i.val j.val : ℝ)) : EReal)
    rw [if_neg hi]
    exact (slab_miss v c (1 : Fin 2) i1 w1 _ _ i j (Or.inr (by omega))).trans
      ((slab_miss v c (0 : Fin 2) i0 w0 _ _ i j (Or.inr (by omega))).trans (hk h i j (by omega)))

/-- A store of the whole stack, read anywhere. -/
theorem fill_hit {H N D : ℕ} (v : View sig .tc .vmem ⟨3, ![H, N, D]⟩ .f32) (c : v.ty.Contents (Elt Ideal))
    (inb : ∀ a, (![0, 0, 0] : Fin 3 → ℕ) a + (![H, N, D] : Fin 3 → ℕ) a ≤ (⟨3, ![H, N, D]⟩ : Shape).size a)
    (w : FVec Ideal ⟨3, ![H, N, D]⟩ .f32) (L : List (View.Piece (Elt Ideal) ⟨3, ![H, N, D]⟩ .f32)) (h : Fin H) (i : Fin N) (j : Fin D) :
    v.read (Elt Ideal) (v.writes (Elt Ideal) c
      ((⟨Rect.unit (s := ⟨3, ![H, N, D]⟩) ![0, 0, 0] ![H, N, D] inb, w⟩ : View.Piece (Elt Ideal) _ _) :: L)) (ix3 h i j) = w (ix3 h i j) :=
  View.read_writes_cons_unit_of_mem v c inb w L (ix3 h i j) (ix3 h i j) rfl fun a => by
    match a with
    | ⟨0, _⟩ => show h.val = 0 + h.val; omega
    | ⟨1, _⟩ => show i.val = 0 + i.val; omega
    | ⟨2, _⟩ => show j.val = 0 + j.val; omega

/-- The load of the first `n` rows of matrix `e` of a stack, after the stores `L` that cover it. -/
abbrev lk {H N D : ℕ} (v : View sig .tc .vmem ⟨3, ![H, N, D]⟩ .f32) (L : List (View.Piece (Elt Ideal) ⟨3, ![H, N, D]⟩ .f32))
    (e n : ℕ) (inb : ∀ a, (![e, 0, 0] : Fin 3 → ℕ) a + (![1, n, D] : Fin 3 → ℕ) a ≤ (⟨3, ![H, N, D]⟩ : Shape).size a) :
    FVec Ideal (Sh3 n D) .f32 :=
  v.readCov L (Rect.unit (s := ⟨3, ![H, N, D]⟩) ![e, 0, 0] ![1, n, D] inb).toLoadRect

theorem lk_is {H N D n : ℕ} (v : View sig .tc .vmem ⟨3, ![H, N, D]⟩ .f32) (L : List (View.Piece (Elt Ideal) ⟨3, ![H, N, D]⟩ .f32))
    (e : Fin H) (hn : n ≤ N) (inb) {f : ℕ → ℕ → ℝ}
    (hX : ∀ (i : Fin N) (j : Fin D), v.read (Elt Ideal) (v.writes (Elt Ideal) v.junk L) (ix3 e i j) = ((f i.val j.val : ℝ) : EReal)) :
    Is3 (lk v L e.val n inb) f :=
  fun i j => by
    refine Eq.trans (b := v.read (Elt Ideal) (v.writes (Elt Ideal) v.junk L) (ix3 e ⟨i.val, by have := i.isLt; omega⟩ j)) ?_ (hX _ j)
    show v.read (Elt Ideal) (v.writes (Elt Ideal) v.junk L) _ = _
    refine congrArg (v.read (Elt Ideal) (v.writes (Elt Ideal) v.junk L)) ?_
    funext t; apply Fin.ext
    match t with
    | ⟨0, _⟩ => show e.val + 1 * 0 = e.val; omega
    | ⟨1, _⟩ => show 0 + 1 * i.val = i.val; omega
    | ⟨2, _⟩ => show 0 + 1 * j.val = j.val; omega

end Stores

end AttnMath
-- ==== Proof.Places.lean ====
/- Where the blocks of the two grids lie in their arrays (`Cert.KernelIdeal`). -/
module

public import proofs.«01_k».proof.Proof.Launched
public import proofs.«01_k».proof.Proof.Slabs
public import Idealize.ShloMosaic.Lib.Pipeline.ValueKit

@[expose] public section

set_option maxRecDepth 16384

noncomputable section

namespace Cert.KernelIdeal.Attn

open Cert.KernelIdeal.Gen
open Idealize.ShloMosaic Idealize.ShloMosaic.TcCoe
open Idealize.ShloMosaic.ValueIdx
open Idealize.ShloMosaic.Pipeline (Dat)
open AttnMath

theorem index0_0 : ∀ t : Fin cfg0.N, win0_0.index t 0 = t.val / 4 ∧ win0_0.index t 1 = t.val % 4 ∧ win0_0.index t 2 = 0 := by decide +kernel
theorem place0_0_0 (t : Fin cfg0.N) (y : (win0_0.xblock (grid0.coords t)).Idx) :
    ((((cfg0.win 0).blk t).view.emb y 0 : Fin _) : ℕ) = 4 * (t.val / 4) + (y 0).val := by
  have h : ((((cfg0.win 0).blk t).view.emb y 0 : Fin _) : ℕ) = win0_0.index t 0 * 4 + (y 0).val :=
    Pipeline.Window.rect_emb_val win0_0 t y 0
  have hi := (index0_0 t).1
  rw [h, hi]; omega
theorem place0_0_1 (t : Fin cfg0.N) (y : (win0_0.xblock (grid0.coords t)).Idx) :
    ((((cfg0.win 0).blk t).view.emb y 1 : Fin _) : ℕ) = 512 * (t.val % 4) + (y 1).val := by
  have h : ((((cfg0.win 0).blk t).view.emb y 1 : Fin _) : ℕ) = win0_0.index t 1 * 512 + (y 1).val :=
    Pipeline.Window.rect_emb_val win0_0 t y 1
  have hi := (index0_0 t).2.1
  rw [h, hi]; omega
theorem place0_0_2 (t : Fin cfg0.N) (y : (win0_0.xblock (grid0.coords t)).Idx) :
    ((((cfg0.win 0).blk t).view.emb y 2 : Fin _) : ℕ) = (y 2).val := by
  have h : ((((cfg0.win 0).blk t).view.emb y 2 : Fin _) : ℕ) = win0_0.index t 2 * 256 + (y 2).val :=
    Pipeline.Window.rect_emb_val win0_0 t y 2
  have hi := (index0_0 t).2.2
  rw [h, hi]; omega

theorem index0_1 : ∀ t : Fin cfg0.N, win0_1.index t 0 = t.val / 4 ∧ win0_1.index t 1 = 0 ∧ win0_1.index t 2 = 0 := by decide +kernel
theorem place0_1_0 (t : Fin cfg0.N) (y : (win0_1.xblock (grid0.coords t)).Idx) :
    ((((cfg0.win 1).blk t).view.emb y 0 : Fin _) : ℕ) = 4 * (t.val / 4) + (y 0).val := by
  have h : ((((cfg0.win 1).blk t).view.emb y 0 : Fin _) : ℕ) = win0_1.index t 0 * 4 + (y 0).val :=
    Pipeline.Window.rect_emb_val win0_1 t y 0
  have hi := (index0_1 t).1
  rw [h, hi]; omega
theorem place0_1_1 (t : Fin cfg0.N) (y : (win0_1.xblock (grid0.coords t)).Idx) :
    ((((cfg0.win 1).blk t).view.emb y 1 : Fin _) : ℕ) = (y 1).val := by
  have h : ((((cfg0.win 1).blk t).view.emb y 1 : Fin _) : ℕ) = win0_1.index t 1 * 2048 + (y 1).val :=
    Pipeline.Window.rect_emb_val win0_1 t y 1
  have hi := (index0_1 t).2.1
  rw [h, hi]; omega
theorem place0_1_2 (t : Fin cfg0.N) (y : (win0_1.xblock (grid0.coords t)).Idx) :
    ((((cfg0.win 1).blk t).view.emb y 2 : Fin _) : ℕ) = (y 2).val := by
  have h : ((((cfg0.win 1).blk t).view.emb y 2 : Fin _) : ℕ) = win0_1.index t 2 * 256 + (y 2).val :=
    Pipeline.Window.rect_emb_val win0_1 t y 2
  have hi := (index0_1 t).2.2
  rw [h, hi]; omega

theorem index0_2 : ∀ t : Fin cfg0.N, win0_2.index t 0 = t.val / 4 ∧ win0_2.index t 1 = 0 ∧ win0_2.index t 2 = 0 := by decide +kernel
theorem place0_2_0 (t : Fin cfg0.N) (y : (win0_2.xblock (grid0.coords t)).Idx) :
    ((((cfg0.win 2).blk t).view.emb y 0 : Fin _) : ℕ) = 4 * (t.val / 4) + (y 0).val := by
  have h : ((((cfg0.win 2).blk t).view.emb y 0 : Fin _) : ℕ) = win0_2.index t 0 * 4 + (y 0).val :=
    Pipeline.Window.rect_emb_val win0_2 t y 0
  have hi := (index0_2 t).1
  rw [h, hi]; omega
theorem place0_2_1 (t : Fin cfg0.N) (y : (win0_2.xblock (grid0.coords t)).Idx) :
    ((((cfg0.win 2).blk t).view.emb y 1 : Fin _) : ℕ) = (y 1).val := by
  have h : ((((cfg0.win 2).blk t).view.emb y 1 : Fin _) : ℕ) = win0_2.index t 1 * 2048 + (y 1).val :=
    Pipeline.Window.rect_emb_val win0_2 t y 1
  have hi := (index0_2 t).2.1
  rw [h, hi]; omega
theorem place0_2_2 (t : Fin cfg0.N) (y : (win0_2.xblock (grid0.coords t)).Idx) :
    ((((cfg0.win 2).blk t).view.emb y 2 : Fin _) : ℕ) = (y 2).val := by
  have h : ((((cfg0.win 2).blk t).view.emb y 2 : Fin _) : ℕ) = win0_2.index t 2 * 128 + (y 2).val :=
    Pipeline.Window.rect_emb_val win0_2 t y 2
  have hi := (index0_2 t).2.2
  rw [h, hi]; omega

theorem index0_3 : ∀ t : Fin cfg0.N, win0_3.index t 0 = t.val % 4 ∧ win0_3.index t 1 = t.val / 4 := by decide +kernel
theorem place0_3_0 (t : Fin cfg0.N) (y : (win0_3.xblock (grid0.coords t)).Idx) :
    ((((cfg0.win 3).blk t).view.emb y 0 : Fin _) : ℕ) = 512 * (t.val % 4) + (y 0).val := by
  have h : ((((cfg0.win 3).blk t).view.emb y 0 : Fin _) : ℕ) = win0_3.index t 0 * 512 + (y 0).val :=
    Pipeline.Window.rect_emb_val win0_3 t y 0
  have hi := (index0_3 t).1
  rw [h, hi]; omega
theorem place0_3_1 (t : Fin cfg0.N) (y : (win0_3.xblock (grid0.coords t)).Idx) :
    ((((cfg0.win 3).blk t).view.emb y 1 : Fin _) : ℕ) = 512 * (t.val / 4) + (y 1).val := by
  have h : ((((cfg0.win 3).blk t).view.emb y 1 : Fin _) : ℕ) = win0_3.index t 1 * 512 + (y 1).val :=
    Pipeline.Window.rect_emb_val win0_3 t y 1
  have hi := (index0_3 t).2
  rw [h, hi]; omega

theorem index0_4 : ∀ t : Fin cfg0.N, win0_4.index t 0 = t.val / 4 ∧ win0_4.index t 1 = t.val % 4 ∧ win0_4.index t 2 = 0 := by decide +kernel
theorem place0_4_0 (t : Fin cfg0.N) (y : (win0_4.xblock (grid0.coords t)).Idx) :
    ((((cfg0.win 4).blk t).view.emb y 0 : Fin _) : ℕ) = 4 * (t.val / 4) + (y 0).val := by
  have h : ((((cfg0.win 4).blk t).view.emb y 0 : Fin _) : ℕ) = win0_4.index t 0 * 4 + (y 0).val :=
    Pipeline.Window.rect_emb_val win0_4 t y 0
  have hi := (index0_4 t).1
  rw [h, hi]; omega
theorem place0_4_1 (t : Fin cfg0.N) (y : (win0_4.xblock (grid0.coords t)).Idx) :
    ((((cfg0.win 4).blk t).view.emb y 1 : Fin _) : ℕ) = 512 * (t.val % 4) + (y 1).val := by
  have h : ((((cfg0.win 4).blk t).view.emb y 1 : Fin _) : ℕ) = win0_4.index t 1 * 512 + (y 1).val :=
    Pipeline.Window.rect_emb_val win0_4 t y 1
  have hi := (index0_4 t).2.1
  rw [h, hi]; omega
theorem place0_4_2 (t : Fin cfg0.N) (y : (win0_4.xblock (grid0.coords t)).Idx) :
    ((((cfg0.win 4).blk t).view.emb y 2 : Fin _) : ℕ) = (y 2).val := by
  have h : ((((cfg0.win 4).blk t).view.emb y 2 : Fin _) : ℕ) = win0_4.index t 2 * 1 + (y 2).val :=
    Pipeline.Window.rect_emb_val win0_4 t y 2
  have hi := (index0_4 t).2.2
  rw [h, hi]; omega

theorem index1_0 : ∀ t : Fin cfg1.N, win1_0.index t 0 = t.val / 4 ∧ win1_0.index t 1 = t.val % 4 ∧ win1_0.index t 2 = 0 := by decide +kernel
theorem place1_0_0 (t : Fin cfg1.N) (y : (win1_0.xblock (grid1.coords t)).Idx) :
    ((((cfg1.win 0).blk t).view.emb y 0 : Fin _) : ℕ) = 2 * (t.val / 4) + (y 0).val := by
  have h : ((((cfg1.win 0).blk t).view.emb y 0 : Fin _) : ℕ) = win1_0.index t 0 * 2 + (y 0).val :=
    Pipeline.Window.rect_emb_val win1_0 t y 0
  have hi := (index1_0 t).1
  rw [h, hi]; omega
theorem place1_0_1 (t : Fin cfg1.N) (y : (win1_0.xblock (grid1.coords t)).Idx) :
    ((((cfg1.win 0).blk t).view.emb y 1 : Fin _) : ℕ) = 512 * (t.val % 4) + (y 1).val := by
  have h : ((((cfg1.win 0).blk t).view.emb y 1 : Fin _) : ℕ) = win1_0.index t 1 * 512 + (y 1).val :=
    Pipeline.Window.rect_emb_val win1_0 t y 1
  have hi := (index1_0 t).2.1
  rw [h, hi]; omega
theorem place1_0_2 (t : Fin cfg1.N) (y : (win1_0.xblock (grid1.coords t)).Idx) :
    ((((cfg1.win 0).blk t).view.emb y 2 : Fin _) : ℕ) = (y 2).val := by
  have h : ((((cfg1.win 0).blk t).view.emb y 2 : Fin _) : ℕ) = win1_0.index t 2 * 256 + (y 2).val :=
    Pipeline.Window.rect_emb_val win1_0 t y 2
  have hi := (index1_0 t).2.2
  rw [h, hi]; omega

theorem index1_1 : ∀ t : Fin cfg1.N, win1_1.index t 0 = t.val / 4 ∧ win1_1.index t 1 = 0 ∧ win1_1.index t 2 = 0 := by decide +kernel
theorem place1_1_0 (t : Fin cfg1.N) (y : (win1_1.xblock (grid1.coords t)).Idx) :
    ((((cfg1.win 1).blk t).view.emb y 0 : Fin _) : ℕ) = 2 * (t.val / 4) + (y 0).val := by
  have h : ((((cfg1.win 1).blk t).view.emb y 0 : Fin _) : ℕ) = win1_1.index t 0 * 2 + (y 0).val :=
    Pipeline.Window.rect_emb_val win1_1 t y 0
  have hi := (index1_1 t).1
  rw [h, hi]; omega
theorem place1_1_1 (t : Fin cfg1.N) (y : (win1_1.xblock (grid1.coords t)).Idx) :
    ((((cfg1.win 1).blk t).view.emb y 1 : Fin _) : ℕ) = (y 1).val := by
  have h : ((((cfg1.win 1).blk t).view.emb y 1 : Fin _) : ℕ) = win1_1.index t 1 * 2048 + (y 1).val :=
    Pipeline.Window.rect_emb_val win1_1 t y 1
  have hi := (index1_1 t).2.1
  rw [h, hi]; omega
theorem place1_1_2 (t : Fin cfg1.N) (y : (win1_1.xblock (grid1.coords t)).Idx) :
    ((((cfg1.win 1).blk t).view.emb y 2 : Fin _) : ℕ) = (y 2).val := by
  have h : ((((cfg1.win 1).blk t).view.emb y 2 : Fin _) : ℕ) = win1_1.index t 2 * 256 + (y 2).val :=
    Pipeline.Window.rect_emb_val win1_1 t y 2
  have hi := (index1_1 t).2.2
  rw [h, hi]; omega

theorem index1_2 : ∀ t : Fin cfg1.N, win1_2.index t 0 = t.val / 4 ∧ win1_2.index t 1 = 0 ∧ win1_2.index t 2 = 0 := by decide +kernel
theorem place1_2_0 (t : Fin cfg1.N) (y : (win1_2.xblock (grid1.coords t)).Idx) :
    ((((cfg1.win 2).blk t).view.emb y 0 : Fin _) : ℕ) = 2 * (t.val / 4) + (y 0).val := by
  have h : ((((cfg1.win 2).blk t).view.emb y 0 : Fin _) : ℕ) = win1_2.index t 0 * 2 + (y 0).val :=
    Pipeline.Window.rect_emb_val win1_2 t y 0
  have hi := (index1_2 t).1
  rw [h, hi]; omega
theorem place1_2_1 (t : Fin cfg1.N) (y : (win1_2.xblock (grid1.coords t)).Idx) :
    ((((cfg1.win 2).blk t).view.emb y 1 : Fin _) : ℕ) = (y 1).val := by
  have h : ((((cfg1.win 2).blk t).view.emb y 1 : Fin _) : ℕ) = win1_2.index t 1 * 2048 + (y 1).val :=
    Pipeline.Window.rect_emb_val win1_2 t y 1
  have hi := (index1_2 t).2.1
  rw [h, hi]; omega
theorem place1_2_2 (t : Fin cfg1.N) (y : (win1_2.xblock (grid1.coords t)).Idx) :
    ((((cfg1.win 2).blk t).view.emb y 2 : Fin _) : ℕ) = (y 2).val := by
  have h : ((((cfg1.win 2).blk t).view.emb y 2 : Fin _) : ℕ) = win1_2.index t 2 * 128 + (y 2).val :=
    Pipeline.Window.rect_emb_val win1_2 t y 2
  have hi := (index1_2 t).2.2
  rw [h, hi]; omega

theorem index1_3 : ∀ t : Fin cfg1.N, win1_3.index t 0 = t.val % 4 ∧ win1_3.index t 1 = t.val / 4 := by decide +kernel
theorem place1_3_0 (t : Fin cfg1.N) (y : (win1_3.xblock (grid1.coords t)).Idx) :
    ((((cfg1.win 3).blk t).view.emb y 0 : Fin _) : ℕ) = 512 * (t.val % 4) + (y 0).val := by
  have h : ((((cfg1.win 3).blk t).view.emb y 0 : Fin _) : ℕ) = win1_3.index t 0 * 512 + (y 0).val :=
    Pipeline.Window.rect_emb_val win1_3 t y 0
  have hi := (index1_3 t).1
  rw [h, hi]; omega
theorem place1_3_1 (t : Fin cfg1.N) (y : (win1_3.xblock (grid1.coords t)).Idx) :
    ((((cfg1.win 3).blk t).view.emb y 1 : Fin _) : ℕ) = 256 * (t.val / 4) + (y 1).val := by
  have h : ((((cfg1.win 3).blk t).view.emb y 1 : Fin _) : ℕ) = win1_3.index t 1 * 256 + (y 1).val :=
    Pipeline.Window.rect_emb_val win1_3 t y 1
  have hi := (index1_3 t).2
  rw [h, hi]; omega

theorem index1_4 : ∀ t : Fin cfg1.N, win1_4.index t 0 = t.val / 4 ∧ win1_4.index t 1 = t.val % 4 ∧ win1_4.index t 2 = 0 := by decide +kernel
theorem place1_4_0 (t : Fin cfg1.N) (y : (win1_4.xblock (grid1.coords t)).Idx) :
    ((((cfg1.win 4).blk t).view.emb y 0 : Fin _) : ℕ) = 2 * (t.val / 4) + (y 0).val := by
  have h : ((((cfg1.win 4).blk t).view.emb y 0 : Fin _) : ℕ) = win1_4.index t 0 * 2 + (y 0).val :=
    Pipeline.Window.rect_emb_val win1_4 t y 0
  have hi := (index1_4 t).1
  rw [h, hi]; omega
theorem place1_4_1 (t : Fin cfg1.N) (y : (win1_4.xblock (grid1.coords t)).Idx) :
    ((((cfg1.win 4).blk t).view.emb y 1 : Fin _) : ℕ) = 512 * (t.val % 4) + (y 1).val := by
  have h : ((((cfg1.win 4).blk t).view.emb y 1 : Fin _) : ℕ) = win1_4.index t 1 * 512 + (y 1).val :=
    Pipeline.Window.rect_emb_val win1_4 t y 1
  have hi := (index1_4 t).2.1
  rw [h, hi]; omega
theorem place1_4_2 (t : Fin cfg1.N) (y : (win1_4.xblock (grid1.coords t)).Idx) :
    ((((cfg1.win 4).blk t).view.emb y 2 : Fin _) : ℕ) = (y 2).val := by
  have h : ((((cfg1.win 4).blk t).view.emb y 2 : Fin _) : ℕ) = win1_4.index t 2 * 1 + (y 2).val :=
    Pipeline.Window.rect_emb_val win1_4 t y 2
  have hi := (index1_4 t).2.2
  rw [h, hi]; omega

theorem index1_5 : ∀ t : Fin cfg1.N, win1_5.index t 0 = t.val % 4 ∧ win1_5.index t 1 = t.val / 4 := by decide +kernel
theorem place1_5_0 (t : Fin cfg1.N) (y : (win1_5.xblock (grid1.coords t)).Idx) :
    ((((cfg1.win 5).blk t).view.emb y 0 : Fin _) : ℕ) = 512 * (t.val % 4) + (y 0).val := by
  have h : ((((cfg1.win 5).blk t).view.emb y 0 : Fin _) : ℕ) = win1_5.index t 0 * 512 + (y 0).val :=
    Pipeline.Window.rect_emb_val win1_5 t y 0
  have hi := (index1_5 t).1
  rw [h, hi]; omega
theorem place1_5_1 (t : Fin cfg1.N) (y : (win1_5.xblock (grid1.coords t)).Idx) :
    ((((cfg1.win 5).blk t).view.emb y 1 : Fin _) : ℕ) = 256 * (t.val / 4) + (y 1).val := by
  have h : ((((cfg1.win 5).blk t).view.emb y 1 : Fin _) : ℕ) = win1_5.index t 1 * 256 + (y 1).val :=
    Pipeline.Window.rect_emb_val win1_5 t y 1
  have hi := (index1_5 t).2
  rw [h, hi]; omega

theorem index1_6 : ∀ t : Fin cfg1.N, win1_6.index t 0 = t.val / 4 ∧ win1_6.index t 1 = t.val % 4 ∧ win1_6.index t 2 = 0 := by decide +kernel
theorem place1_6_0 (t : Fin cfg1.N) (y : (win1_6.xblock (grid1.coords t)).Idx) :
    ((((cfg1.win 6).blk t).view.emb y 0 : Fin _) : ℕ) = 2 * (t.val / 4) + (y 0).val := by
  have h : ((((cfg1.win 6).blk t).view.emb y 0 : Fin _) : ℕ) = win1_6.index t 0 * 2 + (y 0).val :=
    Pipeline.Window.rect_emb_val win1_6 t y 0
  have hi := (index1_6 t).1
  rw [h, hi]; omega
theorem place1_6_1 (t : Fin cfg1.N) (y : (win1_6.xblock (grid1.coords t)).Idx) :
    ((((cfg1.win 6).blk t).view.emb y 1 : Fin _) : ℕ) = 512 * (t.val % 4) + (y 1).val := by
  have h : ((((cfg1.win 6).blk t).view.emb y 1 : Fin _) : ℕ) = win1_6.index t 1 * 512 + (y 1).val :=
    Pipeline.Window.rect_emb_val win1_6 t y 1
  have hi := (index1_6 t).2.1
  rw [h, hi]; omega
theorem place1_6_2 (t : Fin cfg1.N) (y : (win1_6.xblock (grid1.coords t)).Idx) :
    ((((cfg1.win 6).blk t).view.emb y 2 : Fin _) : ℕ) = (y 2).val := by
  have h : ((((cfg1.win 6).blk t).view.emb y 2 : Fin _) : ℕ) = win1_6.index t 2 * 256 + (y 2).val :=
    Pipeline.Window.rect_emb_val win1_6 t y 2
  have hi := (index1_6 t).2.2
  rw [h, hi]; omega

theorem index1_7 : ∀ t : Fin cfg1.N, win1_7.index t 0 = t.val / 4 ∧ win1_7.index t 1 = 0 ∧ win1_7.index t 2 = 0 := by decide +kernel
theorem place1_7_0 (t : Fin cfg1.N) (y : (win1_7.xblock (grid1.coords t)).Idx) :
    ((((cfg1.win 7).blk t).view.emb y 0 : Fin _) : ℕ) = 2 * (t.val / 4) + (y 0).val := by
  have h : ((((cfg1.win 7).blk t).view.emb y 0 : Fin _) : ℕ) = win1_7.index t 0 * 2 + (y 0).val :=
    Pipeline.Window.rect_emb_val win1_7 t y 0
  have hi := (index1_7 t).1
  rw [h, hi]; omega
theorem place1_7_1 (t : Fin cfg1.N) (y : (win1_7.xblock (grid1.coords t)).Idx) :
    ((((cfg1.win 7).blk t).view.emb y 1 : Fin _) : ℕ) = (y 1).val := by
  have h : ((((cfg1.win 7).blk t).view.emb y 1 : Fin _) : ℕ) = win1_7.index t 1 * 2048 + (y 1).val :=
    Pipeline.Window.rect_emb_val win1_7 t y 1
  have hi := (index1_7 t).2.1
  rw [h, hi]; omega
theorem place1_7_2 (t : Fin cfg1.N) (y : (win1_7.xblock (grid1.coords t)).Idx) :
    ((((cfg1.win 7).blk t).view.emb y 2 : Fin _) : ℕ) = (y 2).val := by
  have h : ((((cfg1.win 7).blk t).view.emb y 2 : Fin _) : ℕ) = win1_7.index t 2 * 256 + (y 2).val :=
    Pipeline.Window.rect_emb_val win1_7 t y 2
  have hi := (index1_7 t).2.2
  rw [h, hi]; omega

theorem index1_8 : ∀ t : Fin cfg1.N, win1_8.index t 0 = t.val / 4 ∧ win1_8.index t 1 = 0 ∧ win1_8.index t 2 = 0 := by decide +kernel
theorem place1_8_0 (t : Fin cfg1.N) (y : (win1_8.xblock (grid1.coords t)).Idx) :
    ((((cfg1.win 8).blk t).view.emb y 0 : Fin _) : ℕ) = 2 * (t.val / 4) + (y 0).val := by
  have h : ((((cfg1.win 8).blk t).view.emb y 0 : Fin _) : ℕ) = win1_8.index t 0 * 2 + (y 0).val :=
    Pipeline.Window.rect_emb_val win1_8 t y 0
  have hi := (index1_8 t).1
  rw [h, hi]; omega
theorem place1_8_1 (t : Fin cfg1.N) (y : (win1_8.xblock (grid1.coords t)).Idx) :
    ((((cfg1.win 8).blk t).view.emb y 1 : Fin _) : ℕ) = (y 1).val := by
  have h : ((((cfg1.win 8).blk t).view.emb y 1 : Fin _) : ℕ) = win1_8.index t 1 * 2048 + (y 1).val :=
    Pipeline.Window.rect_emb_val win1_8 t y 1
  have hi := (index1_8 t).2.1
  rw [h, hi]; omega
theorem place1_8_2 (t : Fin cfg1.N) (y : (win1_8.xblock (grid1.coords t)).Idx) :
    ((((cfg1.win 8).blk t).view.emb y 2 : Fin _) : ℕ) = (y 2).val := by
  have h : ((((cfg1.win 8).blk t).view.emb y 2 : Fin _) : ℕ) = win1_8.index t 2 * 128 + (y 2).val :=
    Pipeline.Window.rect_emb_val win1_8 t y 2
  have hi := (index1_8 t).2.2
  rw [h, hi]; omega

end Cert.KernelIdeal.Attn
-- ==== Proof.FwdTile.lean ====
/- One head's computation in the forward body, as the body stores it, on blocks that hold real numbers: for each of the four
   lengths of the key range, the scores, the result and the log-sum-exp are the real functions of `AttnMath`. -/
module

public import proofs.«01_k».proof.Proof.Tiles
public import proofs.«01_k».proof.Proof.Gen.KernelIdeal.Skeleton

@[expose] public section

set_option maxRecDepth 16384

noncomputable section

namespace Cert.KernelIdeal.Attn

open Cert.KernelIdeal.Gen Cert.KernelIdeal
open Idealize.ShloMosaic AttnMath

theorem scale_named : (Named.named (F := Ideal) κ "s" (φ := .f32) 0x3D93CD3A#32 : EReal) = ((scale : ℝ) : EReal) :=
  IdealRules.named_const.ideal_named_scalar κ "s" _ _ rfl

theorem mask_named : (Named.named (F := Ideal) κ "mask" (φ := .f32) 0xFF7F0000#32 : EReal) = ⊥ :=
  IdealRules.named_const.ideal_named_scalar κ "mask" _ _ rfl

variable (A : Args) (h : ℕ)

section CaseA
variable {q : FVec Ideal S1x512x256 .bf16} {k : FVec Ideal S1x512x256 .bf16} {v : FVec Ideal S1x512x128 .bf16}
  (hq : Is3 q fun i d => A.q h (0 + i) d) (hk : Is3 k fun j d => A.k h j d) (hv : Is3 v fun j d => A.v h j d)
include hq hk

theorem score_A : IsM 0 (k0_pay9 (F := Ideal) q k) fun i j => A.sc h (0 + i) j := by
  unfold k0_pay9
  exact (Is2.mask (((hq.drop shapeCasts_S1x512x256_S512x256).matNT (hk.drop shapeCasts_S1x512x256_S512x256)).mul (Is2.const _ scale scale_named))
    _ mask_named iota_S512x512_d1_w32 iota_S512x512_d0_w32 (by decide) (by decide))

theorem max_A : IsC (k0_pay10 (F := Ideal) q k) fun i => A.mx h (0 + i) := by
  unfold k0_pay10
  exact (score_A A h hq hk).rowMax (by decide) reduces_S512x512_S512 _ _ shapeCasts_S512_S512x1

theorem exp_A : Is2 (k0_pay11 (F := Ideal) q k) fun i j => A.ex h (0 + i) j := by
  unfold k0_pay11
  exact (score_A A h hq hk).expSub (max_A A h hq hk) broadcasts_S512x1_S512x512

theorem tot_A : IsC (k0_pay12 (F := Ideal) q k) fun i => A.tot h (0 + i) := by
  unfold k0_pay12
  intro i
  refine ((exp_A A h hq hk).rowSum reduces_S512x512_S512 _ _ shapeCasts_S512_S512x1 i).trans ?_
  exact congrArg _ (sum_keys (by decide) _ (by have := i.isLt; omega) _ fun j hj => ex_eq_zero A h _ j hj)

theorem lse_A : Is3 (k0_pay14 (F := Ideal) q k) fun i _ => A.lse h (0 + i) := by
  unfold k0_pay14
  exact ((max_A A h hq hk).add ((tot_A A h hq hk).log fun i hi => tot_pos A h _ (by omega))).lift shapeCasts_S512x1_S1x512x1

include hv in
theorem out_A : Is2 (k0_pay13 (F := Ideal) q k v) fun i d => A.out h (0 + i) d := by
  unfold k0_pay13
  refine (((((exp_A A h hq hk).trunc bitsLt_bf16_f32).matNN (hv.drop shapeCasts_S1x512x128_S512x128)).div
    ((tot_A A h hq hk).spread broadcasts_S512x1_S512x128) fun i j hi => (tot_pos A h _ (by omega)).ne').congr ?_ :)
  intro i j hi hj
  show _ / _ = A.out h (0 + i) j
  rw [Args.out, sum_keys (n := 512) (by decide) (0 + i) (by omega) (fun x => A.ex h (0 + i) x * A.v h x j)
    fun x hx => by rw [ex_eq_zero A h _ x hx, zero_mul]]

end CaseA

section CaseB
variable {q : FVec Ideal S1x512x256 .bf16} {k : FVec Ideal S1x1024x256 .bf16} {v : FVec Ideal S1x1024x128 .bf16}
  (hq : Is3 q fun i d => A.q h (512 + i) d) (hk : Is3 k fun j d => A.k h j d) (hv : Is3 v fun j d => A.v h j d)
include hq hk

theorem score_B : IsM 512 (k0_pay31 (F := Ideal) q k) fun i j => A.sc h (512 + i) j := by
  unfold k0_pay31
  have hk' := hk.drop shapeCasts_S1x1024x256_S1024x256
  have hq' := hq.drop shapeCasts_S1x512x256_S512x256
  have hm := Is2.mask ((hq'.matNT (hk'.slice 512 slices_S1024x256_o512_0_S512x256)).mul (Is2.const _ scale scale_named))
    _ mask_named iota_S512x512_d1_w32 iota_S512x512_d0_w32 (by decide) (by decide)
  have hl := (hq'.matNT ((hk'.slice 0 slices_S1024x256_o0_0_S512x256).congr (g := fun j d => A.k h j d)
    fun i j _ _ => by rw [Nat.zero_add])).mul (Is2.const (a := 512) (b := 512) (φ := .f32) _ scale scale_named)
  exact Is2.beside (n := 512) (m := 1024) hl hm rfl concatenates_S512x512_S512x512_S512x1024_d1

theorem max_B : IsC (k0_pay32 (F := Ideal) q k) fun i => A.mx h (512 + i) := by
  unfold k0_pay32
  exact (score_B A h hq hk).rowMax (by decide) reduces_S512x1024_S512 _ _ shapeCasts_S512_S512x1

theorem exp_B : Is2 (k0_pay33 (F := Ideal) q k) fun i j => A.ex h (512 + i) j := by
  unfold k0_pay33
  exact (score_B A h hq hk).expSub (max_B A h hq hk) broadcasts_S512x1_S512x1024

theorem tot_B : IsC (k0_pay34 (F := Ideal) q k) fun i => A.tot h (512 + i) := by
  unfold k0_pay34
  intro i
  refine ((exp_B A h hq hk).rowSum reduces_S512x1024_S512 _ _ shapeCasts_S512_S512x1 i).trans ?_
  exact congrArg _ (sum_keys (by decide) _ (by have := i.isLt; omega) _ fun j hj => ex_eq_zero A h _ j hj)

theorem lse_B : Is3 (k0_pay36 (F := Ideal) q k) fun i _ => A.lse h (512 + i) := by
  unfold k0_pay36
  exact ((max_B A h hq hk).add ((tot_B A h hq hk).log fun i hi => tot_pos A h _ (by omega))).lift shapeCasts_S512x1_S1x512x1

include hv in
theorem out_B : Is2 (k0_pay35 (F := Ideal) q k v) fun i d => A.out h (512 + i) d := by
  unfold k0_pay35
  refine (((((exp_B A h hq hk).trunc bitsLt_bf16_f32).matNN (hv.drop shapeCasts_S1x1024x128_S1024x128)).div
    ((tot_B A h hq hk).spread broadcasts_S512x1_S512x128) fun i j hi => (tot_pos A h _ (by omega)).ne').congr ?_ :)
  intro i j hi hj
  show _ / _ = A.out h (512 + i) j
  rw [Args.out, sum_keys (n := 1024) (by decide) (512 + i) (by omega) (fun x => A.ex h (512 + i) x * A.v h x j)
    fun x hx => by rw [ex_eq_zero A h _ x hx, zero_mul]]

end CaseB

section CaseC
variable {q : FVec Ideal S1x512x256 .bf16} {k : FVec Ideal S1x1536x256 .bf16} {v : FVec Ideal S1x1536x128 .bf16}
  (hq : Is3 q fun i d => A.q h (1024 + i) d) (hk : Is3 k fun j d => A.k h j d) (hv : Is3 v fun j d => A.v h j d)
include hq hk

theorem score_C : IsM 1024 (k0_pay57 (F := Ideal) q k) fun i j => A.sc h (1024 + i) j := by
  unfold k0_pay57
  have hk' := hk.drop shapeCasts_S1x1536x256_S1536x256
  have hq' := hq.drop shapeCasts_S1x512x256_S512x256
  have hm := Is2.mask ((hq'.matNT (hk'.slice 1024 slices_S1536x256_o1024_0_S512x256)).mul (Is2.const _ scale scale_named))
    _ mask_named iota_S512x512_d1_w32 iota_S512x512_d0_w32 (by decide) (by decide)
  have hl := (hq'.matNT ((hk'.slice 0 slices_S1536x256_o0_0_S1024x256).congr (g := fun j d => A.k h j d)
    fun i j _ _ => by rw [Nat.zero_add])).mul (Is2.const (a := 512) (b := 1024) (φ := .f32) _ scale scale_named)
  exact Is2.beside (n := 1024) (m := 1536) hl hm rfl concatenates_S512x1024_S512x512_S512x1536_d1

theorem max_C : IsC (k0_pay58 (F := Ideal) q k) fun i => A.mx h (1024 + i) := by
  unfold k0_pay58
  exact (score_C A h hq hk).rowMax (by decide) reduces_S512x1536_S512 _ _ shapeCasts_S512_S512x1

theorem exp_C : Is2 (k0_pay59 (F := Ideal) q k) fun i j => A.ex h (1024 + i) j := by
  unfold k0_pay59
  exact (score_C A h hq hk).expSub (max_C A h hq hk) broadcasts_S512x1_S512x1536

theorem tot_C : IsC (k0_pay60 (F := Ideal) q k) fun i => A.tot h (1024 + i) := by
  unfold k0_pay60
  intro i
  refine ((exp_C A h hq hk).rowSum reduces_S512x1536_S512 _ _ shapeCasts_S512_S512x1 i).trans ?_
  exact congrArg _ (sum_keys (by decide) _ (by have := i.isLt; omega) _ fun j hj => ex_eq_zero A h _ j hj)

theorem lse_C : Is3 (k0_pay62 (F := Ideal) q k) fun i _ => A.lse h (1024 + i) := by
  unfold k0_pay62
  exact ((max_C A h hq hk).add ((tot_C A h hq hk).log fun i hi => tot_pos A h _ (by omega))).lift shapeCasts_S512x1_S1x512x1

include hv in
theorem out_C : Is2 (k0_pay61 (F := Ideal) q k v) fun i d => A.out h (1024 + i) d := by
  unfold k0_pay61
  refine (((((exp_C A h hq hk).trunc bitsLt_bf16_f32).matNN (hv.drop shapeCasts_S1x1536x128_S1536x128)).div
    ((tot_C A h hq hk).spread broadcasts_S512x1_S512x128) fun i j hi => (tot_pos A h _ (by omega)).ne').congr ?_ :)
  intro i j hi hj
  show _ / _ = A.out h (1024 + i) j
  rw [Args.out, sum_keys (n := 1536) (by decide) (1024 + i) (by omega) (fun x => A.ex h (1024 + i) x * A.v h x j)
    fun x hx => by rw [ex_eq_zero A h _ x hx, zero_mul]]

end CaseC

section CaseD
variable {q : FVec Ideal S1x512x256 .bf16} {k : FVec Ideal S1x2048x256 .bf16} {v : FVec Ideal S1x2048x128 .bf16}
  (hq : Is3 q fun i d => A.q h (1536 + i) d) (hk : Is3 k fun j d => A.k h j d) (hv : Is3 v fun j d => A.v h j d)
include hq hk

theorem score_D : IsM 1536 (k0_pay83 (F := Ideal) q k) fun i j => A.sc h (1536 + i) j := by
  unfold k0_pay83
  have hk' := hk.drop shapeCasts_S1x2048x256_S2048x256
  have hq' := hq.drop shapeCasts_S1x512x256_S512x256
  have hm := Is2.mask ((hq'.matNT (hk'.slice 1536 slices_S2048x256_o1536_0_S512x256)).mul (Is2.const _ scale scale_named))
    _ mask_named iota_S512x512_d1_w32 iota_S512x512_d0_w32 (by decide) (by decide)
  have hl := (hq'.matNT ((hk'.slice 0 slices_S2048x256_o0_0_S1536x256).congr (g := fun j d => A.k h j d)
    fun i j _ _ => by rw [Nat.zero_add])).mul (Is2.const (a := 512) (b := 1536) (φ := .f32) _ scale scale_named)
  exact Is2.beside (n := 1536) (m := 2048) hl hm rfl concatenates_S512x1536_S512x512_S512x2048_d1

theorem max_D : IsC (k0_pay84 (F := Ideal) q k) fun i => A.mx h (1536 + i) := by
  unfold k0_pay84
  exact (score_D A h hq hk).rowMax (by decide) reduces_S512x2048_S512 _ _ shapeCasts_S512_S512x1

theorem exp_D : Is2 (k0_pay85 (F := Ideal) q k) fun i j => A.ex h (1536 + i) j := by
  unfold k0_pay85
  exact (score_D A h hq hk).expSub (max_D A h hq hk) broadcasts_S512x1_S512x2048

theorem tot_D : IsC (k0_pay86 (F := Ideal) q k) fun i => A.tot h (1536 + i) := by
  unfold k0_pay86
  intro i
  refine ((exp_D A h hq hk).rowSum reduces_S512x2048_S512 _ _ shapeCasts_S512_S512x1 i).trans ?_
  exact congrArg _ (sum_keys (by decide) _ (by have := i.isLt; omega) _ fun j hj => ex_eq_zero A h _ j hj)

theorem lse_D : Is3 (k0_pay88 (F := Ideal) q k) fun i _ => A.lse h (1536 + i) := by
  unfold k0_pay88
  exact ((max_D A h hq hk).add ((tot_D A h hq hk).log fun i hi => tot_pos A h _ (by omega))).lift shapeCasts_S512x1_S1x512x1

include hv in
theorem out_D : Is2 (k0_pay87 (F := Ideal) q k v) fun i d => A.out h (1536 + i) d := by
  unfold k0_pay87
  refine (((((exp_D A h hq hk).trunc bitsLt_bf16_f32).matNN (hv.drop shapeCasts_S1x2048x128_S2048x128)).div
    ((tot_D A h hq hk).spread broadcasts_S512x1_S512x128) fun i j hi => (tot_pos A h _ (by omega)).ne').congr ?_ :)
  intro i j hi hj
  show _ / _ = A.out h (1536 + i) j
  rw [Args.out, sum_keys (n := 2048) (by decide) (1536 + i) (by omega) (fun x => A.ex h (1536 + i) x * A.v h x j)
    fun x hx => by rw [ex_eq_zero A h _ x hx, zero_mul]]

end CaseD

end Cert.KernelIdeal.Attn
-- ==== Proof.FwdRead.lean ====
/- What the forward body leaves in its staging buffers (`Cert.KernelIdeal`), read as the attention of each head of the point. -/
module

public import proofs.«01_k».proof.Proof.FwdDat
public import proofs.«01_k».proof.Proof.FwdTile
public import proofs.«01_k».proof.Proof.Slabs

@[expose] public section

set_option maxRecDepth 16384

noncomputable section

namespace Cert.KernelIdeal.Attn

open Cert.KernelIdeal.Gen
open Idealize.ShloMosaic Idealize.ShloMosaic.TcCoe
open Idealize.ShloMosaic.ValueIdx
open AttnMath

variable (A : Args) (g : ℕ)

section CaseA

variable (c : Dev nD) (i : grid0.Coords) {arg2 : Memref sig .tc .vmem S4x512x256 .bf16} (h2 : arg2.IsWhole)
  {arg3 : Memref sig .tc .vmem S4x2048x256 .bf16} (h3 : arg3.IsWhole) {arg4 : Memref sig .tc .vmem S4x2048x128 .bf16} (h4 : arg4.IsWhole)
  {arg5 : Memref sig .tc .vmem S512x512 .f32} (h5 : arg5.IsWhole) {arg6 : Memref sig .tc .vmem S4x512x1 .f32} (h6 : arg6.IsWhole)
  (hc : conds0_A i) (x0 : Vec Ideal S4x512x256 .bf16) (x1 : Vec Ideal S4x2048x256 .bf16) (x2 : Vec Ideal S4x2048x128 .bf16)

/-- The output rows of a point of case A. -/
theorem read0_A_3 (hq : IsB (φ := .bf16) x0 fun e i d => A.q (g + e) (0 + i) d) (hk : IsB (φ := .bf16) x1 fun e j d => A.k (g + e) j d)
    (hv : IsB (φ := .bf16) x2 fun e j d => A.v (g + e) j d) :
    Is2 (a := 512) (b := 512) (φ := .f32) (out0_A_3 (F := Ideal) c i h2 h3 h4 h5 h6 hc x0 x1 x2)
      fun i x => A.out (g + x / 128) (0 + i) (x % 128) :=
  four_cols arg5.view _
    (k0_pay13 (F := Ideal) (ld_b h2 x0 0 512 inb_S4x512x256_S1x512x256_0_0_0) (ld_b h3 x1 0 512 inb_S4x2048x256_S1x512x256_0_0_0) (ld_b h4 x2 0 512 inb_S4x2048x128_S1x512x128_0_0_0))
    (k0_pay13 (F := Ideal) (ld_b h2 x0 1 512 inb_S4x512x256_S1x512x256_1_0_0) (ld_b h3 x1 1 512 inb_S4x2048x256_S1x512x256_1_0_0) (ld_b h4 x2 1 512 inb_S4x2048x128_S1x512x128_1_0_0))
    (k0_pay13 (F := Ideal) (ld_b h2 x0 2 512 inb_S4x512x256_S1x512x256_2_0_0) (ld_b h3 x1 2 512 inb_S4x2048x256_S1x512x256_2_0_0) (ld_b h4 x2 2 512 inb_S4x2048x128_S1x512x128_2_0_0))
    (k0_pay13 (F := Ideal) (ld_b h2 x0 3 512 inb_S4x512x256_S1x512x256_3_0_0) (ld_b h3 x1 3 512 inb_S4x2048x256_S1x512x256_3_0_0) (ld_b h4 x2 3 512 inb_S4x2048x128_S1x512x128_3_0_0))
    inb_S512x512_S512x128_0_0 inb_S512x512_S512x128_0_128 inb_S512x512_S512x128_0_256 inb_S512x512_S512x128_0_384
    (fun e i d => A.out (g + e) (0 + i) d)
    (out_A A (g + 0) (slab_b h2 hq (0 : Fin 4) (by decide) _) (slab_b h3 hk (0 : Fin 4) (by decide) _) (slab_b h4 hv (0 : Fin 4) (by decide) _))
    (out_A A (g + 1) (slab_b h2 hq (1 : Fin 4) (by decide) _) (slab_b h3 hk (1 : Fin 4) (by decide) _) (slab_b h4 hv (1 : Fin 4) (by decide) _))
    (out_A A (g + 2) (slab_b h2 hq (2 : Fin 4) (by decide) _) (slab_b h3 hk (2 : Fin 4) (by decide) _) (slab_b h4 hv (2 : Fin 4) (by decide) _))
    (out_A A (g + 3) (slab_b h2 hq (3 : Fin 4) (by decide) _) (slab_b h3 hk (3 : Fin 4) (by decide) _) (slab_b h4 hv (3 : Fin 4) (by decide) _))

/-- The logarithms of the sums of a point of case A. -/
theorem read0_A_4 (hq : IsB (φ := .bf16) x0 fun e i d => A.q (g + e) (0 + i) d) (hk : IsB (φ := .bf16) x1 fun e j d => A.k (g + e) j d) :
    IsB (c := 4) (a := 512) (b := 1) (φ := .f32) (out0_A_4 (F := Ideal) c i h2 h3 h4 h5 h6 hc x0 x1 x2)
      fun e i _ => A.lse (g + e) (0 + i) :=
  four_slabs arg6.view _
    (k0_pay14 (F := Ideal) (ld_b h2 x0 0 512 inb_S4x512x256_S1x512x256_0_0_0) (ld_b h3 x1 0 512 inb_S4x2048x256_S1x512x256_0_0_0))
    (k0_pay14 (F := Ideal) (ld_b h2 x0 1 512 inb_S4x512x256_S1x512x256_1_0_0) (ld_b h3 x1 1 512 inb_S4x2048x256_S1x512x256_1_0_0))
    (k0_pay14 (F := Ideal) (ld_b h2 x0 2 512 inb_S4x512x256_S1x512x256_2_0_0) (ld_b h3 x1 2 512 inb_S4x2048x256_S1x512x256_2_0_0))
    (k0_pay14 (F := Ideal) (ld_b h2 x0 3 512 inb_S4x512x256_S1x512x256_3_0_0) (ld_b h3 x1 3 512 inb_S4x2048x256_S1x512x256_3_0_0))
    inb_S4x512x1_S1x512x1_0_0_0 inb_S4x512x1_S1x512x1_1_0_0 inb_S4x512x1_S1x512x1_2_0_0 inb_S4x512x1_S1x512x1_3_0_0
    (fun e i _ => A.lse (g + e) (0 + i))
    (lse_A A (g + 0) (slab_b h2 hq (0 : Fin 4) (by decide) _) (slab_b h3 hk (0 : Fin 4) (by decide) _))
    (lse_A A (g + 1) (slab_b h2 hq (1 : Fin 4) (by decide) _) (slab_b h3 hk (1 : Fin 4) (by decide) _))
    (lse_A A (g + 2) (slab_b h2 hq (2 : Fin 4) (by decide) _) (slab_b h3 hk (2 : Fin 4) (by decide) _))
    (lse_A A (g + 3) (slab_b h2 hq (3 : Fin 4) (by decide) _) (slab_b h3 hk (3 : Fin 4) (by decide) _))

end CaseA

section CaseB

variable (c : Dev nD) (i : grid0.Coords) {arg2 : Memref sig .tc .vmem S4x512x256 .bf16} (h2 : arg2.IsWhole)
  {arg3 : Memref sig .tc .vmem S4x2048x256 .bf16} (h3 : arg3.IsWhole) {arg4 : Memref sig .tc .vmem S4x2048x128 .bf16} (h4 : arg4.IsWhole)
  {arg5 : Memref sig .tc .vmem S512x512 .f32} (h5 : arg5.IsWhole) {arg6 : Memref sig .tc .vmem S4x512x1 .f32} (h6 : arg6.IsWhole)
  (hc : conds0_B i) (x0 : Vec Ideal S4x512x256 .bf16) (x1 : Vec Ideal S4x2048x256 .bf16) (x2 : Vec Ideal S4x2048x128 .bf16)

/-- The output rows of a point of case B. -/
theorem read0_B_3 (hq : IsB (φ := .bf16) x0 fun e i d => A.q (g + e) (512 + i) d) (hk : IsB (φ := .bf16) x1 fun e j d => A.k (g + e) j d)
    (hv : IsB (φ := .bf16) x2 fun e j d => A.v (g + e) j d) :
    Is2 (a := 512) (b := 512) (φ := .f32) (out0_B_3 (F := Ideal) c i h2 h3 h4 h5 h6 hc x0 x1 x2)
      fun i x => A.out (g + x / 128) (512 + i) (x % 128) :=
  four_cols arg5.view _
    (k0_pay35 (F := Ideal) (ld_b h2 x0 0 512 inb_S4x512x256_S1x512x256_0_0_0) (ld_b h3 x1 0 1024 inb_S4x2048x256_S1x1024x256_0_0_0) (ld_b h4 x2 0 1024 inb_S4x2048x128_S1x1024x128_0_0_0))
    (k0_pay35 (F := Ideal) (ld_b h2 x0 1 512 inb_S4x512x256_S1x512x256_1_0_0) (ld_b h3 x1 1 1024 inb_S4x2048x256_S1x1024x256_1_0_0) (ld_b h4 x2 1 1024 inb_S4x2048x128_S1x1024x128_1_0_0))
    (k0_pay35 (F := Ideal) (ld_b h2 x0 2 512 inb_S4x512x256_S1x512x256_2_0_0) (ld_b h3 x1 2 1024 inb_S4x2048x256_S1x1024x256_2_0_0) (ld_b h4 x2 2 1024 inb_S4x2048x128_S1x1024x128_2_0_0))
    (k0_pay35 (F := Ideal) (ld_b h2 x0 3 512 inb_S4x512x256_S1x512x256_3_0_0) (ld_b h3 x1 3 1024 inb_S4x2048x256_S1x1024x256_3_0_0) (ld_b h4 x2 3 1024 inb_S4x2048x128_S1x1024x128_3_0_0))
    inb_S512x512_S512x128_0_0 inb_S512x512_S512x128_0_128 inb_S512x512_S512x128_0_256 inb_S512x512_S512x128_0_384
    (fun e i d => A.out (g + e) (512 + i) d)
    (out_B A (g + 0) (slab_b h2 hq (0 : Fin 4) (by decide) _) (slab_b h3 hk (0 : Fin 4) (by decide) _) (slab_b h4 hv (0 : Fin 4) (by decide) _))
    (out_B A (g + 1) (slab_b h2 hq (1 : Fin 4) (by decide) _) (slab_b h3 hk (1 : Fin 4) (by decide) _) (slab_b h4 hv (1 : Fin 4) (by decide) _))
    (out_B A (g + 2) (slab_b h2 hq (2 : Fin 4) (by decide) _) (slab_b h3 hk (2 : Fin 4) (by decide) _) (slab_b h4 hv (2 : Fin 4) (by decide) _))
    (out_B A (g + 3) (slab_b h2 hq (3 : Fin 4) (by decide) _) (slab_b h3 hk (3 : Fin 4) (by decide) _) (slab_b h4 hv (3 : Fin 4) (by decide) _))

/-- The logarithms of the sums of a point of case B. -/
theorem read0_B_4 (hq : IsB (φ := .bf16) x0 fun e i d => A.q (g + e) (512 + i) d) (hk : IsB (φ := .bf16) x1 fun e j d => A.k (g + e) j d) :
    IsB (c := 4) (a := 512) (b := 1) (φ := .f32) (out0_B_4 (F := Ideal) c i h2 h3 h4 h5 h6 hc x0 x1 x2)
      fun e i _ => A.lse (g + e) (512 + i) :=
  four_slabs arg6.view _
    (k0_pay36 (F := Ideal) (ld_b h2 x0 0 512 inb_S4x512x256_S1x512x256_0_0_0) (ld_b h3 x1 0 1024 inb_S4x2048x256_S1x1024x256_0_0_0))
    (k0_pay36 (F := Ideal) (ld_b h2 x0 1 512 inb_S4x512x256_S1x512x256_1_0_0) (ld_b h3 x1 1 1024 inb_S4x2048x256_S1x1024x256_1_0_0))
    (k0_pay36 (F := Ideal) (ld_b h2 x0 2 512 inb_S4x512x256_S1x512x256_2_0_0) (ld_b h3 x1 2 1024 inb_S4x2048x256_S1x1024x256_2_0_0))
    (k0_pay36 (F := Ideal) (ld_b h2 x0 3 512 inb_S4x512x256_S1x512x256_3_0_0) (ld_b h3 x1 3 1024 inb_S4x2048x256_S1x1024x256_3_0_0))
    inb_S4x512x1_S1x512x1_0_0_0 inb_S4x512x1_S1x512x1_1_0_0 inb_S4x512x1_S1x512x1_2_0_0 inb_S4x512x1_S1x512x1_3_0_0
    (fun e i _ => A.lse (g + e) (512 + i))
    (lse_B A (g + 0) (slab_b h2 hq (0 : Fin 4) (by decide) _) (slab_b h3 hk (0 : Fin 4) (by decide) _))
    (lse_B A (g + 1) (slab_b h2 hq (1 : Fin 4) (by decide) _) (slab_b h3 hk (1 : Fin 4) (by decide) _))
    (lse_B A (g + 2) (slab_b h2 hq (2 : Fin 4) (by decide) _) (slab_b h3 hk (2 : Fin 4) (by decide) _))
    (lse_B A (g + 3) (slab_b h2 hq (3 : Fin 4) (by decide) _) (slab_b h3 hk (3 : Fin 4) (by decide) _))

end CaseB

section CaseC

variable (c : Dev nD) (i : grid0.Coords) {arg2 : Memref sig .tc .vmem S4x512x256 .bf16} (h2 : arg2.IsWhole)
  {arg3 : Memref sig .tc .vmem S4x2048x256 .bf16} (h3 : arg3.IsWhole) {arg4 : Memref sig .tc .vmem S4x2048x128 .bf16} (h4 : arg4.IsWhole)
  {arg5 : Memref sig .tc .vmem S512x512 .f32} (h5 : arg5.IsWhole) {arg6 : Memref sig .tc .vmem S4x512x1 .f32} (h6 : arg6.IsWhole)
  (hc : conds0_C i) (x0 : Vec Ideal S4x512x256 .bf16) (x1 : Vec Ideal S4x2048x256 .bf16) (x2 : Vec Ideal S4x2048x128 .bf16)

/-- The output rows of a point of case C. -/
theorem read0_C_3 (hq : IsB (φ := .bf16) x0 fun e i d => A.q (g + e) (1024 + i) d) (hk : IsB (φ := .bf16) x1 fun e j d => A.k (g + e) j d)
    (hv : IsB (φ := .bf16) x2 fun e j d => A.v (g + e) j d) :
    Is2 (a := 512) (b := 512) (φ := .f32) (out0_C_3 (F := Ideal) c i h2 h3 h4 h5 h6 hc x0 x1 x2)
      fun i x => A.out (g + x / 128) (1024 + i) (x % 128) :=
  four_cols arg5.view _
    (k0_pay61 (F := Ideal) (ld_b h2 x0 0 512 inb_S4x512x256_S1x512x256_0_0_0) (ld_b h3 x1 0 1536 inb_S4x2048x256_S1x1536x256_0_0_0) (ld_b h4 x2 0 1536 inb_S4x2048x128_S1x1536x128_0_0_0))
    (k0_pay61 (F := Ideal) (ld_b h2 x0 1 512 inb_S4x512x256_S1x512x256_1_0_0) (ld_b h3 x1 1 1536 inb_S4x2048x256_S1x1536x256_1_0_0) (ld_b h4 x2 1 1536 inb_S4x2048x128_S1x1536x128_1_0_0))
    (k0_pay61 (F := Ideal) (ld_b h2 x0 2 512 inb_S4x512x256_S1x512x256_2_0_0) (ld_b h3 x1 2 1536 inb_S4x2048x256_S1x1536x256_2_0_0) (ld_b h4 x2 2 1536 inb_S4x2048x128_S1x1536x128_2_0_0))
    (k0_pay61 (F := Ideal) (ld_b h2 x0 3 512 inb_S4x512x256_S1x512x256_3_0_0) (ld_b h3 x1 3 1536 inb_S4x2048x256_S1x1536x256_3_0_0) (ld_b h4 x2 3 1536 inb_S4x2048x128_S1x1536x128_3_0_0))
    inb_S512x512_S512x128_0_0 inb_S512x512_S512x128_0_128 inb_S512x512_S512x128_0_256 inb_S512x512_S512x128_0_384
    (fun e i d => A.out (g + e) (1024 + i) d)
    (out_C A (g + 0) (slab_b h2 hq (0 : Fin 4) (by decide) _) (slab_b h3 hk (0 : Fin 4) (by decide) _) (slab_b h4 hv (0 : Fin 4) (by decide) _))
    (out_C A (g + 1) (slab_b h2 hq (1 : Fin 4) (by decide) _) (slab_b h3 hk (1 : Fin 4) (by decide) _) (slab_b h4 hv (1 : Fin 4) (by decide) _))
    (out_C A (g + 2) (slab_b h2 hq (2 : Fin 4) (by decide) _) (slab_b h3 hk (2 : Fin 4) (by decide) _) (slab_b h4 hv (2 : Fin 4) (by decide) _))
    (out_C A (g + 3) (slab_b h2 hq (3 : Fin 4) (by decide) _) (slab_b h3 hk (3 : Fin 4) (by decide) _) (slab_b h4 hv (3 : Fin 4) (by decide) _))

/-- The logarithms of the sums of a point of case C. -/
theorem read0_C_4 (hq : IsB (φ := .bf16) x0 fun e i d => A.q (g + e) (1024 + i) d) (hk : IsB (φ := .bf16) x1 fun e j d => A.k (g + e) j d) :
    IsB (c := 4) (a := 512) (b := 1) (φ := .f32) (out0_C_4 (F := Ideal) c i h2 h3 h4 h5 h6 hc x0 x1 x2)
      fun e i _ => A.lse (g + e) (1024 + i) :=
  four_slabs arg6.view _
    (k0_pay62 (F := Ideal) (ld_b h2 x0 0 512 inb_S4x512x256_S1x512x256_0_0_0) (ld_b h3 x1 0 1536 inb_S4x2048x256_S1x1536x256_0_0_0))
    (k0_pay62 (F := Ideal) (ld_b h2 x0 1 512 inb_S4x512x256_S1x512x256_1_0_0) (ld_b h3 x1 1 1536 inb_S4x2048x256_S1x1536x256_1_0_0))
    (k0_pay62 (F := Ideal) (ld_b h2 x0 2 512 inb_S4x512x256_S1x512x256_2_0_0) (ld_b h3 x1 2 1536 inb_S4x2048x256_S1x1536x256_2_0_0))
    (k0_pay62 (F := Ideal) (ld_b h2 x0 3 512 inb_S4x512x256_S1x512x256_3_0_0) (ld_b h3 x1 3 1536 inb_S4x2048x256_S1x1536x256_3_0_0))
    inb_S4x512x1_S1x512x1_0_0_0 inb_S4x512x1_S1x512x1_1_0_0 inb_S4x512x1_S1x512x1_2_0_0 inb_S4x512x1_S1x512x1_3_0_0
    (fun e i _ => A.lse (g + e) (1024 + i))
    (lse_C A (g + 0) (slab_b h2 hq (0 : Fin 4) (by decide) _) (slab_b h3 hk (0 : Fin 4) (by decide) _))
    (lse_C A (g + 1) (slab_b h2 hq (1 : Fin 4) (by decide) _) (slab_b h3 hk (1 : Fin 4) (by decide) _))
    (lse_C A (g + 2) (slab_b h2 hq (2 : Fin 4) (by decide) _) (slab_b h3 hk (2 : Fin 4) (by decide) _))
    (lse_C A (g + 3) (slab_b h2 hq (3 : Fin 4) (by decide) _) (slab_b h3 hk (3 : Fin 4) (by decide) _))

end CaseC

section CaseD

variable (c : Dev nD) (i : grid0.Coords) {arg2 : Memref sig .tc .vmem S4x512x256 .bf16} (h2 : arg2.IsWhole)
  {arg3 : Memref sig .tc .vmem S4x2048x256 .bf16} (h3 : arg3.IsWhole) {arg4 : Memref sig .tc .vmem S4x2048x128 .bf16} (h4 : arg4.IsWhole)
  {arg5 : Memref sig .tc .vmem S512x512 .f32} (h5 : arg5.IsWhole) {arg6 : Memref sig .tc .vmem S4x512x1 .f32} (h6 : arg6.IsWhole)
  (hc : conds0_D i) (x0 : Vec Ideal S4x512x256 .bf16) (x1 : Vec Ideal S4x2048x256 .bf16) (x2 : Vec Ideal S4x2048x128 .bf16)

/-- The output rows of a point of case D. -/
theorem read0_D_3 (hq : IsB (φ := .bf16) x0 fun e i d => A.q (g + e) (1536 + i) d) (hk : IsB (φ := .bf16) x1 fun e j d => A.k (g + e) j d)
    (hv : IsB (φ := .bf16) x2 fun e j d => A.v (g + e) j d) :
    Is2 (a := 512) (b := 512) (φ := .f32) (out0_D_3 (F := Ideal) c i h2 h3 h4 h5 h6 hc x0 x1 x2)
      fun i x => A.out (g + x / 128) (1536 + i) (x % 128) :=
  four_cols arg5.view _
    (k0_pay87 (F := Ideal) (ld_b h2 x0 0 512 inb_S4x512x256_S1x512x256_0_0_0) (ld_b h3 x1 0 2048 inb_S4x2048x256_S1x2048x256_0_0_0) (ld_b h4 x2 0 2048 inb_S4x2048x128_S1x2048x128_0_0_0))
    (k0_pay87 (F := Ideal) (ld_b h2 x0 1 512 inb_S4x512x256_S1x512x256_1_0_0) (ld_b h3 x1 1 2048 inb_S4x2048x256_S1x2048x256_1_0_0) (ld_b h4 x2 1 2048 inb_S4x2048x128_S1x2048x128_1_0_0))
    (k0_pay87 (F := Ideal) (ld_b h2 x0 2 512 inb_S4x512x256_S1x512x256_2_0_0) (ld_b h3 x1 2 2048 inb_S4x2048x256_S1x2048x256_2_0_0) (ld_b h4 x2 2 2048 inb_S4x2048x128_S1x2048x128_2_0_0))
    (k0_pay87 (F := Ideal) (ld_b h2 x0 3 512 inb_S4x512x256_S1x512x256_3_0_0) (ld_b h3 x1 3 2048 inb_S4x2048x256_S1x2048x256_3_0_0) (ld_b h4 x2 3 2048 inb_S4x2048x128_S1x2048x128_3_0_0))
    inb_S512x512_S512x128_0_0 inb_S512x512_S512x128_0_128 inb_S512x512_S512x128_0_256 inb_S512x512_S512x128_0_384
    (fun e i d => A.out (g + e) (1536 + i) d)
    (out_D A (g + 0) (slab_b h2 hq (0 : Fin 4) (by decide) _) (slab_b h3 hk (0 : Fin 4) (by decide) _) (slab_b h4 hv (0 : Fin 4) (by decide) _))
    (out_D A (g + 1) (slab_b h2 hq (1 : Fin 4) (by decide) _) (slab_b h3 hk (1 : Fin 4) (by decide) _) (slab_b h4 hv (1 : Fin 4) (by decide) _))
    (out_D A (g + 2) (slab_b h2 hq (2 : Fin 4) (by decide) _) (slab_b h3 hk (2 : Fin 4) (by decide) _) (slab_b h4 hv (2 : Fin 4) (by decide) _))
    (out_D A (g + 3) (slab_b h2 hq (3 : Fin 4) (by decide) _) (slab_b h3 hk (3 : Fin 4) (by decide) _) (slab_b h4 hv (3 : Fin 4) (by decide) _))

/-- The logarithms of the sums of a point of case D. -/
theorem read0_D_4 (hq : IsB (φ := .bf16) x0 fun e i d => A.q (g + e) (1536 + i) d) (hk : IsB (φ := .bf16) x1 fun e j d => A.k (g + e) j d) :
    IsB (c := 4) (a := 512) (b := 1) (φ := .f32) (out0_D_4 (F := Ideal) c i h2 h3 h4 h5 h6 hc x0 x1 x2)
      fun e i _ => A.lse (g + e) (1536 + i) :=
  four_slabs arg6.view _
    (k0_pay88 (F := Ideal) (ld_b h2 x0 0 512 inb_S4x512x256_S1x512x256_0_0_0) (ld_b h3 x1 0 2048 inb_S4x2048x256_S1x2048x256_0_0_0))
    (k0_pay88 (F := Ideal) (ld_b h2 x0 1 512 inb_S4x512x256_S1x512x256_1_0_0) (ld_b h3 x1 1 2048 inb_S4x2048x256_S1x2048x256_1_0_0))
    (k0_pay88 (F := Ideal) (ld_b h2 x0 2 512 inb_S4x512x256_S1x512x256_2_0_0) (ld_b h3 x1 2 2048 inb_S4x2048x256_S1x2048x256_2_0_0))
    (k0_pay88 (F := Ideal) (ld_b h2 x0 3 512 inb_S4x512x256_S1x512x256_3_0_0) (ld_b h3 x1 3 2048 inb_S4x2048x256_S1x2048x256_3_0_0))
    inb_S4x512x1_S1x512x1_0_0_0 inb_S4x512x1_S1x512x1_1_0_0 inb_S4x512x1_S1x512x1_2_0_0 inb_S4x512x1_S1x512x1_3_0_0
    (fun e i _ => A.lse (g + e) (1536 + i))
    (lse_D A (g + 0) (slab_b h2 hq (0 : Fin 4) (by decide) _) (slab_b h3 hk (0 : Fin 4) (by decide) _))
    (lse_D A (g + 1) (slab_b h2 hq (1 : Fin 4) (by decide) _) (slab_b h3 hk (1 : Fin 4) (by decide) _))
    (lse_D A (g + 2) (slab_b h2 hq (2 : Fin 4) (by decide) _) (slab_b h3 hk (2 : Fin 4) (by decide) _))
    (lse_D A (g + 3) (slab_b h2 hq (3 : Fin 4) (by decide) _) (slab_b h3 hk (3 : Fin 4) (by decide) _))

end CaseD

end Cert.KernelIdeal.Attn
-- ==== Proof.FwdArr.lean ====
/- The forward attention over its grid (`Cert.KernelIdeal`): its two results' arrays, element by element. -/
module

public import proofs.«01_k».proof.Proof.Places
public import proofs.«01_k».proof.Proof.FwdRead

@[expose] public section

set_option maxRecDepth 16384

noncomputable section

namespace Cert.KernelIdeal.Attn

open Cert.KernelIdeal.Gen
open Idealize.ShloMosaic Idealize.ShloMosaic.TcCoe
open Idealize.ShloMosaic.ValueIdx
open Idealize.ShloMosaic.Pipeline (Dat)
open AttnMath

variable (V : (c : Dev nD) → (b : Ref sig .tc) → Buf (Elt Ideal) ((c : Thread nD τ).loc b)) (c : Dev nD) (A : Args)

/-- A buffer of twelve heads, read at an index. -/
abbrev at3 {N D : ℕ} {φ : FTy} (X : FVec Ideal ⟨3, ![12, N, D]⟩ φ) (f : ℕ → ℕ → ℕ → ℝ) : Prop :=
  ∀ x : (⟨3, ![12, N, D]⟩ : Shape).Idx, X x = ((f (x 0).val (x 1).val (x 2).val : ℝ) : EReal)

/-- A buffer of the heads side by side, read at an index. -/
abbrev at2 {N D : ℕ} {φ : FTy} (X : FVec Ideal ⟨2, ![N, D]⟩ φ) (f : ℕ → ℕ → ℝ) : Prop :=
  ∀ x : (⟨2, ![N, D]⟩ : Shape).Idx, X x = ((f (x 0).val (x 1).val : ℝ) : EReal)

/-! Each input's block at a point, of what its array holds. -/

theorem block0_0 (f : ℕ → ℕ → ℕ → ℝ) (h : at3 (N := 2048) (D := 256) (φ := .bf16) (V c main_arg0) f) (t : Fin cfg0.N) :
    IsB (c := 4) (a := 512) (b := 256) (φ := .bf16) (iblk0 V c 0 t) fun e i d => f (4 * (t.val / 4) + e) (512 * (t.val % 4) + i) d :=
  fun e i d => by
    refine (h (((cfg0.win 0).blk t).view.emb (ValueIdx.ix3 e i d))).trans ?_
    rw [place0_0_0, place0_0_1, place0_0_2]
    rfl

theorem block0_1 (f : ℕ → ℕ → ℕ → ℝ) (h : at3 (N := 2048) (D := 256) (φ := .bf16) (V c main_arg1) f) (t : Fin cfg0.N) :
    IsB (c := 4) (a := 2048) (b := 256) (φ := .bf16) (iblk0 V c 1 t) fun e i d => f (4 * (t.val / 4) + e) (i) d :=
  fun e i d => by
    refine (h (((cfg0.win 1).blk t).view.emb (ValueIdx.ix3 e i d))).trans ?_
    rw [place0_1_0, place0_1_1, place0_1_2]
    rfl

theorem block0_2 (f : ℕ → ℕ → ℕ → ℝ) (h : at3 (N := 2048) (D := 128) (φ := .bf16) (V c main_arg2) f) (t : Fin cfg0.N) :
    IsB (c := 4) (a := 2048) (b := 128) (φ := .bf16) (iblk0 V c 2 t) fun e i d => f (4 * (t.val / 4) + e) (i) d :=
  fun e i d => by
    refine (h (((cfg0.win 2).blk t).view.emb (ValueIdx.ix3 e i d))).trans ?_
    rw [place0_2_0, place0_2_1, place0_2_2]
    rfl

section Results
variable (hq : at3 (N := 2048) (D := 256) (φ := .bf16) (V c main_arg0) A.q) (hk : at3 (N := 2048) (D := 256) (φ := .bf16) (V c main_arg1) A.k)
  (hv : at3 (N := 2048) (D := 128) (φ := .bf16) (V c main_arg2) A.v)
include hq hk

include hv in
/-- The output rows after a point. -/
theorem out_point (t : Fin cfg0.N) :
    Is2 (a := 512) (b := 512) (φ := .f32) (outs0 V c t).1 fun i x => A.out (4 * (t.val / 4) + x / 128) (512 * (t.val % 4) + i) (x % 128) := by
  have h4 : t.val % 4 = 0 ∨ t.val % 4 = 1 ∨ t.val % 4 = 2 ∨ t.val % 4 = 3 := by omega
  rcases h4 with h | h | h | h
  · rw [outs0_A V c t h]
    exact (read0_A_3 A (4 * (t.val / 4)) c (grid0.coords t) (hs0_0 t) (hs0_1 t) (hs0_2 t) (hs0_3 t) (hs0_4 t) (case0_A t h)
      (iblk0 V c 0 t) (iblk0 V c 1 t) (iblk0 V c 2 t)
      ((block0_0 V c A.q hq t).congr fun _ _ _ _ _ _ => by rw [h]) (block0_1 V c A.k hk t) (block0_2 V c A.v hv t)).congr fun _ _ _ _ => by rw [h]
  · rw [outs0_B V c t h]
    exact (read0_B_3 A (4 * (t.val / 4)) c (grid0.coords t) (hs0_0 t) (hs0_1 t) (hs0_2 t) (hs0_3 t) (hs0_4 t) (case0_B t h)
      (iblk0 V c 0 t) (iblk0 V c 1 t) (iblk0 V c 2 t)
      ((block0_0 V c A.q hq t).congr fun _ _ _ _ _ _ => by rw [h]) (block0_1 V c A.k hk t) (block0_2 V c A.v hv t)).congr fun _ _ _ _ => by rw [h]
  · rw [outs0_C V c t h]
    exact (read0_C_3 A (4 * (t.val / 4)) c (grid0.coords t) (hs0_0 t) (hs0_1 t) (hs0_2 t) (hs0_3 t) (hs0_4 t) (case0_C t h)
      (iblk0 V c 0 t) (iblk0 V c 1 t) (iblk0 V c 2 t)
      ((block0_0 V c A.q hq t).congr fun _ _ _ _ _ _ => by rw [h]) (block0_1 V c A.k hk t) (block0_2 V c A.v hv t)).congr fun _ _ _ _ => by rw [h]
  · rw [outs0_D V c t h]
    exact (read0_D_3 A (4 * (t.val / 4)) c (grid0.coords t) (hs0_0 t) (hs0_1 t) (hs0_2 t) (hs0_3 t) (hs0_4 t) (case0_D t h)
      (iblk0 V c 0 t) (iblk0 V c 1 t) (iblk0 V c 2 t)
      ((block0_0 V c A.q hq t).congr fun _ _ _ _ _ _ => by rw [h]) (block0_1 V c A.k hk t) (block0_2 V c A.v hv t)).congr fun _ _ _ _ => by rw [h]

/-- The logarithms of the sums after a point. -/
theorem lse_point (t : Fin cfg0.N) :
    IsB (c := 4) (a := 512) (b := 1) (φ := .f32) (outs0 V c t).2 fun e i _ => A.lse (4 * (t.val / 4) + e) (512 * (t.val % 4) + i) := by
  have h4 : t.val % 4 = 0 ∨ t.val % 4 = 1 ∨ t.val % 4 = 2 ∨ t.val % 4 = 3 := by omega
  rcases h4 with h | h | h | h
  · rw [outs0_A V c t h]
    exact (read0_A_4 A (4 * (t.val / 4)) c (grid0.coords t) (hs0_0 t) (hs0_1 t) (hs0_2 t) (hs0_3 t) (hs0_4 t) (case0_A t h)
      (iblk0 V c 0 t) (iblk0 V c 1 t) (iblk0 V c 2 t)
      ((block0_0 V c A.q hq t).congr fun _ _ _ _ _ _ => by rw [h]) (block0_1 V c A.k hk t)).congr fun _ _ _ _ _ _ => by rw [h]
  · rw [outs0_B V c t h]
    exact (read0_B_4 A (4 * (t.val / 4)) c (grid0.coords t) (hs0_0 t) (hs0_1 t) (hs0_2 t) (hs0_3 t) (hs0_4 t) (case0_B t h)
      (iblk0 V c 0 t) (iblk0 V c 1 t) (iblk0 V c 2 t)
      ((block0_0 V c A.q hq t).congr fun _ _ _ _ _ _ => by rw [h]) (block0_1 V c A.k hk t)).congr fun _ _ _ _ _ _ => by rw [h]
  · rw [outs0_C V c t h]
    exact (read0_C_4 A (4 * (t.val / 4)) c (grid0.coords t) (hs0_0 t) (hs0_1 t) (hs0_2 t) (hs0_3 t) (hs0_4 t) (case0_C t h)
      (iblk0 V c 0 t) (iblk0 V c 1 t) (iblk0 V c 2 t)
      ((block0_0 V c A.q hq t).congr fun _ _ _ _ _ _ => by rw [h]) (block0_1 V c A.k hk t)).congr fun _ _ _ _ _ _ => by rw [h]
  · rw [outs0_D V c t h]
    exact (read0_D_4 A (4 * (t.val / 4)) c (grid0.coords t) (hs0_0 t) (hs0_1 t) (hs0_2 t) (hs0_3 t) (hs0_4 t) (case0_D t h)
      (iblk0 V c 0 t) (iblk0 V c 1 t) (iblk0 V c 2 t)
      ((block0_0 V c A.q hq t).congr fun _ _ _ _ _ _ => by rw [h]) (block0_1 V c A.k hk t)).congr fun _ _ _ _ _ _ => by rw [h]

include hv in
/-- The forward result's array. -/
theorem out_array : at2 (N := 2048) (D := 1536) (φ := .f32) ((dat0 V c).arrAt 3 cfg0.N) fun r x => A.out (x / 128) r (x % 128) :=
  (dat0 V c).arrAt_forall_of_covers 3
    (fun i v => (v : EReal) = ((A.out ((i 1 : Fin 1536).val / 128) (i 0 : Fin 2048).val ((i 1 : Fin 1536).val % 128) : ℝ) : EReal))
    (by decide +kernel) fun t _ y => by
      refine Eq.trans (congrFun (after0_3 V c t) _) (Eq.trans (b := (((fun i x => A.out (4 * (t.val / 4) + x / 128) (512 * (t.val % 4) + i) (x % 128)) (y 0).val (y 1).val : ℝ) : EReal)) ?_ ?_)
      · exact (congrArg (outs0 V c t).1 (show (cfg0.win 3).xinj (grid0.coords t) y = ValueIdx.ix2 (n0 := 512) (n1 := 512) (y 0) (y 1) from Shape.idx_ext₂ rfl rfl)).trans
          (out_point V c A hq hk hv t (y 0) (y 1))
      · rw [place0_3_0 t y, place0_3_1 t y]; dsimp only; congr 2 <;> omega

/-- The array of the logarithms of the sums. -/
theorem lse_array : at3 (N := 2048) (D := 1) (φ := .f32) ((dat0 V c).arrAt 4 cfg0.N) fun e r _ => A.lse e r :=
  (dat0 V c).arrAt_forall_of_covers 4
    (fun i v => (v : EReal) = ((A.lse (i 0 : Fin 12).val (i 1 : Fin 2048).val : ℝ) : EReal))
    (by decide +kernel) fun t _ y => by
      refine Eq.trans (congrFun (after0_4 V c t) _) (Eq.trans (b := ((A.lse (4 * (t.val / 4) + (y 0).val) (512 * (t.val % 4) + (y 1).val) : ℝ) : EReal)) ?_ ?_)
      · exact (congrArg (outs0 V c t).2 (show (cfg0.win 4).xinj (grid0.coords t) y = ValueIdx.ix3 (n0 := 4) (n1 := 512) (n2 := 1) (y 0) (y 1) (y 2) from
          funext fun a => Fin.ext (match a with | ⟨0, _⟩ => rfl | ⟨1, _⟩ => rfl | ⟨2, _⟩ => rfl))).trans
          (lse_point V c A hq hk t (y 0) (y 1) (y 2))
      · rw [place0_4_0 t y, place0_4_1 t y]

end Results

end Cert.KernelIdeal.Attn
-- ==== Proof.BwdTile.lean ====
/- One head's computation in the backward body, as the body stores it, on blocks that hold real numbers: for each of the four
   lengths of the key range, the probabilities, the scores' cotangent and the three gradients are those of `AttnMath`. -/
module

public import proofs.«01_k».proof.Proof.FwdTile

@[expose] public section

set_option maxRecDepth 16384

noncomputable section

namespace Cert.KernelIdeal.Attn

open Cert.KernelIdeal.Gen Cert.KernelIdeal
open Idealize.ShloMosaic AttnMath

section Heads
variable {F : FTy → Type} [FloatOps F] [Named F]

/-- Case A: a head's gradients from its blocks `q k v`, the cotangent `g`, the result `r` and the log-sum-exp `l`. -/
def hdq_A (q : Vec F S1x512x256 .bf16) (k : Vec F S1x512x256 .bf16) (v : Vec F S1x512x128 .bf16) (g r : Vec F S512x128 .f32)
    (l : Vec F S1x512x1 .f32) : FVec F S1x512x256 .f32 :=
  k1_pay21 (k1_pay14 k) (k1_pay15 v) g (k1_pay16 q k l) (k1_pay17 g r)
def hdk_A (q : Vec F S1x512x256 .bf16) (k : Vec F S1x512x256 .bf16) (v : Vec F S1x512x128 .bf16) (g r : Vec F S512x128 .f32)
    (l : Vec F S1x512x1 .f32) (acc : Vec F S1x512x256 .f32) : FVec F S1x512x256 .f32 :=
  k1_pay22 (k1_pay13 q) (k1_pay15 v) g (k1_pay16 q k l) (k1_pay17 g r) acc
def hdv_A (q : Vec F S1x512x256 .bf16) (k : Vec F S1x512x256 .bf16) (g : Vec F S512x128 .f32)
    (l : Vec F S1x512x1 .f32) (acc : Vec F S1x512x128 .f32) : FVec F S1x512x128 .f32 :=
  k1_pay19 (k1_pay18 q k g l acc)

/-- Case B: a head's gradients from its blocks `q k v`, the cotangent `g`, the result `r` and the log-sum-exp `l`. -/
def hdq_B (q : Vec F S1x512x256 .bf16) (k : Vec F S1x1024x256 .bf16) (v : Vec F S1x1024x128 .bf16) (g r : Vec F S512x128 .f32)
    (l : Vec F S1x512x1 .f32) : FVec F S1x512x256 .f32 :=
  k1_pay41 (k1_pay32 k) (k1_pay33 v) g (k1_pay34 q k l) (k1_pay35 g r)
def hdk_B (q : Vec F S1x512x256 .bf16) (k : Vec F S1x1024x256 .bf16) (v : Vec F S1x1024x128 .bf16) (g r : Vec F S512x128 .f32)
    (l : Vec F S1x512x1 .f32) (acc : Vec F S1x1024x256 .f32) : FVec F S1x1024x256 .f32 :=
  k1_pay42 (k1_pay31 q) (k1_pay33 v) g (k1_pay34 q k l) (k1_pay35 g r) acc
def hdv_B (q : Vec F S1x512x256 .bf16) (k : Vec F S1x1024x256 .bf16) (g : Vec F S512x128 .f32)
    (l : Vec F S1x512x1 .f32) (acc : Vec F S1x1024x128 .f32) : FVec F S1x1024x128 .f32 :=
  k1_pay39 (k1_pay36 acc) (k1_pay37 q k l) (k1_pay38 g)

/-- Case C: a head's gradients from its blocks `q k v`, the cotangent `g`, the result `r` and the log-sum-exp `l`. -/
def hdq_C (q : Vec F S1x512x256 .bf16) (k : Vec F S1x1536x256 .bf16) (v : Vec F S1x1536x128 .bf16) (g r : Vec F S512x128 .f32)
    (l : Vec F S1x512x1 .f32) : FVec F S1x512x256 .f32 :=
  k1_pay59 (k1_pay50 k) (k1_pay51 v) g (k1_pay52 q k l) (k1_pay53 g r)
def hdk_C (q : Vec F S1x512x256 .bf16) (k : Vec F S1x1536x256 .bf16) (v : Vec F S1x1536x128 .bf16) (g r : Vec F S512x128 .f32)
    (l : Vec F S1x512x1 .f32) (acc : Vec F S1x1536x256 .f32) : FVec F S1x1536x256 .f32 :=
  k1_pay60 (k1_pay49 q) (k1_pay51 v) g (k1_pay52 q k l) (k1_pay53 g r) acc
def hdv_C (q : Vec F S1x512x256 .bf16) (k : Vec F S1x1536x256 .bf16) (g : Vec F S512x128 .f32)
    (l : Vec F S1x512x1 .f32) (acc : Vec F S1x1536x128 .f32) : FVec F S1x1536x128 .f32 :=
  k1_pay57 (k1_pay54 acc) (k1_pay55 q k l) (k1_pay56 g)

/-- Case D: a head's gradients from its blocks `q k v`, the cotangent `g`, the result `r` and the log-sum-exp `l`. -/
def hdq_D (q : Vec F S1x512x256 .bf16) (k : Vec F S1x2048x256 .bf16) (v : Vec F S1x2048x128 .bf16) (g r : Vec F S512x128 .f32)
    (l : Vec F S1x512x1 .f32) : FVec F S1x512x256 .f32 :=
  k1_pay77 (k1_pay68 k) (k1_pay69 v) g (k1_pay70 q k l) (k1_pay71 g r)
def hdk_D (q : Vec F S1x512x256 .bf16) (k : Vec F S1x2048x256 .bf16) (v : Vec F S1x2048x128 .bf16) (g r : Vec F S512x128 .f32)
    (l : Vec F S1x512x1 .f32) (acc : Vec F S1x2048x256 .f32) : FVec F S1x2048x256 .f32 :=
  k1_pay78 (k1_pay67 q) (k1_pay69 v) g (k1_pay70 q k l) (k1_pay71 g r) acc
def hdv_D (q : Vec F S1x512x256 .bf16) (k : Vec F S1x2048x256 .bf16) (g : Vec F S512x128 .f32)
    (l : Vec F S1x512x1 .f32) (acc : Vec F S1x2048x128 .f32) : FVec F S1x2048x128 .f32 :=
  k1_pay75 (k1_pay72 acc) (k1_pay73 q k l) (k1_pay74 g)

end Heads

variable (A : Args) (h : ℕ)

section CaseA
variable {q : FVec Ideal S1x512x256 .bf16} {k : FVec Ideal S1x512x256 .bf16} {v : FVec Ideal S1x512x128 .bf16}
  {g r : FVec Ideal S512x128 .f32} {l : FVec Ideal S1x512x1 .f32}
  (hq : Is3 q fun i d => A.q h (0 + i) d) (hk : Is3 k fun j d => A.k h j d) (hv : Is3 v fun j d => A.v h j d)
  (hg : Is2 g fun i d => A.ct (0 + i) (128 * h + d)) (hr : Is2 r fun i d => A.out h (0 + i) d)
  (hl : Is3 l fun i _ => A.lse h (0 + i))

include hq hk hl in
theorem prob_A : Is2 (k1_pay16 (F := Ideal) q k l) fun i j => A.pr h (0 + i) j := by
  have e : k1_pay16 (F := Ideal) q k l = exp (subf (k0_pay9 (F := Ideal) q k)
      (broadcastTo S512x512 (shapeCast S512x1 l shapeCasts_S1x512x1_S512x1) broadcasts_S512x1_S512x512)) := rfl
  rw [e]
  refine ((score_A A h hq hk).expSub (hl.dropC shapeCasts_S1x512x1_S512x1) broadcasts_S512x1_S512x512).congr ?_
  intro i j hi hj
  exact exp_lse A h (0 + i) j (by omega)

include hg hr in
theorem del_A : IsC (k1_pay17 (F := Ideal) g r) fun i => A.del h (0 + i) := by
  unfold k1_pay17
  exact (hg.mul (hr.recast shapeCasts_S512x128_S512x128)).rowSum reduces_S512x128_S512 _ _ shapeCasts_S512_S512x1

include hq hk hv hg hr hl

theorem ds_A : Is2 (k1_pay20 (F := Ideal) (k1_pay15 v) g (k1_pay16 q k l) (k1_pay17 g r)) fun i j => A.ds h (0 + i) j := by
  unfold k1_pay20 k1_pay15
  exact ((prob_A A h hq hk hl).mul (((hg.trunc bitsLt_bf16_f32).matNT (hv.drop shapeCasts_S1x512x128_S512x128)).sub
    ((del_A A h hg hr).spread broadcasts_S512x1_S512x512))).mul (Is2.const _ scale scale_named)

theorem hdq_A_is : Is3 (hdq_A (F := Ideal) q k v g r l) fun i x => A.dq h (0 + i) x := by
  unfold hdq_A k1_pay21 k1_pay14
  refine (((ds_A A h hq hk hv hg hr hl).trunc bitsLt_bf16_f32).matNN (hk.drop shapeCasts_S1x512x256_S512x256)).lift
    shapeCasts_S512x256_S1x512x256 |>.congr ?_
  intro i x hi hx
  exact sum_keys (n := 512) (by decide) (0 + i) (by omega) (fun j => A.ds h (0 + i) j * A.k h j x)
    fun j hj => by rw [ds_eq_zero A h _ j hj, zero_mul]

theorem hdk_A_is {acc : FVec Ideal S1x512x256 .f32} {f : ℕ → ℕ → ℝ} (ha : Is3 acc f) :
    Is3 (hdk_A (F := Ideal) q k v g r l acc)
      fun j x => f j x + ∑ i ∈ Finset.range 512, A.ds h (0 + i) j * A.q h (0 + i) x := by
  unfold hdk_A k1_pay22 k1_pay13
  exact ((ha.drop shapeCasts_S1x512x256_S512x256).add (((ds_A A h hq hk hv hg hr hl).trunc bitsLt_bf16_f32).matTN
    (hq.drop shapeCasts_S1x512x256_S512x256))).lift shapeCasts_S512x256_S1x512x256

omit hv hr in
theorem hdv_A_is {acc : FVec Ideal S1x512x128 .f32} {f : ℕ → ℕ → ℝ} (ha : Is3 acc f) :
    Is3 (hdv_A (F := Ideal) q k g l acc)
      fun j x => f j x + ∑ i ∈ Finset.range 512, A.pr h (0 + i) j * A.ct (0 + i) (128 * h + x) := by
  unfold hdv_A k1_pay19 k1_pay18
  exact ((ha.drop shapeCasts_S1x512x128_S512x128).add (((prob_A A h hq hk hl).trunc bitsLt_bf16_f32).matTN
    (hg.trunc bitsLt_bf16_f32))).lift shapeCasts_S512x128_S1x512x128

end CaseA

section CaseB
variable {q : FVec Ideal S1x512x256 .bf16} {k : FVec Ideal S1x1024x256 .bf16} {v : FVec Ideal S1x1024x128 .bf16}
  {g r : FVec Ideal S512x128 .f32} {l : FVec Ideal S1x512x1 .f32}
  (hq : Is3 q fun i d => A.q h (512 + i) d) (hk : Is3 k fun j d => A.k h j d) (hv : Is3 v fun j d => A.v h j d)
  (hg : Is2 g fun i d => A.ct (512 + i) (128 * h + d)) (hr : Is2 r fun i d => A.out h (512 + i) d)
  (hl : Is3 l fun i _ => A.lse h (512 + i))

include hq hk hl in
theorem prob_B : Is2 (k1_pay34 (F := Ideal) q k l) fun i j => A.pr h (512 + i) j := by
  have e : k1_pay34 (F := Ideal) q k l = exp (subf (k0_pay31 (F := Ideal) q k)
      (broadcastTo S512x1024 (shapeCast S512x1 l shapeCasts_S1x512x1_S512x1) broadcasts_S512x1_S512x1024)) := rfl
  rw [e]
  refine ((score_B A h hq hk).expSub (hl.dropC shapeCasts_S1x512x1_S512x1) broadcasts_S512x1_S512x1024).congr ?_
  intro i j hi hj
  exact exp_lse A h (512 + i) j (by omega)

include hg hr in
theorem del_B : IsC (k1_pay35 (F := Ideal) g r) fun i => A.del h (512 + i) := by
  unfold k1_pay35
  exact (hg.mul (hr.recast shapeCasts_S512x128_S512x128)).rowSum reduces_S512x128_S512 _ _ shapeCasts_S512_S512x1

include hq hk hv hg hr hl

theorem ds_B : Is2 (k1_pay40 (F := Ideal) (k1_pay33 v) g (k1_pay34 q k l) (k1_pay35 g r)) fun i j => A.ds h (512 + i) j := by
  unfold k1_pay40 k1_pay33
  exact ((prob_B A h hq hk hl).mul (((hg.trunc bitsLt_bf16_f32).matNT (hv.drop shapeCasts_S1x1024x128_S1024x128)).sub
    ((del_B A h hg hr).spread broadcasts_S512x1_S512x1024))).mul (Is2.const _ scale scale_named)

theorem hdq_B_is : Is3 (hdq_B (F := Ideal) q k v g r l) fun i x => A.dq h (512 + i) x := by
  unfold hdq_B k1_pay41 k1_pay32
  refine (((ds_B A h hq hk hv hg hr hl).trunc bitsLt_bf16_f32).matNN (hk.drop shapeCasts_S1x1024x256_S1024x256)).lift
    shapeCasts_S512x256_S1x512x256 |>.congr ?_
  intro i x hi hx
  exact sum_keys (n := 1024) (by decide) (512 + i) (by omega) (fun j => A.ds h (512 + i) j * A.k h j x)
    fun j hj => by rw [ds_eq_zero A h _ j hj, zero_mul]

theorem hdk_B_is {acc : FVec Ideal S1x1024x256 .f32} {f : ℕ → ℕ → ℝ} (ha : Is3 acc f) :
    Is3 (hdk_B (F := Ideal) q k v g r l acc)
      fun j x => f j x + ∑ i ∈ Finset.range 512, A.ds h (512 + i) j * A.q h (512 + i) x := by
  unfold hdk_B k1_pay42 k1_pay31
  exact ((ha.drop shapeCasts_S1x1024x256_S1024x256).add (((ds_B A h hq hk hv hg hr hl).trunc bitsLt_bf16_f32).matTN
    (hq.drop shapeCasts_S1x512x256_S512x256))).lift shapeCasts_S1024x256_S1x1024x256

omit hv hr in
theorem hdv_B_is {acc : FVec Ideal S1x1024x128 .f32} {f : ℕ → ℕ → ℝ} (ha : Is3 acc f) :
    Is3 (hdv_B (F := Ideal) q k g l acc)
      fun j x => f j x + ∑ i ∈ Finset.range 512, A.pr h (512 + i) j * A.ct (512 + i) (128 * h + x) := by
  unfold hdv_B k1_pay39 k1_pay36 k1_pay37 k1_pay38
  exact ((ha.drop shapeCasts_S1x1024x128_S1024x128).add (((prob_B A h hq hk hl).trunc bitsLt_bf16_f32).matTN
    (hg.trunc bitsLt_bf16_f32))).lift shapeCasts_S1024x128_S1x1024x128

end CaseB

section CaseC
variable {q : FVec Ideal S1x512x256 .bf16} {k : FVec Ideal S1x1536x256 .bf16} {v : FVec Ideal S1x1536x128 .bf16}
  {g r : FVec Ideal S512x128 .f32} {l : FVec Ideal S1x512x1 .f32}
  (hq : Is3 q fun i d => A.q h (1024 + i) d) (hk : Is3 k fun j d => A.k h j d) (hv : Is3 v fun j d => A.v h j d)
  (hg : Is2 g fun i d => A.ct (1024 + i) (128 * h + d)) (hr : Is2 r fun i d => A.out h (1024 + i) d)
  (hl : Is3 l fun i _ => A.lse h (1024 + i))

include hq hk hl in
theorem prob_C : Is2 (k1_pay52 (F := Ideal) q k l) fun i j => A.pr h (1024 + i) j := by
  have e : k1_pay52 (F := Ideal) q k l = exp (subf (k0_pay57 (F := Ideal) q k)
      (broadcastTo S512x1536 (shapeCast S512x1 l shapeCasts_S1x512x1_S512x1) broadcasts_S512x1_S512x1536)) := rfl
  rw [e]
  refine ((score_C A h hq hk).expSub (hl.dropC shapeCasts_S1x512x1_S512x1) broadcasts_S512x1_S512x1536).congr ?_
  intro i j hi hj
  exact exp_lse A h (1024 + i) j (by omega)

include hg hr in
theorem del_C : IsC (k1_pay53 (F := Ideal) g r) fun i => A.del h (1024 + i) := by
  unfold k1_pay53
  exact (hg.mul (hr.recast shapeCasts_S512x128_S512x128)).rowSum reduces_S512x128_S512 _ _ shapeCasts_S512_S512x1

include hq hk hv hg hr hl

theorem ds_C : Is2 (k1_pay58 (F := Ideal) (k1_pay51 v) g (k1_pay52 q k l) (k1_pay53 g r)) fun i j => A.ds h (1024 + i) j := by
  unfold k1_pay58 k1_pay51
  exact ((prob_C A h hq hk hl).mul (((hg.trunc bitsLt_bf16_f32).matNT (hv.drop shapeCasts_S1x1536x128_S1536x128)).sub
    ((del_C A h hg hr).spread broadcasts_S512x1_S512x1536))).mul (Is2.const _ scale scale_named)

theorem hdq_C_is : Is3 (hdq_C (F := Ideal) q k v g r l) fun i x => A.dq h (1024 + i) x := by
  unfold hdq_C k1_pay59 k1_pay50
  refine (((ds_C A h hq hk hv hg hr hl).trunc bitsLt_bf16_f32).matNN (hk.drop shapeCasts_S1x1536x256_S1536x256)).lift
    shapeCasts_S512x256_S1x512x256 |>.congr ?_
  intro i x hi hx
  exact sum_keys (n := 1536) (by decide) (1024 + i) (by omega) (fun j => A.ds h (1024 + i) j * A.k h j x)
    fun j hj => by rw [ds_eq_zero A h _ j hj, zero_mul]

theorem hdk_C_is {acc : FVec Ideal S1x1536x256 .f32} {f : ℕ → ℕ → ℝ} (ha : Is3 acc f) :
    Is3 (hdk_C (F := Ideal) q k v g r l acc)
      fun j x => f j x + ∑ i ∈ Finset.range 512, A.ds h (1024 + i) j * A.q h (1024 + i) x := by
  unfold hdk_C k1_pay60 k1_pay49
  exact ((ha.drop shapeCasts_S1x1536x256_S1536x256).add (((ds_C A h hq hk hv hg hr hl).trunc bitsLt_bf16_f32).matTN
    (hq.drop shapeCasts_S1x512x256_S512x256))).lift shapeCasts_S1536x256_S1x1536x256

omit hv hr in
theorem hdv_C_is {acc : FVec Ideal S1x1536x128 .f32} {f : ℕ → ℕ → ℝ} (ha : Is3 acc f) :
    Is3 (hdv_C (F := Ideal) q k g l acc)
      fun j x => f j x + ∑ i ∈ Finset.range 512, A.pr h (1024 + i) j * A.ct (1024 + i) (128 * h + x) := by
  unfold hdv_C k1_pay57 k1_pay54 k1_pay55 k1_pay56
  exact ((ha.drop shapeCasts_S1x1536x128_S1536x128).add (((prob_C A h hq hk hl).trunc bitsLt_bf16_f32).matTN
    (hg.trunc bitsLt_bf16_f32))).lift shapeCasts_S1536x128_S1x1536x128

end CaseC

section CaseD
variable {q : FVec Ideal S1x512x256 .bf16} {k : FVec Ideal S1x2048x256 .bf16} {v : FVec Ideal S1x2048x128 .bf16}
  {g r : FVec Ideal S512x128 .f32} {l : FVec Ideal S1x512x1 .f32}
  (hq : Is3 q fun i d => A.q h (1536 + i) d) (hk : Is3 k fun j d => A.k h j d) (hv : Is3 v fun j d => A.v h j d)
  (hg : Is2 g fun i d => A.ct (1536 + i) (128 * h + d)) (hr : Is2 r fun i d => A.out h (1536 + i) d)
  (hl : Is3 l fun i _ => A.lse h (1536 + i))

include hq hk hl in
theorem prob_D : Is2 (k1_pay70 (F := Ideal) q k l) fun i j => A.pr h (1536 + i) j := by
  have e : k1_pay70 (F := Ideal) q k l = exp (subf (k0_pay83 (F := Ideal) q k)
      (broadcastTo S512x2048 (shapeCast S512x1 l shapeCasts_S1x512x1_S512x1) broadcasts_S512x1_S512x2048)) := rfl
  rw [e]
  refine ((score_D A h hq hk).expSub (hl.dropC shapeCasts_S1x512x1_S512x1) broadcasts_S512x1_S512x2048).congr ?_
  intro i j hi hj
  exact exp_lse A h (1536 + i) j (by omega)

include hg hr in
theorem del_D : IsC (k1_pay71 (F := Ideal) g r) fun i => A.del h (1536 + i) := by
  unfold k1_pay71
  exact (hg.mul (hr.recast shapeCasts_S512x128_S512x128)).rowSum reduces_S512x128_S512 _ _ shapeCasts_S512_S512x1

include hq hk hv hg hr hl

theorem ds_D : Is2 (k1_pay76 (F := Ideal) (k1_pay69 v) g (k1_pay70 q k l) (k1_pay71 g r)) fun i j => A.ds h (1536 + i) j := by
  unfold k1_pay76 k1_pay69
  exact ((prob_D A h hq hk hl).mul (((hg.trunc bitsLt_bf16_f32).matNT (hv.drop shapeCasts_S1x2048x128_S2048x128)).sub
    ((del_D A h hg hr).spread broadcasts_S512x1_S512x2048))).mul (Is2.const _ scale scale_named)

theorem hdq_D_is : Is3 (hdq_D (F := Ideal) q k v g r l) fun i x => A.dq h (1536 + i) x := by
  unfold hdq_D k1_pay77 k1_pay68
  refine (((ds_D A h hq hk hv hg hr hl).trunc bitsLt_bf16_f32).matNN (hk.drop shapeCasts_S1x2048x256_S2048x256)).lift
    shapeCasts_S512x256_S1x512x256 |>.congr ?_
  intro i x hi hx
  exact sum_keys (n := 2048) (by decide) (1536 + i) (by omega) (fun j => A.ds h (1536 + i) j * A.k h j x)
    fun j hj => by rw [ds_eq_zero A h _ j hj, zero_mul]

theorem hdk_D_is {acc : FVec Ideal S1x2048x256 .f32} {f : ℕ → ℕ → ℝ} (ha : Is3 acc f) :
    Is3 (hdk_D (F := Ideal) q k v g r l acc)
      fun j x => f j x + ∑ i ∈ Finset.range 512, A.ds h (1536 + i) j * A.q h (1536 + i) x := by
  unfold hdk_D k1_pay78 k1_pay67
  exact ((ha.drop shapeCasts_S1x2048x256_S2048x256).add (((ds_D A h hq hk hv hg hr hl).trunc bitsLt_bf16_f32).matTN
    (hq.drop shapeCasts_S1x512x256_S512x256))).lift shapeCasts_S2048x256_S1x2048x256

omit hv hr in
theorem hdv_D_is {acc : FVec Ideal S1x2048x128 .f32} {f : ℕ → ℕ → ℝ} (ha : Is3 acc f) :
    Is3 (hdv_D (F := Ideal) q k g l acc)
      fun j x => f j x + ∑ i ∈ Finset.range 512, A.pr h (1536 + i) j * A.ct (1536 + i) (128 * h + x) := by
  unfold hdv_D k1_pay75 k1_pay72 k1_pay73 k1_pay74
  exact ((ha.drop shapeCasts_S1x2048x128_S2048x128).add (((prob_D A h hq hk hl).trunc bitsLt_bf16_f32).matTN
    (hg.trunc bitsLt_bf16_f32))).lift shapeCasts_S2048x128_S1x2048x128

end CaseD

end Cert.KernelIdeal.Attn
-- ==== Proof.BwdRead.lean ====
/- What the backward body leaves in its staging buffers (`Cert.KernelIdeal`), read as the gradients of each head of the point: the
   query gradient of the block's rows, and the block's share of the key and value gradients added to what the buffers held. -/
module

public import proofs.«01_k».proof.Proof.BwdDat
public import proofs.«01_k».proof.Proof.BwdTile
public import proofs.«01_k».proof.Proof.Slabs

@[expose] public section

set_option maxRecDepth 16384

noncomputable section

namespace Cert.KernelIdeal.Attn

open Cert.KernelIdeal.Gen
open Idealize.ShloMosaic Idealize.ShloMosaic.TcCoe
open Idealize.ShloMosaic.ValueIdx
open AttnMath

variable (A : Args) (g : ℕ)

theorem zero_k (y : S2x2048x256.Idx) : k1_pay1 (F := Ideal) y = (((0 : ℝ)) : EReal) := zeroBits.trans EReal.coe_zero.symm
theorem zero_v (y : S2x2048x128.Idx) : k1_pay2 (F := Ideal) y = (((0 : ℝ)) : EReal) := zeroBits.trans EReal.coe_zero.symm

section CaseA

variable (c : Dev nD) (i : grid1.Coords) {arg2 : Memref sig .tc .vmem S2x512x256 .bf16} (h2 : arg2.IsWhole)
  {arg3 : Memref sig .tc .vmem S2x2048x256 .bf16} (h3 : arg3.IsWhole) {arg4 : Memref sig .tc .vmem S2x2048x128 .bf16} (h4 : arg4.IsWhole)
  {arg5 : Memref sig .tc .vmem S512x256 .f32} (h5 : arg5.IsWhole) {arg6 : Memref sig .tc .vmem S2x512x1 .f32} (h6 : arg6.IsWhole)
  {arg7 : Memref sig .tc .vmem S512x256 .f32} (h7 : arg7.IsWhole) {arg8 : Memref sig .tc .vmem S2x512x256 .f32} (h8 : arg8.IsWhole)
  {arg9 : Memref sig .tc .vmem S2x2048x256 .f32} (h9 : arg9.IsWhole) {arg10 : Memref sig .tc .vmem S2x2048x128 .f32} (h10 : arg10.IsWhole)
  (hc : conds1_A i) (x0 : Vec Ideal S2x512x256 .bf16) (x1 : Vec Ideal S2x2048x256 .bf16) (x2 : Vec Ideal S2x2048x128 .bf16)
  (x3 : Vec Ideal S512x256 .f32) (x4 : Vec Ideal S2x512x1 .f32) (x5 : Vec Ideal S512x256 .f32)
  (hq : IsB (φ := .bf16) x0 fun e i d => A.q (g + e) (0 + i) d) (hk : IsB (φ := .bf16) x1 fun e j d => A.k (g + e) j d)
  (hv : IsB (φ := .bf16) x2 fun e j d => A.v (g + e) j d) (hr : Is2 (φ := .f32) x3 fun i x => A.out (g + x / 128) (0 + i) (x % 128))
  (hl : IsB (φ := .f32) x4 fun e i _ => A.lse (g + e) (0 + i)) (hg : Is2 (φ := .f32) x5 fun i x => A.ct (0 + i) (128 * g + x))

include hq hk hv hr hl hg in
/-- The query gradient's rows of a point of case A. -/
theorem read1_A_6 :
    IsB (c := 2) (a := 512) (b := 256) (φ := .f32) (out1_A_6 (F := Ideal) c i h2 h3 h4 h5 h6 h7 h8 h9 h10 hc x0 x1 x2 x3 x4 x5)
      fun e i x => A.dq (g + e) (0 + i) x :=
  (two_slabs (N := 512) (n := 512) arg8.view _
    (hdq_A (F := Ideal) (ld_b h2 x0 0 512 inb_S2x512x256_S1x512x256_0_0_0) (ld_b h3 x1 0 512 inb_S2x2048x256_S1x512x256_0_0_0) (ld_b h4 x2 0 512 inb_S2x2048x128_S1x512x128_0_0_0) (lc_f h7 x5 0 inb_S512x256_S512x128_0_0) (lc_f h5 x3 0 inb_S512x256_S512x128_0_0) (ld_f h6 x4 0 512 inb_S2x512x1_S1x512x1_0_0_0))
    (hdq_A (F := Ideal) (ld_b h2 x0 1 512 inb_S2x512x256_S1x512x256_1_0_0) (ld_b h3 x1 1 512 inb_S2x2048x256_S1x512x256_1_0_0) (ld_b h4 x2 1 512 inb_S2x2048x128_S1x512x128_1_0_0) (lc_f h7 x5 128 inb_S512x256_S512x128_0_128) (lc_f h5 x3 128 inb_S512x256_S512x128_0_128) (ld_f h6 x4 1 512 inb_S2x512x1_S1x512x1_1_0_0))
    inb_S2x512x256_S1x512x256_0_0_0 inb_S2x512x256_S1x512x256_1_0_0 [] (fun e i x => A.dq (g + e) (0 + i) x) (fun _ _ _ => 0)
    (hdq_A_is A (g + 0) (slab_b h2 hq (0 : Fin 2) (by decide) _) (slab_b h3 hk (0 : Fin 2) (by decide) _) (slab_b h4 hv (0 : Fin 2) (by decide) _) ((cols_f h7 hg 0 (by decide) _).congr fun i d hi hd => by rw [show 128 * g + (0 + d) = 128 * (g + 0) + d by omega]) ((cols_f h5 hr 0 (by decide) _).congr fun i d hi hd => by rw [show (0 + d) / 128 = 0 by omega, show (0 + d) % 128 = d by omega]) (slab_f h6 hl (0 : Fin 2) (by decide) _))
    (hdq_A_is A (g + 1) (slab_b h2 hq (1 : Fin 2) (by decide) _) (slab_b h3 hk (1 : Fin 2) (by decide) _) (slab_b h4 hv (1 : Fin 2) (by decide) _) ((cols_f h7 hg 128 (by decide) _).congr fun i d hi hd => by rw [show 128 * g + (128 + d) = 128 * (g + 1) + d by omega]) ((cols_f h5 hr 128 (by decide) _).congr fun i d hi hd => by rw [show (128 + d) / 128 = 1 by omega, show (128 + d) % 128 = d by omega]) (slab_f h6 hl (1 : Fin 2) (by decide) _))
    (fun e i j hi => absurd i.isLt (by omega))).congr fun e i j _ hi _ => if_pos hi

include hq hk hv hr hl hg in
/-- The key gradient after a point of case A. -/
theorem read1_A_7 :
    IsB (c := 2) (a := 2048) (b := 256) (φ := .f32) (out1_A_7 (F := Ideal) c i h2 h3 h4 h5 h6 h7 h8 h9 h10 hc x0 x1 x2 x3 x4 x5)
      fun e j x => if j < 512 then 0 + ∑ i ∈ Finset.range 512, A.ds (g + e) (0 + i) j * A.q (g + e) (0 + i) x else 0 :=
  two_slabs (N := 2048) (n := 512) arg9.view _
    (hdk_A (F := Ideal) (ld_b h2 x0 0 512 inb_S2x512x256_S1x512x256_0_0_0) (ld_b h3 x1 0 512 inb_S2x2048x256_S1x512x256_0_0_0) (ld_b h4 x2 0 512 inb_S2x2048x128_S1x512x128_0_0_0) (lc_f h7 x5 0 inb_S512x256_S512x128_0_0) (lc_f h5 x3 0 inb_S512x256_S512x128_0_0) (ld_f h6 x4 0 512 inb_S2x512x1_S1x512x1_0_0_0) (lk arg9.view [(⟨Rect.unit (s := ⟨3, ![2, 2048, 256]⟩) ![0, 0, 0] ![2, 2048, 256] (by decide), k1_pay1 (F := Ideal)⟩ : View.Piece (Elt Ideal) ⟨3, ![2, 2048, 256]⟩ .f32)] 0 512 inb_S2x2048x256_S1x512x256_0_0_0))
    (hdk_A (F := Ideal) (ld_b h2 x0 1 512 inb_S2x512x256_S1x512x256_1_0_0) (ld_b h3 x1 1 512 inb_S2x2048x256_S1x512x256_1_0_0) (ld_b h4 x2 1 512 inb_S2x2048x128_S1x512x128_1_0_0) (lc_f h7 x5 128 inb_S512x256_S512x128_0_128) (lc_f h5 x3 128 inb_S512x256_S512x128_0_128) (ld_f h6 x4 1 512 inb_S2x512x1_S1x512x1_1_0_0) (lk arg9.view ((⟨Rect.unit (s := ⟨3, ![2, 2048, 256]⟩) ![0, 0, 0] ![1, 512, 256] inb_S2x2048x256_S1x512x256_0_0_0, (hdk_A (F := Ideal) (ld_b h2 x0 0 512 inb_S2x512x256_S1x512x256_0_0_0) (ld_b h3 x1 0 512 inb_S2x2048x256_S1x512x256_0_0_0) (ld_b h4 x2 0 512 inb_S2x2048x128_S1x512x128_0_0_0) (lc_f h7 x5 0 inb_S512x256_S512x128_0_0) (lc_f h5 x3 0 inb_S512x256_S512x128_0_0) (ld_f h6 x4 0 512 inb_S2x512x1_S1x512x1_0_0_0) (lk arg9.view [(⟨Rect.unit (s := ⟨3, ![2, 2048, 256]⟩) ![0, 0, 0] ![2, 2048, 256] (by decide), k1_pay1 (F := Ideal)⟩ : View.Piece (Elt Ideal) ⟨3, ![2, 2048, 256]⟩ .f32)] 0 512 inb_S2x2048x256_S1x512x256_0_0_0))⟩ : View.Piece (Elt Ideal) ⟨3, ![2, 2048, 256]⟩ .f32) :: [(⟨Rect.unit (s := ⟨3, ![2, 2048, 256]⟩) ![0, 0, 0] ![2, 2048, 256] (by decide), k1_pay1 (F := Ideal)⟩ : View.Piece (Elt Ideal) ⟨3, ![2, 2048, 256]⟩ .f32)]) 1 512 inb_S2x2048x256_S1x512x256_1_0_0))
    inb_S2x2048x256_S1x512x256_0_0_0 inb_S2x2048x256_S1x512x256_1_0_0 [(⟨Rect.unit (s := ⟨3, ![2, 2048, 256]⟩) ![0, 0, 0] ![2, 2048, 256] (by decide), k1_pay1 (F := Ideal)⟩ : View.Piece (Elt Ideal) ⟨3, ![2, 2048, 256]⟩ .f32)]
    (fun e j x => 0 + ∑ i ∈ Finset.range 512, A.ds (g + e) (0 + i) j * A.q (g + e) (0 + i) x) (fun _ _ _ => 0)
    (hdk_A_is A (g + 0) (slab_b h2 hq (0 : Fin 2) (by decide) _) (slab_b h3 hk (0 : Fin 2) (by decide) _) (slab_b h4 hv (0 : Fin 2) (by decide) _) ((cols_f h7 hg 0 (by decide) _).congr fun i d hi hd => by rw [show 128 * g + (0 + d) = 128 * (g + 0) + d by omega]) ((cols_f h5 hr 0 (by decide) _).congr fun i d hi hd => by rw [show (0 + d) / 128 = 0 by omega, show (0 + d) % 128 = d by omega]) (slab_f h6 hl (0 : Fin 2) (by decide) _) (lk_is arg9.view _ (0 : Fin 2) (by decide) _ (f := fun _ _ => 0) fun i j => (fill_hit arg9.view _ _ _ _ _ i j).trans (zero_k _)))
    (hdk_A_is A (g + 1) (slab_b h2 hq (1 : Fin 2) (by decide) _) (slab_b h3 hk (1 : Fin 2) (by decide) _) (slab_b h4 hv (1 : Fin 2) (by decide) _) ((cols_f h7 hg 128 (by decide) _).congr fun i d hi hd => by rw [show 128 * g + (128 + d) = 128 * (g + 1) + d by omega]) ((cols_f h5 hr 128 (by decide) _).congr fun i d hi hd => by rw [show (128 + d) / 128 = 1 by omega, show (128 + d) % 128 = d by omega]) (slab_f h6 hl (1 : Fin 2) (by decide) _) (lk_is arg9.view _ (1 : Fin 2) (by decide) _ (f := fun _ _ => 0) fun i j => (slab_miss arg9.view _ (0 : Fin 2) inb_S2x2048x256_S1x512x256_0_0_0 _ _ (1 : Fin 2) i j (Or.inl (by decide))).trans ((fill_hit arg9.view _ _ _ _ _ i j).trans (zero_k _))))
    (fun e i j _ => (fill_hit arg9.view _ _ _ _ e i j).trans (zero_k _))

include hq hk hl hg in
/-- The value gradient after a point of case A. -/
theorem read1_A_8 :
    IsB (c := 2) (a := 2048) (b := 128) (φ := .f32) (out1_A_8 (F := Ideal) c i h2 h3 h4 h5 h6 h7 h8 h9 h10 hc x0 x1 x2 x3 x4 x5)
      fun e j x => if j < 512 then 0 + ∑ i ∈ Finset.range 512, A.pr (g + e) (0 + i) j * A.ct (0 + i) (128 * (g + e) + x) else 0 :=
  two_slabs (N := 2048) (n := 512) arg10.view _
    (hdv_A (F := Ideal) (ld_b h2 x0 0 512 inb_S2x512x256_S1x512x256_0_0_0) (ld_b h3 x1 0 512 inb_S2x2048x256_S1x512x256_0_0_0) (lc_f h7 x5 0 inb_S512x256_S512x128_0_0) (ld_f h6 x4 0 512 inb_S2x512x1_S1x512x1_0_0_0) (lk arg10.view [(⟨Rect.unit (s := ⟨3, ![2, 2048, 128]⟩) ![0, 0, 0] ![2, 2048, 128] (by decide), k1_pay2 (F := Ideal)⟩ : View.Piece (Elt Ideal) ⟨3, ![2, 2048, 128]⟩ .f32)] 0 512 inb_S2x2048x128_S1x512x128_0_0_0))
    (hdv_A (F := Ideal) (ld_b h2 x0 1 512 inb_S2x512x256_S1x512x256_1_0_0) (ld_b h3 x1 1 512 inb_S2x2048x256_S1x512x256_1_0_0) (lc_f h7 x5 128 inb_S512x256_S512x128_0_128) (ld_f h6 x4 1 512 inb_S2x512x1_S1x512x1_1_0_0) (lk arg10.view ((⟨Rect.unit (s := ⟨3, ![2, 2048, 128]⟩) ![0, 0, 0] ![1, 512, 128] inb_S2x2048x128_S1x512x128_0_0_0, (hdv_A (F := Ideal) (ld_b h2 x0 0 512 inb_S2x512x256_S1x512x256_0_0_0) (ld_b h3 x1 0 512 inb_S2x2048x256_S1x512x256_0_0_0) (lc_f h7 x5 0 inb_S512x256_S512x128_0_0) (ld_f h6 x4 0 512 inb_S2x512x1_S1x512x1_0_0_0) (lk arg10.view [(⟨Rect.unit (s := ⟨3, ![2, 2048, 128]⟩) ![0, 0, 0] ![2, 2048, 128] (by decide), k1_pay2 (F := Ideal)⟩ : View.Piece (Elt Ideal) ⟨3, ![2, 2048, 128]⟩ .f32)] 0 512 inb_S2x2048x128_S1x512x128_0_0_0))⟩ : View.Piece (Elt Ideal) ⟨3, ![2, 2048, 128]⟩ .f32) :: [(⟨Rect.unit (s := ⟨3, ![2, 2048, 128]⟩) ![0, 0, 0] ![2, 2048, 128] (by decide), k1_pay2 (F := Ideal)⟩ : View.Piece (Elt Ideal) ⟨3, ![2, 2048, 128]⟩ .f32)]) 1 512 inb_S2x2048x128_S1x512x128_1_0_0))
    inb_S2x2048x128_S1x512x128_0_0_0 inb_S2x2048x128_S1x512x128_1_0_0 [(⟨Rect.unit (s := ⟨3, ![2, 2048, 128]⟩) ![0, 0, 0] ![2, 2048, 128] (by decide), k1_pay2 (F := Ideal)⟩ : View.Piece (Elt Ideal) ⟨3, ![2, 2048, 128]⟩ .f32)]
    (fun e j x => 0 + ∑ i ∈ Finset.range 512, A.pr (g + e) (0 + i) j * A.ct (0 + i) (128 * (g + e) + x)) (fun _ _ _ => 0)
    (hdv_A_is A (g + 0) (slab_b h2 hq (0 : Fin 2) (by decide) _) (slab_b h3 hk (0 : Fin 2) (by decide) _) ((cols_f h7 hg 0 (by decide) _).congr fun i d hi hd => by rw [show 128 * g + (0 + d) = 128 * (g + 0) + d by omega]) (slab_f h6 hl (0 : Fin 2) (by decide) _) (lk_is arg10.view _ (0 : Fin 2) (by decide) _ (f := fun _ _ => 0) fun i j => (fill_hit arg10.view _ _ _ _ _ i j).trans (zero_v _)))
    (hdv_A_is A (g + 1) (slab_b h2 hq (1 : Fin 2) (by decide) _) (slab_b h3 hk (1 : Fin 2) (by decide) _) ((cols_f h7 hg 128 (by decide) _).congr fun i d hi hd => by rw [show 128 * g + (128 + d) = 128 * (g + 1) + d by omega]) (slab_f h6 hl (1 : Fin 2) (by decide) _) (lk_is arg10.view _ (1 : Fin 2) (by decide) _ (f := fun _ _ => 0) fun i j => (slab_miss arg10.view _ (0 : Fin 2) inb_S2x2048x128_S1x512x128_0_0_0 _ _ (1 : Fin 2) i j (Or.inl (by decide))).trans ((fill_hit arg10.view _ _ _ _ _ i j).trans (zero_v _))))
    (fun e i j _ => (fill_hit arg10.view _ _ _ _ e i j).trans (zero_v _))

end CaseA

section CaseB

variable (c : Dev nD) (i : grid1.Coords) {arg2 : Memref sig .tc .vmem S2x512x256 .bf16} (h2 : arg2.IsWhole)
  {arg3 : Memref sig .tc .vmem S2x2048x256 .bf16} (h3 : arg3.IsWhole) {arg4 : Memref sig .tc .vmem S2x2048x128 .bf16} (h4 : arg4.IsWhole)
  {arg5 : Memref sig .tc .vmem S512x256 .f32} (h5 : arg5.IsWhole) {arg6 : Memref sig .tc .vmem S2x512x1 .f32} (h6 : arg6.IsWhole)
  {arg7 : Memref sig .tc .vmem S512x256 .f32} (h7 : arg7.IsWhole) {arg8 : Memref sig .tc .vmem S2x512x256 .f32} (h8 : arg8.IsWhole)
  {arg9 : Memref sig .tc .vmem S2x2048x256 .f32} (h9 : arg9.IsWhole) {arg10 : Memref sig .tc .vmem S2x2048x128 .f32} (h10 : arg10.IsWhole)
  (hc : conds1_B i) (x0 : Vec Ideal S2x512x256 .bf16) (x1 : Vec Ideal S2x2048x256 .bf16) (x2 : Vec Ideal S2x2048x128 .bf16)
  (x3 : Vec Ideal S512x256 .f32) (x4 : Vec Ideal S2x512x1 .f32) (x5 : Vec Ideal S512x256 .f32) (xo7 : Vec Ideal S2x2048x256 .f32) (xo8 : Vec Ideal S2x2048x128 .f32)
  (hq : IsB (φ := .bf16) x0 fun e i d => A.q (g + e) (512 + i) d) (hk : IsB (φ := .bf16) x1 fun e j d => A.k (g + e) j d)
  (hv : IsB (φ := .bf16) x2 fun e j d => A.v (g + e) j d) (hr : Is2 (φ := .f32) x3 fun i x => A.out (g + x / 128) (512 + i) (x % 128))
  (hl : IsB (φ := .f32) x4 fun e i _ => A.lse (g + e) (512 + i)) (hg : Is2 (φ := .f32) x5 fun i x => A.ct (512 + i) (128 * g + x))

include hq hk hv hr hl hg in
/-- The query gradient's rows of a point of case B. -/
theorem read1_B_6 :
    IsB (c := 2) (a := 512) (b := 256) (φ := .f32) (out1_B_6 (F := Ideal) c i h2 h3 h4 h5 h6 h7 h8 h9 h10 hc x0 x1 x2 x3 x4 x5 xo7 xo8)
      fun e i x => A.dq (g + e) (512 + i) x :=
  (two_slabs (N := 512) (n := 512) arg8.view _
    (hdq_B (F := Ideal) (ld_b h2 x0 0 512 inb_S2x512x256_S1x512x256_0_0_0) (ld_b h3 x1 0 1024 inb_S2x2048x256_S1x1024x256_0_0_0) (ld_b h4 x2 0 1024 inb_S2x2048x128_S1x1024x128_0_0_0) (lc_f h7 x5 0 inb_S512x256_S512x128_0_0) (lc_f h5 x3 0 inb_S512x256_S512x128_0_0) (ld_f h6 x4 0 512 inb_S2x512x1_S1x512x1_0_0_0))
    (hdq_B (F := Ideal) (ld_b h2 x0 1 512 inb_S2x512x256_S1x512x256_1_0_0) (ld_b h3 x1 1 1024 inb_S2x2048x256_S1x1024x256_1_0_0) (ld_b h4 x2 1 1024 inb_S2x2048x128_S1x1024x128_1_0_0) (lc_f h7 x5 128 inb_S512x256_S512x128_0_128) (lc_f h5 x3 128 inb_S512x256_S512x128_0_128) (ld_f h6 x4 1 512 inb_S2x512x1_S1x512x1_1_0_0))
    inb_S2x512x256_S1x512x256_0_0_0 inb_S2x512x256_S1x512x256_1_0_0 [] (fun e i x => A.dq (g + e) (512 + i) x) (fun _ _ _ => 0)
    (hdq_B_is A (g + 0) (slab_b h2 hq (0 : Fin 2) (by decide) _) (slab_b h3 hk (0 : Fin 2) (by decide) _) (slab_b h4 hv (0 : Fin 2) (by decide) _) ((cols_f h7 hg 0 (by decide) _).congr fun i d hi hd => by rw [show 128 * g + (0 + d) = 128 * (g + 0) + d by omega]) ((cols_f h5 hr 0 (by decide) _).congr fun i d hi hd => by rw [show (0 + d) / 128 = 0 by omega, show (0 + d) % 128 = d by omega]) (slab_f h6 hl (0 : Fin 2) (by decide) _))
    (hdq_B_is A (g + 1) (slab_b h2 hq (1 : Fin 2) (by decide) _) (slab_b h3 hk (1 : Fin 2) (by decide) _) (slab_b h4 hv (1 : Fin 2) (by decide) _) ((cols_f h7 hg 128 (by decide) _).congr fun i d hi hd => by rw [show 128 * g + (128 + d) = 128 * (g + 1) + d by omega]) ((cols_f h5 hr 128 (by decide) _).congr fun i d hi hd => by rw [show (128 + d) / 128 = 1 by omega, show (128 + d) % 128 = d by omega]) (slab_f h6 hl (1 : Fin 2) (by decide) _))
    (fun e i j hi => absurd i.isLt (by omega))).congr fun e i j _ hi _ => if_pos hi

include hq hk hv hr hl hg in
/-- The key gradient after a point of case B. -/
theorem read1_B_7 {f : ℕ → ℕ → ℕ → ℝ} (hf : IsB (φ := .f32) xo7 f) :
    IsB (c := 2) (a := 2048) (b := 256) (φ := .f32) (out1_B_7 (F := Ideal) c i h2 h3 h4 h5 h6 h7 h8 h9 h10 hc x0 x1 x2 x3 x4 x5 xo7 xo8)
      fun e j x => if j < 1024 then f e j x + ∑ i ∈ Finset.range 512, A.ds (g + e) (512 + i) j * A.q (g + e) (512 + i) x else f e j x :=
  two_slabs (N := 2048) (n := 1024) arg9.view _
    (hdk_B (F := Ideal) (ld_b h2 x0 0 512 inb_S2x512x256_S1x512x256_0_0_0) (ld_b h3 x1 0 1024 inb_S2x2048x256_S1x1024x256_0_0_0) (ld_b h4 x2 0 1024 inb_S2x2048x128_S1x1024x128_0_0_0) (lc_f h7 x5 0 inb_S512x256_S512x128_0_0) (lc_f h5 x3 0 inb_S512x256_S512x128_0_0) (ld_f h6 x4 0 512 inb_S2x512x1_S1x512x1_0_0_0) (ld_f h9 xo7 0 1024 inb_S2x2048x256_S1x1024x256_0_0_0))
    (hdk_B (F := Ideal) (ld_b h2 x0 1 512 inb_S2x512x256_S1x512x256_1_0_0) (ld_b h3 x1 1 1024 inb_S2x2048x256_S1x1024x256_1_0_0) (ld_b h4 x2 1 1024 inb_S2x2048x128_S1x1024x128_1_0_0) (lc_f h7 x5 128 inb_S512x256_S512x128_0_128) (lc_f h5 x3 128 inb_S512x256_S512x128_0_128) (ld_f h6 x4 1 512 inb_S2x512x1_S1x512x1_1_0_0) (ld_f h9 xo7 1 1024 inb_S2x2048x256_S1x1024x256_1_0_0))
    inb_S2x2048x256_S1x1024x256_0_0_0 inb_S2x2048x256_S1x1024x256_1_0_0 []
    (fun e j x => f e j x + ∑ i ∈ Finset.range 512, A.ds (g + e) (512 + i) j * A.q (g + e) (512 + i) x) f
    (hdk_B_is A (g + 0) (slab_b h2 hq (0 : Fin 2) (by decide) _) (slab_b h3 hk (0 : Fin 2) (by decide) _) (slab_b h4 hv (0 : Fin 2) (by decide) _) ((cols_f h7 hg 0 (by decide) _).congr fun i d hi hd => by rw [show 128 * g + (0 + d) = 128 * (g + 0) + d by omega]) ((cols_f h5 hr 0 (by decide) _).congr fun i d hi hd => by rw [show (0 + d) / 128 = 0 by omega, show (0 + d) % 128 = d by omega]) (slab_f h6 hl (0 : Fin 2) (by decide) _) (slab_f h9 hf (0 : Fin 2) (by decide) _))
    (hdk_B_is A (g + 1) (slab_b h2 hq (1 : Fin 2) (by decide) _) (slab_b h3 hk (1 : Fin 2) (by decide) _) (slab_b h4 hv (1 : Fin 2) (by decide) _) ((cols_f h7 hg 128 (by decide) _).congr fun i d hi hd => by rw [show 128 * g + (128 + d) = 128 * (g + 1) + d by omega]) ((cols_f h5 hr 128 (by decide) _).congr fun i d hi hd => by rw [show (128 + d) / 128 = 1 by omega, show (128 + d) % 128 = d by omega]) (slab_f h6 hl (1 : Fin 2) (by decide) _) (slab_f h9 hf (1 : Fin 2) (by decide) _))
    (fun e i j _ => (congrFun (h9.read_unread (Val := Elt Ideal) xo7) _).trans (hf e i j))

include hq hk hl hg in
/-- The value gradient after a point of case B. -/
theorem read1_B_8 {f : ℕ → ℕ → ℕ → ℝ} (hf : IsB (φ := .f32) xo8 f) :
    IsB (c := 2) (a := 2048) (b := 128) (φ := .f32) (out1_B_8 (F := Ideal) c i h2 h3 h4 h5 h6 h7 h8 h9 h10 hc x0 x1 x2 x3 x4 x5 xo7 xo8)
      fun e j x => if j < 1024 then f e j x + ∑ i ∈ Finset.range 512, A.pr (g + e) (512 + i) j * A.ct (512 + i) (128 * (g + e) + x) else f e j x :=
  two_slabs (N := 2048) (n := 1024) arg10.view _
    (hdv_B (F := Ideal) (ld_b h2 x0 0 512 inb_S2x512x256_S1x512x256_0_0_0) (ld_b h3 x1 0 1024 inb_S2x2048x256_S1x1024x256_0_0_0) (lc_f h7 x5 0 inb_S512x256_S512x128_0_0) (ld_f h6 x4 0 512 inb_S2x512x1_S1x512x1_0_0_0) (ld_f h10 xo8 0 1024 inb_S2x2048x128_S1x1024x128_0_0_0))
    (hdv_B (F := Ideal) (ld_b h2 x0 1 512 inb_S2x512x256_S1x512x256_1_0_0) (ld_b h3 x1 1 1024 inb_S2x2048x256_S1x1024x256_1_0_0) (lc_f h7 x5 128 inb_S512x256_S512x128_0_128) (ld_f h6 x4 1 512 inb_S2x512x1_S1x512x1_1_0_0) (ld_f h10 xo8 1 1024 inb_S2x2048x128_S1x1024x128_1_0_0))
    inb_S2x2048x128_S1x1024x128_0_0_0 inb_S2x2048x128_S1x1024x128_1_0_0 []
    (fun e j x => f e j x + ∑ i ∈ Finset.range 512, A.pr (g + e) (512 + i) j * A.ct (512 + i) (128 * (g + e) + x)) f
    (hdv_B_is A (g + 0) (slab_b h2 hq (0 : Fin 2) (by decide) _) (slab_b h3 hk (0 : Fin 2) (by decide) _) ((cols_f h7 hg 0 (by decide) _).congr fun i d hi hd => by rw [show 128 * g + (0 + d) = 128 * (g + 0) + d by omega]) (slab_f h6 hl (0 : Fin 2) (by decide) _) (slab_f h10 hf (0 : Fin 2) (by decide) _))
    (hdv_B_is A (g + 1) (slab_b h2 hq (1 : Fin 2) (by decide) _) (slab_b h3 hk (1 : Fin 2) (by decide) _) ((cols_f h7 hg 128 (by decide) _).congr fun i d hi hd => by rw [show 128 * g + (128 + d) = 128 * (g + 1) + d by omega]) (slab_f h6 hl (1 : Fin 2) (by decide) _) (slab_f h10 hf (1 : Fin 2) (by decide) _))
    (fun e i j _ => (congrFun (h10.read_unread (Val := Elt Ideal) xo8) _).trans (hf e i j))

end CaseB

section CaseC

variable (c : Dev nD) (i : grid1.Coords) {arg2 : Memref sig .tc .vmem S2x512x256 .bf16} (h2 : arg2.IsWhole)
  {arg3 : Memref sig .tc .vmem S2x2048x256 .bf16} (h3 : arg3.IsWhole) {arg4 : Memref sig .tc .vmem S2x2048x128 .bf16} (h4 : arg4.IsWhole)
  {arg5 : Memref sig .tc .vmem S512x256 .f32} (h5 : arg5.IsWhole) {arg6 : Memref sig .tc .vmem S2x512x1 .f32} (h6 : arg6.IsWhole)
  {arg7 : Memref sig .tc .vmem S512x256 .f32} (h7 : arg7.IsWhole) {arg8 : Memref sig .tc .vmem S2x512x256 .f32} (h8 : arg8.IsWhole)
  {arg9 : Memref sig .tc .vmem S2x2048x256 .f32} (h9 : arg9.IsWhole) {arg10 : Memref sig .tc .vmem S2x2048x128 .f32} (h10 : arg10.IsWhole)
  (hc : conds1_C i) (x0 : Vec Ideal S2x512x256 .bf16) (x1 : Vec Ideal S2x2048x256 .bf16) (x2 : Vec Ideal S2x2048x128 .bf16)
  (x3 : Vec Ideal S512x256 .f32) (x4 : Vec Ideal S2x512x1 .f32) (x5 : Vec Ideal S512x256 .f32) (xo7 : Vec Ideal S2x2048x256 .f32) (xo8 : Vec Ideal S2x2048x128 .f32)
  (hq : IsB (φ := .bf16) x0 fun e i d => A.q (g + e) (1024 + i) d) (hk : IsB (φ := .bf16) x1 fun e j d => A.k (g + e) j d)
  (hv : IsB (φ := .bf16) x2 fun e j d => A.v (g + e) j d) (hr : Is2 (φ := .f32) x3 fun i x => A.out (g + x / 128) (1024 + i) (x % 128))
  (hl : IsB (φ := .f32) x4 fun e i _ => A.lse (g + e) (1024 + i)) (hg : Is2 (φ := .f32) x5 fun i x => A.ct (1024 + i) (128 * g + x))

include hq hk hv hr hl hg in
/-- The query gradient's rows of a point of case C. -/
theorem read1_C_6 :
    IsB (c := 2) (a := 512) (b := 256) (φ := .f32) (out1_C_6 (F := Ideal) c i h2 h3 h4 h5 h6 h7 h8 h9 h10 hc x0 x1 x2 x3 x4 x5 xo7 xo8)
      fun e i x => A.dq (g + e) (1024 + i) x :=
  (two_slabs (N := 512) (n := 512) arg8.view _
    (hdq_C (F := Ideal) (ld_b h2 x0 0 512 inb_S2x512x256_S1x512x256_0_0_0) (ld_b h3 x1 0 1536 inb_S2x2048x256_S1x1536x256_0_0_0) (ld_b h4 x2 0 1536 inb_S2x2048x128_S1x1536x128_0_0_0) (lc_f h7 x5 0 inb_S512x256_S512x128_0_0) (lc_f h5 x3 0 inb_S512x256_S512x128_0_0) (ld_f h6 x4 0 512 inb_S2x512x1_S1x512x1_0_0_0))
    (hdq_C (F := Ideal) (ld_b h2 x0 1 512 inb_S2x512x256_S1x512x256_1_0_0) (ld_b h3 x1 1 1536 inb_S2x2048x256_S1x1536x256_1_0_0) (ld_b h4 x2 1 1536 inb_S2x2048x128_S1x1536x128_1_0_0) (lc_f h7 x5 128 inb_S512x256_S512x128_0_128) (lc_f h5 x3 128 inb_S512x256_S512x128_0_128) (ld_f h6 x4 1 512 inb_S2x512x1_S1x512x1_1_0_0))
    inb_S2x512x256_S1x512x256_0_0_0 inb_S2x512x256_S1x512x256_1_0_0 [] (fun e i x => A.dq (g + e) (1024 + i) x) (fun _ _ _ => 0)
    (hdq_C_is A (g + 0) (slab_b h2 hq (0 : Fin 2) (by decide) _) (slab_b h3 hk (0 : Fin 2) (by decide) _) (slab_b h4 hv (0 : Fin 2) (by decide) _) ((cols_f h7 hg 0 (by decide) _).congr fun i d hi hd => by rw [show 128 * g + (0 + d) = 128 * (g + 0) + d by omega]) ((cols_f h5 hr 0 (by decide) _).congr fun i d hi hd => by rw [show (0 + d) / 128 = 0 by omega, show (0 + d) % 128 = d by omega]) (slab_f h6 hl (0 : Fin 2) (by decide) _))
    (hdq_C_is A (g + 1) (slab_b h2 hq (1 : Fin 2) (by decide) _) (slab_b h3 hk (1 : Fin 2) (by decide) _) (slab_b h4 hv (1 : Fin 2) (by decide) _) ((cols_f h7 hg 128 (by decide) _).congr fun i d hi hd => by rw [show 128 * g + (128 + d) = 128 * (g + 1) + d by omega]) ((cols_f h5 hr 128 (by decide) _).congr fun i d hi hd => by rw [show (128 + d) / 128 = 1 by omega, show (128 + d) % 128 = d by omega]) (slab_f h6 hl (1 : Fin 2) (by decide) _))
    (fun e i j hi => absurd i.isLt (by omega))).congr fun e i j _ hi _ => if_pos hi

include hq hk hv hr hl hg in
/-- The key gradient after a point of case C. -/
theorem read1_C_7 {f : ℕ → ℕ → ℕ → ℝ} (hf : IsB (φ := .f32) xo7 f) :
    IsB (c := 2) (a := 2048) (b := 256) (φ := .f32) (out1_C_7 (F := Ideal) c i h2 h3 h4 h5 h6 h7 h8 h9 h10 hc x0 x1 x2 x3 x4 x5 xo7 xo8)
      fun e j x => if j < 1536 then f e j x + ∑ i ∈ Finset.range 512, A.ds (g + e) (1024 + i) j * A.q (g + e) (1024 + i) x else f e j x :=
  two_slabs (N := 2048) (n := 1536) arg9.view _
    (hdk_C (F := Ideal) (ld_b h2 x0 0 512 inb_S2x512x256_S1x512x256_0_0_0) (ld_b h3 x1 0 1536 inb_S2x2048x256_S1x1536x256_0_0_0) (ld_b h4 x2 0 1536 inb_S2x2048x128_S1x1536x128_0_0_0) (lc_f h7 x5 0 inb_S512x256_S512x128_0_0) (lc_f h5 x3 0 inb_S512x256_S512x128_0_0) (ld_f h6 x4 0 512 inb_S2x512x1_S1x512x1_0_0_0) (ld_f h9 xo7 0 1536 inb_S2x2048x256_S1x1536x256_0_0_0))
    (hdk_C (F := Ideal) (ld_b h2 x0 1 512 inb_S2x512x256_S1x512x256_1_0_0) (ld_b h3 x1 1 1536 inb_S2x2048x256_S1x1536x256_1_0_0) (ld_b h4 x2 1 1536 inb_S2x2048x128_S1x1536x128_1_0_0) (lc_f h7 x5 128 inb_S512x256_S512x128_0_128) (lc_f h5 x3 128 inb_S512x256_S512x128_0_128) (ld_f h6 x4 1 512 inb_S2x512x1_S1x512x1_1_0_0) (ld_f h9 xo7 1 1536 inb_S2x2048x256_S1x1536x256_1_0_0))
    inb_S2x2048x256_S1x1536x256_0_0_0 inb_S2x2048x256_S1x1536x256_1_0_0 []
    (fun e j x => f e j x + ∑ i ∈ Finset.range 512, A.ds (g + e) (1024 + i) j * A.q (g + e) (1024 + i) x) f
    (hdk_C_is A (g + 0) (slab_b h2 hq (0 : Fin 2) (by decide) _) (slab_b h3 hk (0 : Fin 2) (by decide) _) (slab_b h4 hv (0 : Fin 2) (by decide) _) ((cols_f h7 hg 0 (by decide) _).congr fun i d hi hd => by rw [show 128 * g + (0 + d) = 128 * (g + 0) + d by omega]) ((cols_f h5 hr 0 (by decide) _).congr fun i d hi hd => by rw [show (0 + d) / 128 = 0 by omega, show (0 + d) % 128 = d by omega]) (slab_f h6 hl (0 : Fin 2) (by decide) _) (slab_f h9 hf (0 : Fin 2) (by decide) _))
    (hdk_C_is A (g + 1) (slab_b h2 hq (1 : Fin 2) (by decide) _) (slab_b h3 hk (1 : Fin 2) (by decide) _) (slab_b h4 hv (1 : Fin 2) (by decide) _) ((cols_f h7 hg 128 (by decide) _).congr fun i d hi hd => by rw [show 128 * g + (128 + d) = 128 * (g + 1) + d by omega]) ((cols_f h5 hr 128 (by decide) _).congr fun i d hi hd => by rw [show (128 + d) / 128 = 1 by omega, show (128 + d) % 128 = d by omega]) (slab_f h6 hl (1 : Fin 2) (by decide) _) (slab_f h9 hf (1 : Fin 2) (by decide) _))
    (fun e i j _ => (congrFun (h9.read_unread (Val := Elt Ideal) xo7) _).trans (hf e i j))

include hq hk hl hg in
/-- The value gradient after a point of case C. -/
theorem read1_C_8 {f : ℕ → ℕ → ℕ → ℝ} (hf : IsB (φ := .f32) xo8 f) :
    IsB (c := 2) (a := 2048) (b := 128) (φ := .f32) (out1_C_8 (F := Ideal) c i h2 h3 h4 h5 h6 h7 h8 h9 h10 hc x0 x1 x2 x3 x4 x5 xo7 xo8)
      fun e j x => if j < 1536 then f e j x + ∑ i ∈ Finset.range 512, A.pr (g + e) (1024 + i) j * A.ct (1024 + i) (128 * (g + e) + x) else f e j x :=
  two_slabs (N := 2048) (n := 1536) arg10.view _
    (hdv_C (F := Ideal) (ld_b h2 x0 0 512 inb_S2x512x256_S1x512x256_0_0_0) (ld_b h3 x1 0 1536 inb_S2x2048x256_S1x1536x256_0_0_0) (lc_f h7 x5 0 inb_S512x256_S512x128_0_0) (ld_f h6 x4 0 512 inb_S2x512x1_S1x512x1_0_0_0) (ld_f h10 xo8 0 1536 inb_S2x2048x128_S1x1536x128_0_0_0))
    (hdv_C (F := Ideal) (ld_b h2 x0 1 512 inb_S2x512x256_S1x512x256_1_0_0) (ld_b h3 x1 1 1536 inb_S2x2048x256_S1x1536x256_1_0_0) (lc_f h7 x5 128 inb_S512x256_S512x128_0_128) (ld_f h6 x4 1 512 inb_S2x512x1_S1x512x1_1_0_0) (ld_f h10 xo8 1 1536 inb_S2x2048x128_S1x1536x128_1_0_0))
    inb_S2x2048x128_S1x1536x128_0_0_0 inb_S2x2048x128_S1x1536x128_1_0_0 []
    (fun e j x => f e j x + ∑ i ∈ Finset.range 512, A.pr (g + e) (1024 + i) j * A.ct (1024 + i) (128 * (g + e) + x)) f
    (hdv_C_is A (g + 0) (slab_b h2 hq (0 : Fin 2) (by decide) _) (slab_b h3 hk (0 : Fin 2) (by decide) _) ((cols_f h7 hg 0 (by decide) _).congr fun i d hi hd => by rw [show 128 * g + (0 + d) = 128 * (g + 0) + d by omega]) (slab_f h6 hl (0 : Fin 2) (by decide) _) (slab_f h10 hf (0 : Fin 2) (by decide) _))
    (hdv_C_is A (g + 1) (slab_b h2 hq (1 : Fin 2) (by decide) _) (slab_b h3 hk (1 : Fin 2) (by decide) _) ((cols_f h7 hg 128 (by decide) _).congr fun i d hi hd => by rw [show 128 * g + (128 + d) = 128 * (g + 1) + d by omega]) (slab_f h6 hl (1 : Fin 2) (by decide) _) (slab_f h10 hf (1 : Fin 2) (by decide) _))
    (fun e i j _ => (congrFun (h10.read_unread (Val := Elt Ideal) xo8) _).trans (hf e i j))

end CaseC

section CaseD

variable (c : Dev nD) (i : grid1.Coords) {arg2 : Memref sig .tc .vmem S2x512x256 .bf16} (h2 : arg2.IsWhole)
  {arg3 : Memref sig .tc .vmem S2x2048x256 .bf16} (h3 : arg3.IsWhole) {arg4 : Memref sig .tc .vmem S2x2048x128 .bf16} (h4 : arg4.IsWhole)
  {arg5 : Memref sig .tc .vmem S512x256 .f32} (h5 : arg5.IsWhole) {arg6 : Memref sig .tc .vmem S2x512x1 .f32} (h6 : arg6.IsWhole)
  {arg7 : Memref sig .tc .vmem S512x256 .f32} (h7 : arg7.IsWhole) {arg8 : Memref sig .tc .vmem S2x512x256 .f32} (h8 : arg8.IsWhole)
  {arg9 : Memref sig .tc .vmem S2x2048x256 .f32} (h9 : arg9.IsWhole) {arg10 : Memref sig .tc .vmem S2x2048x128 .f32} (h10 : arg10.IsWhole)
  (hc : conds1_D i) (x0 : Vec Ideal S2x512x256 .bf16) (x1 : Vec Ideal S2x2048x256 .bf16) (x2 : Vec Ideal S2x2048x128 .bf16)
  (x3 : Vec Ideal S512x256 .f32) (x4 : Vec Ideal S2x512x1 .f32) (x5 : Vec Ideal S512x256 .f32) (xo7 : Vec Ideal S2x2048x256 .f32) (xo8 : Vec Ideal S2x2048x128 .f32)
  (hq : IsB (φ := .bf16) x0 fun e i d => A.q (g + e) (1536 + i) d) (hk : IsB (φ := .bf16) x1 fun e j d => A.k (g + e) j d)
  (hv : IsB (φ := .bf16) x2 fun e j d => A.v (g + e) j d) (hr : Is2 (φ := .f32) x3 fun i x => A.out (g + x / 128) (1536 + i) (x % 128))
  (hl : IsB (φ := .f32) x4 fun e i _ => A.lse (g + e) (1536 + i)) (hg : Is2 (φ := .f32) x5 fun i x => A.ct (1536 + i) (128 * g + x))

include hq hk hv hr hl hg in
/-- The query gradient's rows of a point of case D. -/
theorem read1_D_6 :
    IsB (c := 2) (a := 512) (b := 256) (φ := .f32) (out1_D_6 (F := Ideal) c i h2 h3 h4 h5 h6 h7 h8 h9 h10 hc x0 x1 x2 x3 x4 x5 xo7 xo8)
      fun e i x => A.dq (g + e) (1536 + i) x :=
  (two_slabs (N := 512) (n := 512) arg8.view _
    (hdq_D (F := Ideal) (ld_b h2 x0 0 512 inb_S2x512x256_S1x512x256_0_0_0) (ld_b h3 x1 0 2048 inb_S2x2048x256_S1x2048x256_0_0_0) (ld_b h4 x2 0 2048 inb_S2x2048x128_S1x2048x128_0_0_0) (lc_f h7 x5 0 inb_S512x256_S512x128_0_0) (lc_f h5 x3 0 inb_S512x256_S512x128_0_0) (ld_f h6 x4 0 512 inb_S2x512x1_S1x512x1_0_0_0))
    (hdq_D (F := Ideal) (ld_b h2 x0 1 512 inb_S2x512x256_S1x512x256_1_0_0) (ld_b h3 x1 1 2048 inb_S2x2048x256_S1x2048x256_1_0_0) (ld_b h4 x2 1 2048 inb_S2x2048x128_S1x2048x128_1_0_0) (lc_f h7 x5 128 inb_S512x256_S512x128_0_128) (lc_f h5 x3 128 inb_S512x256_S512x128_0_128) (ld_f h6 x4 1 512 inb_S2x512x1_S1x512x1_1_0_0))
    inb_S2x512x256_S1x512x256_0_0_0 inb_S2x512x256_S1x512x256_1_0_0 [] (fun e i x => A.dq (g + e) (1536 + i) x) (fun _ _ _ => 0)
    (hdq_D_is A (g + 0) (slab_b h2 hq (0 : Fin 2) (by decide) _) (slab_b h3 hk (0 : Fin 2) (by decide) _) (slab_b h4 hv (0 : Fin 2) (by decide) _) ((cols_f h7 hg 0 (by decide) _).congr fun i d hi hd => by rw [show 128 * g + (0 + d) = 128 * (g + 0) + d by omega]) ((cols_f h5 hr 0 (by decide) _).congr fun i d hi hd => by rw [show (0 + d) / 128 = 0 by omega, show (0 + d) % 128 = d by omega]) (slab_f h6 hl (0 : Fin 2) (by decide) _))
    (hdq_D_is A (g + 1) (slab_b h2 hq (1 : Fin 2) (by decide) _) (slab_b h3 hk (1 : Fin 2) (by decide) _) (slab_b h4 hv (1 : Fin 2) (by decide) _) ((cols_f h7 hg 128 (by decide) _).congr fun i d hi hd => by rw [show 128 * g + (128 + d) = 128 * (g + 1) + d by omega]) ((cols_f h5 hr 128 (by decide) _).congr fun i d hi hd => by rw [show (128 + d) / 128 = 1 by omega, show (128 + d) % 128 = d by omega]) (slab_f h6 hl (1 : Fin 2) (by decide) _))
    (fun e i j hi => absurd i.isLt (by omega))).congr fun e i j _ hi _ => if_pos hi

include hq hk hv hr hl hg in
/-- The key gradient after a point of case D. -/
theorem read1_D_7 {f : ℕ → ℕ → ℕ → ℝ} (hf : IsB (φ := .f32) xo7 f) :
    IsB (c := 2) (a := 2048) (b := 256) (φ := .f32) (out1_D_7 (F := Ideal) c i h2 h3 h4 h5 h6 h7 h8 h9 h10 hc x0 x1 x2 x3 x4 x5 xo7 xo8)
      fun e j x => if j < 2048 then f e j x + ∑ i ∈ Finset.range 512, A.ds (g + e) (1536 + i) j * A.q (g + e) (1536 + i) x else f e j x :=
  two_slabs (N := 2048) (n := 2048) arg9.view _
    (hdk_D (F := Ideal) (ld_b h2 x0 0 512 inb_S2x512x256_S1x512x256_0_0_0) (ld_b h3 x1 0 2048 inb_S2x2048x256_S1x2048x256_0_0_0) (ld_b h4 x2 0 2048 inb_S2x2048x128_S1x2048x128_0_0_0) (lc_f h7 x5 0 inb_S512x256_S512x128_0_0) (lc_f h5 x3 0 inb_S512x256_S512x128_0_0) (ld_f h6 x4 0 512 inb_S2x512x1_S1x512x1_0_0_0) (ld_f h9 xo7 0 2048 inb_S2x2048x256_S1x2048x256_0_0_0))
    (hdk_D (F := Ideal) (ld_b h2 x0 1 512 inb_S2x512x256_S1x512x256_1_0_0) (ld_b h3 x1 1 2048 inb_S2x2048x256_S1x2048x256_1_0_0) (ld_b h4 x2 1 2048 inb_S2x2048x128_S1x2048x128_1_0_0) (lc_f h7 x5 128 inb_S512x256_S512x128_0_128) (lc_f h5 x3 128 inb_S512x256_S512x128_0_128) (ld_f h6 x4 1 512 inb_S2x512x1_S1x512x1_1_0_0) (ld_f h9 xo7 1 2048 inb_S2x2048x256_S1x2048x256_1_0_0))
    inb_S2x2048x256_S1x2048x256_0_0_0 inb_S2x2048x256_S1x2048x256_1_0_0 []
    (fun e j x => f e j x + ∑ i ∈ Finset.range 512, A.ds (g + e) (1536 + i) j * A.q (g + e) (1536 + i) x) f
    (hdk_D_is A (g + 0) (slab_b h2 hq (0 : Fin 2) (by decide) _) (slab_b h3 hk (0 : Fin 2) (by decide) _) (slab_b h4 hv (0 : Fin 2) (by decide) _) ((cols_f h7 hg 0 (by decide) _).congr fun i d hi hd => by rw [show 128 * g + (0 + d) = 128 * (g + 0) + d by omega]) ((cols_f h5 hr 0 (by decide) _).congr fun i d hi hd => by rw [show (0 + d) / 128 = 0 by omega, show (0 + d) % 128 = d by omega]) (slab_f h6 hl (0 : Fin 2) (by decide) _) (slab_f h9 hf (0 : Fin 2) (by decide) _))
    (hdk_D_is A (g + 1) (slab_b h2 hq (1 : Fin 2) (by decide) _) (slab_b h3 hk (1 : Fin 2) (by decide) _) (slab_b h4 hv (1 : Fin 2) (by decide) _) ((cols_f h7 hg 128 (by decide) _).congr fun i d hi hd => by rw [show 128 * g + (128 + d) = 128 * (g + 1) + d by omega]) ((cols_f h5 hr 128 (by decide) _).congr fun i d hi hd => by rw [show (128 + d) / 128 = 1 by omega, show (128 + d) % 128 = d by omega]) (slab_f h6 hl (1 : Fin 2) (by decide) _) (slab_f h9 hf (1 : Fin 2) (by decide) _))
    (fun e i j _ => (congrFun (h9.read_unread (Val := Elt Ideal) xo7) _).trans (hf e i j))

include hq hk hl hg in
/-- The value gradient after a point of case D. -/
theorem read1_D_8 {f : ℕ → ℕ → ℕ → ℝ} (hf : IsB (φ := .f32) xo8 f) :
    IsB (c := 2) (a := 2048) (b := 128) (φ := .f32) (out1_D_8 (F := Ideal) c i h2 h3 h4 h5 h6 h7 h8 h9 h10 hc x0 x1 x2 x3 x4 x5 xo7 xo8)
      fun e j x => if j < 2048 then f e j x + ∑ i ∈ Finset.range 512, A.pr (g + e) (1536 + i) j * A.ct (1536 + i) (128 * (g + e) + x) else f e j x :=
  two_slabs (N := 2048) (n := 2048) arg10.view _
    (hdv_D (F := Ideal) (ld_b h2 x0 0 512 inb_S2x512x256_S1x512x256_0_0_0) (ld_b h3 x1 0 2048 inb_S2x2048x256_S1x2048x256_0_0_0) (lc_f h7 x5 0 inb_S512x256_S512x128_0_0) (ld_f h6 x4 0 512 inb_S2x512x1_S1x512x1_0_0_0) (ld_f h10 xo8 0 2048 inb_S2x2048x128_S1x2048x128_0_0_0))
    (hdv_D (F := Ideal) (ld_b h2 x0 1 512 inb_S2x512x256_S1x512x256_1_0_0) (ld_b h3 x1 1 2048 inb_S2x2048x256_S1x2048x256_1_0_0) (lc_f h7 x5 128 inb_S512x256_S512x128_0_128) (ld_f h6 x4 1 512 inb_S2x512x1_S1x512x1_1_0_0) (ld_f h10 xo8 1 2048 inb_S2x2048x128_S1x2048x128_1_0_0))
    inb_S2x2048x128_S1x2048x128_0_0_0 inb_S2x2048x128_S1x2048x128_1_0_0 []
    (fun e j x => f e j x + ∑ i ∈ Finset.range 512, A.pr (g + e) (1536 + i) j * A.ct (1536 + i) (128 * (g + e) + x)) f
    (hdv_D_is A (g + 0) (slab_b h2 hq (0 : Fin 2) (by decide) _) (slab_b h3 hk (0 : Fin 2) (by decide) _) ((cols_f h7 hg 0 (by decide) _).congr fun i d hi hd => by rw [show 128 * g + (0 + d) = 128 * (g + 0) + d by omega]) (slab_f h6 hl (0 : Fin 2) (by decide) _) (slab_f h10 hf (0 : Fin 2) (by decide) _))
    (hdv_D_is A (g + 1) (slab_b h2 hq (1 : Fin 2) (by decide) _) (slab_b h3 hk (1 : Fin 2) (by decide) _) ((cols_f h7 hg 128 (by decide) _).congr fun i d hi hd => by rw [show 128 * g + (128 + d) = 128 * (g + 1) + d by omega]) (slab_f h6 hl (1 : Fin 2) (by decide) _) (slab_f h10 hf (1 : Fin 2) (by decide) _))
    (fun e i j _ => (congrFun (h10.read_unread (Val := Elt Ideal) xo8) _).trans (hf e i j))

end CaseD

end Cert.KernelIdeal.Attn
-- ==== Proof.BwdArr.lean ====
/- The backward attention over its grid (`Cert.KernelIdeal`): its three results' arrays, element by element. -/
module

public import proofs.«01_k».proof.Proof.FwdArr
public import proofs.«01_k».proof.Proof.BwdRead

@[expose] public section

set_option maxRecDepth 16384

noncomputable section

namespace Cert.KernelIdeal.Attn

open Cert.KernelIdeal.Gen
open Idealize.ShloMosaic Idealize.ShloMosaic.TcCoe
open Idealize.ShloMosaic.ValueIdx
open Idealize.ShloMosaic.Pipeline (Dat)
open AttnMath

variable (V : (c : Dev nD) → (b : Ref sig .tc) → Buf (Elt Ideal) ((c : Thread nD τ).loc b)) (c : Dev nD) (A : Args)

/-- A query block's share of a key gradient row, added where the block sees the row. -/
theorem dk_step (b h j x : ℕ) :
    (if j < b + 512 then A.dkUpTo b h j x + ∑ i ∈ Finset.range 512, A.ds h (b + i) j * A.q h (b + i) x else A.dkUpTo b h j x)
      = A.dkUpTo (b + 512) h j x := by
  have e : A.dkUpTo (b + 512) h j x = A.dkUpTo b h j x + ∑ i ∈ Finset.range 512, A.ds h (b + i) j * A.q h (b + i) x :=
    Finset.sum_range_add _ b 512
  split
  · exact e.symm
  · rw [e, Finset.sum_eq_zero fun i hi => ?_, add_zero]
    rw [ds_eq_zero A h _ j (by have := Finset.mem_range.mp hi; omega), zero_mul]

/-- The same of a value gradient row. -/
theorem dv_step (b h j x : ℕ) :
    (if j < b + 512 then A.dvUpTo b h j x + ∑ i ∈ Finset.range 512, A.pr h (b + i) j * A.ct (b + i) (128 * h + x) else A.dvUpTo b h j x)
      = A.dvUpTo (b + 512) h j x := by
  have e : A.dvUpTo (b + 512) h j x = A.dvUpTo b h j x + ∑ i ∈ Finset.range 512, A.pr h (b + i) j * A.ct (b + i) (128 * h + x) :=
    Finset.sum_range_add _ b 512
  split
  · exact e.symm
  · rw [e, Finset.sum_eq_zero fun i hi => ?_, add_zero]
    rw [pr_eq_zero A h _ j (by have := Finset.mem_range.mp hi; omega), zero_mul]

/-! Each input's block at a point, of what its array holds. -/

theorem block1_0 (f : ℕ → ℕ → ℕ → ℝ) (h : at3 (N := 2048) (D := 256) (φ := .bf16) (V c main_arg0) f) (t : Fin cfg1.N) :
    IsB (c := 2) (a := 512) (b := 256) (φ := .bf16) (iblk1 V c 0 t) fun e i d => f (2 * (t.val / 4) + e) (512 * (t.val % 4) + i) d :=
  fun e i d => by
    refine (h (((cfg1.win 0).blk t).view.emb (ValueIdx.ix3 e i d))).trans ?_
    rw [place1_0_0, place1_0_1, place1_0_2]
    rfl

theorem block1_1 (f : ℕ → ℕ → ℕ → ℝ) (h : at3 (N := 2048) (D := 256) (φ := .bf16) (V c main_arg1) f) (t : Fin cfg1.N) :
    IsB (c := 2) (a := 2048) (b := 256) (φ := .bf16) (iblk1 V c 1 t) fun e i d => f (2 * (t.val / 4) + e) (i) d :=
  fun e i d => by
    refine (h (((cfg1.win 1).blk t).view.emb (ValueIdx.ix3 e i d))).trans ?_
    rw [place1_1_0, place1_1_1, place1_1_2]
    rfl

theorem block1_2 (f : ℕ → ℕ → ℕ → ℝ) (h : at3 (N := 2048) (D := 128) (φ := .bf16) (V c main_arg2) f) (t : Fin cfg1.N) :
    IsB (c := 2) (a := 2048) (b := 128) (φ := .bf16) (iblk1 V c 2 t) fun e i d => f (2 * (t.val / 4) + e) (i) d :=
  fun e i d => by
    refine (h (((cfg1.win 2).blk t).view.emb (ValueIdx.ix3 e i d))).trans ?_
    rw [place1_2_0, place1_2_1, place1_2_2]
    rfl

theorem block1_3 (f : ℕ → ℕ → ℝ) (h : at2 (N := 2048) (D := 1536) (φ := .f32) (V c main_v0_0) f) (t : Fin cfg1.N) :
    Is2 (a := 512) (b := 256) (φ := .f32) (iblk1 V c 3 t) fun i d => f (512 * (t.val % 4) + i) (256 * (t.val / 4) + d) :=
  fun i d => by
    refine (h (((cfg1.win 3).blk t).view.emb (ValueIdx.ix2 i d))).trans ?_
    rw [place1_3_0, place1_3_1]
    rfl

theorem block1_4 (f : ℕ → ℕ → ℕ → ℝ) (h : at3 (N := 2048) (D := 1) (φ := .f32) (V c main_v0_1) f) (t : Fin cfg1.N) :
    IsB (c := 2) (a := 512) (b := 1) (φ := .f32) (iblk1 V c 4 t) fun e i d => f (2 * (t.val / 4) + e) (512 * (t.val % 4) + i) d :=
  fun e i d => by
    refine (h (((cfg1.win 4).blk t).view.emb (ValueIdx.ix3 e i d))).trans ?_
    rw [place1_4_0, place1_4_1, place1_4_2]
    rfl

theorem block1_5 (f : ℕ → ℕ → ℝ) (h : at2 (N := 2048) (D := 1536) (φ := .f32) (V c main_arg3) f) (t : Fin cfg1.N) :
    Is2 (a := 512) (b := 256) (φ := .f32) (iblk1 V c 5 t) fun i d => f (512 * (t.val % 4) + i) (256 * (t.val / 4) + d) :=
  fun i d => by
    refine (h (((cfg1.win 5).blk t).view.emb (ValueIdx.ix2 i d))).trans ?_
    rw [place1_5_0, place1_5_1]
    rfl

section Results
variable (hq : at3 (N := 2048) (D := 256) (φ := .bf16) (V c main_arg0) A.q) (hk : at3 (N := 2048) (D := 256) (φ := .bf16) (V c main_arg1) A.k)
  (hv : at3 (N := 2048) (D := 128) (φ := .bf16) (V c main_arg2) A.v) (hg : at2 (N := 2048) (D := 1536) (φ := .f32) (V c main_arg3) A.ct)
  (ho : at2 (N := 2048) (D := 1536) (φ := .f32) (V c main_v0_0) fun r x => A.out (x / 128) r (x % 128))
  (hl : at3 (N := 2048) (D := 1) (φ := .f32) (V c main_v0_1) fun e r _ => A.lse e r)
include hq hk hv hg ho hl

/-- The query gradient's rows after a point. -/
theorem dq_point (t : Fin cfg1.N) :
    IsB (c := 2) (a := 512) (b := 256) (φ := .f32) (outs1 V c t.val t.isLt).1
      fun e i x => A.dq (2 * (t.val / 4) + e) (512 * (t.val % 4) + i) x := by
  have h4 : t.val % 4 = 0 ∨ t.val % 4 = 1 ∨ t.val % 4 = 2 ∨ t.val % 4 = 3 := by omega
  rcases h4 with h | h | h | h
  · rw [outs1_A V c t h]
    exact (read1_A_6 A (2 * (t.val / 4)) c (grid1.coords t) (hs1_0 t) (hs1_1 t) (hs1_2 t) (hs1_3 t) (hs1_4 t) (hs1_5 t) (hs1_6 t) (hs1_7 t) (hs1_8 t) (case1_A t h)
      (iblk1 V c 0 t) (iblk1 V c 1 t) (iblk1 V c 2 t) (iblk1 V c 3 t) (iblk1 V c 4 t) (iblk1 V c 5 t)
      ((block1_0 V c A.q hq t).congr fun _ _ _ _ _ _ => by rw [h]) (block1_1 V c A.k hk t) (block1_2 V c A.v hv t)
      ((block1_3 V c (fun r x => A.out (x / 128) r (x % 128)) ho t).congr fun i x hi hx => by rw [h, show (256 * (t.val / 4) + x) / 128 = 2 * (t.val / 4) + x / 128 by omega, show (256 * (t.val / 4) + x) % 128 = x % 128 by omega])
      ((block1_4 V c (fun e r _ => A.lse e r) hl t).congr fun _ _ _ _ _ _ => by rw [h])
      ((block1_5 V c A.ct hg t).congr fun i x _ _ => by rw [h, show 256 * (t.val / 4) + x = 128 * (2 * (t.val / 4)) + x by omega])).congr fun _ _ _ _ _ _ => by rw [h]
  · rw [outs1_B V c t h]
    exact (read1_B_6 A (2 * (t.val / 4)) c (grid1.coords t) (hs1_0 t) (hs1_1 t) (hs1_2 t) (hs1_3 t) (hs1_4 t) (hs1_5 t) (hs1_6 t) (hs1_7 t) (hs1_8 t) (case1_B t h)
      (iblk1 V c 0 t) (iblk1 V c 1 t) (iblk1 V c 2 t) (iblk1 V c 3 t) (iblk1 V c 4 t) (iblk1 V c 5 t) _ _
      ((block1_0 V c A.q hq t).congr fun _ _ _ _ _ _ => by rw [h]) (block1_1 V c A.k hk t) (block1_2 V c A.v hv t)
      ((block1_3 V c (fun r x => A.out (x / 128) r (x % 128)) ho t).congr fun i x hi hx => by rw [h, show (256 * (t.val / 4) + x) / 128 = 2 * (t.val / 4) + x / 128 by omega, show (256 * (t.val / 4) + x) % 128 = x % 128 by omega])
      ((block1_4 V c (fun e r _ => A.lse e r) hl t).congr fun _ _ _ _ _ _ => by rw [h])
      ((block1_5 V c A.ct hg t).congr fun i x _ _ => by rw [h, show 256 * (t.val / 4) + x = 128 * (2 * (t.val / 4)) + x by omega])).congr fun _ _ _ _ _ _ => by rw [h]
  · rw [outs1_C V c t h]
    exact (read1_C_6 A (2 * (t.val / 4)) c (grid1.coords t) (hs1_0 t) (hs1_1 t) (hs1_2 t) (hs1_3 t) (hs1_4 t) (hs1_5 t) (hs1_6 t) (hs1_7 t) (hs1_8 t) (case1_C t h)
      (iblk1 V c 0 t) (iblk1 V c 1 t) (iblk1 V c 2 t) (iblk1 V c 3 t) (iblk1 V c 4 t) (iblk1 V c 5 t) _ _
      ((block1_0 V c A.q hq t).congr fun _ _ _ _ _ _ => by rw [h]) (block1_1 V c A.k hk t) (block1_2 V c A.v hv t)
      ((block1_3 V c (fun r x => A.out (x / 128) r (x % 128)) ho t).congr fun i x hi hx => by rw [h, show (256 * (t.val / 4) + x) / 128 = 2 * (t.val / 4) + x / 128 by omega, show (256 * (t.val / 4) + x) % 128 = x % 128 by omega])
      ((block1_4 V c (fun e r _ => A.lse e r) hl t).congr fun _ _ _ _ _ _ => by rw [h])
      ((block1_5 V c A.ct hg t).congr fun i x _ _ => by rw [h, show 256 * (t.val / 4) + x = 128 * (2 * (t.val / 4)) + x by omega])).congr fun _ _ _ _ _ _ => by rw [h]
  · rw [outs1_D V c t h]
    exact (read1_D_6 A (2 * (t.val / 4)) c (grid1.coords t) (hs1_0 t) (hs1_1 t) (hs1_2 t) (hs1_3 t) (hs1_4 t) (hs1_5 t) (hs1_6 t) (hs1_7 t) (hs1_8 t) (case1_D t h)
      (iblk1 V c 0 t) (iblk1 V c 1 t) (iblk1 V c 2 t) (iblk1 V c 3 t) (iblk1 V c 4 t) (iblk1 V c 5 t) _ _
      ((block1_0 V c A.q hq t).congr fun _ _ _ _ _ _ => by rw [h]) (block1_1 V c A.k hk t) (block1_2 V c A.v hv t)
      ((block1_3 V c (fun r x => A.out (x / 128) r (x % 128)) ho t).congr fun i x hi hx => by rw [h, show (256 * (t.val / 4) + x) / 128 = 2 * (t.val / 4) + x / 128 by omega, show (256 * (t.val / 4) + x) % 128 = x % 128 by omega])
      ((block1_4 V c (fun e r _ => A.lse e r) hl t).congr fun _ _ _ _ _ _ => by rw [h])
      ((block1_5 V c A.ct hg t).congr fun i x _ _ => by rw [h, show 256 * (t.val / 4) + x = 128 * (2 * (t.val / 4)) + x by omega])).congr fun _ _ _ _ _ _ => by rw [h]

/-- A point's step of the key and value gradients, from their values before it. -/
theorem acc_step (t : Fin cfg1.N) (n : ℕ) (ht : n < cfg1.N) (e : t.val = n + 1) (h0 : ¬ t.val % 4 = 0)
    (ik : IsB (c := 2) (a := 2048) (b := 256) (φ := .f32) (outs1 V c n ht).2.1 fun e j x => A.dkUpTo (512 * (n % 4) + 512) (2 * (n / 4) + e) j x)
    (iv : IsB (c := 2) (a := 2048) (b := 128) (φ := .f32) (outs1 V c n ht).2.2 fun e j x => A.dvUpTo (512 * (n % 4) + 512) (2 * (n / 4) + e) j x) :
    IsB (c := 2) (a := 2048) (b := 256) (φ := .f32) (outs1 V c t.val t.isLt).2.1
        (fun e j x => A.dkUpTo (512 * (t.val % 4) + 512) (2 * (t.val / 4) + e) j x) ∧
      IsB (c := 2) (a := 2048) (b := 128) (φ := .f32) (outs1 V c t.val t.isLt).2.2
        (fun e j x => A.dvUpTo (512 * (t.val % 4) + 512) (2 * (t.val / 4) + e) j x) := by
  have hn : n = t.val - 1 := by omega
  subst hn
  have hd : (t.val - 1) / 4 = t.val / 4 := by omega
  have h4 : t.val % 4 = 1 ∨ t.val % 4 = 2 ∨ t.val % 4 = 3 := by omega
  rcases h4 with h | h | h
  · have hm : 512 * ((t.val - 1) % 4) + 512 = 512 := by omega
    rw [hd, hm] at ik iv
    rw [outs1_B V c t h]
    exact ⟨(read1_B_7 A (2 * (t.val / 4)) c (grid1.coords t) (hs1_0 t) (hs1_1 t) (hs1_2 t) (hs1_3 t) (hs1_4 t) (hs1_5 t) (hs1_6 t) (hs1_7 t) (hs1_8 t) (case1_B t h)
      (iblk1 V c 0 t) (iblk1 V c 1 t) (iblk1 V c 2 t) (iblk1 V c 3 t) (iblk1 V c 4 t) (iblk1 V c 5 t) _ _
      ((block1_0 V c A.q hq t).congr fun _ _ _ _ _ _ => by rw [h]) (block1_1 V c A.k hk t) (block1_2 V c A.v hv t)
      ((block1_3 V c (fun r x => A.out (x / 128) r (x % 128)) ho t).congr fun i x hi hx => by rw [h, show (256 * (t.val / 4) + x) / 128 = 2 * (t.val / 4) + x / 128 by omega, show (256 * (t.val / 4) + x) % 128 = x % 128 by omega])
      ((block1_4 V c (fun e r _ => A.lse e r) hl t).congr fun _ _ _ _ _ _ => by rw [h])
      ((block1_5 V c A.ct hg t).congr fun i x _ _ => by rw [h, show 256 * (t.val / 4) + x = 128 * (2 * (t.val / 4)) + x by omega]) ik).congr fun e j x _ _ _ => by
        rw [h]; exact dk_step A 512 _ j x,
      (read1_B_8 A (2 * (t.val / 4)) c (grid1.coords t) (hs1_0 t) (hs1_1 t) (hs1_2 t) (hs1_3 t) (hs1_4 t) (hs1_5 t) (hs1_6 t) (hs1_7 t) (hs1_8 t) (case1_B t h)
      (iblk1 V c 0 t) (iblk1 V c 1 t) (iblk1 V c 2 t) (iblk1 V c 3 t) (iblk1 V c 4 t) (iblk1 V c 5 t) _ _
      ((block1_0 V c A.q hq t).congr fun _ _ _ _ _ _ => by rw [h]) (block1_1 V c A.k hk t)

      ((block1_4 V c (fun e r _ => A.lse e r) hl t).congr fun _ _ _ _ _ _ => by rw [h])
      ((block1_5 V c A.ct hg t).congr fun i x _ _ => by rw [h, show 256 * (t.val / 4) + x = 128 * (2 * (t.val / 4)) + x by omega]) iv).congr fun e j x _ _ _ => by
        rw [h]; exact dv_step A 512 _ j x⟩
  · have hm : 512 * ((t.val - 1) % 4) + 512 = 1024 := by omega
    rw [hd, hm] at ik iv
    rw [outs1_C V c t h]
    exact ⟨(read1_C_7 A (2 * (t.val / 4)) c (grid1.coords t) (hs1_0 t) (hs1_1 t) (hs1_2 t) (hs1_3 t) (hs1_4 t) (hs1_5 t) (hs1_6 t) (hs1_7 t) (hs1_8 t) (case1_C t h)
      (iblk1 V c 0 t) (iblk1 V c 1 t) (iblk1 V c 2 t) (iblk1 V c 3 t) (iblk1 V c 4 t) (iblk1 V c 5 t) _ _
      ((block1_0 V c A.q hq t).congr fun _ _ _ _ _ _ => by rw [h]) (block1_1 V c A.k hk t) (block1_2 V c A.v hv t)
      ((block1_3 V c (fun r x => A.out (x / 128) r (x % 128)) ho t).congr fun i x hi hx => by rw [h, show (256 * (t.val / 4) + x) / 128 = 2 * (t.val / 4) + x / 128 by omega, show (256 * (t.val / 4) + x) % 128 = x % 128 by omega])
      ((block1_4 V c (fun e r _ => A.lse e r) hl t).congr fun _ _ _ _ _ _ => by rw [h])
      ((block1_5 V c A.ct hg t).congr fun i x _ _ => by rw [h, show 256 * (t.val / 4) + x = 128 * (2 * (t.val / 4)) + x by omega]) ik).congr fun e j x _ _ _ => by
        rw [h]; exact dk_step A 1024 _ j x,
      (read1_C_8 A (2 * (t.val / 4)) c (grid1.coords t) (hs1_0 t) (hs1_1 t) (hs1_2 t) (hs1_3 t) (hs1_4 t) (hs1_5 t) (hs1_6 t) (hs1_7 t) (hs1_8 t) (case1_C t h)
      (iblk1 V c 0 t) (iblk1 V c 1 t) (iblk1 V c 2 t) (iblk1 V c 3 t) (iblk1 V c 4 t) (iblk1 V c 5 t) _ _
      ((block1_0 V c A.q hq t).congr fun _ _ _ _ _ _ => by rw [h]) (block1_1 V c A.k hk t)

      ((block1_4 V c (fun e r _ => A.lse e r) hl t).congr fun _ _ _ _ _ _ => by rw [h])
      ((block1_5 V c A.ct hg t).congr fun i x _ _ => by rw [h, show 256 * (t.val / 4) + x = 128 * (2 * (t.val / 4)) + x by omega]) iv).congr fun e j x _ _ _ => by
        rw [h]; exact dv_step A 1024 _ j x⟩
  · have hm : 512 * ((t.val - 1) % 4) + 512 = 1536 := by omega
    rw [hd, hm] at ik iv
    rw [outs1_D V c t h]
    exact ⟨(read1_D_7 A (2 * (t.val / 4)) c (grid1.coords t) (hs1_0 t) (hs1_1 t) (hs1_2 t) (hs1_3 t) (hs1_4 t) (hs1_5 t) (hs1_6 t) (hs1_7 t) (hs1_8 t) (case1_D t h)
      (iblk1 V c 0 t) (iblk1 V c 1 t) (iblk1 V c 2 t) (iblk1 V c 3 t) (iblk1 V c 4 t) (iblk1 V c 5 t) _ _
      ((block1_0 V c A.q hq t).congr fun _ _ _ _ _ _ => by rw [h]) (block1_1 V c A.k hk t) (block1_2 V c A.v hv t)
      ((block1_3 V c (fun r x => A.out (x / 128) r (x % 128)) ho t).congr fun i x hi hx => by rw [h, show (256 * (t.val / 4) + x) / 128 = 2 * (t.val / 4) + x / 128 by omega, show (256 * (t.val / 4) + x) % 128 = x % 128 by omega])
      ((block1_4 V c (fun e r _ => A.lse e r) hl t).congr fun _ _ _ _ _ _ => by rw [h])
      ((block1_5 V c A.ct hg t).congr fun i x _ _ => by rw [h, show 256 * (t.val / 4) + x = 128 * (2 * (t.val / 4)) + x by omega]) ik).congr fun e j x _ _ _ => by
        rw [h]; exact dk_step A 1536 _ j x,
      (read1_D_8 A (2 * (t.val / 4)) c (grid1.coords t) (hs1_0 t) (hs1_1 t) (hs1_2 t) (hs1_3 t) (hs1_4 t) (hs1_5 t) (hs1_6 t) (hs1_7 t) (hs1_8 t) (case1_D t h)
      (iblk1 V c 0 t) (iblk1 V c 1 t) (iblk1 V c 2 t) (iblk1 V c 3 t) (iblk1 V c 4 t) (iblk1 V c 5 t) _ _
      ((block1_0 V c A.q hq t).congr fun _ _ _ _ _ _ => by rw [h]) (block1_1 V c A.k hk t)

      ((block1_4 V c (fun e r _ => A.lse e r) hl t).congr fun _ _ _ _ _ _ => by rw [h])
      ((block1_5 V c A.ct hg t).congr fun i x _ _ => by rw [h, show 256 * (t.val / 4) + x = 128 * (2 * (t.val / 4)) + x by omega]) iv).congr fun e j x _ _ _ => by
        rw [h]; exact dv_step A 1536 _ j x⟩

/-- A head group's first point: the key and value gradients from nothing. -/
theorem acc_first (t : Fin cfg1.N) (h : t.val % 4 = 0) :
    IsB (c := 2) (a := 2048) (b := 256) (φ := .f32) (outs1 V c t.val t.isLt).2.1
        (fun e j x => A.dkUpTo (512 * (t.val % 4) + 512) (2 * (t.val / 4) + e) j x) ∧
      IsB (c := 2) (a := 2048) (b := 128) (φ := .f32) (outs1 V c t.val t.isLt).2.2
        (fun e j x => A.dvUpTo (512 * (t.val % 4) + 512) (2 * (t.val / 4) + e) j x) := by
  rw [outs1_A V c t h]
  exact ⟨(read1_A_7 A (2 * (t.val / 4)) c (grid1.coords t) (hs1_0 t) (hs1_1 t) (hs1_2 t) (hs1_3 t) (hs1_4 t) (hs1_5 t) (hs1_6 t) (hs1_7 t) (hs1_8 t) (case1_A t h)
      (iblk1 V c 0 t) (iblk1 V c 1 t) (iblk1 V c 2 t) (iblk1 V c 3 t) (iblk1 V c 4 t) (iblk1 V c 5 t)
      ((block1_0 V c A.q hq t).congr fun _ _ _ _ _ _ => by rw [h]) (block1_1 V c A.k hk t) (block1_2 V c A.v hv t)
      ((block1_3 V c (fun r x => A.out (x / 128) r (x % 128)) ho t).congr fun i x hi hx => by rw [h, show (256 * (t.val / 4) + x) / 128 = 2 * (t.val / 4) + x / 128 by omega, show (256 * (t.val / 4) + x) % 128 = x % 128 by omega])
      ((block1_4 V c (fun e r _ => A.lse e r) hl t).congr fun _ _ _ _ _ _ => by rw [h])
      ((block1_5 V c A.ct hg t).congr fun i x _ _ => by rw [h, show 256 * (t.val / 4) + x = 128 * (2 * (t.val / 4)) + x by omega])).congr fun e j x _ _ _ => by
        rw [h]; exact dk_step A 0 _ j x,
      (read1_A_8 A (2 * (t.val / 4)) c (grid1.coords t) (hs1_0 t) (hs1_1 t) (hs1_2 t) (hs1_3 t) (hs1_4 t) (hs1_5 t) (hs1_6 t) (hs1_7 t) (hs1_8 t) (case1_A t h)
      (iblk1 V c 0 t) (iblk1 V c 1 t) (iblk1 V c 2 t) (iblk1 V c 3 t) (iblk1 V c 4 t) (iblk1 V c 5 t)
      ((block1_0 V c A.q hq t).congr fun _ _ _ _ _ _ => by rw [h]) (block1_1 V c A.k hk t)

      ((block1_4 V c (fun e r _ => A.lse e r) hl t).congr fun _ _ _ _ _ _ => by rw [h])
      ((block1_5 V c A.ct hg t).congr fun i x _ _ => by rw [h, show 256 * (t.val / 4) + x = 128 * (2 * (t.val / 4)) + x by omega])).congr fun e j x _ _ _ => by
        rw [h]; exact dv_step A 0 _ j x⟩

/-- The key and value gradients after every point: of the query rows up to its block's end. -/
theorem acc_point : ∀ (n : ℕ) (hn : n < cfg1.N),
    IsB (c := 2) (a := 2048) (b := 256) (φ := .f32) (outs1 V c n hn).2.1
        (fun e j x => A.dkUpTo (512 * (n % 4) + 512) (2 * (n / 4) + e) j x) ∧
      IsB (c := 2) (a := 2048) (b := 128) (φ := .f32) (outs1 V c n hn).2.2
        (fun e j x => A.dvUpTo (512 * (n % 4) + 512) (2 * (n / 4) + e) j x)
  | 0, hn => acc_first V c A hq hk hv hg ho hl ⟨0, hn⟩ rfl
  | n + 1, hn => by
    by_cases h : (n + 1) % 4 = 0
    · exact acc_first V c A hq hk hv hg ho hl ⟨n + 1, hn⟩ h
    · have ih := acc_point n (Nat.lt_of_succ_lt hn)
      exact acc_step V c A hq hk hv hg ho hl ⟨n + 1, hn⟩ n (Nat.lt_of_succ_lt hn) rfl h ih.1 ih.2

/-- The array of dq. -/
theorem dq_array : at3 (N := 2048) (D := 256) (φ := .f32) ((dat1 V c).arrAt 6 cfg1.N) A.dq :=
  (dat1 V c).arrAt_forall_of_covers 6
    (fun i v => (v : EReal) = ((A.dq (i 0 : Fin 12).val (i 1 : Fin 2048).val (i 2 : Fin 256).val : ℝ) : EReal))
    (by decide +kernel) fun t hf y => by
      refine Eq.trans (congrFun (after1_6 V c t) _) (Eq.trans (b := (((fun e i x => A.dq (2 * (t.val / 4) + e) (512 * (t.val % 4) + i) x) (y 0).val (y 1).val (y 2).val : ℝ) : EReal)) ?_ ?_)
      · exact (congrArg (outs1 V c t.val t.isLt).1 (show (cfg1.win 6).xinj (grid1.coords t) y = ValueIdx.ix3 (n0 := 2) (n1 := 512) (n2 := 256) (y 0) (y 1) (y 2) from
          funext fun a => Fin.ext (match a with | ⟨0, _⟩ => rfl | ⟨1, _⟩ => rfl | ⟨2, _⟩ => rfl))).trans
          (dq_point V c A hq hk hv hg ho hl t (y 0) (y 1) (y 2))
      · rw [place1_6_0 t y, place1_6_1 t y, place1_6_2 t y]

/-- The array of dk. -/
theorem dk_array : at3 (N := 2048) (D := 256) (φ := .f32) ((dat1 V c).arrAt 7 cfg1.N) (A.dkUpTo 2048) :=
  (dat1 V c).arrAt_forall_of_covers 7
    (fun i v => (v : EReal) = (((A.dkUpTo 2048) (i 0 : Fin 12).val (i 1 : Fin 2048).val (i 2 : Fin 256).val : ℝ) : EReal))
    (by decide +kernel) fun t hf y => by
      refine Eq.trans (congrFun (after1_7 V c t) _) (Eq.trans (b := (((fun e j x => A.dkUpTo (512 * (t.val % 4) + 512) (2 * (t.val / 4) + e) j x) (y 0).val (y 1).val (y 2).val : ℝ) : EReal)) ?_ ?_)
      · exact (congrArg (outs1 V c t.val t.isLt).2.1 (show (cfg1.win 7).xinj (grid1.coords t) y = ValueIdx.ix3 (n0 := 2) (n1 := 2048) (n2 := 256) (y 0) (y 1) (y 2) from
          funext fun a => Fin.ext (match a with | ⟨0, _⟩ => rfl | ⟨1, _⟩ => rfl | ⟨2, _⟩ => rfl))).trans
          ((acc_point V c A hq hk hv hg ho hl t.val t.isLt).1 (y 0) (y 1) (y 2))
      · rw [place1_7_0 t y, place1_7_1 t y, place1_7_2 t y]
        have h3 : t.val % 4 = 3 := (flush1_7 t).mp hf
        rw [h3]

/-- The array of dv. -/
theorem dv_array : at3 (N := 2048) (D := 128) (φ := .f32) ((dat1 V c).arrAt 8 cfg1.N) (A.dvUpTo 2048) :=
  (dat1 V c).arrAt_forall_of_covers 8
    (fun i v => (v : EReal) = (((A.dvUpTo 2048) (i 0 : Fin 12).val (i 1 : Fin 2048).val (i 2 : Fin 128).val : ℝ) : EReal))
    (by decide +kernel) fun t hf y => by
      refine Eq.trans (congrFun (after1_8 V c t) _) (Eq.trans (b := (((fun e j x => A.dvUpTo (512 * (t.val % 4) + 512) (2 * (t.val / 4) + e) j x) (y 0).val (y 1).val (y 2).val : ℝ) : EReal)) ?_ ?_)
      · exact (congrArg (outs1 V c t.val t.isLt).2.2 (show (cfg1.win 8).xinj (grid1.coords t) y = ValueIdx.ix3 (n0 := 2) (n1 := 2048) (n2 := 128) (y 0) (y 1) (y 2) from
          funext fun a => Fin.ext (match a with | ⟨0, _⟩ => rfl | ⟨1, _⟩ => rfl | ⟨2, _⟩ => rfl))).trans
          ((acc_point V c A hq hk hv hg ho hl t.val t.isLt).2 (y 0) (y 1) (y 2))
      · rw [place1_8_0 t y, place1_8_1 t y, place1_8_2 t y]
        have h3 : t.val % 4 = 3 := (flush1_8 t).mp hf
        rw [h3]

end Results

end Cert.KernelIdeal.Attn
-- ==== Proof.Value.lean ====
/- The kernel's four results as real numbers (`Cert.KernelIdeal`): the arguments' entries are numbers by the precondition, the
   forward call's two results are what the backward call reads, and each result array ends at its real value. -/
module

public import proofs.«01_k».proof.Pre_finite
public import proofs.«01_k».proof.Proof.Launched
public import proofs.«01_k».proof.Proof.BwdArr

@[expose] public section

set_option maxRecDepth 16384

noncomputable section

namespace Cert.KernelIdeal.Attn

open Cert.KernelIdeal.Gen
open Idealize.ShloMosaic Idealize.ShloMosaic.TcCoe
open Idealize.ShloMosaic.ValueIdx
open Idealize.ShloMosaic.Pipeline (Dat)
open AttnMath

/-- An extended real whose absolute value is below the greatest is a number. -/
theorem real_of_abs (x : EReal) (h : max x (-x) < ⊤) : x = ((x.toReal : ℝ) : EReal) := by
  refine (EReal.coe_toReal ?_ ?_).symm
  · rintro rfl; simp at h
  · rintro rfl; simp at h

theorem real_of_bf16 (x : Ideal .bf16)
    (h : FloatOps.cmpf .olt (Host.absf (s := ⟨0, ![]⟩) (fun _ => x) (fun a => a.elim0)) (Scalar.ofBits (F := Ideal) .bf16 0x7F80#16) = 1#1) :
    (x : EReal) = (((x : EReal).toReal : ℝ) : EReal) := by
  have hi : (Scalar.ofBits (F := Ideal) .bf16 0x7F80#16 : EReal) = ⊤ := by
    show Ideal.ofBits _ _ = _; simp [Ideal.ofBits, Ideal.ieee]
  refine real_of_abs x ?_
  by_contra hn
  have : (FloatOps.cmpf .olt (Host.absf (s := ⟨0, ![]⟩) (fun _ => x) (fun a => a.elim0)) (Scalar.ofBits (F := Ideal) .bf16 0x7F80#16)) = 0#1 := by
    show Ideal.cmp .olt (max x (-x) : EReal) (Scalar.ofBits (F := Ideal) .bf16 0x7F80#16) = 0#1
    rw [hi]; simp [Ideal.cmp, hn]
  rw [this] at h; exact absurd h (by decide)

theorem real_of_f32 (x : Ideal .f32)
    (h : FloatOps.cmpf .olt (Host.absf (s := ⟨0, ![]⟩) (fun _ => x) (fun a => a.elim0)) (Scalar.ofBits (F := Ideal) .f32 0x7F800000#32) = 1#1) :
    (x : EReal) = (((x : EReal).toReal : ℝ) : EReal) := by
  have hi : (Scalar.ofBits (F := Ideal) .f32 0x7F800000#32 : EReal) = ⊤ := by
    show Ideal.ofBits _ _ = _; simp [Ideal.ofBits, Ideal.ieee]
  refine real_of_abs x ?_
  by_contra hn
  have : (FloatOps.cmpf .olt (Host.absf (s := ⟨0, ![]⟩) (fun _ => x) (fun a => a.elim0)) (Scalar.ofBits (F := Ideal) .f32 0x7F800000#32)) = 0#1 := by
    show Ideal.cmp .olt (max x (-x) : EReal) (Scalar.ofBits (F := Ideal) .f32 0x7F800000#32) = 0#1
    rw [hi]; simp [Ideal.cmp, hn]
  rw [this] at h; exact absurd h (by decide)

section Real

/-- An array over heads, rows and columns as a real function of natural coordinates. -/
def real3 {N D : ℕ} {φ : FTy} (X : FVec Ideal ⟨3, ![12, N, D]⟩ φ) (h r d : ℕ) : ℝ :=
  if H : h < 12 ∧ r < N ∧ d < D then (X (ValueIdx.ix3 ⟨h, H.1⟩ ⟨r, H.2.1⟩ ⟨d, H.2.2⟩) : EReal).toReal else 0

def real2 {N D : ℕ} {φ : FTy} (X : FVec Ideal ⟨2, ![N, D]⟩ φ) (r d : ℕ) : ℝ :=
  if H : r < N ∧ d < D then (X (ValueIdx.ix2 ⟨r, H.1⟩ ⟨d, H.2⟩) : EReal).toReal else 0

theorem at3_real {N D : ℕ} {φ : FTy} (X : FVec Ideal ⟨3, ![12, N, D]⟩ φ)
    (hX : ∀ i, (X i : EReal) = (((X i : EReal).toReal : ℝ) : EReal)) : at3 X (real3 X) := fun x => by
  have e : ValueIdx.ix3 (n0 := 12) (n1 := N) (n2 := D) ⟨(x 0).val, (x 0).isLt⟩ ⟨(x 1).val, (x 1).isLt⟩ ⟨(x 2).val, (x 2).isLt⟩ = x :=
    funext fun a => Fin.ext (match a with | ⟨0, _⟩ => rfl | ⟨1, _⟩ => rfl | ⟨2, _⟩ => rfl)
  rw [real3, dif_pos ⟨(x 0).isLt, (x 1).isLt, (x 2).isLt⟩]
  erw [e]
  exact hX x

theorem at2_real {N D : ℕ} {φ : FTy} (X : FVec Ideal ⟨2, ![N, D]⟩ φ)
    (hX : ∀ i, (X i : EReal) = (((X i : EReal).toReal : ℝ) : EReal)) : at2 X (real2 X) := fun x => by
  have e : ValueIdx.ix2 (n0 := N) (n1 := D) ⟨(x 0).val, (x 0).isLt⟩ ⟨(x 1).val, (x 1).isLt⟩ = x :=
    funext fun a => Fin.ext (match a with | ⟨0, _⟩ => rfl | ⟨1, _⟩ => rfl)
  rw [real2, dif_pos ⟨(x 0).isLt, (x 1).isLt⟩]
  erw [e]
  exact hX x

end Real

variable (m : (ℓ : Loc nD τ sig) → Buf (Elt Ideal) ℓ) (ρ : Dev nD → PrngReg) (c : Dev nD)

/-- The launch's arguments as real functions. -/
def args : Args where
  q := real3 (N := 2048) (D := 256) (φ := .bf16) (m (c.tc.loc main_arg0))
  k := real3 (N := 2048) (D := 256) (φ := .bf16) (m (c.tc.loc main_arg1))
  v := real3 (N := 2048) (D := 128) (φ := .bf16) (m (c.tc.loc main_arg2))
  ct := real2 (N := 2048) (D := 1536) (φ := .f32) (m (c.tc.loc main_arg3))

/-- Every entry of every argument is its real value. -/
structure AreReal : Prop where
  q : at3 (N := 2048) (D := 256) (φ := .bf16) (m (c.tc.loc main_arg0)) (args m c).q
  k : at3 (N := 2048) (D := 256) (φ := .bf16) (m (c.tc.loc main_arg1)) (args m c).k
  v : at3 (N := 2048) (D := 128) (φ := .bf16) (m (c.tc.loc main_arg2)) (args m c).v
  ct : at2 (N := 2048) (D := 1536) (φ := .f32) (m (c.tc.loc main_arg3)) (args m c).ct

theorem areReal [Cert.Pre_finite.Facts]
    (h : (Cert.Pre_finite.fn (F := Ideal) (m (c.tc.loc main_arg0)) (m (c.tc.loc main_arg1))
        (m (c.tc.loc main_arg2)) (m (c.tc.loc main_arg3))).1 = (fun _ => 1#1)
      ∧ (Cert.Pre_finite.fn (F := Ideal) (m (c.tc.loc main_arg0)) (m (c.tc.loc main_arg1))
        (m (c.tc.loc main_arg2)) (m (c.tc.loc main_arg3))).2.1 = (fun _ => 1#1)
      ∧ (Cert.Pre_finite.fn (F := Ideal) (m (c.tc.loc main_arg0)) (m (c.tc.loc main_arg1))
        (m (c.tc.loc main_arg2)) (m (c.tc.loc main_arg3))).2.2.1 = (fun _ => 1#1)
      ∧ (Cert.Pre_finite.fn (F := Ideal) (m (c.tc.loc main_arg0)) (m (c.tc.loc main_arg1))
        (m (c.tc.loc main_arg2)) (m (c.tc.loc main_arg3))).2.2.2 = (fun _ => 1#1)) : AreReal m c :=
  ⟨at3_real _ fun i => real_of_bf16 _ (congrFun h.1 i), at3_real _ fun i => real_of_bf16 _ (congrFun h.2.1 i),
    at3_real _ fun i => real_of_bf16 _ (congrFun h.2.2.1 i), at2_real _ fun i => real_of_f32 _ (congrFun h.2.2.2 i)⟩

section Results
variable (hA : AreReal m c)
include hA

theorem v1_arg0 : at3 (N := 2048) (D := 256) (φ := .bf16) (V1 m ρ c main_arg0) (args m c).q := by
  have e : V1 m ρ c main_arg0 = m (c.tc.loc main_arg0) := W1_args m ρ c main_arg0 (by simp [argRefs])
  rw [e]; exact hA.q
theorem v1_arg1 : at3 (N := 2048) (D := 256) (φ := .bf16) (V1 m ρ c main_arg1) (args m c).k := by
  have e : V1 m ρ c main_arg1 = m (c.tc.loc main_arg1) := W1_args m ρ c main_arg1 (by simp [argRefs])
  rw [e]; exact hA.k
theorem v1_arg2 : at3 (N := 2048) (D := 128) (φ := .bf16) (V1 m ρ c main_arg2) (args m c).v := by
  have e : V1 m ρ c main_arg2 = m (c.tc.loc main_arg2) := W1_args m ρ c main_arg2 (by simp [argRefs])
  rw [e]; exact hA.v
theorem v1_arg3 : at2 (N := 2048) (D := 1536) (φ := .f32) (V1 m ρ c main_arg3) (args m c).ct := by
  have e : V1 m ρ c main_arg3 = m (c.tc.loc main_arg3) := W1_args m ρ c main_arg3 (by simp [argRefs])
  rw [e]; exact hA.ct

/-- What the forward call leaves for the backward call: the results and the logarithms of the sums. -/
theorem v1_out : at2 (N := 2048) (D := 1536) (φ := .f32) (V1 m ρ c main_v0_0) fun r x => (args m c).out (x / 128) r (x % 128) := by
  have e : V1 m ρ c main_v0_0 = (dat0 (V0 m ρ) c).arrAt 3 cfg0.N := W1_arr m ρ c 3
  rw [e]; exact out_array (V0 m ρ) c (args m c) hA.q hA.k hA.v
theorem v1_lse : at3 (N := 2048) (D := 1) (φ := .f32) (V1 m ρ c main_v0_1) fun e r _ => (args m c).lse e r := by
  have e : V1 m ρ c main_v0_1 = (dat0 (V0 m ρ) c).arrAt 4 cfg0.N := W1_arr m ρ c 4
  rw [e]; exact lse_array (V0 m ρ) c (args m c) hA.q hA.k

/-- The four results at the return. -/
theorem res_out : at2 (N := 2048) (D := 1536) (φ := .f32) (W2 m ρ c main_v0_0) fun r x => (args m c).out (x / 128) r (x % 128) := by
  have e : W2 m ρ c main_v0_0 = V1 m ρ c main_v0_0 := W2_of m ρ c main_v0_0 (by decide +kernel)
  rw [e]; exact v1_out m ρ c hA
theorem res_dq : at3 (N := 2048) (D := 256) (φ := .f32) (W2 m ρ c main_v1_0) (args m c).dq := by
  have e : W2 m ρ c main_v1_0 = (dat1 (V1 m ρ) c).arrAt 6 cfg1.N := W2_arr m ρ c 6
  rw [e]; exact dq_array (V1 m ρ) c (args m c) (v1_arg0 m ρ c hA) (v1_arg1 m ρ c hA) (v1_arg2 m ρ c hA) (v1_arg3 m ρ c hA) (v1_out m ρ c hA) (v1_lse m ρ c hA)
theorem res_dk : at3 (N := 2048) (D := 256) (φ := .f32) (W2 m ρ c main_v1_1) ((args m c).dkUpTo 2048) := by
  have e : W2 m ρ c main_v1_1 = (dat1 (V1 m ρ) c).arrAt 7 cfg1.N := W2_arr m ρ c 7
  rw [e]; exact dk_array (V1 m ρ) c (args m c) (v1_arg0 m ρ c hA) (v1_arg1 m ρ c hA) (v1_arg2 m ρ c hA) (v1_arg3 m ρ c hA) (v1_out m ρ c hA) (v1_lse m ρ c hA)
theorem res_dv : at3 (N := 2048) (D := 128) (φ := .f32) (W2 m ρ c main_v1_2) ((args m c).dvUpTo 2048) := by
  have e : W2 m ρ c main_v1_2 = (dat1 (V1 m ρ) c).arrAt 8 cfg1.N := W2_arr m ρ c 8
  rw [e]; exact dv_array (V1 m ρ) c (args m c) (v1_arg0 m ρ c hA) (v1_arg1 m ρ c hA) (v1_arg2 m ρ c hA) (v1_arg3 m ρ c hA) (v1_out m ρ c hA) (v1_lse m ρ c hA)

end Results

end Cert.KernelIdeal.Attn

end
-- ==== Proof.RefScores.lean ====
/- The reference's masked scores, probabilities and result as real numbers (`Cert.ReferenceIdeal`), read operation by operation. -/
module

public import proofs.«01_k».proof.Proof.Gen.ReferenceIdeal.Read
public import proofs.«01_k».proof.Proof.Tiles

@[expose] public section

set_option maxRecDepth 16384

noncomputable section

namespace AttnMath

open Idealize.ShloMosaic

/-- A sum of products of numbers over an axis. -/
theorem dot_real {n : ℕ} (a b : Fin n → EReal) (f g : ℕ → ℝ) (ha : ∀ k, a k = ((f k.val : ℝ) : EReal))
    (hb : ∀ k, b k = ((g k.val : ℝ) : EReal)) : (∑ k, a k * b k) = ((∑ k ∈ Finset.range n, f k * g k : ℝ) : EReal) := by
  rw [← sum_axis_self]
  exact Finset.sum_congr rfl fun k _ => by rw [ha, hb, EReal.coe_mul]

theorem sum_real {n : ℕ} (a : Fin n → EReal) (f : ℕ → ℝ) (ha : ∀ k, a k = ((f k.val : ℝ) : EReal)) :
    (∑ k, a k) = ((∑ k ∈ Finset.range n, f k : ℝ) : EReal) := by
  rw [← sum_axis_self]
  exact Finset.sum_congr rfl fun k _ => ha k

/-- The row's sum of cotangent times result is the sum over the keys of probability times its cotangent. -/
theorem del_eq (A : Args) (h r : ℕ) : A.del h r = ∑ j ∈ Finset.range 2048, A.pr h r j * A.dp h r j := by
  unfold Args.del Args.dp Args.out
  simp_rw [Finset.mul_sum]
  rw [Finset.sum_comm]
  refine Finset.sum_congr rfl fun d _ => ?_
  rw [Finset.sum_div, Finset.mul_sum]
  refine Finset.sum_congr rfl fun j _ => ?_
  rw [Args.pr]; ring

theorem sqrt_pos : 0 < Real.sqrt 192 := Real.sqrt_pos.2 (by norm_num)

/-- A word compare of two short coordinates. -/
theorem sle_small (i j : ℕ) (hi : i < 2048) (hj : j < 2048) :
    IntOp.cmpi .sle (BitVec.ofNat 32 j) (BitVec.ofNat 32 i) = BitVec.ofBool (decide (j ≤ i)) := by
  have e : (BitVec.ofNat 32 j).sle (BitVec.ofNat 32 i) = decide (j ≤ i) := by
    rw [BitVec.sle_eq_decide, BitVec.toInt_eq_toNat_of_lt, BitVec.toInt_eq_toNat_of_lt]
    · simp only [BitVec.toNat_ofNat]
      rw [Nat.mod_eq_of_lt (by omega), Nat.mod_eq_of_lt (by omega)]
      exact decide_eq_decide.2 Int.ofNat_le
    · simp only [BitVec.toNat_ofNat]; rw [Nat.mod_eq_of_lt (by omega)]; omega
    · simp only [BitVec.toNat_ofNat]; rw [Nat.mod_eq_of_lt (by omega)]; omega
  show BitVec.ofBool ((BitVec.ofNat 32 j).sle (BitVec.ofNat 32 i)) = _
  rw [e]

theorem select_small (i j : ℕ) (hi : i < 2048) (hj : j < 2048) (x y : EReal) :
    Scalar.select (IntOp.cmpi .sle (BitVec.ofNat 32 j) (BitVec.ofNat 32 i)) x y = if j ≤ i then x else y := by
  rw [sle_small i j hi hj]
  by_cases h : j ≤ i
  · simp [Scalar.select, h]
  · simp [Scalar.select, h]

end AttnMath

namespace Cert.ReferenceIdeal.Attn

open Cert.ReferenceIdeal Cert.ReferenceIdeal.Gen Cert.ReferenceIdeal.Read Idealize.ShloMosaic Idealize.ShloMosaic.TcCoe
open AttnMath

variable (A : Args) (x0 x1 : (⟨S12x2048x256, .bf16⟩ : BufTy).Contents (Elt Ideal))
  (x2 : (⟨S12x2048x128, .bf16⟩ : BufTy).Contents (Elt Ideal)) (x3 : (⟨S2048x1536, .f32⟩ : BufTy).Contents (Elt Ideal))
  (hq : ∀ i : S12x2048x256.Idx, (x0 i : EReal) = ((A.q (i 0).val (i 1).val (i 2).val : ℝ) : EReal))
  (hk : ∀ i : S12x2048x256.Idx, (x1 i : EReal) = ((A.k (i 0).val (i 1).val (i 2).val : ℝ) : EReal))
  (hv : ∀ i : S12x2048x128.Idx, (x2 i : EReal) = ((A.v (i 0).val (i 1).val (i 2).val : ℝ) : EReal))

theorem root (i : S_.Idx) : (val_main_v4 (F := Ideal) i : EReal) = ((Real.sqrt 192 : ℝ) : EReal) := by
  have e : (val_main_cst (F := Ideal) i : EReal) = ((192 : ℝ) : EReal) := by
    rw [val_main_cst_apply]; show Ideal.ofBits .f32 0x43400000#32 = _; simp [Ideal.ofBits, Ideal.ieee]; rw [← EReal.coe_mul]; norm_num
  rw [val_main_v4_apply, Ideal.hostUnary_sqrt_def, e, Ideal.sqrt_coe, if_neg (by norm_num)]

include hq hk

theorem score (i : S12x2048x2048.Idx) :
    (val_main_v6 (F := Ideal) x0 x1 i : EReal) = ((A.sc (i 0).val (i 1).val (i 2).val : ℝ) : EReal) := by
  have e : (val_main_v3 (F := Ideal) x0 x1 i : EReal)
      = ((∑ d ∈ Finset.range 256, A.q (i 0).val (i 1).val d * A.k (i 0).val (i 2).val d : ℝ) : EReal) := by
    rw [val_main_v3_apply]
    exact dot_real _ _ (fun d => A.q (i 0).val (i 1).val d) (fun d => A.k (i 0).val (i 2).val d) (fun d => hq _) (fun d => hk _)
  rw [val_main_v6_apply, Ideal.hostDivf_def, val_main_v5_apply, root, e, div_real _ _ sqrt_pos.ne', div_eq_mul_inv]; rfl

theorem masked (i : S12x2048x2048.Idx) :
    (val_main_v13_0 (F := Ideal) x0 x1 i : EReal) = if (i 2).val ≤ (i 1).val then ((A.sc (i 0).val (i 1).val (i 2).val : ℝ) : EReal) else ⊥ := by
  have h1 : (i 1).val < 2048 := (i 1).isLt
  have h2 : (i 2).val < 2048 := (i 2).isLt
  have eb : (val_main_call0_v2 (F := Ideal) i : EReal) = ⊥ := by
    rw [val_main_call0_v2_apply, val_main_call0_v0_apply, val_main_cst_0_apply]; exact negInf
  have ew : val_main_v13_1 (F := Ideal) i = IntOp.cmpi .sle (BitVec.ofNat 32 (i 2).val) (BitVec.ofNat 32 (i 1).val) := by
    rw [val_main_v13_1_apply, val_main_v12_apply, val_main_v10_apply, val_main_v8_apply, val_main_v7_apply, val_main_v11_apply,
      val_main_v9_apply, val_main_v7_apply]
  rw [val_main_v13_0_apply, ew, eb, score A x0 x1 hq hk i]
  exact select_small _ _ h1 h2 _ _

theorem rowMax (i : S12x2048.Idx) : (val_main_v14 (F := Ideal) x0 x1 i : EReal) = ((A.mx (i 0).val (i 1).val : ℝ) : EReal) := by
  have h1 : (i 1).val < 2048 := (i 1).isLt
  have hr : S12x2048x2048.Reduces [2] S12x2048 := by decide
  unfold val_main_v14
  rw [Host.reduce_eq_fold_single _ _ _ _ hr]
  refine Eq.trans ?_ (fold_max_axis (n := 2048) (A.sc (i 0).val (i 1).val) (i 1).val h1)
  have e0 : ((val_main_cst_1 (F := Ideal)) (Shape.Idx.first h_S_) : EReal) = ⊥ := by rw [val_main_cst_1_apply]; exact negInf
  have ef : (val_main_v13_0 (F := Ideal) x0 x1 ∘ hr.lift i)
      = fun j : Fin 2048 => if j.val ≤ (i 1).val then ((A.sc (i 0).val (i 1).val j.val : ℝ) : EReal) else ⊥ := by
    funext j
    exact masked A x0 x1 hq hk (hr.lift i j)
  rw [ef, e0]
  rfl

theorem rowMax' (i : S12x2048.Idx) : (val_main_v21 (F := Ideal) x0 x1 i : EReal) = ((A.mx (i 0).val (i 1).val : ℝ) : EReal) := by
  have e0 : (val_main_v20 (F := Ideal) i : EReal) = ⊥ := by rw [val_main_v20_apply, val_main_cst_3_apply]; exact negInf
  rw [val_main_v21_apply, e0, rowMax A x0 x1 hq hk]
  exact max_eq_right bot_le

theorem expo (i : S12x2048x2048.Idx) :
    (val_main_v34 (F := Ideal) x0 x1 i : EReal) = ((A.ex (i 0).val (i 1).val (i 2).val : ℝ) : EReal) := by
  rw [val_main_v34_apply, Ideal.hostUnary_exp_def, val_main_v33_apply, Ideal.subf_def, val_main_v32_apply, val_main_v31_apply, rowMax' A x0 x1 hq hk, masked A x0 x1 hq hk, exp_masked]; rfl

theorem total (i : S12x2048.Idx) : (val_main_v35 (F := Ideal) x0 x1 i : EReal) = ((A.tot (i 0).val (i 1).val : ℝ) : EReal) := by
  have e0 : ((val_main_cst_9 (F := Ideal)) (Shape.Idx.first h_S_) : EReal) = 0 := by rw [val_main_cst_9_apply]; exact zeroBits
  rw [val_main_v35_apply, e0, zero_add]
  exact sum_real _ (A.ex (i 0).val (i 1).val) fun k => expo A x0 x1 hq hk _

theorem total' (i : S12x2048x1.Idx) : (val_main_v36 (F := Ideal) x0 x1 i : EReal) = ((A.tot (i 0).val (i 1).val : ℝ) : EReal) := by
  rw [val_main_v36_apply]; exact total A x0 x1 hq hk _

theorem prob (i : S12x2048x2048.Idx) :
    (val_main_v38 (F := Ideal) x0 x1 i : EReal) = ((A.pr (i 0).val (i 1).val (i 2).val : ℝ) : EReal) := by
  have h1 : (i 1).val < 2048 := (i 1).isLt
  rw [val_main_v38_apply, Ideal.hostDivf_def, val_main_v37_apply, total' A x0 x1 hq hk, expo A x0 x1 hq hk]
  exact div_real _ _ (tot_pos A (i 0).val (i 1).val h1).ne'

theorem invSq (i : S12x2048x1.Idx) :
    (val_main_v41 (F := Ideal) x0 x1 i : EReal) = ((1 / (A.tot (i 0).val (i 1).val * A.tot (i 0).val (i 1).val) : ℝ) : EReal) := by
  have h1 : (i 1).val < 2048 := (i 1).isLt
  have ht := (tot_pos A (i 0).val (i 1).val h1).ne'
  have e1 : (val_main_v40 (F := Ideal) i : EReal) = ((1 : ℝ) : EReal) := by
    rw [val_main_v40_apply, val_main_cst_10_apply]; show Ideal.ofBits .f32 0x3F800000#32 = _; simp [Ideal.ofBits, Ideal.ieee]; rw [← EReal.coe_mul]; norm_num
  rw [val_main_v41_apply, Ideal.hostDivf_def, val_main_v39_apply, Ideal.mulf_def, e1, total' A x0 x1 hq hk, ← EReal.coe_mul]
  exact div_real _ _ (mul_ne_zero ht ht)

include hv

/-- The attention's result. -/
theorem result (i : S2048x1536.Idx) : (val_main_v44 (F := Ideal) x0 x1 x2 i : EReal)
    = ((A.out ((i 1).val / 128) (i 0).val ((i 1).val % 128) : ℝ) : EReal) := by
  have h0 : (i 0).val < 2048 := (i 0).isLt
  have h1 : (i 1).val < 1536 := (i 1).isLt
  rw [val_main_v44_apply, val_main_v43_apply, val_main_v42_apply]
  refine (dot_real _ _ (fun j => A.v (((i 0).val * 1536 + (i 1).val) / 128 % 12) j (((i 0).val * 1536 + (i 1).val) % 128))
    (fun j => A.pr (((i 0).val * 1536 + (i 1).val) / 128 % 12) (((i 0).val * 1536 + (i 1).val) / 1536) j)
    (fun k => hv _) (fun k => prob A x0 x1 hq hk _)).trans ?_
  rw [show ((i 0).val * 1536 + (i 1).val) / 128 % 12 = (i 1).val / 128 by omega, show ((i 0).val * 1536 + (i 1).val) / 1536 = (i 0).val by omega,
    show ((i 0).val * 1536 + (i 1).val) % 128 = (i 1).val % 128 by omega]
  refine congrArg _ ?_
  rw [Args.out, Finset.sum_div]
  exact Finset.sum_congr rfl fun j _ => by rw [Args.pr]; ring

end Cert.ReferenceIdeal.Attn

end
-- ==== Proof.RefGrads.lean ====
/- The reference's three gradients as real numbers (`Cert.ReferenceIdeal`), read operation by operation. -/
module

public import proofs.«01_k».proof.Proof.RefScores

@[expose] public section

set_option maxRecDepth 16384

noncomputable section

namespace Cert.ReferenceIdeal.Attn

open Cert.ReferenceIdeal Cert.ReferenceIdeal.Gen Cert.ReferenceIdeal.Read Idealize.ShloMosaic Idealize.ShloMosaic.TcCoe
open AttnMath

variable (A : Args) (x0 x1 : (⟨S12x2048x256, .bf16⟩ : BufTy).Contents (Elt Ideal))
  (x2 : (⟨S12x2048x128, .bf16⟩ : BufTy).Contents (Elt Ideal)) (x3 : (⟨S2048x1536, .f32⟩ : BufTy).Contents (Elt Ideal))
  (hq : ∀ i : S12x2048x256.Idx, (x0 i : EReal) = ((A.q (i 0).val (i 1).val (i 2).val : ℝ) : EReal))
  (hk : ∀ i : S12x2048x256.Idx, (x1 i : EReal) = ((A.k (i 0).val (i 1).val (i 2).val : ℝ) : EReal))
  (hv : ∀ i : S12x2048x128.Idx, (x2 i : EReal) = ((A.v (i 0).val (i 1).val (i 2).val : ℝ) : EReal))
  (hg : ∀ i : S2048x1536.Idx, (x3 i : EReal) = ((A.ct (i 0).val (i 1).val : ℝ) : EReal))

section Ct
include hg

/-- The cotangent rearranged: head, column, row. -/
theorem cot (i : S12x128x2048.Idx) :
    (val_main_v46 (F := Ideal) x3 i : EReal) = ((A.ct (i 2).val (128 * (i 0).val + (i 1).val) : ℝ) : EReal) := by
  have h0 : (i 0).val < 12 := (i 0).isLt
  have h1 : (i 1).val < 128 := (i 1).isLt
  have h2 : (i 2).val < 2048 := (i 2).isLt
  rw [val_main_v46_apply, val_main_v45_apply, hg]
  show ((A.ct ((((i 2).val * 12 + (i 0).val) * 128 + (i 1).val) / 1536) ((((i 2).val * 12 + (i 0).val) * 128 + (i 1).val) % 1536) : ℝ) : EReal) = _
  rw [show (((i 2).val * 12 + (i 0).val) * 128 + (i 1).val) / 1536 = (i 2).val by omega,
    show (((i 2).val * 12 + (i 0).val) * 128 + (i 1).val) % 1536 = 128 * (i 0).val + (i 1).val by omega]

include hv in
/-- The cotangent of the probabilities. -/
theorem dprob (i : S12x2048x2048.Idx) :
    (val_main_v47 (F := Ideal) x2 x3 i : EReal) = ((A.dp (i 0).val (i 1).val (i 2).val : ℝ) : EReal) := by
  rw [val_main_v47_apply]
  exact dot_real _ _ (fun d => A.ct (i 1).val (128 * (i 0).val + d)) (fun d => A.v (i 0).val (i 2).val d)
    (fun d => cot A x3 hg _) (fun d => hv _)

include hq hk in
/-- The values' gradient. -/
theorem dv (i : S12x2048x128.Idx) :
    (val_main_v49 (F := Ideal) x0 x1 x3 i : EReal) = ((A.dvUpTo 2048 (i 0).val (i 1).val (i 2).val : ℝ) : EReal) := by
  rw [val_main_v49_apply, val_main_v48_apply]
  refine (dot_real _ _ (fun r => A.ct r (128 * (i 0).val + (i 2).val)) (fun r => A.pr (i 0).val r (i 1).val)
    (fun r => cot A x3 hg _) (fun r => prob A x0 x1 hq hk _)).trans (congrArg _ ?_)
  exact Finset.sum_congr rfl fun r _ => mul_comm _ _

end Ct

include hq hk hv hg

/-- The row's sum the softmax's gradient takes away, over the row's sum of exponentials. -/
theorem rowSum (i : S12x2048.Idx) : (val_main_v53 (F := Ideal) x0 x1 x2 x3 i : EReal)
    = ((A.del (i 0).val (i 1).val / A.tot (i 0).val (i 1).val : ℝ) : EReal) := by
  have h1 : (i 1).val < 2048 := (i 1).isLt
  have ht := (tot_pos A (i 0).val (i 1).val h1).ne'
  have e0 : ((val_main_cst_11 (F := Ideal)) (Shape.Idx.first h_S_) : EReal) = 0 := by rw [val_main_cst_11_apply]; exact zeroBits
  rw [val_main_v53_apply, e0, zero_add]
  refine (sum_real _ (fun j => A.dp (i 0).val (i 1).val j * (1 / (A.tot (i 0).val (i 1).val * A.tot (i 0).val (i 1).val))
    * A.ex (i 0).val (i 1).val j) fun k => ?_).trans (congrArg _ ?_)
  · rw [val_main_v52_apply, Ideal.mulf_def, val_main_v51_apply, Ideal.mulf_def, dprob A x2 x3 hv hg, val_main_v50_apply,
      invSq A x0 x1 hq hk, expo A x0 x1 hq hk, ← EReal.coe_mul, ← EReal.coe_mul]
  · rw [del_eq, Finset.sum_div]
    refine Finset.sum_congr rfl fun j _ => ?_
    rw [Args.pr]; field_simp

/-- The same, negated and summed over an axis of one entry. -/
theorem rowSum' (i : S12x2048.Idx) : (val_main_v58 (F := Ideal) x0 x1 x2 x3 i : EReal)
    = ((-(A.del (i 0).val (i 1).val / A.tot (i 0).val (i 1).val) : ℝ) : EReal) := by
  have h0 : (i 0).val < 12 := (i 0).isLt
  have h1 : (i 1).val < 2048 := (i 1).isLt
  have e0 : ((val_main_cst_12 (F := Ideal)) (Shape.Idx.first h_S_) : EReal) = 0 := by rw [val_main_cst_12_apply]; exact zeroBits
  rw [val_main_v58_apply, e0, zero_add]
  refine (sum_real _ (fun _ => -(A.del (i 0).val (i 1).val / A.tot (i 0).val (i 1).val)) fun k => ?_).trans (congrArg _ ?_)
  · have hk0 : k.val = 0 := by omega
    rw [val_main_v55_apply]
    show -(val_main_v54 (F := Ideal) x0 x1 x2 x3 (idx_main_v58 i k) : EReal) = _
    rw [val_main_v54_apply, rowSum A x0 x1 x2 x3 hq hk hv hg]
    show -((A.del ((((i 0).val * 2048 + (i 1).val) * 1 + k.val) / 2048) ((((i 0).val * 2048 + (i 1).val) * 1 + k.val) % 2048)
      / A.tot ((((i 0).val * 2048 + (i 1).val) * 1 + k.val) / 2048) ((((i 0).val * 2048 + (i 1).val) * 1 + k.val) % 2048) : ℝ) : EReal) = _
    rw [show (((i 0).val * 2048 + (i 1).val) * 1 + k.val) / 2048 = (i 0).val by omega,
      show (((i 0).val * 2048 + (i 1).val) * 1 + k.val) % 2048 = (i 1).val by omega, ← EReal.coe_neg]
  · rw [Finset.sum_range_one]

/-- The cotangent of the scores before scaling. -/
theorem dscore (i : S12x2048x2048.Idx) :
    (val_main_v64 (F := Ideal) x0 x1 x2 x3 i : EReal) = ((A.ds (i 0).val (i 1).val (i 2).val : ℝ) : EReal) := by
  have h1 : (i 1).val < 2048 := (i 1).isLt
  have h2 : (i 2).val < 2048 := (i 2).isLt
  have ht := (tot_pos A (i 0).val (i 1).val h1).ne'
  have e57 : (val_main_v57 (F := Ideal) x0 x1 x2 x3 i : EReal)
      = ((A.dp (i 0).val (i 1).val (i 2).val / A.tot (i 0).val (i 1).val : ℝ) : EReal) := by
    rw [val_main_v57_apply, Ideal.hostDivf_def, dprob A x2 x3 hv hg, val_main_v56_apply, total' A x0 x1 hq hk]
    exact div_real _ _ ht
  have e61 : (val_main_v61 (F := Ideal) x0 x1 x2 x3 i : EReal)
      = ((A.pr (i 0).val (i 1).val (i 2).val * (A.dp (i 0).val (i 1).val (i 2).val - A.del (i 0).val (i 1).val) : ℝ) : EReal) := by
    rw [val_main_v61_apply, Ideal.mulf_def, val_main_v60_apply, Ideal.addf_def, e57, val_main_v59_apply,
      rowSum' A x0 x1 x2 x3 hq hk hv hg, expo A x0 x1 hq hk, ← EReal.coe_add, ← EReal.coe_mul]
    refine congrArg _ ?_
    rw [Args.pr]
    show (A.dp (i 0).val (i 1).val (i 2).val / A.tot (i 0).val (i 1).val + -(A.del (i 0).val (i 1).val / A.tot (i 0).val (i 1).val))
      * A.ex (i 0).val (i 1).val (i 2).val = _
    ring
  have ew : val_main_v13_1 (F := Ideal) i = IntOp.cmpi .sle (BitVec.ofNat 32 (i 2).val) (BitVec.ofNat 32 (i 1).val) := by
    rw [val_main_v13_1_apply, val_main_v12_apply, val_main_v10_apply, val_main_v8_apply, val_main_v7_apply, val_main_v11_apply,
      val_main_v9_apply, val_main_v7_apply]
  have ez : (val_main_call1_v0 (F := Ideal) i : EReal) = 0 := by
    rw [val_main_call1_v0_apply, val_main_call1_cst_apply]; exact zeroBits
  have e62 : (val_main_v62 (F := Ideal) x0 x1 x2 x3 i : EReal)
      = ((A.pr (i 0).val (i 1).val (i 2).val * (A.dp (i 0).val (i 1).val (i 2).val - A.del (i 0).val (i 1).val) : ℝ) : EReal) := by
    rw [val_main_v62_apply, ew, ez, e61]
    refine (select_small _ _ h1 h2 _ _).trans ?_
    split
    · rfl
    · next h => rw [pr_eq_zero A (i 0).val (i 1).val (i 2).val (by omega), zero_mul, EReal.coe_zero]
  rw [val_main_v64_apply, Ideal.hostDivf_def, e62, val_main_v63_apply, root]
  refine (div_real _ _ sqrt_pos.ne').trans (congrArg _ ?_)
  rw [div_eq_mul_inv]; rfl

/-- The keys' gradient. -/
theorem dk (i : S12x2048x256.Idx) :
    (val_main_v65 (F := Ideal) x0 x1 x2 x3 i : EReal) = ((A.dkUpTo 2048 (i 0).val (i 1).val (i 2).val : ℝ) : EReal) := by
  rw [val_main_v65_apply]
  exact dot_real _ _ (fun r => A.ds (i 0).val r (i 1).val) (fun r => A.q (i 0).val r (i 2).val)
    (fun r => dscore A x0 x1 x2 x3 hq hk hv hg _) (fun r => hq _)

/-- The queries' gradient. -/
theorem dq (i : S12x2048x256.Idx) :
    (val_main_v66 (F := Ideal) x0 x1 x2 x3 i : EReal) = ((A.dq (i 0).val (i 1).val (i 2).val : ℝ) : EReal) := by
  rw [val_main_v66_apply]
  exact dot_real _ _ (fun j => A.ds (i 0).val (i 1).val j) (fun j => A.k (i 0).val j (i 2).val)
    (fun j => dscore A x0 x1 x2 x3 hq hk hv hg _) (fun j => hk _)

end Cert.ReferenceIdeal.Attn

end
-- ==== Proof.Agree.lean ====
/- The two programs' results are equal: each element of either is the same real number. -/
module

public import proofs.«01_k».proof.Proof.Value
public import proofs.«01_k».proof.Proof.RefGrads

@[expose] public section

noncomputable section

namespace Cert.Agree

open Idealize.ShloMosaic Idealize.ShloMosaic.TcCoe
open AttnMath Cert.KernelIdeal.Attn

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD) (hA : AreReal m c)
  (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))

include hA h0 h1 h2 in
theorem out_eq : Cert.ReferenceIdeal.Value.res_main_v44 m' c = W2 m ρ c Cert.KernelIdeal.main_v0_0 := by
  rw [Cert.ReferenceIdeal.Read.val_main_v44_eq, h0, h1, h2]
  exact funext fun i => (Cert.ReferenceIdeal.Attn.result (args m c) _ _ _ hA.q hA.k hA.v i).trans (res_out m ρ c hA i).symm

include hA h0 h1 h2 h3 in
theorem dq_eq : Cert.ReferenceIdeal.Value.res_main_v66 m' c = W2 m ρ c Cert.KernelIdeal.main_v1_0 := by
  rw [Cert.ReferenceIdeal.Read.val_main_v66_eq, h0, h1, h2, h3]
  exact funext fun i => (Cert.ReferenceIdeal.Attn.dq (args m c) _ _ _ _ hA.q hA.k hA.v hA.ct i).trans (res_dq m ρ c hA i).symm

include hA h0 h1 h2 h3 in
theorem dk_eq : Cert.ReferenceIdeal.Value.res_main_v65 m' c = W2 m ρ c Cert.KernelIdeal.main_v1_1 := by
  rw [Cert.ReferenceIdeal.Read.val_main_v65_eq, h0, h1, h2, h3]
  exact funext fun i => (Cert.ReferenceIdeal.Attn.dk (args m c) _ _ _ _ hA.q hA.k hA.v hA.ct i).trans (res_dk m ρ c hA i).symm

include hA h0 h1 h3 in
theorem dv_eq : Cert.ReferenceIdeal.Value.res_main_v49 m' c = W2 m ρ c Cert.KernelIdeal.main_v1_2 := by
  rw [Cert.ReferenceIdeal.Read.val_main_v49_eq, h0, h1, h3]
  exact funext fun i => (Cert.ReferenceIdeal.Attn.dv (args m c) _ _ _ hA.q hA.k hA.ct i).trans (res_dv m ρ c hA i).symm

end Cert.Agree

end
-- ==== Proof.Products.lean ====
/- Vectors of extended reals as functions of whole-number coordinates, and the matrix products of them: no entry need be a number,
   the products of a row with a column are only added up. -/
module

public import proofs.«01_k».proof.Proof.Tiles

@[expose] public section

noncomputable section

namespace Products

open Idealize.ShloMosaic
open Idealize.ShloMosaic.ValueIdx
open AttnMath (Sh2 Sh3 colDims)

/-- Element `(i, j)` of a matrix (outside of it: zero). -/
def rd2 {a b : ℕ} (x : (⟨2, ![a, b]⟩ : Shape).Idx → EReal) (i j : ℕ) : EReal :=
  if h : i < a ∧ j < b then x (ix2 ⟨i, h.1⟩ ⟨j, h.2⟩) else 0
/-- Element `(e, i, j)` of a stack of matrices (outside of it: zero). -/
def rd3 {n a b : ℕ} (x : (⟨3, ![n, a, b]⟩ : Shape).Idx → EReal) (e i j : ℕ) : EReal :=
  if h : e < n ∧ i < a ∧ j < b then x (ix3 ⟨e, h.1⟩ ⟨i, h.2.1⟩ ⟨j, h.2.2⟩) else 0

/-- An array whose element at each index is `f` of the coordinates. -/
abbrev Arr2 {a b : ℕ} (x : (⟨2, ![a, b]⟩ : Shape).Idx → EReal) (f : ℕ → ℕ → EReal) : Prop :=
  ∀ i : (⟨2, ![a, b]⟩ : Shape).Idx, x i = f (i 0).val (i 1).val
abbrev Arr3 {n a b : ℕ} (x : (⟨3, ![n, a, b]⟩ : Shape).Idx → EReal) (f : ℕ → ℕ → ℕ → EReal) : Prop :=
  ∀ i : (⟨3, ![n, a, b]⟩ : Shape).Idx, x i = f (i 0).val (i 1).val (i 2).val

theorem arr2_rd2 {a b : ℕ} (x : (⟨2, ![a, b]⟩ : Shape).Idx → EReal) : Arr2 x (rd2 x) := fun i => by
  have h : (i 0).val < a ∧ (i 1).val < b := ⟨(i 0).isLt, (i 1).isLt⟩
  rw [rd2, dif_pos h]
  exact congrArg x (funext fun u => Fin.ext (match u with | ⟨0, _⟩ => rfl | ⟨1, _⟩ => rfl))

theorem arr3_rd3 {n a b : ℕ} (x : (⟨3, ![n, a, b]⟩ : Shape).Idx → EReal) : Arr3 x (rd3 x) := fun i => by
  have h : (i 0).val < n ∧ (i 1).val < a ∧ (i 2).val < b := ⟨(i 0).isLt, (i 1).isLt, (i 2).isLt⟩
  rw [rd3, dif_pos h]
  exact congrArg x (funext fun u => Fin.ext (match u with | ⟨0, _⟩ => rfl | ⟨1, _⟩ => rfl | ⟨2, _⟩ => rfl))

/-- The matrix `x` is `f`. -/
def E2 {a b : ℕ} {φ : FTy} (x : FVec Ideal (Sh2 a b) φ) (f : ℕ → ℕ → EReal) : Prop :=
  ∀ (i : Fin a) (j : Fin b), x (ix2 i j) = f i.val j.val
/-- The matrix `x` behind a unit axis is `f`. -/
def E3 {a b : ℕ} {φ : FTy} (x : FVec Ideal (Sh3 a b) φ) (f : ℕ → ℕ → EReal) : Prop :=
  ∀ (i : Fin a) (j : Fin b), x (ix3 (0 : Fin 1) i j) = f i.val j.val

variable {a b K : ℕ} {φ ψ : FTy}

theorem E2.congr {x : FVec Ideal (Sh2 a b) φ} {f g : ℕ → ℕ → EReal} (hx : E2 x f)
    (h : ∀ i j, i < a → j < b → f i j = g i j) : E2 x g :=
  fun i j => by rw [hx i j, h i j i.isLt j.isLt]

theorem E3.congr {x : FVec Ideal (Sh3 a b) φ} {f g : ℕ → ℕ → EReal} (hx : E3 x f)
    (h : ∀ i j, i < a → j < b → f i j = g i j) : E3 x g :=
  fun i j => by rw [hx i j, h i j i.isLt j.isLt]

theorem E3.drop {x : FVec Ideal (Sh3 a b) φ} {f : ℕ → ℕ → EReal} (hx : E3 x f) (h : (Sh3 a b).ShapeCasts (Sh2 a b)) :
    E2 (φ := φ) (shapeCast (Sh2 a b) x h) f :=
  fun i j => (shapeCast_1ab_ab_apply x h i j).trans (hx i j)

theorem E2.lift {x : FVec Ideal (Sh2 a b) φ} {f : ℕ → ℕ → EReal} (hx : E2 x f) (h : (Sh2 a b).ShapeCasts (Sh3 a b)) :
    E3 (φ := φ) (shapeCast (Sh3 a b) x h) f :=
  fun i j => (shapeCast_ab_1ab_apply x h 0 i j).trans (hx i j)

theorem E2.trunc {x : FVec Ideal (Sh2 a b) φ} {f : ℕ → ℕ → EReal} (hx : E2 x f) (h : ψ.bits < φ.bits) :
    E2 (φ := ψ) (truncf ψ x h) f := fun i j => hx i j

theorem E2.add {x y : FVec Ideal (Sh2 a b) φ} {f g : ℕ → ℕ → EReal} (hx : E2 x f) (hy : E2 y g) :
    E2 (addf x y) fun i j => f i j + g i j := fun i j => congrArg₂ (· + ·) (hx i j) (hy i j)

theorem E2.matNN {x : FVec Ideal (Sh2 a K) φ} {y : FVec Ideal (Sh2 K b) ψ} {f g : ℕ → ℕ → EReal} (hx : E2 x f)
    (hy : E2 y g) : E2 (matmul (DotDims.plain a K b) none x y (constant (Sh2 a b) .f32 0x00000000#32))
      fun i j => ∑ t ∈ Finset.range K, f i t * g t j :=
  fun i j => by
    refine (Ideal.matmul_plain_apply none x y _ i j).trans ?_
    show (FloatOps.ofBits (F := Ideal) .f32 0x00000000#32 : EReal) + _ = _
    rw [AttnMath.zeroBits, zero_add]
    refine Eq.trans ?_ (Finset.sum_range _).symm
    exact Finset.sum_congr rfl fun t _ => by rw [hx, hy]

theorem E2.matNT {x : FVec Ideal (Sh2 a K) φ} {y : FVec Ideal (Sh2 b K) ψ} {f g : ℕ → ℕ → EReal} (hx : E2 x f)
    (hy : E2 y g) : E2 (matmul (DotDims.transposedRhs a K b) none x y (constant (Sh2 a b) .f32 0x00000000#32))
      fun i j => ∑ t ∈ Finset.range K, f i t * g j t :=
  fun i j => by
    refine (Ideal.matmul_transposedRhs_apply none x y _ i j).trans ?_
    show (FloatOps.ofBits (F := Ideal) .f32 0x00000000#32 : EReal) + _ = _
    rw [AttnMath.zeroBits, zero_add]
    refine Eq.trans ?_ (Finset.sum_range _).symm
    exact Finset.sum_congr rfl fun t _ => by rw [hx, hy]

theorem E2.matTN {x : FVec Ideal (Sh2 K a) φ} {y : FVec Ideal (Sh2 K b) ψ} {f g : ℕ → ℕ → EReal} (hx : E2 x f)
    (hy : E2 y g) : E2 (matmul (colDims K a b) none x y (constant (Sh2 a b) .f32 0x00000000#32))
      fun i j => ∑ t ∈ Finset.range K, f t i * g t j :=
  fun i j => by
    have hr : (colDims K a b).contr.rank = 1 := rfl
    have hs : (colDims K a b).contr.size ⟨0, by rw [hr]; exact Nat.one_pos⟩ = K := rfl
    show FloatOps.matmul (colDims K a b) none x y _ (ix2 i j) = _
    rw [Ideal.matmul_apply, ← Equiv.sum_comp (contrEquiv1 _ K hr hs).symm]
    show (FloatOps.ofBits (F := Ideal) .f32 0x00000000#32 : EReal) + _ = _
    rw [AttnMath.zeroBits, zero_add]
    refine Eq.trans ?_ (Finset.sum_range _).symm
    refine Finset.sum_congr rfl fun t _ => ?_
    have hk := contrEquiv1_symm_val _ K hr hs t
    have el : (colDims K a b).lhsIdx (ix2 i j) ((contrEquiv1 _ K hr hs).symm t) = ix2 t i := by
      funext u; apply Fin.ext
      match u with
      | ⟨0, _⟩ => exact hk
      | ⟨1, _⟩ => rfl
    have er : (colDims K a b).rhsIdx (ix2 i j) ((contrEquiv1 _ K hr hs).symm t) = ix2 t j := by
      funext u; apply Fin.ext
      match u with
      | ⟨0, _⟩ => exact hk
      | ⟨1, _⟩ => rfl
    rw [el, er, hx, hy]

/-! A block of an array, given where the block's elements lie in it. -/

theorem Arr2.block {A B r s : ℕ} {X : (⟨2, ![A, B]⟩ : Shape).Idx → EReal} {f : ℕ → ℕ → EReal} (h : Arr2 X f)
    (e : (Sh2 a b).Idx → (⟨2, ![A, B]⟩ : Shape).Idx) (h0 : ∀ y, (e y 0).val = r * a + (y 0).val) (h1 : ∀ y, (e y 1).val = s * b + (y 1).val) :
    E2 (φ := φ) (fun y => X (e y)) fun i j => f (r * a + i) (s * b + j) :=
  fun i j => (h (e (ix2 i j))).trans (congrArg₂ f (h0 (ix2 i j)) (h1 (ix2 i j)))

theorem Arr3.block {N A B n r s : ℕ} {X : (⟨3, ![N, A, B]⟩ : Shape).Idx → EReal} {f : ℕ → ℕ → ℕ → EReal} (h : Arr3 X f)
    (e : (Sh3 a b).Idx → (⟨3, ![N, A, B]⟩ : Shape).Idx) (hn : ∀ y, (e y 0).val = n * 1 + (y 0).val) (h0 : ∀ y, (e y 1).val = r * a + (y 1).val)
    (h1 : ∀ y, (e y 2).val = s * b + (y 2).val) : E3 (φ := φ) (fun y => X (e y)) fun i j => f (n * 1) (r * a + i) (s * b + j) :=
  fun i j => (h (e (ix3 0 i j))).trans (congr (congrArg₂ f (hn (ix3 0 i j)) (h0 (ix3 0 i j))) (h1 (ix3 0 i j)))

/-! Sums of products at equal coordinates. -/

theorem sum22 {f g : ℕ → ℕ → EReal} {i i' j j' k k' l l' : ℕ → ℕ}
    (h : ∀ q < K, i q = i' q ∧ j q = j' q ∧ k q = k' q ∧ l q = l' q) :
    ∑ q ∈ Finset.range K, f (i q) (j q) * g (k q) (l q) = ∑ q ∈ Finset.range K, f (i' q) (j' q) * g (k' q) (l' q) :=
  Finset.sum_congr rfl fun q hq => by
    obtain ⟨h1, h2, h3, h4⟩ := h q (Finset.mem_range.mp hq)
    rw [h1, h2, h3, h4]

theorem sum23 {f : ℕ → ℕ → EReal} {g : ℕ → ℕ → ℕ → EReal} {i i' j j' k k' l l' n n' : ℕ → ℕ}
    (h : ∀ q < K, i q = i' q ∧ j q = j' q ∧ k q = k' q ∧ l q = l' q ∧ n q = n' q) :
    ∑ q ∈ Finset.range K, f (i q) (j q) * g (k q) (l q) (n q) = ∑ q ∈ Finset.range K, f (i' q) (j' q) * g (k' q) (l' q) (n' q) :=
  Finset.sum_congr rfl fun q hq => by
    obtain ⟨h1, h2, h3, h4, h5⟩ := h q (Finset.mem_range.mp hq)
    rw [h1, h2, h3, h4, h5]

/-- A sum over four parts of an axis is the sum over the axis. -/
theorem sum_parts (F : ℕ → EReal) (n : ℕ) :
    ∑ q ∈ Finset.range n, F q + ∑ q ∈ Finset.range n, F (n + q) + ∑ q ∈ Finset.range n, F (2 * n + q)
      + ∑ q ∈ Finset.range n, F (3 * n + q) = ∑ q ∈ Finset.range (4 * n), F q := by
  rw [show 4 * n = n + n + n + n by omega, Finset.sum_range_add, Finset.sum_range_add, Finset.sum_range_add,
    show n + n = 2 * n by omega, show 2 * n + n = 3 * n by omega]

/-- Two arrays that are the same function of the coordinates are equal. -/
theorem Arr2.eq {x y : (⟨2, ![a, b]⟩ : Shape).Idx → EReal} {f : ℕ → ℕ → EReal} (hx : Arr2 x f) (hy : Arr2 y f) : x = y :=
  funext fun i => (hx i).trans (hy i).symm
theorem Arr3.eq {n : ℕ} {x y : (⟨3, ![n, a, b]⟩ : Shape).Idx → EReal} {f : ℕ → ℕ → ℕ → EReal} (hx : Arr3 x f) (hy : Arr3 y f) : x = y :=
  funext fun i => (hx i).trans (hy i).symm

/-! The products of the layers, as functions of a result's coordinates. A stack of shards is read by the shard's number, the
row and the column; `c` is the number of columns of a shard. -/

/-- `x w`, with the columns of `w` cut into shards. -/
abbrev mulShards (K c : ℕ) (x : ℕ → ℕ → EReal) (w : ℕ → ℕ → ℕ → EReal) (r s : ℕ) : EReal :=
  ∑ q ∈ Finset.range K, x r q * w (s / c) q (s % c)
/-- `x w`. -/
abbrev mul (K : ℕ) (x w : ℕ → ℕ → EReal) (r s : ℕ) : EReal := ∑ q ∈ Finset.range K, x r q * w q s
/-- `x wᵀ`. -/
abbrev mulT (K : ℕ) (x w : ℕ → ℕ → EReal) (r s : ℕ) : EReal := ∑ q ∈ Finset.range K, x r q * w s q
/-- `y wᵀ`, with the columns of `w` cut into shards. -/
abbrev mulShardsT (K c : ℕ) (y : ℕ → ℕ → EReal) (w : ℕ → ℕ → ℕ → EReal) (r s : ℕ) : EReal :=
  ∑ q ∈ Finset.range K, y r q * w (q / c) s (q % c)
/-- `xᵀ y`. -/
abbrev tmul (K : ℕ) (x y : ℕ → ℕ → EReal) (r s : ℕ) : EReal := ∑ q ∈ Finset.range K, x q r * y q s
/-- `xᵀ y`, its columns cut into shards. -/
abbrev tmulShards (K c : ℕ) (x y : ℕ → ℕ → EReal) (e r s : ℕ) : EReal := ∑ q ∈ Finset.range K, x q r * y q (c * e + s)

/-! A block's value at the place its element has in the array. -/

theorem E2.place {A B r s : ℕ} {v : (Sh2 a b).Idx → Ideal φ} {F : ℕ → ℕ → EReal}
    (h : E2 v fun i j => F (r * a + i) (s * b + j)) {e : (⟨2, ![A, B]⟩ : Shape).Idx} {y z : (Sh2 a b).Idx}
    (h0 : (e 0).val = r * a + (y 0).val) (h1 : (e 1).val = s * b + (y 1).val) (hz : z = ix2 (y 0) (y 1)) : (v z : EReal) = F (e 0).val (e 1).val := by
  rw [hz, h0, h1]; exact h (y 0) (y 1)

theorem E3.place {N A B n r s : ℕ} {v : (Sh3 a b).Idx → Ideal φ} {F : ℕ → ℕ → ℕ → EReal}
    (h : E3 v fun i j => F (n * 1) (r * a + i) (s * b + j)) {e : (⟨3, ![N, A, B]⟩ : Shape).Idx} {y z : (Sh3 a b).Idx}
    (hn : (e 0).val = n * 1 + (y 0).val) (h0 : (e 1).val = r * a + (y 1).val) (h1 : (e 2).val = s * b + (y 2).val) (hz : z = y) :
    (v z : EReal) = F (e 0).val (e 1).val (e 2).val := by
  have hy : (y 0).val = 0 := Nat.lt_one_iff.mp (y 0).isLt
  have hv : y = ix3 (0 : Fin 1) (y 1) (y 2) := funext fun d => Fin.ext (match d with | ⟨0, _⟩ => hy | ⟨1, _⟩ => rfl | ⟨2, _⟩ => rfl)
  rw [hz, hn, h0, h1, hy, Nat.add_zero, congrArg v hv]
  exact h (y 1) (y 2)

/-- Some columns of a matrix. -/
theorem E2.cols {c n : ℕ} {x : FVec Ideal (Sh2 a b) φ} {f : ℕ → ℕ → EReal} (h : E2 x f) (e : (Sh2 a c).Idx → (Sh2 a b).Idx)
    (h0 : ∀ y, (e y 0).val = 0 + (y 0).val) (h1 : ∀ y, (e y 1).val = n + (y 1).val) :
    E2 (a := a) (b := c) (φ := φ) (fun y => x (e y)) fun i j => f i (n + j) := fun i j => by
  have hv : e (ix2 i j) = ix2 (e (ix2 i j) 0) (e (ix2 i j) 1) := Shape.idx_ext₂ rfl rfl
  exact (congrArg x hv).trans ((h _ _).trans (congrArg₂ f ((h0 (ix2 i j)).trans (Nat.zero_add _)) (h1 (ix2 i j))))

/-- An array read from a buffer that holds what another did. -/
theorem arr2_of {x y : (⟨2, ![a, b]⟩ : Shape).Idx → EReal} (h : x = y) : Arr2 x (rd2 y) := h ▸ arr2_rd2 y
theorem arr3_of {n : ℕ} {x y : (⟨3, ![n, a, b]⟩ : Shape).Idx → EReal} (h : x = y) : Arr3 x (rd3 y) := h ▸ arr3_rd3 y

/-! Over the extended reals a change of format is the identity. -/

theorem trunc_eq (h) (x : Ideal .f32) : FloatOps.truncf (F := Ideal) .bf16 h x = x := rfl
theorem ext_eq (h) (x : Ideal .bf16) : FloatOps.extf (F := Ideal) .f32 h x = x := rfl

/-- A sum over an axis, term by term, as a sum over a range. -/
theorem sum_eq {K : ℕ} {F : Fin K → EReal} {G : ℕ → EReal} (h : ∀ k : Fin K, F k = G k.val) : ∑ k, F k = ∑ q ∈ Finset.range K, G q :=
  (Finset.sum_congr rfl fun k _ => h k).trans (Finset.sum_range G).symm

theorem rd2_at (x : (⟨2, ![a, b]⟩ : Shape).Idx → EReal) (i) {r s : ℕ} (h0 : (i 0).val = r) (h1 : (i 1).val = s) : x i = rd2 x r s :=
  (arr2_rd2 x i).trans (congrArg₂ (rd2 x) h0 h1)
theorem rd3_at {n : ℕ} (x : (⟨3, ![n, a, b]⟩ : Shape).Idx → EReal) (i) {e r s : ℕ} (hn : (i 0).val = e) (h0 : (i 1).val = r)
    (h1 : (i 2).val = s) : x i = rd3 x e r s :=
  (arr3_rd3 x i).trans (congr (congrArg₂ (rd3 x) hn h0) h1)

end Products

end
-- ==== Proof.Layer0.lean ====
/- The state-space layer's projections (`Cert.Kernel2Ideal`): what each call leaves in its result, element by element. -/
module

public import proofs.«01_k».proof.Proof.Products
public import proofs.«01_k».proof.Proof.Gen.Kernel2Ideal.Frame
public import Idealize.ShloMosaic.Lib.Pipeline.ValueKit

@[expose] public section

set_option maxRecDepth 16384

noncomputable section

namespace Cert.Kernel2Ideal.Products

open Cert.Kernel2Ideal.Gen
open Idealize.ShloMosaic Idealize.ShloMosaic.TcCoe
open Idealize.ShloMosaic.ValueIdx
open Idealize.ShloMosaic.Pipeline (Dat)
open Idealize.ShloMosaic.Pipeline.Window (rect_emb_val)
open _root_.Products

variable (V : (c : Dev nD) → (b : Ref sig .tc) → Buf (Elt Ideal) ((c : Thread nD τ).loc b)) (c : Dev nD)

/-! The input projection: a shard of the weights at each step. -/

theorem index0 : ∀ t : Fin cfg0.N, win0_0.index t 0 = 0 ∧ win0_0.index t 1 = 0 ∧ win0_1.index t 0 = t.val ∧ win0_1.index t 1 = 0
    ∧ win0_1.index t 2 = 0 ∧ win0_2.index t 0 = 0 ∧ win0_2.index t 1 = t.val := by decide +kernel

theorem stored0 (x y) {f g} (hx : E2 (a := 2048) (b := 1024) (φ := .bf16) x f) (hy : E3 (a := 1024) (b := 1024) (φ := .bf16) y g) :
    E2 (a := 2048) (b := 1024) (φ := .bf16) (out0_2 (F := Ideal) x y) (mul 1024 f g) := by
  unfold out0_2
  rw [View.canon_cons_unit_lit _ _ _ (by decide), View.ld_unit_lit _ _ (by decide), View.ld_unit_lit _ _ (by decide)]
  exact (hx.matNN (hy.drop _)).trunc _

theorem result0 {f g} (hx : Arr2 (a := 2048) (b := 1024) (V c main_arg0) f) (hy : Arr3 (n := 4) (a := 1024) (b := 1024) (V c main_arg1) g) :
    Arr2 (a := 2048) (b := 4096) ((dat0 V c).arrAt 2 cfg0.N) (mulShards 1024 1024 f g) :=
  (dat0 V c).arrAt_forall_of_covers 2 (fun i v => (v : EReal) = mulShards 1024 1024 f g (i 0 : Fin 2048).val (i 1 : Fin 4096).val)
    (by decide +kernel) fun t _ y => by
    have ht := index0 t
    have h := stored0 (iblk0 V c 0 t) (iblk0 V c 1 t)
      (hx.block ((cfg0.win 0).blk t).view.emb (rect_emb_val win0_0 t · 0) (rect_emb_val win0_0 t · 1))
      (hy.block ((cfg0.win 1).blk t).view.emb (rect_emb_val win0_1 t · 0) (rect_emb_val win0_1 t · 1) (rect_emb_val win0_1 t · 2))
    exact (congrFun (after0_2 V c t) _).trans ((h.congr fun i j _ _ => sum23 fun q _ => by omega).place (F := mulShards 1024 1024 f g)
      (rect_emb_val win0_2 t y 0) (rect_emb_val win0_2 t y 1) (Shape.idx_ext₂ rfl rfl))

/-! The gate projection. -/

theorem index1 : ∀ t : Fin cfg1.N, win1_0.index t 0 = 0 ∧ win1_0.index t 1 = 0 ∧ win1_1.index t 0 = t.val ∧ win1_1.index t 1 = 0
    ∧ win1_1.index t 2 = 0 ∧ win1_2.index t 0 = 0 ∧ win1_2.index t 1 = t.val := by decide +kernel

theorem stored1 (x y) {f g} (hx : E2 (a := 2048) (b := 1536) (φ := .bf16) x f) (hy : E3 (a := 1536) (b := 768) (φ := .bf16) y g) :
    E2 (a := 2048) (b := 768) (φ := .bf16) (out1_2 (F := Ideal) x y) (mul 1536 f g) := by
  unfold out1_2
  rw [View.canon_cons_unit_lit _ _ _ (by decide), View.ld_unit_lit _ _ (by decide), View.ld_unit_lit _ _ (by decide)]
  exact (hx.matNN (hy.drop _)).trunc _

theorem result1 {f g} (hx : Arr2 (a := 2048) (b := 1536) (V c main_arg3) f) (hy : Arr3 (n := 4) (a := 1536) (b := 768) (V c main_arg4) g) :
    Arr2 (a := 2048) (b := 3072) ((dat1 V c).arrAt 2 cfg1.N) (mulShards 1536 768 f g) :=
  (dat1 V c).arrAt_forall_of_covers 2 (fun i v => (v : EReal) = mulShards 1536 768 f g (i 0 : Fin 2048).val (i 1 : Fin 3072).val)
    (by decide +kernel) fun t _ y => by
    have ht := index1 t
    have h := stored1 (iblk1 V c 0 t) (iblk1 V c 1 t)
      (hx.block ((cfg1.win 0).blk t).view.emb (rect_emb_val win1_0 t · 0) (rect_emb_val win1_0 t · 1))
      (hy.block ((cfg1.win 1).blk t).view.emb (rect_emb_val win1_1 t · 0) (rect_emb_val win1_1 t · 1) (rect_emb_val win1_1 t · 2))
    exact (congrFun (after1_2 V c t) _).trans ((h.congr fun i j _ _ => sum23 fun q _ => by omega).place (F := mulShards 1536 768 f g)
      (rect_emb_val win1_2 t y 0) (rect_emb_val win1_2 t y 1) (Shape.idx_ext₂ rfl rfl))

/-! The gate projection's weight gradient: a third of the rows of a shard at each step. -/

theorem index2 : ∀ t : Fin cfg2.N, win2_0.index t 0 = 0 ∧ win2_0.index t 1 = t.val / 4 ∧ win2_1.index t 0 = 0 ∧ win2_1.index t 1 = t.val % 4
    ∧ win2_2.index t 0 = t.val % 4 ∧ win2_2.index t 1 = t.val / 4 ∧ win2_2.index t 2 = 0 := by decide +kernel

theorem stored2 (x y) {f g} (hx : E2 (a := 2048) (b := 512) (φ := .bf16) x f) (hy : E2 (a := 2048) (b := 768) (φ := .bf16) y g) :
    E3 (a := 512) (b := 768) (φ := .bf16) (out2_2 (F := Ideal) x y) (tmul 2048 f g) := by
  unfold out2_2
  rw [View.canon_cons_unit_lit _ _ _ (by decide), View.ld_unit_lit _ _ (by decide), View.ld_unit_lit _ _ (by decide)]
  exact ((hx.matTN hy).trunc _).lift _

theorem result2 {f g} (hx : Arr2 (a := 2048) (b := 1536) (V c main_arg3) f) (hy : Arr2 (a := 2048) (b := 3072) (V c main_arg5) g) :
    Arr3 (n := 4) (a := 1536) (b := 768) ((dat2 V c).arrAt 2 cfg2.N) (tmulShards 2048 768 f g) :=
  (dat2 V c).arrAt_forall_of_covers 2
    (fun i v => (v : EReal) = tmulShards 2048 768 f g (i 0 : Fin 4).val (i 1 : Fin 1536).val (i 2 : Fin 768).val)
    (by decide +kernel) fun t _ y => by
    have ht := index2 t
    have h := stored2 (iblk2 V c 0 t) (iblk2 V c 1 t)
      (hx.block ((cfg2.win 0).blk t).view.emb (rect_emb_val win2_0 t · 0) (rect_emb_val win2_0 t · 1))
      (hy.block ((cfg2.win 1).blk t).view.emb (rect_emb_val win2_1 t · 0) (rect_emb_val win2_1 t · 1))
    exact (congrFun (after2_2 V c t) _).trans ((h.congr fun i j _ _ => sum22 fun q _ => by omega).place (F := tmulShards 2048 768 f g)
      (rect_emb_val win2_2 t y 0) (rect_emb_val win2_2 t y 1) (rect_emb_val win2_2 t y 2)
      (funext fun a => Fin.ext (match a with | ⟨0, _⟩ => rfl | ⟨1, _⟩ => rfl | ⟨2, _⟩ => rfl)))

/-! The input projection's weight gradient: a shard at each step. -/

theorem index3 : ∀ t : Fin cfg3.N, win3_0.index t 0 = 0 ∧ win3_0.index t 1 = 0 ∧ win3_1.index t 0 = 0 ∧ win3_1.index t 1 = t.val
    ∧ win3_2.index t 0 = t.val ∧ win3_2.index t 1 = 0 ∧ win3_2.index t 2 = 0 := by decide +kernel

theorem stored3 (x y) {f g} (hx : E2 (a := 2048) (b := 1024) (φ := .bf16) x f) (hy : E2 (a := 2048) (b := 1024) (φ := .bf16) y g) :
    E3 (a := 1024) (b := 1024) (φ := .bf16) (out3_2 (F := Ideal) x y) (tmul 2048 f g) := by
  unfold out3_2
  rw [View.canon_cons_unit_lit _ _ _ (by decide), View.ld_unit_lit _ _ (by decide), View.ld_unit_lit _ _ (by decide)]
  exact ((hx.matTN hy).trunc _).lift _

theorem result3 {f g} (hx : Arr2 (a := 2048) (b := 1024) (V c main_arg0) f) (hy : Arr2 (a := 2048) (b := 4096) (V c main_arg2) g) :
    Arr3 (n := 4) (a := 1024) (b := 1024) ((dat3 V c).arrAt 2 cfg3.N) (tmulShards 2048 1024 f g) :=
  (dat3 V c).arrAt_forall_of_covers 2
    (fun i v => (v : EReal) = tmulShards 2048 1024 f g (i 0 : Fin 4).val (i 1 : Fin 1024).val (i 2 : Fin 1024).val)
    (by decide +kernel) fun t _ y => by
    have ht := index3 t
    have h := stored3 (iblk3 V c 0 t) (iblk3 V c 1 t)
      (hx.block ((cfg3.win 0).blk t).view.emb (rect_emb_val win3_0 t · 0) (rect_emb_val win3_0 t · 1))
      (hy.block ((cfg3.win 1).blk t).view.emb (rect_emb_val win3_1 t · 0) (rect_emb_val win3_1 t · 1))
    exact (congrFun (after3_2 V c t) _).trans ((h.congr fun i j _ _ => sum22 fun q _ => by omega).place (F := tmulShards 2048 1024 f g)
      (rect_emb_val win3_2 t y 0) (rect_emb_val win3_2 t y 1) (rect_emb_val win3_2 t y 2)
      (funext fun a => Fin.ext (match a with | ⟨0, _⟩ => rfl | ⟨1, _⟩ => rfl | ⟨2, _⟩ => rfl)))

end Cert.Kernel2Ideal.Products

end
-- ==== Proof.Layer0Run.lean ====
/- The state-space layer's calls one after the other (`Cert.Kernel2Ideal`): from the launch to the return every buffer's contents are known. -/
module

public import proofs.«01_k».proof.Proof.Layer0

@[expose] public section

set_option maxRecDepth 16384

noncomputable section

namespace Cert.Kernel2Ideal.Products

open Cert.Kernel2Ideal.Gen
open Idealize.ShloMosaic Idealize.ShloMosaic.TcCoe Idealize.ShloMosaic.Tactic
open Idealize.SL
open RA BI BI.BIBase BI.Laws ProofMode Idealize.SL.Sem Rounds
open _root_.Products

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_all : θ_run defs (onTc (τ := τ) (main (F := F))) ⟨m, fun _ => 0, ρ⟩ (fun r =>
      (∀ c : Dev nD, ∀ b ∈ Pipeline.ucRefs τ sig, r.2.mem (((c : Thread nD τ)).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held c.tc (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m (c.tc.loc b)) = StableHlo.held c.tc (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

end Run

/-! What the results hold at the end: each is written by one call, which reads arguments only. -/

variable (m : (ℓ : Loc nD τ sig) → Buf (Elt Ideal) ℓ) (ρ : Dev nD → PrngReg) (c : Dev nD)

/-- An argument at the launch. -/
abbrev arg (b : Ref sig .tc) : Buf (Elt Ideal) ((c : Thread nD τ).loc b) := m (c.tc.loc b)

theorem projected : Arr2 (a := 2048) (b := 4096) (W4 m ρ c main_v0) (mulShards 1024 1024 (rd2 (arg m c main_arg0)) (rd3 (arg m c main_arg1))) := by
  rw [show W4 m ρ c main_v0 = (dat0 (V0 m ρ) c).arrAt 2 cfg0.N from (W4_of m ρ c main_v0 (by decide)).trans
    ((W3_of m ρ c main_v0 (by decide)).trans ((W2_of m ρ c main_v0 (by decide)).trans (W1_arr m ρ c 2)))]
  exact result0 (V0 m ρ) c (arr2_of (W0_args m ρ c main_arg0 (by decide))) (arr3_of (W0_args m ρ c main_arg1 (by decide)))

theorem gated : Arr2 (a := 2048) (b := 3072) (W4 m ρ c main_v1) (mulShards 1536 768 (rd2 (arg m c main_arg3)) (rd3 (arg m c main_arg4))) := by
  rw [show W4 m ρ c main_v1 = (dat1 (V1 m ρ) c).arrAt 2 cfg1.N from (W4_of m ρ c main_v1 (by decide)).trans
    ((W3_of m ρ c main_v1 (by decide)).trans (W2_arr m ρ c 2))]
  exact result1 (V1 m ρ) c (arr2_of (W1_args m ρ c main_arg3 (by decide))) (arr3_of (W1_args m ρ c main_arg4 (by decide)))

theorem gateGrad : Arr3 (n := 4) (a := 1536) (b := 768) (W4 m ρ c main_v2)
    (tmulShards 2048 768 (rd2 (arg m c main_arg3)) (rd2 (arg m c main_arg5))) := by
  rw [show W4 m ρ c main_v2 = (dat2 (V2 m ρ) c).arrAt 2 cfg2.N from (W4_of m ρ c main_v2 (by decide)).trans (W3_arr m ρ c 2)]
  exact result2 (V2 m ρ) c (arr2_of (W2_args m ρ c main_arg3 (by decide))) (arr2_of (W2_args m ρ c main_arg5 (by decide)))

theorem inGrad : Arr3 (n := 4) (a := 1024) (b := 1024) (W4 m ρ c main_v3)
    (tmulShards 2048 1024 (rd2 (arg m c main_arg0)) (rd2 (arg m c main_arg2))) := by
  rw [show W4 m ρ c main_v3 = (dat3 (V3 m ρ) c).arrAt 2 cfg3.N from W4_arr m ρ c 2]
  exact result3 (V3 m ρ) c (arr2_of (W3_args m ρ c main_arg0 (by decide))) (arr2_of (W3_args m ρ c main_arg2 (by decide)))

end Cert.Kernel2Ideal.Products

end
-- ==== Proof.Layer0Ref.lean ====
/- The products `reference2` takes, element by element (`Cert.Reference2Ideal`). -/
module

public import proofs.«01_k».proof.Proof.Products
public import proofs.«01_k».proof.Proof.Gen.Reference2Ideal.Read

@[expose] public section

set_option maxRecDepth 16384

noncomputable section

namespace Cert.Reference2Ideal.Products

open Cert.Reference2Ideal Cert.Reference2Ideal.Gen Cert.Reference2Ideal.Read
open Idealize.ShloMosaic Idealize.ShloMosaic.TcCoe
open _root_.Products

theorem projected (x0 x1) : Arr2 (a := 2048) (b := 4096) (val_main_v11 (F := Ideal) x0 x1) (mulShards 1024 1024 (rd2 x0) (rd3 x1)) := fun i => by
  have hs : (i 1).val < 4096 := (i 1).isLt
  rw [val_main_v11_apply, trunc_eq, val_main_v4_apply]
  refine sum_eq fun k => ?_
  rw [val_main_v0_apply, val_main_v3_apply, val_main_v2_apply, val_main_v1_apply, ext_eq, ext_eq]
  exact congrArg₂ (· * ·) (rd2_at x0 _ rfl rfl) (rd3_at x1 _
    (by change (k.val * 4096 + (i 1).val) / 1024 % 4 = _; omega) (by change (k.val * 4096 + (i 1).val) / 4096 = _; omega)
    (by change (k.val * 4096 + (i 1).val) % 1024 = _; omega))

theorem inGrad (x0 x2) : Arr3 (n := 4) (a := 1024) (b := 1024) (val_main_v13 (F := Ideal) x0 x2) (tmulShards 2048 1024 (rd2 x0) (rd2 x2)) := fun i => by
  have he : (i 0).val < 4 := (i 0).isLt
  have hs : (i 2).val < 1024 := (i 2).isLt
  rw [val_main_v13_apply, trunc_eq, val_main_v10_apply, val_main_v9_apply, val_main_v7_apply, val_main_v6_apply]
  refine sum_eq fun k => ?_
  rw [val_main_v0_apply, val_main_v5_apply, ext_eq, ext_eq]
  exact (mul_comm _ _).trans (congrArg₂ (· * ·)
    (rd2_at x0 _ rfl (by change (((i 1).val * 4 + (i 0).val) * 1024 + (i 2).val) / 4096 = _; omega))
    (rd2_at x2 _ rfl (by change (((i 1).val * 4 + (i 0).val) * 1024 + (i 2).val) % 4096 = _; omega)))

theorem gated (x3 x4) : Arr2 (a := 2048) (b := 3072) (val_main_v25 (F := Ideal) x3 x4) (mulShards 1536 768 (rd2 x3) (rd3 x4)) := fun i => by
  have hs : (i 1).val < 3072 := (i 1).isLt
  rw [val_main_v25_apply, trunc_eq, val_main_v18_apply]
  refine sum_eq fun k => ?_
  rw [val_main_v14_apply, val_main_v17_apply, val_main_v16_apply, val_main_v15_apply, ext_eq, ext_eq]
  exact congrArg₂ (· * ·) (rd2_at x3 _ rfl rfl) (rd3_at x4 _
    (by change (k.val * 3072 + (i 1).val) / 768 % 4 = _; omega) (by change (k.val * 3072 + (i 1).val) / 3072 = _; omega)
    (by change (k.val * 3072 + (i 1).val) % 768 = _; omega))

theorem gateGrad (x3 x5) : Arr3 (n := 4) (a := 1536) (b := 768) (val_main_v27 (F := Ideal) x3 x5) (tmulShards 2048 768 (rd2 x3) (rd2 x5)) := fun i => by
  have he : (i 0).val < 4 := (i 0).isLt
  have hs : (i 2).val < 768 := (i 2).isLt
  rw [val_main_v27_apply, trunc_eq, val_main_v24_apply, val_main_v23_apply, val_main_v21_apply, val_main_v20_apply]
  refine sum_eq fun k => ?_
  rw [val_main_v14_apply, val_main_v19_apply, ext_eq, ext_eq]
  exact (mul_comm _ _).trans (congrArg₂ (· * ·)
    (rd2_at x3 _ rfl (by change (((i 1).val * 4 + (i 0).val) * 768 + (i 2).val) / 3072 = _; omega))
    (rd2_at x5 _ rfl (by change (((i 1).val * 4 + (i 0).val) * 768 + (i 2).val) % 3072 = _; omega)))

end Cert.Reference2Ideal.Products

end
-- ==== Proof.Layer1.lean ====
/- The attention layer's projections (`Cert.Kernel3Ideal`): what each call leaves in its result, element by element. -/
module

public import proofs.«01_k».proof.Proof.Products
public import proofs.«01_k».proof.Proof.Gen.Kernel3Ideal.Frame
public import Idealize.ShloMosaic.Lib.Pipeline.ValueKit

@[expose] public section

set_option maxRecDepth 16384

noncomputable section

namespace Cert.Kernel3Ideal.Products

open Cert.Kernel3Ideal.Gen
open Idealize.ShloMosaic Idealize.ShloMosaic.TcCoe
open Idealize.ShloMosaic.ValueIdx
open Idealize.ShloMosaic.Pipeline (Dat)
open Idealize.ShloMosaic.Pipeline.Window (rect_emb_val)
open _root_.Products

variable (V : (c : Dev nD) → (b : Ref sig .tc) → Buf (Elt Ideal) ((c : Thread nD τ).loc b)) (c : Dev nD)

/-! The input projection: 384 rows of the transposed weights at each step. -/

theorem index0 : ∀ t : Fin cfg0.N, win0_0.index t 0 = 0 ∧ win0_0.index t 1 = 0 ∧ win0_1.index t 0 = t.val ∧ win0_1.index t 1 = 0
    ∧ win0_2.index t 0 = 0 ∧ win0_2.index t 1 = t.val := by decide +kernel

theorem stored0 (x y) {f g} (hx : E2 (a := 2048) (b := 1024) (φ := .bf16) x f) (hy : E2 (a := 384) (b := 1024) (φ := .bf16) y g) :
    E2 (a := 2048) (b := 384) (φ := .bf16) (out0_2 (F := Ideal) x y) (mulT 1024 f g) := by
  unfold out0_2
  rw [View.canon_cons_unit_lit _ _ _ (by decide), View.ld_unit_lit _ _ (by decide), View.ld_unit_lit _ _ (by decide)]
  exact (hx.matNT hy).trunc _

theorem result0 {f g} (hx : Arr2 (a := 2048) (b := 1024) (V c main_arg0) f) (hy : Arr2 (a := 3456) (b := 1024) (V c main_arg1) g) :
    Arr2 (a := 2048) (b := 3456) ((dat0 V c).arrAt 2 cfg0.N) (mulT 1024 f g) :=
  (dat0 V c).arrAt_forall_of_covers 2 (fun i v => (v : EReal) = mulT 1024 f g (i 0 : Fin 2048).val (i 1 : Fin 3456).val)
    (by decide +kernel) fun t _ y => by
    have ht := index0 t
    have h := stored0 (iblk0 V c 0 t) (iblk0 V c 1 t)
      (hx.block ((cfg0.win 0).blk t).view.emb (rect_emb_val win0_0 t · 0) (rect_emb_val win0_0 t · 1))
      (hy.block ((cfg0.win 1).blk t).view.emb (rect_emb_val win0_1 t · 0) (rect_emb_val win0_1 t · 1))
    exact (congrFun (after0_2 V c t) _).trans ((h.congr fun i j _ _ => sum22 fun q _ => by omega).place (F := mulT 1024 f g)
      (rect_emb_val win0_2 t y 0) (rect_emb_val win0_2 t y 1) (Shape.idx_ext₂ rfl rfl))

/-! The queries' projection from their rank: a head's 192 rows four at a time. -/

theorem index1 : ∀ t : Fin cfg1.N, win1_0.index t 0 = 0 ∧ win1_0.index t 1 = 0 ∧ win1_1.index t 0 = t.val ∧ win1_1.index t 1 = 0
    ∧ win1_2.index t 0 = 0 ∧ win1_2.index t 1 = t.val := by decide +kernel

theorem stored1 (x y) {f g} (hx : E2 (a := 2048) (b := 512) (φ := .bf16) x f) (hy : E2 (a := 768) (b := 512) (φ := .bf16) y g) :
    E2 (a := 2048) (b := 768) (φ := .bf16) (out1_2 (F := Ideal) x y) (mulT 512 f g) := by
  unfold out1_2
  rw [View.canon_cons_unit_lit _ _ _ (by decide), View.ld_unit_lit _ _ (by decide), View.ld_unit_lit _ _ (by decide)]
  exact (hx.matNT hy).trunc _

theorem result1 {f g} (hx : Arr2 (a := 2048) (b := 512) (V c main_arg3) f) (hy : Arr2 (a := 2304) (b := 512) (V c main_arg4) g) :
    Arr2 (a := 2048) (b := 2304) ((dat1 V c).arrAt 2 cfg1.N) (mulT 512 f g) :=
  (dat1 V c).arrAt_forall_of_covers 2 (fun i v => (v : EReal) = mulT 512 f g (i 0 : Fin 2048).val (i 1 : Fin 2304).val)
    (by decide +kernel) fun t _ y => by
    have ht := index1 t
    have h := stored1 (iblk1 V c 0 t) (iblk1 V c 1 t)
      (hx.block ((cfg1.win 0).blk t).view.emb (rect_emb_val win1_0 t · 0) (rect_emb_val win1_0 t · 1))
      (hy.block ((cfg1.win 1).blk t).view.emb (rect_emb_val win1_1 t · 0) (rect_emb_val win1_1 t · 1))
    exact (congrFun (after1_2 V c t) _).trans ((h.congr fun i j _ _ => sum22 fun q _ => by omega).place (F := mulT 512 f g)
      (rect_emb_val win1_2 t y 0) (rect_emb_val win1_2 t y 1) (Shape.idx_ext₂ rfl rfl))

/-! The keys' and values' projection from their rank: a shard of the weights at each step. -/

theorem index2 : ∀ t : Fin cfg2.N, win2_0.index t 0 = 0 ∧ win2_0.index t 1 = 0 ∧ win2_1.index t 0 = t.val ∧ win2_1.index t 1 = 0
    ∧ win2_1.index t 2 = 0 ∧ win2_2.index t 0 = 0 ∧ win2_2.index t 1 = t.val := by decide +kernel

theorem stored2 (x y) {f g} (hx : E2 (a := 2048) (b := 256) (φ := .bf16) x f) (hy : E3 (a := 256) (b := 768) (φ := .bf16) y g) :
    E2 (a := 2048) (b := 768) (φ := .bf16) (out2_2 (F := Ideal) x y) (mul 256 f g) := by
  unfold out2_2
  rw [View.canon_cons_unit_lit _ _ _ (by decide), View.ld_unit_lit _ _ (by decide), View.ld_unit_lit _ _ (by decide)]
  exact (hx.matNN (hy.drop _)).trunc _

theorem result2 {f g} (hx : Arr2 (a := 2048) (b := 256) (V c main_arg6) f) (hy : Arr3 (n := 4) (a := 256) (b := 768) (V c main_arg7) g) :
    Arr2 (a := 2048) (b := 3072) ((dat2 V c).arrAt 2 cfg2.N) (mulShards 256 768 f g) :=
  (dat2 V c).arrAt_forall_of_covers 2 (fun i v => (v : EReal) = mulShards 256 768 f g (i 0 : Fin 2048).val (i 1 : Fin 3072).val)
    (by decide +kernel) fun t _ y => by
    have ht := index2 t
    have h := stored2 (iblk2 V c 0 t) (iblk2 V c 1 t)
      (hx.block ((cfg2.win 0).blk t).view.emb (rect_emb_val win2_0 t · 0) (rect_emb_val win2_0 t · 1))
      (hy.block ((cfg2.win 1).blk t).view.emb (rect_emb_val win2_1 t · 0) (rect_emb_val win2_1 t · 1) (rect_emb_val win2_1 t · 2))
    exact (congrFun (after2_2 V c t) _).trans ((h.congr fun i j _ _ => sum23 fun q _ => by omega).place (F := mulShards 256 768 f g)
      (rect_emb_val win2_2 t y 0) (rect_emb_val win2_2 t y 1) (Shape.idx_ext₂ rfl rfl))

/-! The gradient of the queries' rank, in one step. -/

theorem index3 : ∀ t : Fin cfg3.N, win3_0.index t 0 = 0 ∧ win3_0.index t 1 = 0 ∧ win3_1.index t 0 = 0 ∧ win3_1.index t 1 = 0
    ∧ win3_2.index t 0 = 0 ∧ win3_2.index t 1 = 0 := by decide +kernel

theorem stored3 (x y) {f g} (hx : E2 (a := 2048) (b := 2304) (φ := .bf16) x f) (hy : E2 (a := 2304) (b := 512) (φ := .bf16) y g) :
    E2 (a := 2048) (b := 512) (φ := .bf16) (out3_2 (F := Ideal) x y) (mul 2304 f g) := by
  unfold out3_2
  rw [View.canon_cons_unit_lit _ _ _ (by decide), View.ld_unit_lit _ _ (by decide), View.ld_unit_lit _ _ (by decide)]
  exact (hx.matNN hy).trunc _

theorem result3 {f g} (hx : Arr2 (a := 2048) (b := 2304) (V c main_arg5) f) (hy : Arr2 (a := 2304) (b := 512) (V c main_arg4) g) :
    Arr2 (a := 2048) (b := 512) ((dat3 V c).arrAt 2 cfg3.N) (mul 2304 f g) :=
  (dat3 V c).arrAt_forall_of_covers 2 (fun i v => (v : EReal) = mul 2304 f g (i 0 : Fin 2048).val (i 1 : Fin 512).val)
    (by decide +kernel) fun t _ y => by
    have ht := index3 t
    have h := stored3 (iblk3 V c 0 t) (iblk3 V c 1 t)
      (hx.block ((cfg3.win 0).blk t).view.emb (rect_emb_val win3_0 t · 0) (rect_emb_val win3_0 t · 1))
      (hy.block ((cfg3.win 1).blk t).view.emb (rect_emb_val win3_1 t · 0) (rect_emb_val win3_1 t · 1))
    exact (congrFun (after3_2 V c t) _).trans ((h.congr fun i j _ _ => sum22 fun q _ => by omega).place (F := mul 2304 f g)
      (rect_emb_val win3_2 t y 0) (rect_emb_val win3_2 t y 1) (Shape.idx_ext₂ rfl rfl))

/-! The weight gradient of the queries' projection, 256 rows at each step. -/

theorem index4 : ∀ t : Fin cfg4.N, win4_0.index t 0 = 0 ∧ win4_0.index t 1 = t.val ∧ win4_1.index t 0 = 0 ∧ win4_1.index t 1 = 0
    ∧ win4_2.index t 0 = t.val ∧ win4_2.index t 1 = 0 := by decide +kernel

theorem stored4 (x y) {f g} (hx : E2 (a := 2048) (b := 256) (φ := .bf16) x f) (hy : E2 (a := 2048) (b := 512) (φ := .bf16) y g) :
    E2 (a := 256) (b := 512) (φ := .bf16) (out4_2 (F := Ideal) x y) (tmul 2048 f g) := by
  unfold out4_2
  rw [View.canon_cons_unit_lit _ _ _ (by decide), View.ld_unit_lit _ _ (by decide), View.ld_unit_lit _ _ (by decide)]
  exact (hx.matTN hy).trunc _

theorem result4 {f g} (hx : Arr2 (a := 2048) (b := 2304) (V c main_arg5) f) (hy : Arr2 (a := 2048) (b := 512) (V c main_arg3) g) :
    Arr2 (a := 2304) (b := 512) ((dat4 V c).arrAt 2 cfg4.N) (tmul 2048 f g) :=
  (dat4 V c).arrAt_forall_of_covers 2 (fun i v => (v : EReal) = tmul 2048 f g (i 0 : Fin 2304).val (i 1 : Fin 512).val)
    (by decide +kernel) fun t _ y => by
    have ht := index4 t
    have h := stored4 (iblk4 V c 0 t) (iblk4 V c 1 t)
      (hx.block ((cfg4.win 0).blk t).view.emb (rect_emb_val win4_0 t · 0) (rect_emb_val win4_0 t · 1))
      (hy.block ((cfg4.win 1).blk t).view.emb (rect_emb_val win4_1 t · 0) (rect_emb_val win4_1 t · 1))
    exact (congrFun (after4_2 V c t) _).trans ((h.congr fun i j _ _ => sum22 fun q _ => by omega).place (F := tmul 2048 f g)
      (rect_emb_val win4_2 t y 0) (rect_emb_val win4_2 t y 1) (Shape.idx_ext₂ rfl rfl))

/-! The gradient of the keys' and values' rank: the four shards' products added, in one step. -/

theorem index5 : ∀ t : Fin cfg5.N, win5_0.index t 0 = 0 ∧ win5_0.index t 1 = 0
    ∧ (win5_1.index t 0 = 0 ∧ win5_1.index t 1 = 0 ∧ win5_1.index t 2 = 0) ∧ (win5_2.index t 0 = 1 ∧ win5_2.index t 1 = 0 ∧ win5_2.index t 2 = 0)
    ∧ (win5_3.index t 0 = 2 ∧ win5_3.index t 1 = 0 ∧ win5_3.index t 2 = 0) ∧ (win5_4.index t 0 = 3 ∧ win5_4.index t 1 = 0 ∧ win5_4.index t 2 = 0)
    ∧ win5_5.index t 0 = 0 ∧ win5_5.index t 1 = 0 := by decide +kernel

theorem stored5 (x y0 y1 y2 y3) {f g0 g1 g2 g3} (hx : E2 (a := 2048) (b := 3072) (φ := .bf16) x f)
    (h0 : E3 (a := 256) (b := 768) (φ := .bf16) y0 g0) (h1 : E3 (a := 256) (b := 768) (φ := .bf16) y1 g1)
    (h2 : E3 (a := 256) (b := 768) (φ := .bf16) y2 g2) (h3 : E3 (a := 256) (b := 768) (φ := .bf16) y3 g3) :
    E2 (a := 2048) (b := 256) (φ := .bf16) (out5_5 (F := Ideal) x y0 y1 y2 y3) fun i j =>
      mulT 768 (fun i q => f i (0 + q)) g0 i j + mulT 768 (fun i q => f i (768 + q)) g1 i j
        + mulT 768 (fun i q => f i (1536 + q)) g2 i j + mulT 768 (fun i q => f i (2304 + q)) g3 i j := by
  unfold out5_5
  rw [View.canon_cons_unit_lit _ _ _ (by decide)]
  have e0 : ∀ y : Vec Ideal S1x256x768 .bf16, View.ld y r5_1 = y := fun y => View.ld_unit_lit _ y (by decide)
  rw [e0, e0, e0, e0]
  have hr := fun (off : Fin 2 → ℕ) inb => ValueKit.rect_emb_unit_val (s := S2048x3072) off S2048x768.size inb
  have c0 := hx.cols (c := 768) (n := 0) r5_0.emb (fun y => hr ![0, 0] inb_S2048x3072_S2048x768_0_0 y 0) (fun y => hr ![0, 0] inb_S2048x3072_S2048x768_0_0 y 1)
  have c1 := hx.cols (c := 768) (n := 768) r5_2.emb (fun y => hr ![0, 768] inb_S2048x3072_S2048x768_0_768 y 0) (fun y => hr ![0, 768] inb_S2048x3072_S2048x768_0_768 y 1)
  have c2 := hx.cols (c := 768) (n := 1536) r5_3.emb (fun y => hr ![0, 1536] inb_S2048x3072_S2048x768_0_1536 y 0) (fun y => hr ![0, 1536] inb_S2048x3072_S2048x768_0_1536 y 1)
  have c3 := hx.cols (c := 768) (n := 2304) r5_4.emb (fun y => hr ![0, 2304] inb_S2048x3072_S2048x768_0_2304 y 0) (fun y => hr ![0, 2304] inb_S2048x3072_S2048x768_0_2304 y 1)
  exact ((((c0.matNT (h0.drop _)).add (c1.matNT (h1.drop _))).add (c2.matNT (h2.drop _))).add (c3.matNT (h3.drop _))).trunc _

theorem result5 {f g} (hx : Arr2 (a := 2048) (b := 3072) (V c main_arg8) f) (hy : Arr3 (n := 4) (a := 256) (b := 768) (V c main_arg7) g) :
    Arr2 (a := 2048) (b := 256) ((dat5 V c).arrAt 5 cfg5.N) (mulShardsT 3072 768 f g) :=
  (dat5 V c).arrAt_forall_of_covers 5 (fun i v => (v : EReal) = mulShardsT 3072 768 f g (i 0 : Fin 2048).val (i 1 : Fin 256).val)
    (by decide +kernel) fun t _ y => by
    have ht := index5 t
    have h := stored5 (iblk5 V c 0 t) (iblk5 V c 1 t) (iblk5 V c 2 t) (iblk5 V c 3 t) (iblk5 V c 4 t)
      (hx.block ((cfg5.win 0).blk t).view.emb (rect_emb_val win5_0 t · 0) (rect_emb_val win5_0 t · 1))
      (hy.block ((cfg5.win 1).blk t).view.emb (rect_emb_val win5_1 t · 0) (rect_emb_val win5_1 t · 1) (rect_emb_val win5_1 t · 2))
      (hy.block ((cfg5.win 2).blk t).view.emb (rect_emb_val win5_2 t · 0) (rect_emb_val win5_2 t · 1) (rect_emb_val win5_2 t · 2))
      (hy.block ((cfg5.win 3).blk t).view.emb (rect_emb_val win5_3 t · 0) (rect_emb_val win5_3 t · 1) (rect_emb_val win5_3 t · 2))
      (hy.block ((cfg5.win 4).blk t).view.emb (rect_emb_val win5_4 t · 0) (rect_emb_val win5_4 t · 1) (rect_emb_val win5_4 t · 2))
    refine (congrFun (after5_5 V c t) _).trans ((h.congr (g := fun i j => mulShardsT 3072 768 f g (win5_5.index t 0 * 2048 + i) (win5_5.index t 1 * 256 + j))
      fun i j _ _ => ?_).place (F := mulShardsT 3072 768 f g) (rect_emb_val win5_5 t y 0) (rect_emb_val win5_5 t y 1) (Shape.idx_ext₂ rfl rfl))
    refine Eq.trans ?_ (sum_parts (fun q => f (win5_5.index t 0 * 2048 + i) q * g (q / 768) (win5_5.index t 1 * 256 + j) (q % 768)) 768)
    exact congrArg₂ (· + ·) (congrArg₂ (· + ·) (congrArg₂ (· + ·) (sum23 fun q _ => by omega) (sum23 fun q _ => by omega))
      (sum23 fun q _ => by omega)) (sum23 fun q _ => by omega)

/-! The weight gradient of the keys' and values' projection: a shard at each step. -/

theorem index6 : ∀ t : Fin cfg6.N, win6_0.index t 0 = 0 ∧ win6_0.index t 1 = 0 ∧ win6_1.index t 0 = 0 ∧ win6_1.index t 1 = t.val
    ∧ win6_2.index t 0 = t.val ∧ win6_2.index t 1 = 0 ∧ win6_2.index t 2 = 0 := by decide +kernel

theorem stored6 (x y) {f g} (hx : E2 (a := 2048) (b := 256) (φ := .bf16) x f) (hy : E2 (a := 2048) (b := 768) (φ := .bf16) y g) :
    E3 (a := 256) (b := 768) (φ := .bf16) (out6_2 (F := Ideal) x y) (tmul 2048 f g) := by
  unfold out6_2
  rw [View.canon_cons_unit_lit _ _ _ (by decide), View.ld_unit_lit _ _ (by decide), View.ld_unit_lit _ _ (by decide)]
  exact ((hx.matTN hy).trunc _).lift _

theorem result6 {f g} (hx : Arr2 (a := 2048) (b := 256) (V c main_arg6) f) (hy : Arr2 (a := 2048) (b := 3072) (V c main_arg8) g) :
    Arr3 (n := 4) (a := 256) (b := 768) ((dat6 V c).arrAt 2 cfg6.N) (tmulShards 2048 768 f g) :=
  (dat6 V c).arrAt_forall_of_covers 2
    (fun i v => (v : EReal) = tmulShards 2048 768 f g (i 0 : Fin 4).val (i 1 : Fin 256).val (i 2 : Fin 768).val)
    (by decide +kernel) fun t _ y => by
    have ht := index6 t
    have h := stored6 (iblk6 V c 0 t) (iblk6 V c 1 t)
      (hx.block ((cfg6.win 0).blk t).view.emb (rect_emb_val win6_0 t · 0) (rect_emb_val win6_0 t · 1))
      (hy.block ((cfg6.win 1).blk t).view.emb (rect_emb_val win6_1 t · 0) (rect_emb_val win6_1 t · 1))
    exact (congrFun (after6_2 V c t) _).trans ((h.congr fun i j _ _ => sum22 fun q _ => by omega).place (F := tmulShards 2048 768 f g)
      (rect_emb_val win6_2 t y 0) (rect_emb_val win6_2 t y 1) (rect_emb_val win6_2 t y 2)
      (funext fun a => Fin.ext (match a with | ⟨0, _⟩ => rfl | ⟨1, _⟩ => rfl | ⟨2, _⟩ => rfl)))

/-! The input projection's weight gradient, 128 rows at each step. -/

theorem index7 : ∀ t : Fin cfg7.N, win7_0.index t 0 = 0 ∧ win7_0.index t 1 = t.val ∧ win7_1.index t 0 = 0 ∧ win7_1.index t 1 = 0
    ∧ win7_2.index t 0 = t.val ∧ win7_2.index t 1 = 0 := by decide +kernel

theorem stored7 (x y) {f g} (hx : E2 (a := 2048) (b := 128) (φ := .bf16) x f) (hy : E2 (a := 2048) (b := 1024) (φ := .bf16) y g) :
    E2 (a := 128) (b := 1024) (φ := .bf16) (out7_2 (F := Ideal) x y) (tmul 2048 f g) := by
  unfold out7_2
  rw [View.canon_cons_unit_lit _ _ _ (by decide), View.ld_unit_lit _ _ (by decide), View.ld_unit_lit _ _ (by decide)]
  exact (hx.matTN hy).trunc _

theorem result7 {f g} (hx : Arr2 (a := 2048) (b := 3456) (V c main_arg2) f) (hy : Arr2 (a := 2048) (b := 1024) (V c main_arg0) g) :
    Arr2 (a := 3456) (b := 1024) ((dat7 V c).arrAt 2 cfg7.N) (tmul 2048 f g) :=
  (dat7 V c).arrAt_forall_of_covers 2 (fun i v => (v : EReal) = tmul 2048 f g (i 0 : Fin 3456).val (i 1 : Fin 1024).val)
    (by decide +kernel) fun t _ y => by
    have ht := index7 t
    have h := stored7 (iblk7 V c 0 t) (iblk7 V c 1 t)
      (hx.block ((cfg7.win 0).blk t).view.emb (rect_emb_val win7_0 t · 0) (rect_emb_val win7_0 t · 1))
      (hy.block ((cfg7.win 1).blk t).view.emb (rect_emb_val win7_1 t · 0) (rect_emb_val win7_1 t · 1))
    exact (congrFun (after7_2 V c t) _).trans ((h.congr fun i j _ _ => sum22 fun q _ => by omega).place (F := tmul 2048 f g)
      (rect_emb_val win7_2 t y 0) (rect_emb_val win7_2 t y 1) (Shape.idx_ext₂ rfl rfl))

end Cert.Kernel3Ideal.Products

end
-- ==== Proof.Layer1Run.lean ====
/- The attention layer's calls one after the other (`Cert.Kernel3Ideal`): from the launch to the return every buffer's contents are known. -/
module

public import proofs.«01_k».proof.Proof.Layer1

@[expose] public section

set_option maxRecDepth 16384

noncomputable section

namespace Cert.Kernel3Ideal.Products

open Cert.Kernel3Ideal.Gen
open Idealize.ShloMosaic Idealize.ShloMosaic.TcCoe Idealize.ShloMosaic.Tactic
open Idealize.SL
open RA BI BI.BIBase BI.Laws ProofMode Idealize.SL.Sem Rounds
open _root_.Products

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_all : θ_run defs (onTc (τ := τ) (main (F := F))) ⟨m, fun _ => 0, ρ⟩ (fun r =>
      (∀ c : Dev nD, ∀ b ∈ Pipeline.ucRefs τ sig, r.2.mem (((c : Thread nD τ)).1, b) = W8 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held c.tc (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m (c.tc.loc b)) = StableHlo.held c.tc (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => ⟨h, funext fun g => hz g (.inr (no_unscoped g.2))⟩)

end Run

/-! What the results hold at the end: each is written by one call, which reads arguments only. -/

variable (m : (ℓ : Loc nD τ sig) → Buf (Elt Ideal) ℓ) (ρ : Dev nD → PrngReg) (c : Dev nD)

/-- An argument at the launch. -/
abbrev arg (b : Ref sig .tc) : Buf (Elt Ideal) ((c : Thread nD τ).loc b) := m (c.tc.loc b)

theorem projected : Arr2 (a := 2048) (b := 3456) (W8 m ρ c main_v0) (mulT 1024 (rd2 (arg m c main_arg0)) (rd2 (arg m c main_arg1))) := by
  rw [show W8 m ρ c main_v0 = (dat0 (V0 m ρ) c).arrAt 2 cfg0.N from (W8_of m ρ c main_v0 (by decide)).trans
    ((W7_of m ρ c main_v0 (by decide)).trans ((W6_of m ρ c main_v0 (by decide)).trans ((W5_of m ρ c main_v0 (by decide)).trans
    ((W4_of m ρ c main_v0 (by decide)).trans ((W3_of m ρ c main_v0 (by decide)).trans ((W2_of m ρ c main_v0 (by decide)).trans
    (W1_arr m ρ c 2)))))))]
  exact result0 (V0 m ρ) c (arr2_of (W0_args m ρ c main_arg0 (by decide))) (arr2_of (W0_args m ρ c main_arg1 (by decide)))

theorem queries : Arr2 (a := 2048) (b := 2304) (W8 m ρ c main_v1) (mulT 512 (rd2 (arg m c main_arg3)) (rd2 (arg m c main_arg4))) := by
  rw [show W8 m ρ c main_v1 = (dat1 (V1 m ρ) c).arrAt 2 cfg1.N from (W8_of m ρ c main_v1 (by decide)).trans
    ((W7_of m ρ c main_v1 (by decide)).trans ((W6_of m ρ c main_v1 (by decide)).trans ((W5_of m ρ c main_v1 (by decide)).trans
    ((W4_of m ρ c main_v1 (by decide)).trans ((W3_of m ρ c main_v1 (by decide)).trans (W2_arr m ρ c 2))))))]
  exact result1 (V1 m ρ) c (arr2_of (W1_args m ρ c main_arg3 (by decide))) (arr2_of (W1_args m ρ c main_arg4 (by decide)))

theorem keysValues : Arr2 (a := 2048) (b := 3072) (W8 m ρ c main_v2) (mulShards 256 768 (rd2 (arg m c main_arg6)) (rd3 (arg m c main_arg7))) := by
  rw [show W8 m ρ c main_v2 = (dat2 (V2 m ρ) c).arrAt 2 cfg2.N from (W8_of m ρ c main_v2 (by decide)).trans
    ((W7_of m ρ c main_v2 (by decide)).trans ((W6_of m ρ c main_v2 (by decide)).trans ((W5_of m ρ c main_v2 (by decide)).trans
    ((W4_of m ρ c main_v2 (by decide)).trans (W3_arr m ρ c 2)))))]
  exact result2 (V2 m ρ) c (arr2_of (W2_args m ρ c main_arg6 (by decide))) (arr3_of (W2_args m ρ c main_arg7 (by decide)))

theorem queryRankGrad : Arr2 (a := 2048) (b := 512) (W8 m ρ c main_v3) (mul 2304 (rd2 (arg m c main_arg5)) (rd2 (arg m c main_arg4))) := by
  rw [show W8 m ρ c main_v3 = (dat3 (V3 m ρ) c).arrAt 2 cfg3.N from (W8_of m ρ c main_v3 (by decide)).trans
    ((W7_of m ρ c main_v3 (by decide)).trans ((W6_of m ρ c main_v3 (by decide)).trans ((W5_of m ρ c main_v3 (by decide)).trans
    (W4_arr m ρ c 2))))]
  exact result3 (V3 m ρ) c (arr2_of (W3_args m ρ c main_arg5 (by decide))) (arr2_of (W3_args m ρ c main_arg4 (by decide)))

theorem queryGrad : Arr2 (a := 2304) (b := 512) (W8 m ρ c main_v4) (tmul 2048 (rd2 (arg m c main_arg5)) (rd2 (arg m c main_arg3))) := by
  rw [show W8 m ρ c main_v4 = (dat4 (V4 m ρ) c).arrAt 2 cfg4.N from (W8_of m ρ c main_v4 (by decide)).trans
    ((W7_of m ρ c main_v4 (by decide)).trans ((W6_of m ρ c main_v4 (by decide)).trans (W5_arr m ρ c 2)))]
  exact result4 (V4 m ρ) c (arr2_of (W4_args m ρ c main_arg5 (by decide))) (arr2_of (W4_args m ρ c main_arg3 (by decide)))

theorem keyRankGrad : Arr2 (a := 2048) (b := 256) (W8 m ρ c main_v5)
    (mulShardsT 3072 768 (rd2 (arg m c main_arg8)) (rd3 (arg m c main_arg7))) := by
  rw [show W8 m ρ c main_v5 = (dat5 (V5 m ρ) c).arrAt 5 cfg5.N from (W8_of m ρ c main_v5 (by decide)).trans
    ((W7_of m ρ c main_v5 (by decide)).trans (W6_arr m ρ c 5))]
  exact result5 (V5 m ρ) c (arr2_of (W5_args m ρ c main_arg8 (by decide))) (arr3_of (W5_args m ρ c main_arg7 (by decide)))

theorem keyGrad : Arr3 (n := 4) (a := 256) (b := 768) (W8 m ρ c main_v6)
    (tmulShards 2048 768 (rd2 (arg m c main_arg6)) (rd2 (arg m c main_arg8))) := by
  rw [show W8 m ρ c main_v6 = (dat6 (V6 m ρ) c).arrAt 2 cfg6.N from (W8_of m ρ c main_v6 (by decide)).trans (W7_arr m ρ c 2)]
  exact result6 (V6 m ρ) c (arr2_of (W6_args m ρ c main_arg6 (by decide))) (arr2_of (W6_args m ρ c main_arg8 (by decide)))

theorem inGrad : Arr2 (a := 3456) (b := 1024) (W8 m ρ c main_v7) (tmul 2048 (rd2 (arg m c main_arg2)) (rd2 (arg m c main_arg0))) := by
  rw [show W8 m ρ c main_v7 = (dat7 (V7 m ρ) c).arrAt 2 cfg7.N from W8_arr m ρ c 2]
  exact result7 (V7 m ρ) c (arr2_of (W7_args m ρ c main_arg2 (by decide))) (arr2_of (W7_args m ρ c main_arg0 (by decide)))

end Cert.Kernel3Ideal.Products

end
-- ==== Proof.Layer1Ref.lean ====
/- The products `reference3` takes, element by element (`Cert.Reference3Ideal`). -/
module

public import proofs.«01_k».proof.Proof.Products
public import proofs.«01_k».proof.Proof.Gen.Reference3Ideal.Read

@[expose] public section

set_option maxRecDepth 16384

noncomputable section

namespace Cert.Reference3Ideal.Products

open Cert.Reference3Ideal Cert.Reference3Ideal.Gen Cert.Reference3Ideal.Read
open Idealize.ShloMosaic Idealize.ShloMosaic.TcCoe
open _root_.Products

theorem projected (x0 x1) : Arr2 (a := 2048) (b := 3456) (val_main_v9 (F := Ideal) x0 x1) (mulT 1024 (rd2 x0) (rd2 x1)) := fun i => by
  rw [val_main_v9_apply, trunc_eq, val_main_v3_apply]
  refine sum_eq fun k => ?_
  rw [val_main_v0_apply, val_main_v2_apply, val_main_v1_apply, ext_eq, ext_eq]
  exact congrArg₂ (· * ·) (rd2_at x0 _ rfl rfl) (rd2_at x1 _ rfl rfl)

theorem inGrad (x0 x2) : Arr2 (a := 3456) (b := 1024) (val_main_v11 (F := Ideal) x0 x2) (tmul 2048 (rd2 x2) (rd2 x0)) := fun i => by
  rw [val_main_v11_apply, trunc_eq, val_main_v8_apply, val_main_v6_apply, val_main_v5_apply]
  refine sum_eq fun k => ?_
  rw [val_main_v0_apply, val_main_v4_apply, ext_eq, ext_eq]
  exact congrArg₂ (· * ·) (rd2_at x2 _ rfl rfl) (rd2_at x0 _ rfl rfl)

theorem queries (x3 x4) : Arr2 (a := 2048) (b := 2304) (val_main_v21 (F := Ideal) x3 x4) (mulT 512 (rd2 x3) (rd2 x4)) := fun i => by
  rw [val_main_v21_apply, trunc_eq, val_main_v15_apply]
  refine sum_eq fun k => ?_
  rw [val_main_v12_apply, val_main_v14_apply, val_main_v13_apply, ext_eq, ext_eq]
  exact congrArg₂ (· * ·) (rd2_at x3 _ rfl rfl) (rd2_at x4 _ rfl rfl)

theorem queryRankGrad (x4 x5) : Arr2 (a := 2048) (b := 512) (val_main_v22 (F := Ideal) x4 x5) (mul 2304 (rd2 x5) (rd2 x4)) := fun i => by
  rw [val_main_v22_apply, trunc_eq, val_main_v19_apply]
  refine sum_eq fun k => ?_
  rw [val_main_v16_apply, val_main_v14_apply, val_main_v13_apply, ext_eq, ext_eq]
  exact congrArg₂ (· * ·) (rd2_at x5 _ rfl rfl) (rd2_at x4 _ rfl rfl)

theorem queryGrad (x3 x5) : Arr2 (a := 2304) (b := 512) (val_main_v23 (F := Ideal) x3 x5) (tmul 2048 (rd2 x5) (rd2 x3)) := fun i => by
  rw [val_main_v23_apply, trunc_eq, val_main_v20_apply, val_main_v18_apply, val_main_v17_apply]
  refine sum_eq fun k => ?_
  rw [val_main_v12_apply, val_main_v16_apply, ext_eq, ext_eq]
  exact congrArg₂ (· * ·) (rd2_at x5 _ rfl rfl) (rd2_at x3 _ rfl rfl)

theorem keysValues (x6 x7) : Arr2 (a := 2048) (b := 3072) (val_main_v35 (F := Ideal) x6 x7) (mulShards 256 768 (rd2 x6) (rd3 x7)) := fun i => by
  have hs : (i 1).val < 3072 := (i 1).isLt
  rw [val_main_v35_apply, trunc_eq, val_main_v28_apply]
  refine sum_eq fun k => ?_
  rw [val_main_v24_apply, val_main_v27_apply, val_main_v26_apply, val_main_v25_apply, ext_eq, ext_eq]
  exact congrArg₂ (· * ·) (rd2_at x6 _ rfl rfl) (rd3_at x7 _
    (by change (k.val * 3072 + (i 1).val) / 768 % 4 = _; omega) (by change (k.val * 3072 + (i 1).val) / 3072 = _; omega)
    (by change (k.val * 3072 + (i 1).val) % 768 = _; omega))

theorem keyRankGrad (x7 x8) : Arr2 (a := 2048) (b := 256) (val_main_v36 (F := Ideal) x7 x8) (mulShardsT 3072 768 (rd2 x8) (rd3 x7)) := fun i => by
  rw [val_main_v36_apply, trunc_eq, val_main_v32_apply]
  refine sum_eq fun k => ?_
  have hk := k.isLt
  rw [val_main_v29_apply, val_main_v27_apply, val_main_v26_apply, val_main_v25_apply, ext_eq, ext_eq]
  exact congrArg₂ (· * ·) (rd2_at x8 _ rfl rfl) (rd3_at x7 _
    (by change ((i 1).val * 3072 + k.val) / 768 % 4 = _; omega) (by change ((i 1).val * 3072 + k.val) / 3072 = _; omega)
    (by change ((i 1).val * 3072 + k.val) % 768 = _; omega))

theorem keyGrad (x6 x8) : Arr3 (n := 4) (a := 256) (b := 768) (val_main_v37 (F := Ideal) x6 x8) (tmulShards 2048 768 (rd2 x6) (rd2 x8)) := fun i => by
  have he : (i 0).val < 4 := (i 0).isLt
  have hs : (i 2).val < 768 := (i 2).isLt
  rw [val_main_v37_apply, trunc_eq, val_main_v34_apply, val_main_v33_apply, val_main_v31_apply, val_main_v30_apply]
  refine sum_eq fun k => ?_
  rw [val_main_v24_apply, val_main_v29_apply, ext_eq, ext_eq]
  exact (mul_comm _ _).trans (congrArg₂ (· * ·)
    (rd2_at x6 _ rfl (by change (((i 1).val * 4 + (i 0).val) * 768 + (i 2).val) / 3072 = _; omega))
    (rd2_at x8 _ rfl (by change (((i 1).val * 4 + (i 0).val) * 768 + (i 2).val) % 3072 = _; omega)))

end Cert.Reference3Ideal.Products

end
-- ==== Proof.Norm.lean ====
/- Root-mean-square normalization over the extended reals, forward and backward: the row-wise operations of a block, and the functions of
   the coordinates they make up. No entry need be a number: both sides divide, take roots and add in the same places, and only the order
   in which summands are added differs. -/
module

public import proofs.«01_k».proof.Proof.Products

@[expose] public section

noncomputable section

namespace Products

open Idealize.ShloMosaic
open Idealize.ShloMosaic.ValueIdx
open AttnMath (Sh2 Sh3)

variable {a b : ℕ} {φ : FTy}

theorem zero2 : (![0, 0] : Fin 2 → Nat) = fun _ => 0 := funext fun a => by fin_cases a <;> rfl
theorem zero3 : (![0, 0, 0] : Fin 3 → Nat) = fun _ => 0 := funext fun a => by fin_cases a <;> rfl

theorem Arr3.at {N A B n r s : ℕ} {X : (⟨3, ![N, A, B]⟩ : Shape).Idx → EReal} {f : ℕ → ℕ → ℕ → EReal} (h : Arr3 X f)
    {i : (⟨3, ![N, A, B]⟩ : Shape).Idx} (hn : (i 0).val = n) (h0 : (i 1).val = r) (h1 : (i 2).val = s) : X i = f n r s :=
  (h i).trans (congr (congrArg₂ f hn h0) h1)

theorem E2.mul {x y : FVec Ideal (Sh2 a b) φ} {f g : ℕ → ℕ → EReal} (hx : E2 x f) (hy : E2 y g) :
    E2 (mulf x y) fun i j => f i j * g i j := fun i j => congrArg₂ (· * ·) (hx i j) (hy i j)

theorem E2.quot {x y : FVec Ideal (Sh2 a b) φ} {f g : ℕ → ℕ → EReal} (hx : E2 x f) (hy : E2 y g) :
    E2 (divf x y) fun i j => Ideal.div (f i j) (g i j) := fun i j => congrArg₂ Ideal.div (hx i j) (hy i j)

theorem E2.invRoot {x : FVec Ideal (Sh2 a b) φ} {f : ℕ → ℕ → EReal} (hx : E2 x f) :
    E2 (rsqrt x) fun i j => Ideal.rsqrt (f i j) := fun i j => congrArg Ideal.rsqrt (hx i j)

theorem E2.sigmoid {x : FVec Ideal (Sh2 a b) φ} {f : ℕ → ℕ → EReal} (hx : E2 x f) :
    E2 (logistic x) fun i j => Ideal.logistic (f i j) := fun i j => congrArg Ideal.logistic (hx i j)

theorem E2.widen {x : FVec Ideal (Sh2 a b) .bf16} {f : ℕ → ℕ → EReal} (hx : E2 x f) (h : FTy.bits .bf16 < FTy.bits .f32) :
    E2 (φ := .f32) (extf .f32 x h) f := fun i j => hx i j

theorem E2.const (w : Ideal φ) : E2 (a := a) (b := b) (φ := φ) (broadcast (Sh2 a b) w) fun _ _ => w := fun i j => rfl

theorem E2.recast {x : FVec Ideal (Sh2 a b) φ} {f : ℕ → ℕ → EReal} (hx : E2 x f) (h : (Sh2 a b).ShapeCasts (Sh2 a b)) :
    E2 (φ := φ) (shapeCast (Sh2 a b) x h) f := by rw [shapeCast_self]; exact hx

/-- A column set beside itself. -/
theorem E2.spreadColumn {x : FVec Ideal (Sh2 a 1) φ} {f : ℕ → EReal} (hx : E2 x fun i _ => f i) (h : (Sh2 a 1).Broadcasts (Sh2 a b)) :
    E2 (φ := φ) (broadcastTo (Sh2 a b) x h) fun i _ => f i :=
  fun i j => by
    refine (broadcastTo_apply x h (ix2 i j) (ix2 i (0 : Fin 1)) fun t => ?_).trans (hx i 0)
    match t with
    | ⟨0, _⟩ =>
      show i.val = if a = 1 then 0 else i.val
      split
      · have := i.isLt; omega
      · rfl
    | ⟨1, _⟩ => rfl

/-- A row set below itself. -/
theorem E2.spreadRow {x : FVec Ideal (Sh2 1 b) φ} {g : ℕ → EReal} (hx : E2 x fun _ j => g j) (h : (Sh2 1 b).Broadcasts (Sh2 a b)) :
    E2 (φ := φ) (broadcastTo (Sh2 a b) x h) fun _ j => g j :=
  fun i j => (broadcastTo_1b_ab_apply x h i j).trans (hx 0 j)

/-- The sums of the rows, as a column. -/
theorem E2.rowSum {x : FVec Ideal (Sh2 a b) .f32} {f : ℕ → ℕ → EReal} (hx : E2 x f)
    (h : (Sh2 a b).Reduces [1] ⟨1, ![a]⟩) (hφ : FKind.Formats .f32) (hacc : (0x00000000#32) = FKind.add.neutral .f32 hφ)
    (hc : (⟨1, ![a]⟩ : Shape).ShapeCasts (Sh2 a 1)) :
    E2 (φ := .f32) (shapeCast (Sh2 a 1) (multiReduction .add [1] ⟨1, ![a]⟩ x 0x00000000#32 h hφ hacc) hc)
      fun i _ => ∑ j ∈ Finset.range b, f i j :=
  fun i j => by
    rw [Subsingleton.elim j 0, AttnMath.row_cast, Ideal.multiReduction_add_single]
    refine sum_eq fun k => ?_
    have e : h.lift (ix1 i) k = ix2 i k := by
      funext t; apply Fin.ext
      match t with
      | ⟨0, _⟩ => rfl
      | ⟨1, _⟩ => rfl
    rw [e]; exact hx i k

/-- The sums of the columns, as a row. -/
theorem E2.columnSum {x : FVec Ideal (Sh2 a b) .f32} {f : ℕ → ℕ → EReal} (hx : E2 x f)
    (h : (Sh2 a b).Reduces [0] ⟨1, ![b]⟩) (hφ : FKind.Formats .f32) (hacc : (0x00000000#32) = FKind.add.neutral .f32 hφ)
    (hc : (⟨1, ![b]⟩ : Shape).ShapeCasts (Sh2 1 b)) :
    E2 (φ := .f32) (shapeCast (Sh2 1 b) (multiReduction .add [0] ⟨1, ![b]⟩ x 0x00000000#32 h hφ hacc) hc)
      fun _ j => ∑ i ∈ Finset.range a, f i j :=
  fun i j => by
    have hi : i.val = 0 := Nat.lt_one_iff.mp i.isLt
    refine (shapeCast_apply _ hc _ (ix1 j) (by
      rw [Shape.rowMajor_val_one, Shape.rowMajor_val_two]
      show j.val = i.val * b + j.val
      rw [hi]; omega)).trans ?_
    rw [Ideal.multiReduction_add_single]
    refine sum_eq fun k => ?_
    have e : h.lift (ix1 j) k = ix2 k j := by
      funext t; apply Fin.ext
      match t with
      | ⟨0, _⟩ => rfl
      | ⟨1, _⟩ => rfl
    rw [e]; exact hx k j

/-- A host sum from zero on. -/
theorem fromZero {z s t : EReal} (hz : z = FloatOps.ofBits (F := Ideal) .f32 0x00000000#32) (h : s = t) : z + s = t := by
  rw [hz, h, AttnMath.zeroBits]; exact zero_add t

/-- Columns from `o` on. -/
theorem E2.columnsFrom {c o : ℕ} {x : FVec Ideal (Sh2 a b) φ} {f : ℕ → ℕ → EReal} (hx : E2 x f) (h : (Sh2 a b).Slices ![0, o] (Sh2 a c)) :
    E2 (φ := φ) (extractStridedSlice (Sh2 a c) ![0, o] x h) fun i j => f i (o + j) :=
  fun i j => by
    have hj : o + j.val < b := by
      have h1 : o + c ≤ b := h.2 1
      have := j.isLt; omega
    refine (extractStridedSlice_apply _ x h (ix2 i j) (ix2 i ⟨o + j.val, hj⟩) fun t => ?_).trans (hx i ⟨o + j.val, hj⟩)
    match t with
    | ⟨0, _⟩ => exact (Nat.zero_add _).symm
    | ⟨1, _⟩ => rfl

/-- One matrix beside another. -/
theorem E2.beside {n c : ℕ} {x : FVec Ideal (Sh2 a n) φ} {y : FVec Ideal (Sh2 a b) φ} {f g : ℕ → ℕ → EReal} (hx : E2 x f) (hy : E2 y g)
    (hc : n + b = c) (h : Shape.Concatenates [Sh2 a n, Sh2 a b] (Sh2 a c) 1) :
    E2 (φ := φ) (concatenate (Sh2 a c) 1 [⟨Sh2 a n, x⟩, ⟨Sh2 a b, y⟩] h) fun i j => if j < n then f i j else g i (j - n) :=
  fun i j => by
    by_cases hj : j.val < n
    · refine (concatenate_pair_apply_left (1 : Fin 2) x y h (ix2 i j) rfl (ix2 i ⟨j.val, hj⟩) fun t => ?_).trans ((hx i ⟨j.val, hj⟩).trans (if_pos hj).symm)
      match t with
      | ⟨0, _⟩ => rfl
      | ⟨1, _⟩ => rfl
    · have hlt : j.val - n < b := by have := j.isLt; omega
      refine (concatenate_pair_apply_right (1 : Fin 2) x y h (ix2 i j) rfl rfl (ix2 i ⟨j.val - n, hlt⟩) (fun t ht => ?_)
        (by show j.val - n + n = j.val; omega)).trans ((hy i ⟨j.val - n, hlt⟩).trans (if_neg hj).symm)
      match t with
      | ⟨0, _⟩ => rfl
      | ⟨1, _⟩ => exact absurd rfl ht

/-- A matrix and its elements by two coordinates. -/
theorem Arr2.toE2 {X : FVec Ideal (Sh2 a b) φ} {f : ℕ → ℕ → EReal} (h : Arr2 X f) : E2 X f := fun i j => h (ix2 i j)

/-! The functions of a row `r` and a column `s`; `g` is the gain, `h` the gradient of the normalized row, `d` the one of the row itself. -/

/-- The number of columns, the summand under the root, and minus one half, as the programs hold them. -/
abbrev width : EReal := FloatOps.ofBits (F := Ideal) .f32 0x44800000#32
abbrev under : EReal := FloatOps.ofBits (F := Ideal) .f32 0x358637BD#32
abbrev minusHalf : EReal := FloatOps.ofBits (F := Ideal) .f32 0xBF000000#32

/-- The mean square of a row, plus the summand under the root. -/
def power (x : ℕ → ℕ → EReal) (r : ℕ) : EReal := Ideal.div (∑ q ∈ Finset.range 1024, x r q * x r q) width + under
def normed (x : ℕ → ℕ → EReal) (g : ℕ → EReal) (r s : ℕ) : EReal := x r s * Ideal.rsqrt (power x r) * g s
/-- What the row's root contributes to the gradient of each entry, per unit of the entry. -/
def slope (x : ℕ → ℕ → EReal) (g : ℕ → EReal) (h : ℕ → ℕ → EReal) (r : ℕ) : EReal :=
  Ideal.div ((∑ q ∈ Finset.range 1024, x r q * (h r q * g q)) * (minusHalf * Ideal.div (Ideal.rsqrt (power x r)) (power x r))) width
def normGrad (x : ℕ → ℕ → EReal) (g : ℕ → EReal) (h d : ℕ → ℕ → EReal) (r s : ℕ) : EReal :=
  h r s * g s * Ideal.rsqrt (power x r) + x r s * slope x g h r + slope x g h r * x r s + d r s
/-- A row's share of the gain's gradient. -/
def gainPart (x h : ℕ → ℕ → EReal) (s r : ℕ) : EReal := x r s * Ideal.rsqrt (power x r) * h r s

/-- The state-space layer's gated halves and the memory's part beside them, times the gate. -/
def gated (z o p : ℕ → ℕ → EReal) (r s : ℕ) : EReal :=
  (if s < 1536 then z r s * Ideal.logistic (z r (1536 + s)) else o r (s - 1536)) * (p r (2048 + s) * Ideal.logistic (p r (2048 + s)))

end Products

end
-- ==== Proof.Gate.lean ====
/- The attention layer's normalization and the state-space layer's gate (`Cert.Kernel4Ideal`), 512 rows at each step. -/
module

public import proofs.«01_k».proof.Proof.Norm
public import proofs.«01_k».proof.Proof.Gen.Kernel4Ideal.Frame
public import Idealize.ShloMosaic.Lib.Pipeline.ValueKit

@[expose] public section

set_option maxRecDepth 16384

noncomputable section

namespace Cert.Kernel4Ideal.Products

open Cert.Kernel4Ideal.Gen
open Idealize.ShloMosaic Idealize.ShloMosaic.TcCoe Idealize.ShloMosaic.Tactic
open Idealize.SL
open RA BI BI.BIBase BI.Laws ProofMode Idealize.SL.Sem Rounds
open Idealize.ShloMosaic.ValueIdx
open Idealize.ShloMosaic.Pipeline (Dat)
open Idealize.ShloMosaic.Pipeline.Window (rect_emb_val)
open _root_.Products

section Blocks

variable (V : (c : Dev nD) → (b : Ref sig .tc) → Buf (Elt Ideal) ((c : Thread nD τ).loc b)) (c : Dev nD)

theorem index0 : ∀ t : Fin cfg0.N, win0_0.index t 0 = t.val ∧ win0_0.index t 1 = 0 ∧ win0_1.index t 0 = 0 ∧ win0_1.index t 1 = 0
    ∧ win0_2.index t 0 = t.val ∧ win0_2.index t 1 = 0 := by decide +kernel

theorem stored0 (x y) {f} {g : ℕ → EReal} (hx : E2 (a := 512) (b := 1024) (φ := .f32) x f) (hy : E2 (a := 1) (b := 1024) (φ := .f32) y fun _ s => g s) :
    E2 (a := 512) (b := 1024) (φ := .bf16) (out0_2 (F := Ideal) x y) (normed f g) := by
  unfold out0_2
  rw [View.canon_cons_unit_lit _ _ _ (by decide), View.ld_unit_lit _ _ (by decide), View.ld_unit_lit _ _ (by decide)]
  have hp := ((((hx.mul hx).rowSum reduces_S512x1024_S512 (.inl rfl) rfl shapeCasts_S512_S512x1).quot (E2.const (φ := .f32) width)).add
    (E2.const (φ := .f32) under)).invRoot
  exact ((hx.mul (hp.spreadColumn _)).mul (hy.spreadRow _)).trunc _

theorem result0 {f g} (hx : Arr2 (a := 2048) (b := 1024) (V c main_arg0) f) (hy : Arr2 (a := 1) (b := 1024) (V c main_arg1) g) :
    Arr2 (a := 2048) (b := 1024) ((dat0 V c).arrAt 2 cfg0.N) (normed f (g 0)) :=
  (dat0 V c).arrAt_forall_of_covers 2 (fun i v => (v : EReal) = normed f (g 0) (i 0 : Fin 2048).val (i 1 : Fin 1024).val)
    (by decide +kernel) fun t _ y => by
    have ht := index0 t
    have hb := hx.block (a := 512) (b := 1024) (φ := .f32) ((cfg0.win 0).blk t).view.emb (rect_emb_val win0_0 t · 0) (rect_emb_val win0_0 t · 1)
    have hg := hy.block (a := 1) (b := 1024) (φ := .f32) ((cfg0.win 1).blk t).view.emb (rect_emb_val win0_1 t · 0) (rect_emb_val win0_1 t · 1)
    have h := stored0 (iblk0 V c 0 t) (iblk0 V c 1 t) (f := fun i j => f (win0_2.index t 0 * 512 + i) j) (g := g 0)
      (hb.congr fun i j _ _ => congrArg₂ f (by omega) (by omega)) (hg.congr fun i j _ _ => congrArg₂ g (by omega) (by omega))
    refine (congrFun (after0_2 V c t) _).trans ((h.congr
      (g := fun i j => normed f (g 0) (win0_2.index t 0 * 512 + i) (win0_2.index t 1 * 1024 + j)) fun i j _ _ => ?_).place (F := normed f (g 0))
      (rect_emb_val win0_2 t y 0) (rect_emb_val win0_2 t y 1) (Shape.idx_ext₂ rfl rfl))
    rw [show win0_2.index t 1 * 1024 + j = j by omega]
    rfl

theorem index1 : ∀ t : Fin cfg1.N, (win1_0.index t 0 = t.val ∧ win1_0.index t 1 = 0) ∧ (win1_1.index t 0 = t.val ∧ win1_1.index t 1 = 0)
    ∧ (win1_2.index t 0 = t.val ∧ win1_2.index t 1 = 1) ∧ win1_3.index t 0 = t.val ∧ win1_3.index t 1 = 0 := by decide +kernel

theorem stored1 (x y w) {z o p} (hx : E2 (a := 512) (b := 3072) (φ := .bf16) x z) (hy : E2 (a := 512) (b := 512) (φ := .f32) y o)
    (hw : E2 (a := 512) (b := 2048) (φ := .bf16) w fun i j => p i (2048 + j)) :
    E2 (a := 512) (b := 2048) (φ := .bf16) (out1_3 (F := Ideal) x y w) (gated z o p) := by
  unfold out1_3
  rw [View.canon_cons_unit_lit _ _ _ (by decide), View.ld_unit_lit _ _ (by decide), View.ld_unit_lit _ _ (by decide), View.ld_unit_lit _ _ (by decide)]
  have hz := hx.widen bitsLt_bf16_f32
  have hs := ((hz.columnsFrom slices_S512x3072_o0_0_S512x1536).congr (g := z) fun i j _ _ => congrArg (z i) (Nat.zero_add j)).mul
    (hz.columnsFrom slices_S512x3072_o0_1536_S512x1536).sigmoid
  exact ((hs.beside hy rfl _).mul ((hw.widen _).mul (hw.widen _).sigmoid)).trunc _

theorem result1 {z o p} (hx : Arr2 (a := 2048) (b := 3072) (V c main_arg2) z) (hy : Arr2 (a := 2048) (b := 512) (V c main_arg3) o)
    (hw : Arr2 (a := 2048) (b := 4096) (V c main_arg4) p) :
    Arr2 (a := 2048) (b := 2048) ((dat1 V c).arrAt 3 cfg1.N) (gated z o p) :=
  (dat1 V c).arrAt_forall_of_covers 3 (fun i v => (v : EReal) = gated z o p (i 0 : Fin 2048).val (i 1 : Fin 2048).val)
    (by decide +kernel) fun t _ y => by
    have ht := index1 t
    have hz := hx.block (a := 512) (b := 3072) (φ := .bf16) ((cfg1.win 0).blk t).view.emb (rect_emb_val win1_0 t · 0) (rect_emb_val win1_0 t · 1)
    have ho := hy.block (a := 512) (b := 512) (φ := .f32) ((cfg1.win 1).blk t).view.emb (rect_emb_val win1_1 t · 0) (rect_emb_val win1_1 t · 1)
    have hp := hw.block (a := 512) (b := 2048) (φ := .bf16) ((cfg1.win 2).blk t).view.emb (rect_emb_val win1_2 t · 0) (rect_emb_val win1_2 t · 1)
    have h := stored1 (iblk1 V c 0 t) (iblk1 V c 1 t) (iblk1 V c 2 t) (z := fun i j => z (win1_3.index t 0 * 512 + i) j)
      (o := fun i j => o (win1_3.index t 0 * 512 + i) j) (p := fun i j => p (win1_3.index t 0 * 512 + i) j)
      (hz.congr fun i j _ _ => congrArg₂ z (by omega) (by omega)) (ho.congr fun i j _ _ => congrArg₂ o (by omega) (by omega))
      (hp.congr fun i j _ _ => congrArg₂ p (by omega) (by omega))
    refine (congrFun (after1_3 V c t) _).trans ((h.congr
      (g := fun i j => gated z o p (win1_3.index t 0 * 512 + i) (win1_3.index t 1 * 2048 + j)) fun i j _ _ => ?_).place (F := gated z o p)
      (rect_emb_val win1_3 t y 0) (rect_emb_val win1_3 t y 1) (Shape.idx_ext₂ rfl rfl))
    rw [show win1_3.index t 1 * 2048 + j = j by omega]
    rfl

end Blocks

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_all : θ_run defs (onTc (τ := τ) (main (F := F))) ⟨m, fun _ => 0, ρ⟩ (fun r =>
      (∀ c : Dev nD, ∀ b ∈ Pipeline.ucRefs τ sig, r.2.mem (((c : Thread nD τ)).1, b) = W2 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held c.tc (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m (c.tc.loc b)) = StableHlo.held c.tc (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz => ⟨h, funext fun g => hz g (.inr (no_unscoped g.2))⟩)

end Run

/-! What the results hold at the end: each is written by one call, which reads arguments only. -/

variable (m : (ℓ : Loc nD τ sig) → Buf (Elt Ideal) ℓ) (ρ : Dev nD → PrngReg) (c : Dev nD)

/-- An argument at the launch. -/
abbrev arg (b : Ref sig .tc) : Buf (Elt Ideal) ((c : Thread nD τ).loc b) := m (c.tc.loc b)

theorem normalized : Arr2 (a := 2048) (b := 1024) (W2 m ρ c main_v0) (normed (rd2 (arg m c main_arg0)) (rd2 (arg m c main_arg1) 0)) := by
  rw [show W2 m ρ c main_v0 = (dat0 (V0 m ρ) c).arrAt 2 cfg0.N from (W2_of m ρ c main_v0 (by decide)).trans (W1_arr m ρ c 2)]
  exact result0 (V0 m ρ) c (arr2_of (W0_args m ρ c main_arg0 (by decide))) (arr2_of (W0_args m ρ c main_arg1 (by decide)))

theorem merged : Arr2 (a := 2048) (b := 2048) (W2 m ρ c main_v1)
    (gated (rd2 (arg m c main_arg2)) (rd2 (arg m c main_arg3)) (rd2 (arg m c main_arg4))) := by
  rw [show W2 m ρ c main_v1 = (dat1 (V1 m ρ) c).arrAt 3 cfg1.N from W2_arr m ρ c 3]
  exact result1 (V1 m ρ) c (arr2_of (W1_args m ρ c main_arg2 (by decide))) (arr2_of (W1_args m ρ c main_arg3 (by decide)))
    (arr2_of (W1_args m ρ c main_arg4 (by decide)))

end Cert.Kernel4Ideal.Products

end
-- ==== Proof.GateRef.lean ====
/- The normalization and the gate `reference4` takes, element by element. -/
module

public import proofs.«01_k».proof.Proof.Norm
public import Idealize.ShloMosaic.Lib.IdealHost
public import proofs.«01_k».proof.Proof.Gen.Reference4Ideal.Read

@[expose] public section

set_option maxRecDepth 16384

noncomputable section

namespace Cert.Reference4Ideal.Products

open Cert.Reference4Ideal Cert.Reference4Ideal.Gen Cert.Reference4Ideal.Read
open Idealize.ShloMosaic Idealize.ShloMosaic.TcCoe
open Idealize.ShloMosaic.ValueIdx
open _root_.Products

theorem normalized (x0 x1) : Arr2 (a := 2048) (b := 1024) (val_main_v12 (F := Ideal) x0 x1) (normed (rd2 x0) (rd2 x1 0)) := fun i => by
  rw [val_main_v12_apply, trunc_eq, val_main_v11_apply, val_main_v9_apply, val_main_v10_apply, val_main_v8_apply, val_main_v7_apply,
    val_main_v6_apply, val_main_v4_apply, val_main_v2_apply, val_main_v1_apply, val_main_v3_apply, val_main_v5_apply]
  have hs : val_main_cst (F := Ideal) (Shape.Idx.first h_S_) + ∑ k : Fin 1024, val_main_v0 (F := Ideal) x0 (idx_main_v1 (idx_main_v2 (idx_main_v8 i)) k)
      = ∑ q ∈ Finset.range 1024, rd2 x0 (i 0).val q * rd2 x0 (i 0).val q :=
    fromZero (val_main_cst_apply _) (sum_eq fun k => by
      rw [val_main_v0_apply]
      exact congrArg₂ (· * ·) (rd2_at x0 _ rfl rfl) (rd2_at x0 _ rfl rfl))
  rw [hs]
  exact congrArg₂ (fun x y : EReal => x * _ * y) (rd2_at x0 i rfl rfl) (rd2_at x1 _ rfl rfl)

/-- The logistic function as the host writes it out. -/
theorem hostLogistic {u v x : EReal} (hu : u = FloatOps.ofBits (F := Ideal) .f32 0x3F800000#32) (hv : v = FloatOps.ofBits (F := Ideal) .f32 0x3F800000#32) :
    FloatOps.hostDivf (F := Ideal) (φ := .f32) u (FloatOps.addf (F := Ideal) (φ := .f32) v (FloatOps.hostUnary .exp (FloatOps.hostNegf (F := Ideal) (φ := .f32) x)))
      = Ideal.logistic x := by
  have h1 : FloatOps.ofBits (F := Ideal) .f32 0x3F800000#32 = (1 : EReal) := Idealize.ShloMosaic.Ideal.ofBits_one_f32
  rw [hu, hv, h1]
  rfl

theorem half (x2) : Arr2 (a := 2048) (b := 1536) (val_main_v23 (F := Ideal) x2) fun i j => rd2 x2 i j * Ideal.logistic (rd2 x2 i (1536 + j)) := fun i => by
  rw [val_main_v23_apply, val_main_v22_apply, val_main_v21_apply, val_main_v20_apply, val_main_v19_apply, val_main_v18_apply, val_main_v17_apply,
    val_main_v16_apply, val_main_v15_apply, val_main_v13_apply, val_main_v13_apply, ext_eq, ext_eq,
    hostLogistic (val_main_cst_3_apply _) (val_main_cst_2_apply _)]
  exact congrArg₂ (fun x y : EReal => x * Ideal.logistic y) (rd2_at x2 _ (by simp) (by simp)) (rd2_at x2 _ (by simp) (by simp))

theorem gate (x4) : Arr2 (a := 2048) (b := 2048) (val_main_v26 (F := Ideal) x4)
    fun i j => rd2 x4 i (2048 + j) * Ideal.logistic (rd2 x4 i (2048 + j)) := fun i => by
  rw [val_main_v26_apply, val_main_call0_v5_apply, val_main_call0_v4_apply, val_main_call0_v3_apply, val_main_call0_v2_apply,
    val_main_call0_v1_apply, val_main_call0_v0_apply, val_main_v25_apply, val_main_v14_apply, ext_eq,
    hostLogistic (val_main_call0_cst_0_apply _) (val_main_call0_cst_apply _)]
  exact congrArg (fun x : EReal => x * Ideal.logistic x) (rd2_at x4 _ (by simp) (by simp))

theorem merged (x2 x3 x4) : Arr2 (a := 2048) (b := 2048) (val_main_v28 (F := Ideal) x2 x3 x4) (gated (rd2 x2) (rd2 x3) (rd2 x4)) := by
  have h := (((half x2).toE2 (φ := .f32)).beside ((arr2_rd2 x3).toE2 (φ := .f32)) rfl concatenates_S2048x1536_S2048x512_S2048x2048_d1).mul
    ((gate x4).toE2 (φ := .f32))
  intro i
  have e : i = ix2 (i 0) (i 1) := Shape.idx_ext₂ rfl rfl
  exact (congrArg (val_main_v27 (F := Ideal) x2 x3 x4) e).trans (h (i 0) (i 1))

end Cert.Reference4Ideal.Products

end
-- ==== Proof.OutProj.lean ====
/- The attention layer's output projection (`Cert.Kernel5Ideal`) and the gradient through it (`Cert.Kernel6Ideal`): what each leaves
   in its result, element by element. Rows `0 … 511` of each of the weights' four shards are the projection's 2048 rows. -/
module

public import proofs.«01_k».proof.Proof.Norm
public import proofs.«01_k».proof.Proof.Gen.Kernel5Ideal.Value
public import proofs.«01_k».proof.Proof.Gen.Kernel6Ideal.Value
public import Idealize.ShloMosaic.Lib.Pipeline.ValueKit

@[expose] public section

set_option maxRecDepth 16384

noncomputable section

namespace Products

open Idealize.ShloMosaic

/-- Row `r` of a stack of shards of 512 rows set below each other. -/
abbrev stacked (w : ℕ → ℕ → ℕ → EReal) (r s : ℕ) : EReal := w (r / 512) (r % 512) s

/-- A shard fetched into a buffer, read off the weights. -/
theorem Arr3.fetched {N A B n r s a b : ℕ} {X : (⟨3, ![N, A, B]⟩ : Shape).Idx → EReal} {f : ℕ → ℕ → ℕ → EReal} (h : Arr3 X f)
    {x : FVec Ideal (AttnMath.Sh3 a b) .bf16}
    (hx : ∀ y, ∃ k, x y = X k ∧ (k 0).val = n * 1 + (y 0).val ∧ (k 1).val = r * a + (y 1).val ∧ (k 2).val = s * b + (y 2).val) :
    E3 x fun i j => f (n * 1) (r * a + i) (s * b + j) := fun i j => by
  obtain ⟨k, e, e0, e1, e2⟩ := hx (ValueIdx.ix3 0 i j)
  exact e.trans (h.at e0 e1 e2)

end Products

namespace Cert.Kernel6Ideal.Products

open Cert.Kernel6Ideal.Gen
open Idealize.ShloMosaic Idealize.ShloMosaic.TcCoe Idealize.ShloMosaic.Tactic
open Idealize.ShloMosaic.ValueIdx
open Idealize.ShloMosaic.Pipeline (Dat)
open Idealize.ShloMosaic.Pipeline.Window (rect_emb_val)
open _root_.Products

variable (m : (ℓ : Loc nD τ sig) → Buf (Elt Ideal) ℓ) (c : Dev nD)

theorem index : ∀ t : Fin cfg0.N, win0_0.index t 0 = 0 ∧ win0_0.index t 1 = 0 ∧ win0_1.index t 0 = t.val ∧ win0_1.index t 1 = 0
    ∧ win0_1.index t 2 = 0 ∧ win0_2.index t 0 = 0 ∧ win0_2.index t 1 = t.val := by decide +kernel

theorem written (i a0 h0 a1 h1 a2 h2) (x y) : out0_A_2 (F := Ideal) c i a0 h0 a1 h1 a2 h2 x y = k0_pay1 x y := by
  unfold out0_A_2
  rw [View.read_writes_eq_canon _ _ _ (cover0_A_2 c i a0 h0 a1 h1 a2 h2 x y)]
  unfold kernelRun0_A
  dsimp only
  sl_unfold_words
  rw [View.canon_unit_zero zero2]
  simp only [View.readAt_eq_ld, h0.read_unread, h1.read_unread, View.ld_unit_zero (S := S2048x1024) zero2, View.ld_unit_zero (S := S1x512x1024) zero3]

theorem stored {x y} {f g : ℕ → ℕ → EReal} (hx : E2 (a := 2048) (b := 1024) (φ := .f32) x f)
    (hy : E3 (a := 512) (b := 1024) (φ := .bf16) y g) :
    E2 (a := 2048) (b := 512) (φ := .bf16) (k0_pay1 (F := Ideal) x y) (mulT 1024 f g) := ((hx.trunc _).matNT (hy.drop _)).trunc _

/-- The gradient of the projected activations. -/
theorem result {f g} (hx : Arr2 (a := 2048) (b := 1024) (m (c.tc.loc main_arg0)) f)
    (hy : Arr3 (n := 4) (a := 768) (b := 1024) (m (c.tc.loc main_arg1)) g) :
    Arr2 (a := 2048) (b := 2048) ((dats m 0 c).arrAt 2 cfg0.N) (mulT 1024 f (stacked g)) :=
  (dats m 0 c).arrAt_forall_of_covers 2 (fun i v => (v : EReal) = mulT 1024 f (stacked g) (i 0 : Fin 2048).val (i 1 : Fin 2048).val)
    (by decide +kernel) fun t _ y => by
    have ht := index t
    have h := stored (hx.block ((cfg0.win 0).blk t).view.emb (rect_emb_val win0_0 t · 0) (rect_emb_val win0_0 t · 1))
      (hy.fetched (x := X0_1 m c t) fun y => ⟨_, dif_pos (moved0_1 t y), rect_emb_val win0_1 t _ 0, rect_emb_val win0_1 t _ 1, rect_emb_val win0_1 t _ 2⟩)
    have e : (dats m 0 c).after 2 t = k0_pay1 (iblk m c 0 t) (X0_1 m c t) := (after0_2 m c t).trans (written c _ _ _ _ _ _ _ _ _)
    exact (congrFun e _).trans ((h.congr fun i j _ _ => sum23 fun q _ => by omega).place (F := mulT 1024 f (stacked g))
      (rect_emb_val win0_2 t y 0) (rect_emb_val win0_2 t y 1) (Shape.idx_ext₂ rfl rfl))

end Cert.Kernel6Ideal.Products

namespace Cert.Kernel5Ideal.Products

open Cert.Kernel5Ideal.Gen
open Idealize.ShloMosaic Idealize.ShloMosaic.TcCoe Idealize.ShloMosaic.Tactic
open Idealize.ShloMosaic.ValueIdx
open Idealize.ShloMosaic.Pipeline (Dat)
open Idealize.ShloMosaic.Pipeline.Window (rect_emb_val)
open _root_.Products

variable (m : (ℓ : Loc nD τ sig) → Buf (Elt Ideal) ℓ) (c : Dev nD)

theorem index : ∀ t : Fin cfg0.N, win0_0.index t 0 = win0_6.index t 0 ∧ win0_0.index t 1 = 0
    ∧ (win0_1.index t 0 = 0 ∧ win0_1.index t 1 = 0 ∧ win0_1.index t 2 = win0_6.index t 1)
    ∧ (win0_2.index t 0 = 1 ∧ win0_2.index t 1 = 0 ∧ win0_2.index t 2 = win0_6.index t 1)
    ∧ (win0_3.index t 0 = 2 ∧ win0_3.index t 1 = 0 ∧ win0_3.index t 2 = win0_6.index t 1)
    ∧ (win0_4.index t 0 = 3 ∧ win0_4.index t 1 = 0 ∧ win0_4.index t 2 = win0_6.index t 1)
    ∧ win0_5.index t 0 = win0_6.index t 0 ∧ win0_5.index t 1 = win0_6.index t 1 := by decide +kernel

/-- What the body makes of the blocks it loads; the activations' in four parts, one per shard. -/
def body (x : Vec Ideal S1024x2048 .bf16) (y0 y1 y2 y3 : Vec Ideal S1x512x1024 .bf16) (z : Vec Ideal S1024x1024 .f32) : FVec Ideal S1024x1024 .f32 :=
  k0_pay1 (View.ld x (Rect.unit ![0, 0] S1024x512.size inb_S1024x2048_S1024x512_0_0)) y0
    (View.ld x (Rect.unit ![0, 512] S1024x512.size inb_S1024x2048_S1024x512_0_512)) y1
    (View.ld x (Rect.unit ![0, 1024] S1024x512.size inb_S1024x2048_S1024x512_0_1024)) y2
    (View.ld x (Rect.unit ![0, 1536] S1024x512.size inb_S1024x2048_S1024x512_0_1536)) y3 z

theorem written (i a0 h0 a1 h1 a2 h2 a3 h3 a4 h4 a5 h5 a6 h6) (x y0 y1 y2 y3 z) :
    out0_A_6 (F := Ideal) c i a0 h0 a1 h1 a2 h2 a3 h3 a4 h4 a5 h5 a6 h6 x y0 y1 y2 y3 z = body x y0 y1 y2 y3 z := by
  unfold out0_A_6
  rw [View.read_writes_eq_canon _ _ _ (cover0_A_6 c i a0 h0 a1 h1 a2 h2 a3 h3 a4 h4 a5 h5 a6 h6 x y0 y1 y2 y3 z)]
  unfold kernelRun0_A
  dsimp only
  sl_unfold_words
  rw [View.canon_unit_zero zero2]
  simp only [View.readAt_eq_ld, h0.read_unread, h1.read_unread, h2.read_unread, h3.read_unread, h4.read_unread, h5.read_unread,
    View.ld_unit_zero (S := S1024x1024) zero2, View.ld_unit_zero (S := S1x512x1024) zero3, body]

theorem stored {x y0 y1 y2 y3 z} {f g0 g1 g2 g3 r : ℕ → ℕ → EReal} (hx : E2 (a := 1024) (b := 2048) (φ := .bf16) x f)
    (k0 : E3 (a := 512) (b := 1024) (φ := .bf16) y0 g0) (k1 : E3 (a := 512) (b := 1024) (φ := .bf16) y1 g1)
    (k2 : E3 (a := 512) (b := 1024) (φ := .bf16) y2 g2) (k3 : E3 (a := 512) (b := 1024) (φ := .bf16) y3 g3)
    (hz : E2 (a := 1024) (b := 1024) (φ := .f32) z r) :
    E2 (a := 1024) (b := 1024) (φ := .f32) (body x y0 y1 y2 y3 z) fun i j =>
      mul 512 (fun i q => f i (0 + q)) g0 i j + mul 512 (fun i q => f i (512 + q)) g1 i j
        + mul 512 (fun i q => f i (1024 + q)) g2 i j + mul 512 (fun i q => f i (1536 + q)) g3 i j + r i j := by
  have hr := fun (off : Fin 2 → ℕ) inb => ValueKit.rect_emb_unit_val (s := S1024x2048) off S1024x512.size inb
  have part := fun (n : ℕ) (inb : ∀ a, (![0, n] : Fin 2 → ℕ) a + S1024x512.size a ≤ S1024x2048.size a) =>
    hx.cols (c := 512) (n := n) (Rect.unit (s := S1024x2048) ![0, n] S1024x512.size inb).emb (fun y => hr ![0, n] inb y 0) (fun y => hr ![0, n] inb y 1)
  exact (((((part 0 _).matNN (k0.drop _)).add ((part 512 _).matNN (k1.drop _))).add ((part 1024 _).matNN (k2.drop _))).add
    ((part 1536 _).matNN (k3.drop _))).add hz

/-- The projection, added to the layer's input. -/
theorem result {f g r} (hx : Arr2 (a := 2048) (b := 2048) (m (c.tc.loc main_arg0)) f)
    (hy : Arr3 (n := 4) (a := 768) (b := 1024) (m (c.tc.loc main_arg1)) g)
    (hz : Arr2 (a := 2048) (b := 1024) (m (c.tc.loc main_arg2)) r) :
    Arr2 (a := 2048) (b := 1024) ((dats m 0 c).arrAt 6 cfg0.N) (fun i j => mul 2048 f (stacked g) i j + r i j) :=
  (dats m 0 c).arrAt_forall_of_covers 6 (fun i v => (v : EReal) = mul 2048 f (stacked g) (i 0 : Fin 2048).val (i 1 : Fin 1024).val
      + r (i 0 : Fin 2048).val (i 1 : Fin 1024).val) (by decide +kernel) fun t _ y => by
    have ht := index t
    have h := stored (hx.block ((cfg0.win 0).blk t).view.emb (rect_emb_val win0_0 t · 0) (rect_emb_val win0_0 t · 1))
      (hy.fetched (x := X0_1 m c t) fun y => ⟨_, dif_pos (moved0_1 t y), rect_emb_val win0_1 t _ 0, rect_emb_val win0_1 t _ 1, rect_emb_val win0_1 t _ 2⟩)
      (hy.fetched (x := X0_2 m c t) fun y => ⟨_, dif_pos (moved0_2 t y), rect_emb_val win0_2 t _ 0, rect_emb_val win0_2 t _ 1, rect_emb_val win0_2 t _ 2⟩)
      (hy.fetched (x := X0_3 m c t) fun y => ⟨_, dif_pos (moved0_3 t y), rect_emb_val win0_3 t _ 0, rect_emb_val win0_3 t _ 1, rect_emb_val win0_3 t _ 2⟩)
      (hy.fetched (x := X0_4 m c t) fun y => ⟨_, dif_pos (moved0_4 t y), rect_emb_val win0_4 t _ 0, rect_emb_val win0_4 t _ 1, rect_emb_val win0_4 t _ 2⟩)
      (hz.block ((cfg0.win 5).blk t).view.emb (rect_emb_val win0_5 t · 0) (rect_emb_val win0_5 t · 1))
    have e : (dats m 0 c).after 6 t = body (iblk m c 0 t) (X0_1 m c t) (X0_2 m c t) (X0_3 m c t) (X0_4 m c t) (iblk m c 5 t) :=
      (after0_6 m c t).trans (written c _ _ _ _ _ _ _ _ _ _ _ _ _ _ _ _ _ _ _ _ _)
    refine (congrFun e _).trans ((h.congr (g := fun i j => mul 2048 f (stacked g) (win0_6.index t 0 * 1024 + i) (win0_6.index t 1 * 1024 + j)
        + r (win0_6.index t 0 * 1024 + i) (win0_6.index t 1 * 1024 + j)) fun i j _ _ => ?_).place
      (F := fun i j => mul 2048 f (stacked g) i j + r i j) (rect_emb_val win0_6 t y 0) (rect_emb_val win0_6 t y 1) (Shape.idx_ext₂ rfl rfl))
    refine congrArg₂ (· + ·) (Eq.trans ?_ (sum_parts (fun q => f (win0_6.index t 0 * 1024 + i) q * g (q / 512) (q % 512) (win0_6.index t 1 * 1024 + j)) 512))
      (congrArg₂ r (by omega) (by omega))
    exact congrArg₂ (· + ·) (congrArg₂ (· + ·) (congrArg₂ (· + ·) (sum23 fun q _ => by omega) (sum23 fun q _ => by omega))
      (sum23 fun q _ => by omega)) (sum23 fun q _ => by omega)

end Cert.Kernel5Ideal.Products

end
-- ==== Proof.OutProjRef.lean ====
/- The products `reference5` and `reference6` take, element by element. -/
module

public import proofs.«01_k».proof.Proof.OutProj
public import proofs.«01_k».proof.Proof.Gen.Reference5Ideal.Read
public import proofs.«01_k».proof.Proof.Gen.Reference6Ideal.Read

@[expose] public section

set_option maxRecDepth 16384

noncomputable section

namespace Cert.Reference5Ideal.Products

open Cert.Reference5Ideal Cert.Reference5Ideal.Gen Cert.Reference5Ideal.Read
open Idealize.ShloMosaic Idealize.ShloMosaic.TcCoe
open _root_.Products

theorem projected (x0 x1 x2) : Arr2 (a := 2048) (b := 1024) (val_main_v5 (F := Ideal) x0 x1 x2)
    fun i j => mul 2048 (rd2 x0) (stacked (rd3 x1)) i j + rd2 x2 i j := fun i => by
  have hs : (i 1).val < 1024 := (i 1).isLt
  rw [val_main_v5_apply, val_main_v4_apply]
  refine (add_comm _ _).trans (congrArg₂ (· + ·) (sum_eq fun k => ?_) (rd2_at x2 i rfl rfl))
  rw [val_main_v0_apply, val_main_v3_apply, val_main_v2_apply, val_main_v1_apply, ext_eq, ext_eq]
  have hk := k.isLt
  exact congrArg₂ (· * ·) (rd2_at x0 _ rfl rfl) (rd3_at x1 _
    (by change (k.val * 1024 + (i 1).val) / 524288 = _; omega) (by change (k.val * 1024 + (i 1).val) / 1024 % 512 = _; omega)
    (by change (k.val * 1024 + (i 1).val) % 1024 = _; omega))

end Cert.Reference5Ideal.Products

namespace Cert.Reference6Ideal.Products

open Cert.Reference6Ideal Cert.Reference6Ideal.Gen Cert.Reference6Ideal.Read
open Idealize.ShloMosaic Idealize.ShloMosaic.TcCoe
open _root_.Products

theorem pulledBack (x0 x1) : Arr2 (a := 2048) (b := 2048) (val_main_v7 (F := Ideal) x0 x1)
    (mulT 1024 (rd2 x0) (stacked (rd3 x1))) := fun i => by
  have hs : (i 1).val < 2048 := (i 1).isLt
  rw [val_main_v7_apply, trunc_eq, val_main_v6_apply]
  refine sum_eq fun k => ?_
  rw [val_main_v3_apply, val_main_v2_apply, val_main_v1_apply, ext_eq]
  have hk := k.isLt
  exact congrArg₂ (· * ·) (rd2_at x0 _ rfl rfl) (rd3_at x1 _
    (by change ((i 1).val * 1024 + k.val) / 524288 = _; omega) (by change ((i 1).val * 1024 + k.val) / 1024 % 512 = _; omega)
    (by change ((i 1).val * 1024 + k.val) % 1024 = _; omega))

end Cert.Reference6Ideal.Products

end
-- ==== Proof.NormGrad.lean ====
/- The gradient of the attention layer's normalization (`Cert.Kernel7Ideal`): 512 rows at each step, the gain's gradient added up in a
   buffer that stays over the four steps. -/
module

public import proofs.«01_k».proof.Proof.Norm
public import proofs.«01_k».proof.Proof.Gen.Kernel7Ideal.Value
public import Idealize.ShloMosaic.Lib.Pipeline.ValueKit

@[expose] public section

set_option maxRecDepth 16384

noncomputable section

namespace Cert.Kernel7Ideal.Products

open Cert.Kernel7Ideal.Gen
open Idealize.ShloMosaic Idealize.ShloMosaic.TcCoe Idealize.ShloMosaic.Tactic
open Idealize.ShloMosaic.ValueIdx
open Idealize.ShloMosaic.Pipeline (Dat)
open Idealize.ShloMosaic.Pipeline.Window (rect_emb_val)
open _root_.Products

/-! The body's values. -/

section Body

variable {x : FVec Ideal S512x1024 .f32} {gain : FVec Ideal S1x1024 .f32} {dh : FVec Ideal S512x1024 .bf16} {dres : FVec Ideal S512x1024 .f32}
  {f h d : ℕ → ℕ → EReal} {g : ℕ → EReal}

theorem power_eq (hx : E2 (a := 512) (b := 1024) (φ := .f32) x f) :
    E2 (a := 512) (b := 1) (φ := .f32) (k0_pay2 (F := Ideal) x) fun i _ => power f i :=
  (((hx.mul hx).rowSum _ _ _ _).quot (E2.const _)).add (E2.const _)

theorem root_eq (hx : E2 (a := 512) (b := 1024) (φ := .f32) x f) :
    E2 (a := 512) (b := 1) (φ := .f32) (k0_pay3 (F := Ideal) x) fun i _ => Ideal.rsqrt (power f i) := (power_eq hx).invRoot

theorem gainStep_eq (hx : E2 (a := 512) (b := 1024) (φ := .f32) x f) (hh : E2 (a := 512) (b := 1024) (φ := .bf16) dh h) :
    E2 (a := 1) (b := 1024) (φ := .f32) (k0_pay5 (F := Ideal) x dh) fun _ s => ∑ r ∈ Finset.range 512, gainPart f h s r :=
  ((hx.mul ((root_eq hx).spreadColumn _)).mul (hh.widen _)).columnSum _ _ _ _

theorem step_eq (hx : E2 (a := 512) (b := 1024) (φ := .f32) x f) (hg : E2 (a := 1) (b := 1024) (φ := .f32) gain fun _ s => g s)
    (hh : E2 (a := 512) (b := 1024) (φ := .bf16) dh h) (hd : E2 (a := 512) (b := 1024) (φ := .f32) dres d) :
    E2 (a := 512) (b := 1024) (φ := .f32) (k0_pay6 (F := Ideal) x gain dh dres) (normGrad f g h d) := by
  have hr := root_eq hx
  have hm : E2 (a := 512) (b := 1024) (φ := .f32) (mulf (k0_pay4 (F := Ideal) dh) (broadcastTo S512x1024 gain broadcasts_S1x1024_S512x1024))
      fun i j => h i j * g j := (hh.widen _).mul (hg.spreadRow _)
  have hs := (((hx.mul hm).rowSum reduces_S512x1024_S512 (.inl rfl) rfl shapeCasts_S512_S512x1).mul
    ((E2.const (φ := .f32) minusHalf).mul (hr.quot (power_eq hx)))).quot (E2.const (φ := .f32) width)
  have hc := ((hs.rowSum reduces_S512x1_S512 (.inl rfl) rfl shapeCasts_S512_S512x1).congr (g := fun i _ => slope f g h i)
    fun i j _ _ => Finset.sum_range_one _).spreadColumn broadcasts_S512x1_S512x1024
  exact (((hm.mul (hr.spreadColumn _)).add (hx.mul hc)).add (hc.mul hx)).add hd

end Body

variable (m : (ℓ : Loc nD τ sig) → Buf (Elt Ideal) ℓ) (c : Dev nD)

/-! What a step leaves in its two result buffers. -/

theorem rowsA (i a0 h0 a1 h1 a2 h2 a3 h3 a4 h4 a5 h5 ha hb) (x g h d) :
    out0_A_4 (F := Ideal) c i a0 h0 a1 h1 a2 h2 a3 h3 a4 h4 a5 h5 ha hb x g h d = k0_pay6 x g h d := by
  unfold out0_A_4
  rw [View.read_writes_eq_canon _ _ _ (cover0_A_4 c i a0 h0 a1 h1 a2 h2 a3 h3 a4 h4 a5 h5 ha hb x g h d)]
  unfold kernelRun0_A
  dsimp only
  sl_unfold_words
  rw [View.canon_unit_zero zero2]
  simp only [View.readAt_eq_ld, h0.read_unread, h1.read_unread, h2.read_unread, h3.read_unread,
    View.ld_unit_zero (S := S512x1024) zero2, View.ld_unit_zero (S := S1x1024) zero2]

theorem gainA (i a0 h0 a1 h1 a2 h2 a3 h3 a4 h4 a5 h5 ha hb) (x g h d) :
    out0_A_5 (F := Ideal) c i a0 h0 a1 h1 a2 h2 a3 h3 a4 h4 a5 h5 ha hb x g h d = k0_pay5 x h := by
  unfold out0_A_5
  rw [View.read_writes_eq_canon _ _ _ (cover0_A_5 c i a0 h0 a1 h1 a2 h2 a3 h3 a4 h4 a5 h5 ha hb x g h d)]
  unfold kernelRun0_A
  dsimp only
  sl_unfold_words
  rw [View.canon_unit_zero zero2]
  simp only [View.readAt_eq_ld, h0.read_unread, h2.read_unread, View.ld_unit_zero (S := S512x1024) zero2]

theorem rowsB (i a0 h0 a1 h1 a2 h2 a3 h3 a4 h4 a5 h5 ha hb) (x g h d e) :
    out0_B_4 (F := Ideal) c i a0 h0 a1 h1 a2 h2 a3 h3 a4 h4 a5 h5 ha hb x g h d e = k0_pay6 x g h d := by
  unfold out0_B_4
  rw [View.read_writes_eq_canon _ _ _ (cover0_B_4 c i a0 h0 a1 h1 a2 h2 a3 h3 a4 h4 a5 h5 ha hb x g h d e)]
  unfold kernelRun0_B
  dsimp only
  sl_unfold_words
  rw [View.canon_unit_zero zero2]
  simp only [View.readAt_eq_ld, h0.read_unread, h1.read_unread, h2.read_unread, h3.read_unread,
    View.ld_unit_zero (S := S512x1024) zero2, View.ld_unit_zero (S := S1x1024) zero2]

theorem gainB (i a0 h0 a1 h1 a2 h2 a3 h3 a4 h4 a5 h5 ha hb) (x g h d e) :
    out0_B_5 (F := Ideal) c i a0 h0 a1 h1 a2 h2 a3 h3 a4 h4 a5 h5 ha hb x g h d e = k0_pay1 (k0_pay5 x h) e := by
  unfold out0_B_5
  rw [View.read_writes_eq_canon _ _ _ (cover0_B_5 c i a0 h0 a1 h1 a2 h2 a3 h3 a4 h4 a5 h5 ha hb x g h d e)]
  unfold kernelRun0_B
  dsimp only
  sl_unfold_words
  rw [View.canon_unit_zero zero2]
  simp only [View.readAt_eq_ld, h0.read_unread, h2.read_unread, h5.read_unread,
    View.ld_unit_zero (S := S512x1024) zero2, View.ld_unit_zero (S := S1x1024) zero2]

theorem index : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ win0_5.index t 0 = 0 ∧ win0_5.index t 1 = 0 := by decide +kernel

variable {f h d : ℕ → ℕ → EReal} {g : ℕ → ℕ → EReal}

/-- The rows from the `t`-th block on. -/
abbrev startingAt (t : ℕ) (f : ℕ → ℕ → EReal) (i j : ℕ) : EReal := f (512 * t + i) j

/-- The four blocks read at a step. -/
structure Reads (t : Fin cfg0.N) (f h d : ℕ → ℕ → EReal) (g : ℕ → ℕ → EReal) : Prop where
  rows : E2 (a := 512) (b := 1024) (φ := .f32) (iblk m c 0 t) (startingAt t.val f)
  gain : E2 (a := 1) (b := 1024) (φ := .f32) (iblk m c 1 t) fun _ s => g 0 s
  grad : E2 (a := 512) (b := 1024) (φ := .bf16) (iblk m c 2 t) (startingAt t.val h)
  own : E2 (a := 512) (b := 1024) (φ := .f32) (iblk m c 3 t) (startingAt t.val d)

theorem reads (hx : Arr2 (a := 2048) (b := 1024) (m (c.tc.loc main_arg0)) f)
    (hg : Arr2 (a := 1) (b := 1024) (m (c.tc.loc main_arg1)) g)
    (hh : Arr2 (a := 2048) (b := 1024) (m (c.tc.loc main_arg2)) h)
    (hd : Arr2 (a := 2048) (b := 1024) (m (c.tc.loc main_arg3)) d) (t : Fin cfg0.N) : Reads m c t f h d g := by
  have ht := index t
  refine ⟨?_, ?_, ?_, ?_⟩
  · exact (hx.block ((cfg0.win 0).blk t).view.emb (rect_emb_val win0_0 t · 0) (rect_emb_val win0_0 t · 1)).congr fun i j _ _ =>
      congrArg₂ f (by omega) (by omega)
  · exact (hg.block ((cfg0.win 1).blk t).view.emb (rect_emb_val win0_1 t · 0) (rect_emb_val win0_1 t · 1)).congr fun i j _ _ =>
      congrArg₂ g (by omega) (by omega)
  · exact (hh.block ((cfg0.win 2).blk t).view.emb (rect_emb_val win0_2 t · 0) (rect_emb_val win0_2 t · 1)).congr fun i j _ _ =>
      congrArg₂ h (by omega) (by omega)
  · exact (hd.block ((cfg0.win 3).blk t).view.emb (rect_emb_val win0_3 t · 0) (rect_emb_val win0_3 t · 1)).congr fun i j _ _ =>
      congrArg₂ d (by omega) (by omega)

/-- After step `n` the rows' buffer holds that block's gradient, the gain's the sum over the rows so far. -/
theorem after (H : ∀ t, Reads m c t f h d g) : ∀ (n : ℕ) (hn : n < cfg0.N),
    E2 (a := 512) (b := 1024) (φ := .f32) (outsAt0 m c n hn).1 (normGrad (startingAt n f) (g 0) (startingAt n h) (startingAt n d))
      ∧ E2 (a := 1) (b := 1024) (φ := .f32) (outsAt0 m c n hn).2 fun _ s => ∑ r ∈ Finset.range (512 * (n + 1)), gainPart f h s r
  | 0, hn => by
    have R := H ⟨0, hn⟩
    rw [outsAt0_A m c ⟨0, hn⟩ (Nat.zero_mod _) (by simp), rowsA, gainA]
    exact ⟨step_eq R.rows R.gain R.grad R.own, (gainStep_eq R.rows R.grad).congr fun i s _ _ =>
      Finset.sum_congr rfl fun r _ => by unfold gainPart power; simp only [startingAt, Nat.mul_zero, Nat.zero_add]⟩
  | n + 1, hn => by
    have hN : cfg0.N = 4 := N_0
    have R := H ⟨n + 1, hn⟩
    have prev := (after H n (Nat.lt_of_succ_lt hn)).2
    rw [outsAt0_B m c ⟨n + 1, hn⟩ (by show ¬(n + 1) % 4 = 0; omega) (by show 1 ≤ n + 1; omega), rowsB, gainB]
    refine ⟨step_eq R.rows R.gain R.grad R.own, ((prev.recast _).add (gainStep_eq R.rows R.grad)).congr fun i s _ _ => ?_⟩
    rw [show 512 * (n + 1 + 1) = 512 * (n + 1) + 512 by omega, Finset.sum_range_add]
    rfl

/-- The rows' gradient. -/
theorem rowsGrad (hx : Arr2 (a := 2048) (b := 1024) (m (c.tc.loc main_arg0)) f)
    (hg : Arr2 (a := 1) (b := 1024) (m (c.tc.loc main_arg1)) g)
    (hh : Arr2 (a := 2048) (b := 1024) (m (c.tc.loc main_arg2)) h)
    (hd : Arr2 (a := 2048) (b := 1024) (m (c.tc.loc main_arg3)) d) :
    Arr2 (a := 2048) (b := 1024) ((dats m 0 c).arrAt 4 cfg0.N) (normGrad f (g 0) h d) :=
  (dats m 0 c).arrAt_forall_of_covers 4 (fun i v => (v : EReal) = normGrad f (g 0) h d (i 0 : Fin 2048).val (i 1 : Fin 1024).val)
    (by decide +kernel) fun t _ y => by
    have ht := index t
    have e := (after m c (reads m c hx hg hh hd) t.val t.isLt).1
    refine (congrFun (after0_4 m c t) _).trans ((e.congr (g := fun i j => normGrad f (g 0) h d (win0_4.index t 0 * 512 + i) (win0_4.index t 1 * 1024 + j))
      fun i j _ _ => ?_).place (F := normGrad f (g 0) h d) (rect_emb_val win0_4 t y 0) (rect_emb_val win0_4 t y 1) (Shape.idx_ext₂ rfl rfl))
    rw [show win0_4.index t 0 * 512 + i = 512 * t.val + i by omega, show win0_4.index t 1 * 1024 + j = j by omega]
    rfl

/-- The gain's gradient. -/
theorem gainGrad (hx : Arr2 (a := 2048) (b := 1024) (m (c.tc.loc main_arg0)) f)
    (hg : Arr2 (a := 1) (b := 1024) (m (c.tc.loc main_arg1)) g)
    (hh : Arr2 (a := 2048) (b := 1024) (m (c.tc.loc main_arg2)) h)
    (hd : Arr2 (a := 2048) (b := 1024) (m (c.tc.loc main_arg3)) d) :
    Arr2 (a := 1) (b := 1024) ((dats m 0 c).arrAt 5 cfg0.N) (fun _ s => ∑ r ∈ Finset.range 2048, gainPart f h s r) :=
  (dats m 0 c).arrAt_forall_of_covers 5 (fun i v => (v : EReal) = ∑ r ∈ Finset.range 2048, gainPart f h (i 1 : Fin 1024).val r)
    (by decide +kernel) fun t hf y => by
    have ht := index t
    have hN : t.val < 4 := lt_of_lt_of_eq t.isLt N_0
    have h3 : t.val = 3 := by have := (flush0_5 t).mp hf; omega
    have e := (after m c (reads m c hx hg hh hd) t.val t.isLt).2
    refine (congrFun (after0_5 m c t) _).trans ((e.congr (g := fun i j => ∑ r ∈ Finset.range 2048, gainPart f h (win0_5.index t 1 * 1024 + j) r)
      fun i j _ _ => ?_).place (F := fun _ s => ∑ r ∈ Finset.range 2048, gainPart f h s r) (r := win0_5.index t 0)
      (rect_emb_val win0_5 t y 0) (rect_emb_val win0_5 t y 1) (Shape.idx_ext₂ rfl rfl))
    rw [h3, show win0_5.index t 1 * 1024 + j = j by omega]

end Cert.Kernel7Ideal.Products

end
-- ==== Proof.NormGradRef.lean ====
/- The gradients `reference7` takes through the normalization, element by element. -/
module

public import proofs.«01_k».proof.Proof.Norm
public import proofs.«01_k».proof.Proof.Gen.Reference7Ideal.Read

@[expose] public section

set_option maxRecDepth 16384

noncomputable section

namespace Cert.Reference7Ideal.Products

open Cert.Reference7Ideal Cert.Reference7Ideal.Gen Cert.Reference7Ideal.Read
open Idealize.ShloMosaic Idealize.ShloMosaic.TcCoe
open _root_.Products

theorem power_at (x0) (i : S2048x1.Idx) : val_main_v6 (F := Ideal) x0 i = power (rd2 x0) (i 0).val := by
  rw [val_main_v6_apply, val_main_v4_apply, val_main_v2_apply, val_main_v1_apply, val_main_v3_apply, val_main_v5_apply]
  exact congrArg (fun s => Ideal.div s width + under) (fromZero (val_main_cst_apply _) (sum_eq fun k => by
    rw [val_main_v0_apply]
    exact congrArg₂ (· * ·) (rd2_at x0 _ rfl rfl) (rd2_at x0 _ rfl rfl)))

theorem root_at (x0) (i : S2048x1.Idx) : val_main_v7 (F := Ideal) x0 i = Ideal.rsqrt (power (rd2 x0) (i 0).val) := by
  rw [val_main_v7_apply, power_at]; rfl

/-- The gradient of the scaled row, and times the row. -/
theorem scaled_at (x1 x2) (i : S2048x1024.Idx) :
    val_main_v20 (F := Ideal) x1 x2 i = rd2 x2 (i 0).val (i 1).val * rd2 x1 0 (i 1).val := by
  rw [val_main_v20_apply, val_main_v15_apply, val_main_v19_apply, ext_eq]
  exact congrArg₂ (· * ·) (rd2_at x2 _ rfl rfl) (rd2_at x1 _ rfl rfl)

theorem slope_at (x0 x1 x2) (i : S2048x1024.Idx) :
    val_main_v31 (F := Ideal) x0 x1 x2 i = slope (rd2 x0) (rd2 x1 0) (rd2 x2) (i 0).val := by
  rw [val_main_v31_apply, val_main_v30_apply]
  refine fromZero (val_main_cst_6_apply _) ((Finset.sum_eq_single (0 : Fin 1) (fun k _ h => absurd (Subsingleton.elim k 0) h)
    (fun h => absurd (Finset.mem_univ _) h)).trans ?_)
  rw [val_main_v29_apply, val_main_v28_apply, val_main_v27_apply, val_main_v23_apply, val_main_v22_apply, val_main_v10_apply, val_main_v9_apply,
    val_main_v8_apply, root_at, power_at]
  refine congrArg (fun s => Ideal.div (s * _) width) (fromZero (val_main_cst_4_apply _) (sum_eq fun k => ?_))
  rw [val_main_v21_apply, scaled_at]
  have hr : (idx_main_v22 (idx_main_v23 (idx_main_v30 (idx_main_v31 i) 0)) k 0).val = (i 0).val := by
    show (i 0).val * 1 + 0 = (i 0).val
    omega
  rw [hr]
  exact congrArg (· * _) (rd2_at x0 _ hr rfl)

/-- The two summands of the row's own gradient and the rest stand in another order on the other side. -/
theorem reorder (d e p q : EReal) : d + e + p + q = e + p + q + d := by
  rw [add_assoc d, add_assoc d, add_comm d]

theorem rowsGrad (x0 x1 x2 x3) : Arr2 (a := 2048) (b := 1024) (val_main_v35 (F := Ideal) x0 x1 x2 x3)
    (normGrad (rd2 x0) (rd2 x1 0) (rd2 x2) (rd2 x3)) := fun i => by
  rw [val_main_v35_apply, val_main_v33_apply, val_main_v34_apply, val_main_v26_apply, val_main_v32_apply, val_main_v25_apply, val_main_v24_apply,
    slope_at, scaled_at, root_at]
  refine Eq.trans ?_ (reorder (rd2 x3 (i 0).val (i 1).val) _ _ _)
  exact congrArg₂ (fun d x : EReal => d + _ + x * _ + _ * x) (rd2_at x3 i rfl rfl) (rd2_at x0 i rfl rfl)

theorem gainGrad (x0 x2) : Arr2 (a := 1) (b := 1024) (val_main_v18 (F := Ideal) x0 x2)
    (fun _ s => ∑ r ∈ Finset.range 2048, gainPart (rd2 x0) (rd2 x2) s r) := fun i => by
  have hi : (i 0).val < 1 := (i 0).isLt
  rw [val_main_v18_apply, val_main_v17_apply]
  refine fromZero (val_main_cst_3_apply _) (sum_eq fun k => ?_)
  rw [val_main_v16_apply, val_main_v12_apply, val_main_v11_apply, val_main_v15_apply, root_at, ext_eq]
  have hs : (i 0).val * 1024 + (i 1).val = (i 1).val := by omega
  exact congrArg₂ (fun x h : EReal => x * _ * h) (rd2_at x0 _ rfl hs) (rd2_at x2 _ rfl hs)

end Cert.Reference7Ideal.Products

end
-- ==== Proof.PairGrad.lean ====
/- The weight gradients of the attention layer's output projection and of its memory's projection (`Cert.Kernel8Ideal`). Each of the
   four shards of the result has the first in rows `0 … 511`, written by the first call, and the second in rows `512 … 767`, written
   by the second call over a copy of what the first left. -/
module

public import proofs.«01_k».proof.Proof.Norm
public import proofs.«01_k».proof.Proof.Gen.Kernel8Ideal.Frame
public import Idealize.ShloMosaic.Lib.Pipeline.ValueKit

@[expose] public section

set_option maxRecDepth 16384

noncomputable section

namespace Products

open Idealize.ShloMosaic

/-- `xᵀ y` with its rows in shards of 512, above `uᵀ v` with its rows in shards of 256. -/
def pairShards (x y u v : ℕ → ℕ → EReal) (e r s : ℕ) : EReal :=
  if r < 512 then tmul 2048 x y (512 * e + r) s else tmul 256 u v (256 * e + (r - 512)) s

end Products

namespace Cert.Kernel8Ideal.Products

open Cert.Kernel8Ideal.Gen
open Idealize.ShloMosaic Idealize.ShloMosaic.TcCoe Idealize.ShloMosaic.Tactic
open Idealize.SL
open RA BI BI.BIBase BI.Laws ProofMode Idealize.SL.Sem Rounds
open Idealize.ShloMosaic.ValueIdx
open Idealize.ShloMosaic.Pipeline (Dat)
open Idealize.ShloMosaic.Pipeline.Window (rect_emb_val)
open _root_.Products

section Blocks

variable (V : (c : Dev nD) → (b : Ref sig .tc) → Buf (Elt Ideal) ((c : Thread nD τ).loc b)) (c : Dev nD)

theorem index0 : ∀ t : Fin cfg0.N, win0_0.index t 0 = 0 ∧ win0_0.index t 1 = t.val ∧ win0_1.index t 0 = 0 ∧ win0_1.index t 1 = 0
    ∧ win0_2.index t 0 = t.val ∧ win0_2.index t 1 = 0 ∧ win0_2.index t 2 = 0 := by decide +kernel

theorem stored0 (x y) {f g} (hx : E2 (a := 2048) (b := 512) (φ := .bf16) x f) (hy : E2 (a := 2048) (b := 1024) (φ := .f32) y g) :
    E3 (a := 512) (b := 1024) (φ := .bf16) (out0_2 (F := Ideal) x y) (tmul 2048 f g) := by
  unfold out0_2
  rw [View.canon_cons_unit_lit _ _ _ (by decide), View.ld_unit_lit _ _ (by decide), View.ld_unit_lit _ _ (by decide)]
  exact ((hx.matTN (hy.trunc _)).trunc _).lift _

/-- What the first call leaves in the rows it writes. -/
theorem result0 {f g u v} (hx : Arr2 (a := 2048) (b := 2048) (V c main_arg0) f) (hy : Arr2 (a := 2048) (b := 1024) (V c main_arg1) g)
    (i : (⟨3, ![4, 768, 1024]⟩ : Shape).Idx) : (i 1).val < 512 →
      ((dat0 V c).arrAt 2 cfg0.N i : EReal) = pairShards f g u v (i 0).val (i 1).val (i 2).val :=
  (dat0 V c).arrAt_forall_of_coversWhere 2
    (fun i x => (i 1 : Fin 768).val < 512 → (x : EReal) = pairShards f g u v (i 0 : Fin 4).val (i 1 : Fin 768).val (i 2 : Fin 1024).val)
    (fun β => β (1 : Fin 3) = 0) (by decide +kernel)
    (fun t _ y _ => by
      have ht := index0 t
      have h := stored0 (iblk0 V c 0 t) (iblk0 V c 1 t)
        (hx.block ((cfg0.win 0).blk t).view.emb (rect_emb_val win0_0 t · 0) (rect_emb_val win0_0 t · 1))
        (hy.block ((cfg0.win 1).blk t).view.emb (rect_emb_val win0_1 t · 0) (rect_emb_val win0_1 t · 1))
      exact (congrFun (after0_2 V c t) _).trans ((h.congr fun i j hi _ =>
          (sum22 fun q _ => by omega).trans (if_pos (by omega)).symm).place (F := pairShards f g u v)
        (y := (cfg0.win 2).xinj (cfg0.grid.coords t) y)
        (rect_emb_val win0_2 t y 0) (rect_emb_val win0_2 t y 1) (rect_emb_val win0_2 t y 2) rfl))
    (fun j hq hr => absurd (Nat.div_eq_of_lt hr) hq) i

theorem index1 : ∀ t : Fin cfg1.N, win1_0.index t 0 = 0 ∧ win1_0.index t 1 = t.val ∧ win1_1.index t 0 = 0 ∧ win1_1.index t 1 = 0
    ∧ win1_2.index t 0 = t.val ∧ win1_2.index t 1 = 2 ∧ win1_2.index t 2 = 0 := by decide +kernel

theorem written1 (i a0 h0 a1 h1 a2 h2) (x y) : out1_A_2 (F := Ideal) c i a0 h0 a1 h1 a2 h2 x y = k1_pay1 x y := by
  unfold out1_A_2
  rw [View.read_writes_eq_canon _ _ _ (cover1_A_2 c i a0 h0 a1 h1 a2 h2 x y)]
  unfold kernelRun1_A
  dsimp only
  sl_unfold_words
  rw [View.canon_unit_zero zero3]
  simp only [View.readAt_eq_ld, h0.read_unread, h1.read_unread, View.ld_unit_zero (S := S256x256) zero2, View.ld_unit_zero (S := S256x1024) zero2]

theorem stored1 {x y} {f g : ℕ → ℕ → EReal} (hx : E2 (a := 256) (b := 256) (φ := .bf16) x f) (hy : E2 (a := 256) (b := 1024) (φ := .f32) y g) :
    E3 (a := 256) (b := 1024) (φ := .bf16) (k1_pay1 (F := Ideal) x y) (tmul 256 f g) := ((hx.matTN (hy.trunc _)).trunc _).lift _

/-- What the second call leaves: its own rows, and the others as it found them. -/
theorem result1 {f g u v} (hu : Arr2 (a := 256) (b := 1024) (V c main_arg2) u) (hv : Arr2 (a := 256) (b := 1024) (V c main_arg3) v)
    (hA : ∀ i : (⟨3, ![4, 768, 1024]⟩ : Shape).Idx, (i 1).val < 512 →
      (V c main_v1 i : EReal) = pairShards f g u v (i 0).val (i 1).val (i 2).val) :
    Arr3 (n := 4) (a := 768) (b := 1024) ((dat1 V c).arrAt 2 cfg1.N) (pairShards f g u v) :=
  (dat1 V c).arrAt_forall_of_coversWhere 2
    (fun i x => (x : EReal) = pairShards f g u v (i 0 : Fin 4).val (i 1 : Fin 768).val (i 2 : Fin 1024).val)
    (fun β => β (1 : Fin 3) = 2) (by decide +kernel)
    (fun t _ y => by
      have ht := index1 t
      have h := stored1 (hu.block ((cfg1.win 0).blk t).view.emb (rect_emb_val win1_0 t · 0) (rect_emb_val win1_0 t · 1))
        (hv.block ((cfg1.win 1).blk t).view.emb (rect_emb_val win1_1 t · 0) (rect_emb_val win1_1 t · 1))
      have e : (dat1 V c).after 2 t = k1_pay1 (iblk1 V c 0 t) (iblk1 V c 1 t) := (after1_2 V c t).trans (written1 c _ _ _ _ _ _ _ _ _)
      exact (congrFun e _).trans ((h.congr fun i j hi _ =>
          (sum22 fun q _ => by omega).trans (if_neg (by omega)).symm).place (F := pairShards f g u v)
        (rect_emb_val win1_2 t y 0) (rect_emb_val win1_2 t y 1) (rect_emb_val win1_2 t y 2)
        (funext fun a => Fin.ext (match a with | ⟨0, _⟩ => rfl | ⟨1, _⟩ => rfl | ⟨2, _⟩ => rfl))))
    (fun j hq => hA j (by
      have hj : (j (1 : Fin 3)).val < 768 := (j (1 : Fin 3)).isLt
      have hq' : ¬(j (1 : Fin 3)).val / 256 = 2 := hq
      omega))

end Blocks

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_all : θ_run defs (onTc (τ := τ) (main (F := F))) ⟨m, fun _ => 0, ρ⟩ (fun r =>
      (∀ c : Dev nD, ∀ b ∈ Pipeline.ucRefs τ sig, r.2.mem (((c : Thread nD τ)).1, b) = W3 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held c.tc (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m (c.tc.loc b)) = StableHlo.held c.tc (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨h, funext fun g => hz g (.inr (no_unscoped g.2))⟩)

end Run

variable (m : (ℓ : Loc nD τ sig) → Buf (Elt Ideal) ℓ) (ρ : Dev nD → PrngReg) (c : Dev nD)

/-- An argument at the launch. -/
abbrev arg (b : Ref sig .tc) : Buf (Elt Ideal) ((c : Thread nD τ).loc b) := m (c.tc.loc b)

/-- The copy the second call starts from. -/
theorem copied : W2 m ρ c main_v1 = (dat0 (V0 m ρ) c).arrAt 2 cfg0.N := W1_arr m ρ c 2

/-- Both gradients at the end. -/
theorem pair : Arr3 (n := 4) (a := 768) (b := 1024) (W3 m ρ c main_v1)
    (pairShards (rd2 (arg m c main_arg0)) (rd2 (arg m c main_arg1)) (rd2 (arg m c main_arg2)) (rd2 (arg m c main_arg3))) := by
  rw [show W3 m ρ c main_v1 = (dat1 (V2 m ρ) c).arrAt 2 cfg1.N from W3_arr m ρ c 2]
  exact result1 (V2 m ρ) c (arr2_of (W2_args m ρ c main_arg2 (by decide))) (arr2_of (W2_args m ρ c main_arg3 (by decide))) fun i hi =>
    (congrFun (copied m ρ c) i).trans (result0 (V0 m ρ) c (arr2_of (W0_args m ρ c main_arg0 (by decide)))
      (arr2_of (W0_args m ρ c main_arg1 (by decide))) i hi)

end Cert.Kernel8Ideal.Products

end
-- ==== Proof.PairGradRef.lean ====
/- The products `reference8` takes, element by element. -/
module

public import proofs.«01_k».proof.Proof.PairGrad
public import proofs.«01_k».proof.Proof.Gen.Reference8Ideal.Read

@[expose] public section

set_option maxRecDepth 16384

noncomputable section

namespace Cert.Reference8Ideal.Products

open Cert.Reference8Ideal Cert.Reference8Ideal.Gen Cert.Reference8Ideal.Read
open Idealize.ShloMosaic Idealize.ShloMosaic.TcCoe
open _root_.Products

theorem outGrad (x0 x1) : Arr3 (n := 4) (a := 512) (b := 1024) (val_main_v10 (F := Ideal) x0 x1)
    fun e r s => tmul 2048 (rd2 x0) (rd2 x1) (512 * e + r) s := fun i => by
  have he : (i 0).val < 4 := (i 0).isLt
  have hr : (i 1).val < 512 := (i 1).isLt
  have hs : (i 2).val < 1024 := (i 2).isLt
  rw [val_main_v10_apply, val_main_v9_apply, val_main_v8_apply]
  refine sum_eq fun k => ?_
  rw [val_main_v2_apply, ext_eq]
  exact (mul_comm _ _).trans (congrArg₂ (· * ·)
    (rd2_at x0 _ rfl (by change (((i 0).val * 512 + (i 1).val) * 1024 + (i 2).val) / 1024 = _; omega))
    (rd2_at x1 _ rfl (by change (((i 0).val * 512 + (i 1).val) * 1024 + (i 2).val) % 1024 = _; omega)))

theorem memGrad (x2 x3) : Arr3 (n := 4) (a := 256) (b := 1024) (val_main_v11 (F := Ideal) x2 x3)
    fun e r s => tmul 256 (rd2 x2) (rd2 x3) (256 * e + r) s := fun i => by
  have he : (i 0).val < 4 := (i 0).isLt
  have hr : (i 1).val < 256 := (i 1).isLt
  have hs : (i 2).val < 1024 := (i 2).isLt
  rw [val_main_v11_apply, val_main_v7_apply, val_main_v6_apply]
  refine sum_eq fun k => ?_
  rw [val_main_v4_apply, ext_eq]
  exact (mul_comm _ _).trans (congrArg₂ (· * ·)
    (rd2_at x2 _ rfl (by change (((i 0).val * 256 + (i 1).val) * 1024 + (i 2).val) / 1024 = _; omega))
    (rd2_at x3 _ rfl (by change (((i 0).val * 256 + (i 1).val) * 1024 + (i 2).val) % 1024 = _; omega)))

/-- One stack of shards above another, shard by shard. -/
theorem above {x y} {f g : ℕ → ℕ → ℕ → EReal} (hx : Arr3 (n := 4) (a := 512) (b := 1024) x f) (hy : Arr3 (n := 4) (a := 256) (b := 1024) y g)
    (h : Shape.Concatenates [S4x512x1024, S4x256x1024] S4x768x1024 1) :
    Arr3 (n := 4) (a := 768) (b := 1024) (concatenate S4x768x1024 1 [⟨S4x512x1024, x⟩, ⟨S4x256x1024, y⟩] h)
      fun e r s => if r < 512 then f e r s else g e (r - 512) s := fun i => by
  have hr : (i 1).val < 768 := (i 1).isLt
  by_cases hi : (i 1).val < 512
  · refine (concatenate_pair_apply_left (1 : Fin 3) x y h i rfl (ValueIdx.ix3 (i 0) (⟨(i 1).val, hi⟩ : Fin 512) (i 2)) fun t => ?_).trans
      ((hx _).trans (if_pos hi).symm)
    match t with
    | ⟨0, _⟩ => rfl
    | ⟨1, _⟩ => rfl
    | ⟨2, _⟩ => rfl
  · refine (concatenate_pair_apply_right (1 : Fin 3) x y h i rfl rfl
      (ValueIdx.ix3 (i 0) (⟨(i 1).val - 512, by omega⟩ : Fin 256) (i 2)) (fun t ht => ?_)
      (by show (i 1).val - 512 + 512 = (i 1).val; omega)).trans ((hy _).trans (if_neg hi).symm)
    match t with
    | ⟨0, _⟩ => rfl
    | ⟨1, _⟩ => exact absurd rfl ht
    | ⟨2, _⟩ => rfl

theorem pair (x0 x1 x2 x3) : Arr3 (n := 4) (a := 768) (b := 1024) (val_main_v13 (F := Ideal) x0 x1 x2 x3)
    (pairShards (rd2 x0) (rd2 x1) (rd2 x2) (rd2 x3)) := fun i => by
  rw [val_main_v13_apply, trunc_eq]
  unfold val_main_v12
  exact above (outGrad x0 x1) (memGrad x2 x3) _ i

end Cert.Reference8Ideal.Products

end
-- ==== Proof.Optimizer.lean ====
/- One step of AdamW, entry by entry: the kernel's blocks and the reference's whole arrays hold the same function of four entries. -/
module

public import proofs.«01_k».proof.Proof.Norm
public import proofs.«01_k».proof.Proof.Gen.Kernel11Ideal.Value
public import proofs.«01_k».proof.Proof.Gen.Reference11Ideal.Read
public import Idealize.ShloMosaic.Lib.Pipeline.ValueKit

@[expose] public section

set_option maxRecDepth 16384

noncomputable section

namespace Optimizer

open Idealize.ShloMosaic

/-- A number as the programs hold it. -/
abbrev word (b : BitVec 32) : EReal := FloatOps.ofBits (F := Ideal) .f32 b

/-- The running mean of the gradient `g`, from the one before. -/
def mean (g m : EReal) : EReal := word 0x3F666666#32 * m + word 0x3DCCCCCD#32 * g
/-- The running mean of its square, from the one before. -/
def square (g v : EReal) : EReal := word 0x3F7FBE77#32 * v + word 0x3A83126F#32 * (g * g)
/-- What is added to the weight `w`. -/
def change (w g m v : EReal) : EReal :=
  word 0xBA83126F#32 * (Ideal.div (Ideal.div (mean g m) (word 0x3F26BD02#32))
    (Ideal.sqrt (Ideal.div (square g v) (word 0x3C231ACC#32)) + word 0x322BCC77#32) + word 0x3C23D70A#32 * w)

end Optimizer

namespace Cert.Kernel11Ideal.Optimizer

open Cert.Kernel11Ideal.Gen
open Idealize.ShloMosaic Idealize.ShloMosaic.TcCoe
open _root_.Optimizer

variable (m : (ℓ : Loc nD τ sig) → Buf (Elt Ideal) ℓ) (c : Dev nD)

theorem changes (i : S1024x1024.Idx) : ((dats m 0 c).arrAt 4 cfg0.N i : EReal)
    = change (m (c.tc.loc main_arg0) i) (m (c.tc.loc main_arg1) i) (m (c.tc.loc main_arg2) i) (m (c.tc.loc main_arg3) i) :=
  (dats m 0 c).arrAt_forall_of_covers 4 (fun i v => (v : EReal) = change (m (c.tc.loc main_arg0) i) (m (c.tc.loc main_arg1) i)
    (m (c.tc.loc main_arg2) i) (m (c.tc.loc main_arg3) i)) (by decide +kernel) (fun t _ y => by
    rw [after0_4]
    unfold out0_4
    rw [View.canon_cons_unit_lit _ _ _ (by decide), View.ld_unit_lit _ _ (by decide), View.ld_unit_lit _ _ (by decide), View.ld_unit_lit _ _ (by decide), View.ld_unit_lit _ _ (by decide)]
    rfl) i

theorem means (i : S1024x1024.Idx) : ((dats m 0 c).arrAt 5 cfg0.N i : EReal)
    = mean (m (c.tc.loc main_arg1) i) (m (c.tc.loc main_arg2) i) :=
  (dats m 0 c).arrAt_forall_of_covers 5 (fun i v => (v : EReal) = mean (m (c.tc.loc main_arg1) i) (m (c.tc.loc main_arg2) i))
    (by decide +kernel) (fun t _ y => by
    rw [after0_5]
    unfold out0_5
    rw [View.canon_cons_unit_lit _ _ _ (by decide), View.ld_unit_lit _ _ (by decide), View.ld_unit_lit _ _ (by decide)]
    rfl) i

theorem squares (i : S1024x1024.Idx) : ((dats m 0 c).arrAt 6 cfg0.N i : EReal)
    = square (m (c.tc.loc main_arg1) i) (m (c.tc.loc main_arg3) i) :=
  (dats m 0 c).arrAt_forall_of_covers 6 (fun i v => (v : EReal) = square (m (c.tc.loc main_arg1) i) (m (c.tc.loc main_arg3) i))
    (by decide +kernel) (fun t _ y => by
    rw [after0_6]
    unfold out0_6
    rw [View.canon_cons_unit_lit _ _ _ (by decide), View.ld_unit_lit _ _ (by decide), View.ld_unit_lit _ _ (by decide)]
    rfl) i

end Cert.Kernel11Ideal.Optimizer

namespace Cert.Reference11Ideal.Optimizer

open Cert.Reference11Ideal Cert.Reference11Ideal.Gen Cert.Reference11Ideal.Read
open Idealize.ShloMosaic
open _root_.Optimizer

theorem means (x1 x2) (i : S1024x1024.Idx) : (val_main_v4 (F := Ideal) x1 x2 i : EReal) = mean (x1 i) (x2 i) := by
  rw [val_main_v4_apply, val_main_v1_apply, val_main_v0_apply, val_main_v3_apply, val_main_v2_apply]
  rfl

theorem squares (x1 x3) (i : S1024x1024.Idx) : (val_main_v10 (F := Ideal) x1 x3 i : EReal) = square (x1 i) (x3 i) := by
  rw [val_main_v10_apply, val_main_v6_apply, val_main_v5_apply, val_main_v9_apply, val_main_v8_apply]
  rfl

theorem changes (x0 x1 x2 x3) (i : S1024x1024.Idx) : (val_main_v23 (F := Ideal) x0 x1 x2 x3 i : EReal) = change (x0 i) (x1 i) (x2 i) (x3 i) := by
  rw [val_main_v23_apply, val_main_v22_apply, val_main_v21_apply, val_main_v20_apply, val_main_v19_apply, val_main_v18_apply, val_main_v17_apply,
    val_main_v16_apply, val_main_v15_apply, val_main_v14_apply, val_main_v13_apply, val_main_v12_apply, val_main_v11_apply, means, squares]
  rfl

end Cert.Reference11Ideal.Optimizer

end
-- ==== Proof.MemoryProj.lean ====
/- The memory's key/value projection (`Cert.Kernel14Ideal`) and the gradient through it to the memory's rows (`Cert.Kernel15Ideal`),
   against `reference14` and `reference15`, element by element. Rows `512 … 767` of each of the weights' four shards are the
   projection's 1024 rows. -/
module

public import proofs.«01_k».proof.Proof.Norm
public import proofs.«01_k».proof.Proof.Gen.Kernel14Ideal.Value
public import proofs.«01_k».proof.Proof.Gen.Kernel15Ideal.Value
public import proofs.«01_k».proof.Proof.Gen.Reference14Ideal.Read
public import proofs.«01_k».proof.Proof.Gen.Reference15Ideal.Read
public import Idealize.ShloMosaic.Lib.Pipeline.ValueKit

@[expose] public section

set_option maxRecDepth 16384

noncomputable section

namespace Products

/-- Row `r` of the stack that the shards' rows from 512 on make, 256 of each. -/
abbrev lower (w : ℕ → ℕ → ℕ → EReal) (r s : ℕ) : EReal := w (r / 256) (512 + r % 256) s

end Products

namespace Cert.Kernel15Ideal.Products

open Cert.Kernel15Ideal.Gen
open Idealize.ShloMosaic Idealize.ShloMosaic.TcCoe
open Idealize.ShloMosaic.Pipeline.Window (rect_emb_val)
open _root_.Products

variable (m : (ℓ : Loc nD τ sig) → Buf (Elt Ideal) ℓ) (c : Dev nD)

theorem index : ∀ t : Fin cfg0.N, win0_0.index t 0 = 0 ∧ win0_0.index t 1 = 0 ∧ win0_1.index t 0 = t.val ∧ win0_1.index t 1 = 2
    ∧ win0_1.index t 2 = 0 ∧ win0_2.index t 0 = 0 ∧ win0_2.index t 1 = t.val := by decide +kernel

theorem stored (x y) {f g : ℕ → ℕ → EReal} (hx : E2 (a := 256) (b := 1024) (φ := .f32) x f)
    (hy : E3 (a := 256) (b := 1024) (φ := .bf16) y g) :
    E2 (a := 256) (b := 256) (φ := .f32) (out0_2 (F := Ideal) x y) (mulT 1024 f g) := by
  unfold out0_2
  rw [View.canon_cons_unit_lit _ _ _ (by decide), View.ld_unit_lit _ _ (by decide), View.ld_unit_lit _ _ (by decide)]
  exact (hx.trunc _).matNT (hy.drop _)

/-- The gradient of the memory's rows. -/
theorem result {f g} (hx : Arr2 (a := 256) (b := 1024) (m (c.tc.loc main_arg0)) f)
    (hy : Arr3 (n := 4) (a := 768) (b := 1024) (m (c.tc.loc main_arg1)) g) :
    Arr2 (a := 256) (b := 1024) ((dats m 0 c).arrAt 2 cfg0.N) (mulT 1024 f (lower g)) :=
  (dats m 0 c).arrAt_forall_of_covers 2 (fun i v => (v : EReal) = mulT 1024 f (lower g) (i 0 : Fin 256).val (i 1 : Fin 1024).val)
    (by decide +kernel) fun t _ y => by
    have ht := index t
    have h := stored (iblk m c 0 t) (iblk m c 1 t)
      (hx.block ((cfg0.win 0).blk t).view.emb (rect_emb_val win0_0 t · 0) (rect_emb_val win0_0 t · 1))
      (hy.block ((cfg0.win 1).blk t).view.emb (rect_emb_val win0_1 t · 0) (rect_emb_val win0_1 t · 1) (rect_emb_val win0_1 t · 2))
    exact (congrFun (after0_2 m c t) _).trans ((h.congr fun i j _ _ => sum23 fun q _ => by omega).place (F := mulT 1024 f (lower g))
      (rect_emb_val win0_2 t y 0) (rect_emb_val win0_2 t y 1) (Shape.idx_ext₂ rfl rfl))

end Cert.Kernel15Ideal.Products

namespace Cert.Kernel14Ideal.Products

open Cert.Kernel14Ideal.Gen
open Idealize.ShloMosaic Idealize.ShloMosaic.TcCoe
open Idealize.ShloMosaic.Pipeline.Window (rect_emb_val)
open _root_.Products

variable (m : (ℓ : Loc nD τ sig) → Buf (Elt Ideal) ℓ) (c : Dev nD)

theorem index : ∀ t : Fin cfg0.N, win0_0.index t 0 = 0 ∧ win0_0.index t 1 = 0
    ∧ (win0_1.index t 0 = 0 ∧ win0_1.index t 1 = 2 ∧ win0_1.index t 2 = 0) ∧ (win0_2.index t 0 = 1 ∧ win0_2.index t 1 = 2 ∧ win0_2.index t 2 = 0)
    ∧ (win0_3.index t 0 = 2 ∧ win0_3.index t 1 = 2 ∧ win0_3.index t 2 = 0) ∧ (win0_4.index t 0 = 3 ∧ win0_4.index t 1 = 2 ∧ win0_4.index t 2 = 0)
    ∧ win0_5.index t 0 = 0 ∧ win0_5.index t 1 = 0 := by decide +kernel

theorem stored (x y0 y1 y2 y3) {f g0 g1 g2 g3 : ℕ → ℕ → EReal} (hx : E2 (a := 256) (b := 1024) (φ := .bf16) x f)
    (k0 : E3 (a := 256) (b := 1024) (φ := .bf16) y0 g0) (k1 : E3 (a := 256) (b := 1024) (φ := .bf16) y1 g1)
    (k2 : E3 (a := 256) (b := 1024) (φ := .bf16) y2 g2) (k3 : E3 (a := 256) (b := 1024) (φ := .bf16) y3 g3) :
    E2 (a := 256) (b := 1024) (φ := .f32) (out0_5 (F := Ideal) x y0 y1 y2 y3) fun i j =>
      mul 256 (fun i q => f i (0 + q)) g0 i j + mul 256 (fun i q => f i (256 + q)) g1 i j
        + mul 256 (fun i q => f i (512 + q)) g2 i j + mul 256 (fun i q => f i (768 + q)) g3 i j := by
  unfold out0_5
  rw [View.canon_cons_unit_lit _ _ _ (by decide)]
  simp only [r0_1, View.ld_unit_zero (S := S1x256x1024) zero3]
  have hr := fun (off : Fin 2 → ℕ) inb => ValueKit.rect_emb_unit_val (s := S256x1024) off S256x256.size inb
  have part := fun (n : ℕ) (inb : ∀ a, (![0, n] : Fin 2 → ℕ) a + S256x256.size a ≤ S256x1024.size a) =>
    hx.cols (c := 256) (n := n) (Rect.unit (s := S256x1024) ![0, n] S256x256.size inb).emb (fun y => hr ![0, n] inb y 0) (fun y => hr ![0, n] inb y 1)
  exact ((((part 0 _).matNN (k0.drop _)).add ((part 256 _).matNN (k1.drop _))).add ((part 512 _).matNN (k2.drop _))).add
    ((part 768 _).matNN (k3.drop _))

/-- The memory's projected rows. -/
theorem result {f g} (hx : Arr2 (a := 256) (b := 1024) (m (c.tc.loc main_arg0)) f)
    (hy : Arr3 (n := 4) (a := 768) (b := 1024) (m (c.tc.loc main_arg1)) g) :
    Arr2 (a := 256) (b := 1024) ((dats m 0 c).arrAt 5 cfg0.N) (mul 1024 f (lower g)) :=
  (dats m 0 c).arrAt_forall_of_covers 5 (fun i v => (v : EReal) = mul 1024 f (lower g) (i 0 : Fin 256).val (i 1 : Fin 1024).val)
    (by decide +kernel) fun t _ y => by
    have ht := index t
    have h := stored (iblk m c 0 t) (iblk m c 1 t) (iblk m c 2 t) (iblk m c 3 t) (iblk m c 4 t)
      (hx.block ((cfg0.win 0).blk t).view.emb (rect_emb_val win0_0 t · 0) (rect_emb_val win0_0 t · 1))
      (hy.block ((cfg0.win 1).blk t).view.emb (rect_emb_val win0_1 t · 0) (rect_emb_val win0_1 t · 1) (rect_emb_val win0_1 t · 2))
      (hy.block ((cfg0.win 2).blk t).view.emb (rect_emb_val win0_2 t · 0) (rect_emb_val win0_2 t · 1) (rect_emb_val win0_2 t · 2))
      (hy.block ((cfg0.win 3).blk t).view.emb (rect_emb_val win0_3 t · 0) (rect_emb_val win0_3 t · 1) (rect_emb_val win0_3 t · 2))
      (hy.block ((cfg0.win 4).blk t).view.emb (rect_emb_val win0_4 t · 0) (rect_emb_val win0_4 t · 1) (rect_emb_val win0_4 t · 2))
    refine (congrFun (after0_5 m c t) _).trans ((h.congr (g := fun i j => mul 1024 f (lower g) (win0_5.index t 0 * 256 + i) (win0_5.index t 1 * 1024 + j))
      fun i j _ _ => ?_).place (F := mul 1024 f (lower g)) (rect_emb_val win0_5 t y 0) (rect_emb_val win0_5 t y 1) (Shape.idx_ext₂ rfl rfl))
    refine Eq.trans ?_ (sum_parts (fun q => f (win0_5.index t 0 * 256 + i) q * g (q / 256) (512 + q % 256) (win0_5.index t 1 * 1024 + j)) 256)
    exact congrArg₂ (· + ·) (congrArg₂ (· + ·) (congrArg₂ (· + ·) (sum23 fun q _ => by omega) (sum23 fun q _ => by omega))
      (sum23 fun q _ => by omega)) (sum23 fun q _ => by omega)

end Cert.Kernel14Ideal.Products

namespace Cert.Reference14Ideal.Products

open Cert.Reference14Ideal Cert.Reference14Ideal.Gen Cert.Reference14Ideal.Read
open Idealize.ShloMosaic Idealize.ShloMosaic.TcCoe
open _root_.Products

theorem projected (x0 x1) : Arr2 (a := 256) (b := 1024) (val_main_v4 (F := Ideal) x0 x1) (mul 1024 (rd2 x0) (lower (rd3 x1))) := fun i => by
  have hs : (i 1).val < 1024 := (i 1).isLt
  rw [val_main_v4_apply]
  refine sum_eq fun k => ?_
  rw [val_main_v0_apply, val_main_v3_apply, val_main_v2_apply, val_main_v1_apply, ext_eq, ext_eq]
  have hk := k.isLt
  exact congrArg₂ (· * ·) (rd2_at x0 _ rfl rfl) (rd3_at x1 _
    (by change (k.val * 1024 + (i 1).val) / 262144 = _; omega)
    (by change 512 + (k.val * 1024 + (i 1).val) / 1024 % 256 = _; omega)
    (by change (k.val * 1024 + (i 1).val) % 1024 = _; omega))

end Cert.Reference14Ideal.Products

namespace Cert.Reference15Ideal.Products

open Cert.Reference15Ideal Cert.Reference15Ideal.Gen Cert.Reference15Ideal.Read
open Idealize.ShloMosaic Idealize.ShloMosaic.TcCoe
open _root_.Products

theorem pulledBack (x0 x1) : Arr2 (a := 256) (b := 1024) (val_main_v5 (F := Ideal) x0 x1) (mulT 1024 (rd2 x0) (lower (rd3 x1))) := fun i => by
  have hs : (i 1).val < 1024 := (i 1).isLt
  rw [val_main_v5_apply]
  refine sum_eq fun k => ?_
  rw [val_main_v3_apply, val_main_v2_apply, val_main_v1_apply, ext_eq]
  have hk := k.isLt
  exact congrArg₂ (· * ·) (rd2_at x0 _ rfl rfl) (rd3_at x1 _
    (by change ((i 1).val * 1024 + k.val) / 262144 = _; omega)
    (by change 512 + ((i 1).val * 1024 + k.val) / 1024 % 256 = _; omega)
    (by change ((i 1).val * 1024 + k.val) % 1024 = _; omega))

end Cert.Reference15Ideal.Products

end
-- ==== Proof.Loss.lean ====
/- The loss (`Cert.Kernel18Ideal`), 512 rows at each step, and `reference18`: the gradient of the last layer's rows, and the loss, which
   adds up in a buffer that stays over the four steps. A square is never negative, so a sum of squares may be scaled term by term. -/
module

public import proofs.«01_k».proof.Proof.Norm
public import Idealize.ShloMosaic.Lib.IdealHost
public import Idealize.ShloMosaic.Lib.Pipeline.ValueKit
public import proofs.«01_k».proof.Proof.Gen.Kernel18Ideal.Value
public import proofs.«01_k».proof.Proof.Gen.Reference18Ideal.Read
public import Idealize.ShloMosaic.Lib.ValueIdxRank1

@[expose] public section

set_option maxRecDepth 16384

noncomputable section

namespace Products

open Idealize.ShloMosaic

abbrev half : EReal := FloatOps.ofBits (F := Ideal) .f32 0x3F000000#32

theorem half_eq : half = ((1 / 2 : ℝ) : EReal) := by
  show Ideal.ofBits _ _ = _; simp [Ideal.ofBits, Ideal.ieee, -EReal.coe_mul]; norm_num
theorem two_eq : (FloatOps.ofBits (F := Ideal) .f32 0x40000000#32 : EReal) = ((2 : ℝ) : EReal) := by
  show Ideal.ofBits _ _ = _; simp [Ideal.ofBits, Ideal.ieee, -EReal.coe_mul]; norm_num
theorem width_eq : width = ((1024 : ℝ) : EReal) := by
  show Ideal.ofBits _ _ = _; simp [Ideal.ofBits, Ideal.ieee, -EReal.coe_mul]; norm_num

theorem over_width (x : EReal) : Ideal.div x width = x * width⁻¹ :=
  if_neg (by rw [width_eq]; exact_mod_cast (by norm_num : (1024 : ℝ) ≠ 0))

/-- The row's derivative as the derivative of a mean of squares has it. -/
theorem slope_width (d : EReal) : Ideal.div (half * FloatOps.ofBits (F := Ideal) .f32 0x3F800000#32) width
    * (FloatOps.ofBits (F := Ideal) .f32 0x40000000#32 * d) = Ideal.div d width := by
  have h1 : FloatOps.ofBits (F := Ideal) .f32 0x3F800000#32 = (1 : EReal) := Ideal.ofBits_one_f32
  rw [over_width, over_width, h1, mul_one, mul_mul_mul_comm, mul_right_comm, mul_comm _ d, half_eq, two_eq, mul_right_comm,
    ← EReal.coe_mul,
    show (1 / 2 * 2 : ℝ) = 1 by norm_num, EReal.coe_one, one_mul]

theorem square_nonneg (x : EReal) : 0 ≤ x * x := by
  rcases le_total 0 x with h | h
  · exact mul_nonneg h h
  · rw [← neg_mul_neg]; exact mul_nonneg (EReal.neg_nonneg.mpr h) (EReal.neg_nonneg.mpr h)

theorem scaled_sum (c : EReal) {f : ℕ → EReal} (hf : ∀ r, 0 ≤ f r) (n : ℕ) :
    c * ∑ r ∈ Finset.range n, f r = ∑ r ∈ Finset.range n, c * f r := by
  induction n with
  | zero => simp
  | succ n ih => rw [Finset.sum_range_succ, Finset.sum_range_succ,
      EReal.left_distrib_of_nonneg (Finset.sum_nonneg fun r _ => hf r) (hf n), ih]

/-- The sum of a row's squared differences. -/
def apart (y t : ℕ → ℕ → EReal) (r : ℕ) : EReal := ∑ s ∈ Finset.range 1024, (y r s - t r s) * (y r s - t r s)
theorem apart_nonneg (y t : ℕ → ℕ → EReal) (r : ℕ) : 0 ≤ apart y t r := Finset.sum_nonneg fun _ _ => square_nonneg _

/-- A row's share of the loss. -/
def lossPart (y t : ℕ → ℕ → EReal) (r : ℕ) : EReal := half * Ideal.div (apart y t r) width

theorem lossPart_sum (y t : ℕ → ℕ → EReal) (n : ℕ) :
    Ideal.div (half * ∑ r ∈ Finset.range n, apart y t r) width = ∑ r ∈ Finset.range n, lossPart y t r := by
  rw [over_width, mul_right_comm, scaled_sum _ (apart_nonneg y t)]
  exact Finset.sum_congr rfl fun r _ => by rw [lossPart, over_width, mul_assoc, mul_comm width⁻¹]

theorem half_sum (y t : ℕ → ℕ → EReal) (n : ℕ) :
    half * ∑ r ∈ Finset.range n, Ideal.div (apart y t r) width = ∑ r ∈ Finset.range n, lossPart y t r := by
  rw [← lossPart_sum, over_width, mul_assoc, mul_comm (∑ r ∈ _, apart y t r), scaled_sum _ (apart_nonneg y t)]
  exact congrArg _ (Finset.sum_congr rfl fun r _ => by rw [over_width, mul_comm])

end Products

namespace Cert.Kernel18Ideal.Products

open Cert.Kernel18Ideal.Gen
open Idealize.ShloMosaic Idealize.ShloMosaic.TcCoe Idealize.ShloMosaic.Tactic
open Idealize.ShloMosaic.Pipeline.Window (rect_emb_val)
open _root_.Products

variable (m : (ℓ : Loc nD τ sig) → Buf (Elt Ideal) ℓ) (c : Dev nD)

theorem rowsA (i a0 h0 a1 h1 a2 h2 a3 h3 ha) (x y) : out0_A_2 (F := Ideal) c i a0 h0 a1 h1 a2 h2 a3 h3 ha x y = k0_pay2 x y := by
  unfold out0_A_2
  rw [View.read_writes_eq_canon _ _ _ (cover0_A_2 c i a0 h0 a1 h1 a2 h2 a3 h3 ha x y)]
  unfold kernelRun0_A
  dsimp only
  sl_unfold_words
  rw [View.canon_unit_zero zero2]
  simp only [View.readAt_eq_ld, h0.read_unread, h1.read_unread, View.ld_unit_zero (S := S512x1024) zero2]

theorem rowsB (i a0 h0 a1 h1 a2 h2 a3 h3 ha) (x y e) : out0_B_2 (F := Ideal) c i a0 h0 a1 h1 a2 h2 a3 h3 ha x y e = k0_pay2 x y := by
  unfold out0_B_2
  rw [View.read_writes_eq_canon _ _ _ (cover0_B_2 c i a0 h0 a1 h1 a2 h2 a3 h3 ha x y e)]
  unfold kernelRun0_B
  dsimp only
  sl_unfold_words
  rw [View.canon_unit_zero zero2]
  simp only [View.readAt_eq_ld, h0.read_unread, h1.read_unread, View.ld_unit_zero (S := S512x1024) zero2]

theorem lossA (i a0 h0 a1 h1 a2 h2 a3 h3 ha) (x y) :
    out0_A_3 (F := Ideal) c i a0 h0 a1 h1 a2 h2 a3 h3 ha x y = k0_pay4 x y (k0_pay3 (F := Ideal)) := by
  unfold out0_A_3
  rw [View.read_writes_eq_canon _ _ _ (cover0_A_3 c i a0 h0 a1 h1 a2 h2 a3 h3 ha x y)]
  unfold kernelRun0_A
  dsimp only
  sl_unfold_words
  rw [View.canon_cons_unit_lit (S := S1x1) _ _ _ (by decide), View.readCov_unit_lit (S := S1x1) _ _ _ (by decide)]
  simp only [View.readAt_eq_ld, h0.read_unread, h1.read_unread, View.ld_unit_zero (S := S512x1024) zero2]

theorem lossB (i a0 h0 a1 h1 a2 h2 a3 h3 ha) (x y e) :
    out0_B_3 (F := Ideal) c i a0 h0 a1 h1 a2 h2 a3 h3 ha x y e = k0_pay4 x y e := by
  unfold out0_B_3
  rw [View.read_writes_eq_canon _ _ _ (cover0_B_3 c i a0 h0 a1 h1 a2 h2 a3 h3 ha x y e)]
  unfold kernelRun0_B
  dsimp only
  sl_unfold_words
  rw [View.canon_unit_zero zero2]
  simp only [View.readAt_eq_ld, h0.read_unread, h1.read_unread, h3.read_unread, View.ld_unit_zero (S := S512x1024) zero2,
    View.ld_unit_zero (S := S1x1) zero2]

/-- The rows from the `n`-th tile on. -/
abbrev startingAt (n : ℕ) (f : ℕ → ℕ → EReal) (i j : ℕ) : EReal := f (512 * n + i) j

section Body

variable {x y : FVec Ideal S512x1024 .f32} {e : FVec Ideal S1x1 .f32} {f g : ℕ → ℕ → EReal} {s : EReal}
  (hx : E2 (a := 512) (b := 1024) (φ := .f32) x f) (hy : E2 (a := 512) (b := 1024) (φ := .f32) y g)

include hx hy

theorem apart_eq : E2 (a := 512) (b := 1024) (φ := .f32) (k0_pay1 (F := Ideal) x y) fun i j => f i j - g i j :=
  fun i j => congrArg₂ (· - ·) (hx i j) (hy i j)

theorem rows_eq : E2 (a := 512) (b := 1024) (φ := .f32) (k0_pay2 (F := Ideal) x y) fun i j => Ideal.div (f i j - g i j) width :=
  (apart_eq hx hy).quot (E2.const _)

theorem loss_eq (he : E2 (a := 1) (b := 1) (φ := .f32) e fun _ _ => s) :
    E2 (a := 1) (b := 1) (φ := .f32) (k0_pay4 (F := Ideal) x y e) fun _ _ => s + ∑ r ∈ Finset.range 512, lossPart f g r := by
  have hd := apart_eq hx hy
  have hs := (((E2.const (φ := .f32) half).mul (((hd.mul hd).rowSum reduces_S512x1024_S512 (.inl rfl) rfl shapeCasts_S512_S512x1).columnSum
    reduces_S512x1_S1 (.inl rfl) rfl shapeCasts_S1_S1x1)).quot (E2.const (φ := .f32) width))
  exact ((he.recast _).add hs).congr fun _ _ _ _ => congrArg (s + ·) (lossPart_sum f g 512)

end Body

theorem index : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ win0_3.index t 0 = 0 ∧ win0_3.index t 1 = 0 := by decide +kernel

variable {f g : ℕ → ℕ → EReal} (hx : Arr2 (a := 2048) (b := 1024) (m (c.tc.loc main_arg0)) f)
  (hy : Arr2 (a := 2048) (b := 1024) (m (c.tc.loc main_arg1)) g)

include hx hy

/-- After step `n` the rows' buffer holds that tile's gradient, the loss's the sum over the rows so far. -/
theorem after : ∀ (n : ℕ) (hn : n < cfg0.N),
    E2 (a := 512) (b := 1024) (φ := .f32) (outsAt0 m c n hn).1 (fun i j => Ideal.div (startingAt n f i j - startingAt n g i j) width)
      ∧ E2 (a := 1) (b := 1) (φ := .f32) (outsAt0 m c n hn).2 fun _ _ => ∑ r ∈ Finset.range (512 * (n + 1)), lossPart f g r := by
  have H : ∀ t : Fin cfg0.N, E2 (a := 512) (b := 1024) (φ := .f32) (iblk m c 0 t) (startingAt t.val f)
      ∧ E2 (a := 512) (b := 1024) (φ := .f32) (iblk m c 1 t) (startingAt t.val g) := fun t => by
    have ht := index t
    exact ⟨(hx.block ((cfg0.win 0).blk t).view.emb (rect_emb_val win0_0 t · 0) (rect_emb_val win0_0 t · 1)).congr fun i j _ _ =>
        congrArg₂ f (by omega) (by omega),
      (hy.block ((cfg0.win 1).blk t).view.emb (rect_emb_val win0_1 t · 0) (rect_emb_val win0_1 t · 1)).congr fun i j _ _ =>
        congrArg₂ g (by omega) (by omega)⟩
  intro n
  induction n with
  | zero =>
    intro hn
    have R := H ⟨0, hn⟩
    rw [outsAt0_A m c ⟨0, hn⟩ (Nat.zero_mod _), rowsA, lossA]
    refine ⟨rows_eq R.1 R.2, (loss_eq R.1 R.2 (E2.const _)).congr fun _ _ _ _ => fromZero rfl (Finset.sum_congr rfl fun r _ => ?_)⟩
    unfold lossPart apart; simp only [startingAt, Nat.mul_zero, Nat.zero_add]
  | succ n ih =>
    intro hn
    have hN : cfg0.N = 4 := N_0
    have R := H ⟨n + 1, hn⟩
    rw [outsAt0_B m c ⟨n + 1, hn⟩ (by show ¬(n + 1) % 4 = 0; omega), rowsB, lossB]
    refine ⟨rows_eq R.1 R.2, (loss_eq R.1 R.2 (ih (Nat.lt_of_succ_lt hn)).2).congr fun _ _ _ _ => ?_⟩
    rw [show 512 * (n + 1 + 1) = 512 * (n + 1) + 512 by omega, Finset.sum_range_add]
    rfl

theorem rowsGrad : Arr2 (a := 2048) (b := 1024) ((dats m 0 c).arrAt 2 cfg0.N) fun i j => Ideal.div (f i j - g i j) width :=
  (dats m 0 c).arrAt_forall_of_covers 2 (fun i v => (v : EReal) = Ideal.div (f (i 0 : Fin 2048).val (i 1 : Fin 1024).val
      - g (i 0 : Fin 2048).val (i 1 : Fin 1024).val) width) (by decide +kernel) fun t _ y => by
    have ht := index t
    refine (congrFun (after0_2 m c t) _).trans (((after m c hx hy t.val t.isLt).1.congr
      (g := fun i j => Ideal.div (f (win0_2.index t 0 * 512 + i) (win0_2.index t 1 * 1024 + j)
        - g (win0_2.index t 0 * 512 + i) (win0_2.index t 1 * 1024 + j)) width) fun i j _ _ => ?_).place
      (F := fun i j => Ideal.div (f i j - g i j) width) (rect_emb_val win0_2 t y 0) (rect_emb_val win0_2 t y 1) (Shape.idx_ext₂ rfl rfl))
    rw [show win0_2.index t 0 * 512 + i = 512 * t.val + i by omega, show win0_2.index t 1 * 1024 + j = j by omega]

theorem loss : Arr2 (a := 1) (b := 1) ((dats m 0 c).arrAt 3 cfg0.N) fun _ _ => ∑ r ∈ Finset.range 2048, lossPart f g r :=
  (dats m 0 c).arrAt_forall_of_covers 3 (fun _ v => (v : EReal) = ∑ r ∈ Finset.range 2048, lossPart f g r)
    (by decide +kernel) fun t hf y => by
    have hN : t.val < 4 := lt_of_lt_of_eq t.isLt N_0
    have h3 : t.val = 3 := by have := (flush0_3 t).mp hf; omega
    have e := (after m c hx hy t.val t.isLt).2.congr (g := fun _ _ => ∑ r ∈ Finset.range 2048, lossPart f g r) fun _ _ _ _ => by rw [h3]
    exact (congrFun (after0_3 m c t) _).trans (e.place (F := fun _ _ => ∑ r ∈ Finset.range 2048, lossPart f g r) (r := win0_3.index t 0)
      (s := win0_3.index t 1) (rect_emb_val win0_3 t y 0) (rect_emb_val win0_3 t y 1) (Shape.idx_ext₂ rfl rfl))

end Cert.Kernel18Ideal.Products

namespace Cert.Reference18Ideal.Products

open Cert.Reference18Ideal Cert.Reference18Ideal.Gen Cert.Reference18Ideal.Read
open Idealize.ShloMosaic Idealize.ShloMosaic.TcCoe Idealize.ShloMosaic.ValueIdx
open _root_.Products

theorem apart_at (x0 x1) (i : S2048x1024.Idx) {r s : ℕ} (h0 : (i 0).val = r) (h1 : (i 1).val = s) :
    val_main_v0 (F := Ideal) x0 x1 i = rd2 x0 r s - rd2 x1 r s := by
  rw [val_main_v0_apply]; exact congrArg₂ (· - ·) (rd2_at x0 i h0 h1) (rd2_at x1 i h0 h1)

theorem rowsGrad (x0 x1) : Arr2 (a := 2048) (b := 1024) (val_main_v14 (F := Ideal) x0 x1) fun i j => Ideal.div (rd2 x0 i j - rd2 x1 i j) width :=
  fun i => by
  rw [val_main_v14_apply, val_main_v13_apply, val_main_v12_apply, val_main_v11_apply, val_main_v10_apply, val_main_v9_apply, val_main_v3_apply,
    val_main_v2_apply, val_main_cst_apply, val_main_cst_4_apply, val_main_cst_5_apply, val_main_cst_6_apply, apart_at x0 x1 i rfl rfl]
  exact slope_width _

theorem loss (x0 x1) : Arr2 (a := 1) (b := 1) (val_main_v15 (F := Ideal) x0 x1) fun _ _ => ∑ r ∈ Finset.range 2048, lossPart (rd2 x0) (rd2 x1) r :=
  fun i => by
  have h : ∀ j, val_main_v8 (F := Ideal) x0 x1 j = ∑ r ∈ Finset.range 2048, lossPart (rd2 x0) (rd2 x1) r := fun j => by
    rw [val_main_v8_apply, val_main_v7_apply, val_main_cst_3_apply, ← half_sum]
    refine congrArg (half * ·) (fromZero (val_main_cst_2_apply _) ((Equiv.sum_comp idxEquiv1.symm _).symm.trans (sum_eq fun k => ?_)))
    rw [val_main_v6_apply, val_main_v5_apply, val_main_v4_apply, val_main_cst_1_apply]
    refine congrArg (Ideal.div · width) (fromZero (val_main_cst_0_apply _) (sum_eq fun q => ?_))
    rw [val_main_v1_apply, apart_at x0 x1 _ rfl rfl]
    rfl
  exact h _

end Cert.Reference18Ideal.Products

end
-- ==== Proof.lean ====
/- The certificate: the frames of the programs, the named constants, and the kernel's results against the reference's. -/
module

public import proofs.«01_k».proof.Defs
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Value
public import proofs.«01_k».proof.Proof.Gen.Kernel6.Value
public import proofs.«01_k».proof.Proof.Gen.Kernel7.Value
public import proofs.«01_k».proof.Proof.Gen.Kernel8.Frame
public import proofs.«01_k».proof.Proof.Gen.Kernel9
public import proofs.«01_k».proof.Proof.Gen.Kernel9Ideal
public import proofs.«01_k».proof.Proof.Gen.Kernel10
public import proofs.«01_k».proof.Proof.Gen.Kernel10Ideal
public import proofs.«01_k».proof.Proof.Gen.Kernel11.Frame
public import proofs.«01_k».proof.Proof.Gen.Kernel12
public import proofs.«01_k».proof.Proof.Gen.Kernel12Ideal
public import proofs.«01_k».proof.Proof.Gen.Kernel13
public import proofs.«01_k».proof.Proof.Gen.Kernel13Ideal
public import proofs.«01_k».proof.Proof.Gen.Kernel14.Frame
public import proofs.«01_k».proof.Proof.Gen.Kernel15.Frame
public import proofs.«01_k».proof.Proof.Gen.Kernel16
public import proofs.«01_k».proof.Proof.Gen.Kernel16Ideal
public import proofs.«01_k».proof.Proof.Gen.Kernel18.Frame
public import proofs.«01_k».proof.Proof.Gen.Kernel17
public import proofs.«01_k».proof.Proof.Gen.Kernel17Ideal
public import proofs.«01_k».proof.Proof.Launched
public import proofs.«01_k».proof.Proof.BitsLaunched
public import proofs.«01_k».proof.Proof.Agree
public import proofs.«01_k».proof.Proof.Layer0Run
public import proofs.«01_k».proof.Proof.Layer0Ref
public import proofs.«01_k».proof.Proof.Layer1Run
public import proofs.«01_k».proof.Proof.Layer1Ref
public import proofs.«01_k».proof.Proof.Gate
public import proofs.«01_k».proof.Proof.GateRef
public import proofs.«01_k».proof.Proof.OutProj
public import proofs.«01_k».proof.Proof.OutProjRef
public import proofs.«01_k».proof.Proof.NormGrad
public import proofs.«01_k».proof.Proof.NormGradRef
public import proofs.«01_k».proof.Proof.PairGrad
public import proofs.«01_k».proof.Proof.PairGradRef
public import proofs.«01_k».proof.Proof.Optimizer
public import Idealize.ShloMosaic.Adequacy
public import Idealize.ShloMosaic.Init
public import proofs.«01_k».proof.Proof.MemoryProj
public import proofs.«01_k».proof.Proof.Loss

@[expose] public section

noncomputable section

namespace Cert.Proof

open Idealize.ShloMosaic Idealize.ShloMosaic.TcCoe Idealize.SL.Sem

/-- The precondition's shape facts. -/
theorem finiteFacts : Cert.Pre_finite.Facts := ⟨by decide, by decide, by decide⟩

/-- The reference runs, its arguments unchanged. -/
theorem refFrame : @quiescent_ReferenceIdeal ReferenceIdeal.Gen.facts :=
  fun m ρ _ => (θ_run _ _ _).mono (fun r h => ⟨fun c => (h c).2.2.2.2, sem_eq_zero_of_no_sems (by decide) r.2⟩)
    (ReferenceIdeal.Value.run m ρ)

open KernelIdeal KernelIdeal.Attn in
/-- The kernel's four results are the reference's. -/
theorem agree : @algebraic_KernelIdeal_ReferenceIdeal_pre_finite KernelIdeal.Gen.facts ReferenceIdeal.Gen.facts (hPre_finite := finiteFacts) := by
  intro m ρ m' ρ' hpre hag
  have hA : ∀ c, AreReal m c := fun c =>
    @areReal m c finiteFacts (hpre c)
  refine ⟨fun c => W2 m ρ c main_v0_0, fun c => W2 m ρ c main_v1_0,
    fun c => W2 m ρ c main_v1_1, fun c => W2 m ρ c main_v1_2, ?_, ?_⟩
  · refine (θ_run _ _ _).mono (fun r h c => ?_) (run_all m ρ)
    exact ⟨h.1 c _ (mem_uc main_v0_0 (by decide)), h.1 c _ (mem_uc main_v1_0 (by decide)), h.1 c _ (mem_uc main_v1_1 (by decide)),
      h.1 c _ (mem_uc main_v1_2 (by decide)),
      (h.1 c _ (mem_uc main_arg0 (by decide))).trans (W2_main_arg0 m ρ c),
      (h.1 c _ (mem_uc main_arg1 (by decide))).trans (W2_main_arg1 m ρ c),
      (h.1 c _ (mem_uc main_arg2 (by decide))).trans (W2_main_arg2 m ρ c),
      (h.1 c _ (mem_uc main_arg3 (by decide))).trans (W2_main_arg3 m ρ c)⟩
  · refine (θ_run _ _ _).mono (fun r h c => ?_) (ReferenceIdeal.Value.run m' ρ')
    obtain ⟨a0, a1, a2, a3⟩ := hag c
    exact ⟨(h c).1.trans (Agree.out_eq m ρ m' c (hA c) a0 a1 a2),
      (h c).2.1.trans (Agree.dq_eq m ρ m' c (hA c) a0 a1 a2 a3),
      (h c).2.2.1.trans (Agree.dk_eq m ρ m' c (hA c) a0 a1 a2 a3),
      (h c).2.2.2.1.trans (Agree.dv_eq m ρ m' c (hA c) a0 a1 a3), (h c).2.2.2.2⟩

theorem refFrame2 : @quiescent_Reference2Ideal Reference2Ideal.Gen.facts :=
  fun m ρ _ => (θ_run _ _ _).mono (fun r h => ⟨fun c => (h c).2.2.2.2, sem_eq_zero_of_no_sems (by decide) r.2⟩)
    (Reference2Ideal.Value.run m ρ)

theorem refFrame3 : @quiescent_Reference3Ideal Reference3Ideal.Gen.facts :=
  fun m ρ _ => (θ_run _ _ _).mono (fun r h => ⟨fun c => (h c).2.2.2.2.2.2.2.2, sem_eq_zero_of_no_sems (by decide) r.2⟩)
    (Reference3Ideal.Value.run m ρ)

open Kernel2Ideal Kernel2Ideal.Gen Reference2Ideal.Read in
/-- The state-space layer's products are the reference's. -/
theorem agree2 : @algebraic_Kernel2Ideal_Reference2Ideal Kernel2Ideal.Gen.facts Reference2Ideal.Gen.facts := by
  intro m ρ m' ρ' _ hag
  refine ⟨fun c => W4 m ρ c main_v0, fun c => W4 m ρ c main_v1, fun c => W4 m ρ c main_v2, fun c => W4 m ρ c main_v3, ?_, ?_⟩
  · refine (θ_run _ _ _).mono (fun r h c => ?_) (Kernel2Ideal.Products.run_all m ρ)
    have at_end : ∀ b : Ref sig .tc, ¬ (Proc.devRef .tc b : DevRef τ sig).isScoped →
        r.2.mem ((c.tc : Thread nD τ).loc b) = W4 m ρ c b := fun b hb => h.1 c _ (mem_uc b hb)
    exact ⟨at_end main_v0 (by decide),
      at_end main_v1 (by decide),
      at_end main_v2 (by decide),
      at_end main_v3 (by decide),
      (at_end main_arg0 (by decide)).trans (W4_main_arg0 m ρ c),
      (at_end main_arg1 (by decide)).trans (W4_main_arg1 m ρ c),
      (at_end main_arg2 (by decide)).trans (W4_main_arg2 m ρ c),
      (at_end main_arg3 (by decide)).trans (W4_main_arg3 m ρ c),
      (at_end main_arg4 (by decide)).trans (W4_main_arg4 m ρ c),
      (at_end main_arg5 (by decide)).trans (W4_main_arg5 m ρ c)⟩
  · refine (θ_run _ _ _).mono (fun r h c => ?_) (Reference2Ideal.Value.run m' ρ')
    obtain ⟨a0, a1, a2, a3, a4, a5⟩ := hag c
    exact ⟨(h c).1.trans ((val_main_v11_eq _ _).trans (by
        rw [a0, a1]; exact Products.Arr2.eq (Reference2Ideal.Products.projected _ _) (Kernel2Ideal.Products.projected m ρ c))),
      (h c).2.1.trans ((val_main_v25_eq _ _).trans (by
        rw [a3, a4]; exact Products.Arr2.eq (Reference2Ideal.Products.gated _ _) (Kernel2Ideal.Products.gated m ρ c))),
      (h c).2.2.1.trans ((val_main_v27_eq _ _).trans (by
        rw [a3, a5]; exact Products.Arr3.eq (Reference2Ideal.Products.gateGrad _ _) (Kernel2Ideal.Products.gateGrad m ρ c))),
      (h c).2.2.2.1.trans ((val_main_v13_eq _ _).trans (by
        rw [a0, a2]; exact Products.Arr3.eq (Reference2Ideal.Products.inGrad _ _) (Kernel2Ideal.Products.inGrad m ρ c))),
      (h c).2.2.2.2⟩

open Kernel3Ideal Kernel3Ideal.Gen Reference3Ideal.Read in
/-- The attention layer's products are the reference's. -/
theorem agree3 : @algebraic_Kernel3Ideal_Reference3Ideal Kernel3Ideal.Gen.facts Reference3Ideal.Gen.facts := by
  intro m ρ m' ρ' _ hag
  refine ⟨fun c => W8 m ρ c main_v0, fun c => W8 m ρ c main_v1, fun c => W8 m ρ c main_v2, fun c => W8 m ρ c main_v3, fun c => W8 m ρ c main_v4, fun c => W8 m ρ c main_v5, fun c => W8 m ρ c main_v6, fun c => W8 m ρ c main_v7, ?_, ?_⟩
  · refine (θ_run _ _ _).mono (fun r h c => ?_) (Kernel3Ideal.Products.run_all m ρ)
    have at_end : ∀ b : Ref sig .tc, ¬ (Proc.devRef .tc b : DevRef τ sig).isScoped →
        r.2.mem ((c.tc : Thread nD τ).loc b) = W8 m ρ c b := fun b hb => h.1 c _ (mem_uc b hb)
    exact ⟨at_end main_v0 (by decide),
      at_end main_v1 (by decide),
      at_end main_v2 (by decide),
      at_end main_v3 (by decide),
      at_end main_v4 (by decide),
      at_end main_v5 (by decide),
      at_end main_v6 (by decide),
      at_end main_v7 (by decide),
      (at_end main_arg0 (by decide)).trans (W8_main_arg0 m ρ c),
      (at_end main_arg1 (by decide)).trans (W8_main_arg1 m ρ c),
      (at_end main_arg2 (by decide)).trans (W8_main_arg2 m ρ c),
      (at_end main_arg3 (by decide)).trans (W8_main_arg3 m ρ c),
      (at_end main_arg4 (by decide)).trans (W8_main_arg4 m ρ c),
      (at_end main_arg5 (by decide)).trans (W8_main_arg5 m ρ c),
      (at_end main_arg6 (by decide)).trans (W8_main_arg6 m ρ c),
      (at_end main_arg7 (by decide)).trans (W8_main_arg7 m ρ c),
      (at_end main_arg8 (by decide)).trans (W8_main_arg8 m ρ c)⟩
  · refine (θ_run _ _ _).mono (fun r h c => ?_) (Reference3Ideal.Value.run m' ρ')
    obtain ⟨a0, a1, a2, a3, a4, a5, a6, a7, a8⟩ := hag c
    exact ⟨(h c).1.trans ((val_main_v9_eq _ _).trans (by
        rw [a0, a1]; exact Products.Arr2.eq (Reference3Ideal.Products.projected _ _) (Kernel3Ideal.Products.projected m ρ c))),
      (h c).2.1.trans ((val_main_v21_eq _ _).trans (by
        rw [a3, a4]; exact Products.Arr2.eq (Reference3Ideal.Products.queries _ _) (Kernel3Ideal.Products.queries m ρ c))),
      (h c).2.2.1.trans ((val_main_v35_eq _ _).trans (by
        rw [a6, a7]; exact Products.Arr2.eq (Reference3Ideal.Products.keysValues _ _) (Kernel3Ideal.Products.keysValues m ρ c))),
      (h c).2.2.2.1.trans ((val_main_v22_eq _ _).trans (by
        rw [a4, a5]; exact Products.Arr2.eq (Reference3Ideal.Products.queryRankGrad _ _) (Kernel3Ideal.Products.queryRankGrad m ρ c))),
      (h c).2.2.2.2.1.trans ((val_main_v23_eq _ _).trans (by
        rw [a3, a5]; exact Products.Arr2.eq (Reference3Ideal.Products.queryGrad _ _) (Kernel3Ideal.Products.queryGrad m ρ c))),
      (h c).2.2.2.2.2.1.trans ((val_main_v36_eq _ _).trans (by
        rw [a7, a8]; exact Products.Arr2.eq (Reference3Ideal.Products.keyRankGrad _ _) (Kernel3Ideal.Products.keyRankGrad m ρ c))),
      (h c).2.2.2.2.2.2.1.trans ((val_main_v37_eq _ _).trans (by
        rw [a6, a8]; exact Products.Arr3.eq (Reference3Ideal.Products.keyGrad _ _) (Kernel3Ideal.Products.keyGrad m ρ c))),
      (h c).2.2.2.2.2.2.2.1.trans ((val_main_v11_eq _ _).trans (by
        rw [a0, a2]; exact Products.Arr2.eq (Reference3Ideal.Products.inGrad _ _) (Kernel3Ideal.Products.inGrad m ρ c))),
      (h c).2.2.2.2.2.2.2.2⟩

theorem refFrame4 : @quiescent_Reference4Ideal Reference4Ideal.Gen.facts :=
  fun m ρ _ => (θ_run _ _ _).mono (fun r h => ⟨fun c => (h c).2.2, sem_eq_zero_of_no_sems (by decide) r.2⟩)
    (Reference4Ideal.Value.run m ρ)

theorem refFrame5 : @quiescent_Reference5Ideal Reference5Ideal.Gen.facts :=
  fun m ρ _ => (θ_run _ _ _).mono (fun r h => ⟨fun c => (h c).2, sem_eq_zero_of_no_sems (by decide) r.2⟩)
    (Reference5Ideal.Value.run m ρ)

theorem refFrame6 : @quiescent_Reference6Ideal Reference6Ideal.Gen.facts :=
  fun m ρ _ => (θ_run _ _ _).mono (fun r h => ⟨fun c => (h c).2, sem_eq_zero_of_no_sems (by decide) r.2⟩)
    (Reference6Ideal.Value.run m ρ)

theorem refFrame7 : @quiescent_Reference7Ideal Reference7Ideal.Gen.facts :=
  fun m ρ _ => (θ_run _ _ _).mono (fun r h => ⟨fun c => (h c).2.2, sem_eq_zero_of_no_sems (by decide) r.2⟩)
    (Reference7Ideal.Value.run m ρ)

theorem refFrame8 : @quiescent_Reference8Ideal Reference8Ideal.Gen.facts :=
  fun m ρ _ => (θ_run _ _ _).mono (fun r h => ⟨fun c => (h c).2, sem_eq_zero_of_no_sems (by decide) r.2⟩)
    (Reference8Ideal.Value.run m ρ)

theorem refFrame11 : @quiescent_Reference11Ideal Reference11Ideal.Gen.facts :=
  fun m ρ _ => (θ_run _ _ _).mono (fun r h => ⟨fun c => (h c).2.2.2, sem_eq_zero_of_no_sems (by decide) r.2⟩)
    (Reference11Ideal.Value.run m ρ)

theorem refFrame14 : @quiescent_Reference14Ideal Reference14Ideal.Gen.facts :=
  fun m ρ _ => (θ_run _ _ _).mono (fun r h => ⟨fun c => (h c).2, sem_eq_zero_of_no_sems (by decide) r.2⟩)
    (Reference14Ideal.Value.run m ρ)

theorem refFrame15 : @quiescent_Reference15Ideal Reference15Ideal.Gen.facts :=
  fun m ρ _ => (θ_run _ _ _).mono (fun r h => ⟨fun c => (h c).2, sem_eq_zero_of_no_sems (by decide) r.2⟩)
    (Reference15Ideal.Value.run m ρ)

theorem refFrame18 : @quiescent_Reference18Ideal Reference18Ideal.Gen.facts :=
  fun m ρ _ => (θ_run _ _ _).mono (fun r h => ⟨fun c => (h c).2.2, sem_eq_zero_of_no_sems (by decide) r.2⟩)
    (Reference18Ideal.Value.run m ρ)

open Kernel4Ideal Kernel4Ideal.Gen Reference4Ideal.Read in
/-- The norm's rows and the gated rows are the reference's. -/
theorem agree4 : @algebraic_Kernel4Ideal_Reference4Ideal Kernel4Ideal.Gen.facts Reference4Ideal.Gen.facts := by
  intro m ρ m' ρ' _ hag
  refine ⟨fun c => W2 m ρ c main_v0, fun c => W2 m ρ c main_v1, ?_, ?_⟩
  · refine (θ_run _ _ _).mono (fun r h c => ?_) (Kernel4Ideal.Products.run_all m ρ)
    have at_end : ∀ b : Ref sig .tc, ¬ (Proc.devRef .tc b : DevRef τ sig).isScoped →
        r.2.mem ((c.tc : Thread nD τ).loc b) = W2 m ρ c b := fun b hb => h.1 c _ (mem_uc b hb)
    exact ⟨at_end main_v0 (by decide),
      at_end main_v1 (by decide),
      (at_end main_arg0 (by decide)).trans (W2_main_arg0 m ρ c),
      (at_end main_arg1 (by decide)).trans (W2_main_arg1 m ρ c),
      (at_end main_arg2 (by decide)).trans (W2_main_arg2 m ρ c),
      (at_end main_arg3 (by decide)).trans (W2_main_arg3 m ρ c),
      (at_end main_arg4 (by decide)).trans (W2_main_arg4 m ρ c)⟩
  · refine (θ_run _ _ _).mono (fun r h c => ?_) (Reference4Ideal.Value.run m' ρ')
    obtain ⟨a0, a1, a2, a3, a4⟩ := hag c
    exact ⟨(h c).1.trans ((val_main_v12_eq _ _).trans (by
        rw [a0, a1]; exact Products.Arr2.eq (Reference4Ideal.Products.normalized _ _) (Kernel4Ideal.Products.normalized m ρ c))),
      (h c).2.1.trans ((val_main_v28_eq _ _ _).trans (by
        rw [a2, a3, a4]; exact Products.Arr2.eq (Reference4Ideal.Products.merged _ _ _) (Kernel4Ideal.Products.merged m ρ c))),
      (h c).2.2⟩

open Kernel5Ideal Kernel5Ideal.Gen Reference5Ideal.Read in
/-- The output product with the rows it is added to is the reference's. -/
theorem agree5 : @algebraic_Kernel5Ideal_Reference5Ideal Kernel5Ideal.Gen.facts Reference5Ideal.Gen.facts := by
  intro m ρ m' ρ' _ hag
  refine ⟨fun c => (dats m 0 c).arrAt 6 cfg0.N, Kernel5Ideal.Value.run_blocks m ρ, ?_⟩
  refine (θ_run _ _ _).mono (fun r h c => ?_) (Reference5Ideal.Value.run m' ρ')
  obtain ⟨a0, a1, a2⟩ := hag c
  exact ⟨(h c).1.trans ((val_main_v5_eq _ _ _).trans (by
      rw [a0, a1, a2]; exact Products.Arr2.eq (Reference5Ideal.Products.projected _ _ _)
        (Kernel5Ideal.Products.result m c (Products.arr2_rd2 _) (Products.arr3_rd3 _) (Products.arr2_rd2 _)))),
    (h c).2⟩

open Kernel6Ideal Kernel6Ideal.Gen Reference6Ideal.Read in
/-- The output product's row gradient is the reference's. -/
theorem agree6 : @algebraic_Kernel6Ideal_Reference6Ideal Kernel6Ideal.Gen.facts Reference6Ideal.Gen.facts := by
  intro m ρ m' ρ' _ hag
  refine ⟨fun c => (dats m 0 c).arrAt 2 cfg0.N, Kernel6Ideal.Value.run_blocks m ρ, ?_⟩
  refine (θ_run _ _ _).mono (fun r h c => ?_) (Reference6Ideal.Value.run m' ρ')
  obtain ⟨a0, a1⟩ := hag c
  exact ⟨(h c).1.trans ((val_main_v7_eq _ _).trans (by
      rw [a0, a1]; exact Products.Arr2.eq (Reference6Ideal.Products.pulledBack _ _)
        (Kernel6Ideal.Products.result m c (Products.arr2_rd2 _) (Products.arr3_rd3 _)))),
    (h c).2⟩

open Kernel7Ideal Kernel7Ideal.Gen Reference7Ideal.Read in
/-- The norm's gradients are the reference's. -/
theorem agree7 : @algebraic_Kernel7Ideal_Reference7Ideal Kernel7Ideal.Gen.facts Reference7Ideal.Gen.facts := by
  intro m ρ m' ρ' _ hag
  refine ⟨fun c => (dats m 0 c).arrAt 4 cfg0.N, fun c => (dats m 0 c).arrAt 5 cfg0.N, Kernel7Ideal.Value.run_blocks m ρ, ?_⟩
  refine (θ_run _ _ _).mono (fun r h c => ?_) (Reference7Ideal.Value.run m' ρ')
  obtain ⟨a0, a1, a2, a3⟩ := hag c
  exact ⟨(h c).1.trans ((val_main_v35_eq _ _ _ _).trans (by
      rw [a0, a1, a2, a3]; exact Products.Arr2.eq (Reference7Ideal.Products.rowsGrad _ _ _ _)
        (Kernel7Ideal.Products.rowsGrad m c (Products.arr2_rd2 _) (Products.arr2_rd2 _) (Products.arr2_rd2 _) (Products.arr2_rd2 _)))),
    (h c).2.1.trans ((val_main_v18_eq _ _).trans (by
      rw [a0, a2]; exact Products.Arr2.eq (Reference7Ideal.Products.gainGrad _ _)
        (Kernel7Ideal.Products.gainGrad m c (Products.arr2_rd2 _) (Products.arr2_rd2 _) (Products.arr2_rd2 _) (Products.arr2_rd2 _)))),
    (h c).2.2⟩

open Kernel8Ideal Kernel8Ideal.Gen Reference8Ideal.Read in
/-- The two weight gradients set in one array are the reference's. -/
theorem agree8 : @algebraic_Kernel8Ideal_Reference8Ideal Kernel8Ideal.Gen.facts Reference8Ideal.Gen.facts := by
  intro m ρ m' ρ' _ hag
  refine ⟨fun c => W3 m ρ c main_v1, ?_, ?_⟩
  · refine (θ_run _ _ _).mono (fun r h c => ?_) (Kernel8Ideal.Products.run_all m ρ)
    have at_end : ∀ b : Ref sig .tc, ¬ (Proc.devRef .tc b : DevRef τ sig).isScoped →
        r.2.mem ((c.tc : Thread nD τ).loc b) = W3 m ρ c b := fun b hb => h.1 c _ (mem_uc b hb)
    exact ⟨at_end main_v1 (by decide),
      (at_end main_arg0 (by decide)).trans (W3_main_arg0 m ρ c),
      (at_end main_arg1 (by decide)).trans (W3_main_arg1 m ρ c),
      (at_end main_arg2 (by decide)).trans (W3_main_arg2 m ρ c),
      (at_end main_arg3 (by decide)).trans (W3_main_arg3 m ρ c)⟩
  · refine (θ_run _ _ _).mono (fun r h c => ?_) (Reference8Ideal.Value.run m' ρ')
    obtain ⟨a0, a1, a2, a3⟩ := hag c
    exact ⟨(h c).1.trans ((val_main_v13_eq _ _ _ _).trans (by
        rw [a0, a1, a2, a3]; exact Products.Arr3.eq (Reference8Ideal.Products.pair _ _ _ _) (Kernel8Ideal.Products.pair m ρ c))),
      (h c).2⟩

open Kernel11Ideal Kernel11Ideal.Gen Reference11Ideal.Read in
/-- One step of the optimizer is the reference's. -/
theorem agree11 : @algebraic_Kernel11Ideal_Reference11Ideal Kernel11Ideal.Gen.facts Reference11Ideal.Gen.facts := by
  intro m ρ m' ρ' _ hag
  refine ⟨fun c => (dats m 0 c).arrAt 4 cfg0.N, fun c => (dats m 0 c).arrAt 5 cfg0.N, fun c => (dats m 0 c).arrAt 6 cfg0.N, Kernel11Ideal.Value.run_blocks m ρ, ?_⟩
  refine (θ_run _ _ _).mono (fun r h c => ?_) (Reference11Ideal.Value.run m' ρ')
  obtain ⟨a0, a1, a2, a3⟩ := hag c
  exact ⟨(h c).1.trans ((val_main_v23_eq _ _ _ _).trans (by
      rw [a0, a1, a2, a3]
      exact funext fun i => (Reference11Ideal.Optimizer.changes _ _ _ _ i).trans (Kernel11Ideal.Optimizer.changes m c i).symm)),
    (h c).2.1.trans ((val_main_v4_eq _ _).trans (by
      rw [a1, a2]
      exact funext fun i => (Reference11Ideal.Optimizer.means _ _ i).trans (Kernel11Ideal.Optimizer.means m c i).symm)),
    (h c).2.2.1.trans ((val_main_v10_eq _ _).trans (by
      rw [a1, a3]
      exact funext fun i => (Reference11Ideal.Optimizer.squares _ _ i).trans (Kernel11Ideal.Optimizer.squares m c i).symm)),
    (h c).2.2.2⟩

open Kernel14Ideal Kernel14Ideal.Gen Reference14Ideal.Read in
/-- The memory's projection is the reference's. -/
theorem agree14 : @algebraic_Kernel14Ideal_Reference14Ideal Kernel14Ideal.Gen.facts Reference14Ideal.Gen.facts := by
  intro m ρ m' ρ' _ hag
  refine ⟨fun c => (dats m 0 c).arrAt 5 cfg0.N, Kernel14Ideal.Value.run_blocks m ρ, ?_⟩
  refine (θ_run _ _ _).mono (fun r h c => ?_) (Reference14Ideal.Value.run m' ρ')
  obtain ⟨a0, a1⟩ := hag c
  exact ⟨(h c).1.trans ((val_main_v4_eq _ _).trans (by
      rw [a0, a1]; exact Products.Arr2.eq (Reference14Ideal.Products.projected _ _)
        (Kernel14Ideal.Products.result m c (Products.arr2_rd2 _) (Products.arr3_rd3 _)))),
    (h c).2⟩

open Kernel15Ideal Kernel15Ideal.Gen Reference15Ideal.Read in
/-- Its row gradient is the reference's. -/
theorem agree15 : @algebraic_Kernel15Ideal_Reference15Ideal Kernel15Ideal.Gen.facts Reference15Ideal.Gen.facts := by
  intro m ρ m' ρ' _ hag
  refine ⟨fun c => (dats m 0 c).arrAt 2 cfg0.N, Kernel15Ideal.Value.run_blocks m ρ, ?_⟩
  refine (θ_run _ _ _).mono (fun r h c => ?_) (Reference15Ideal.Value.run m' ρ')
  obtain ⟨a0, a1⟩ := hag c
  exact ⟨(h c).1.trans ((val_main_v5_eq _ _).trans (by
      rw [a0, a1]; exact Products.Arr2.eq (Reference15Ideal.Products.pulledBack _ _)
        (Kernel15Ideal.Products.result m c (Products.arr2_rd2 _) (Products.arr3_rd3 _)))),
    (h c).2⟩

open Kernel18Ideal Kernel18Ideal.Gen Reference18Ideal.Read in
/-- The rows' gradient and the loss are the reference's. -/
theorem agree18 : @algebraic_Kernel18Ideal_Reference18Ideal Kernel18Ideal.Gen.facts Reference18Ideal.Gen.facts := by
  intro m ρ m' ρ' _ hag
  refine ⟨fun c => (dats m 0 c).arrAt 2 cfg0.N, fun c => (dats m 0 c).arrAt 3 cfg0.N, Kernel18Ideal.Value.run_blocks m ρ, ?_⟩
  refine (θ_run _ _ _).mono (fun r h c => ?_) (Reference18Ideal.Value.run m' ρ')
  obtain ⟨a0, a1⟩ := hag c
  exact ⟨(h c).1.trans ((val_main_v14_eq _ _).trans (by
      rw [a0, a1]; exact Products.Arr2.eq (Reference18Ideal.Products.rowsGrad _ _)
        (Kernel18Ideal.Products.rowsGrad m c (Products.arr2_rd2 _) (Products.arr2_rd2 _)))),
    (h c).2.1.trans ((val_main_v15_eq _ _).trans (by
      rw [a0, a1]; exact Products.Arr2.eq (Reference18Ideal.Products.loss _ _)
        (Kernel18Ideal.Products.loss m c (Products.arr2_rd2 _) (Products.arr2_rd2 _)))),
    (h c).2.2⟩

/-! Six programs have the text of six others but for names, so the others' runs are theirs: the first layer's gradients of its
output projection, of its memory's weight and of its norm, its memory's projection with the rows' gradient, and the optimizer's step
of a second weight. -/

section SameText

set_option smartUnfolding false

theorem frame9 : @quiescent_Kernel9 Kernel9.Gen.facts :=
  show @quiescent_Kernel8 Kernel8.Gen.facts from fun m ρ _ => Kernel8.Gen.frame m ρ

theorem frame9Ideal : @quiescent_Kernel9Ideal Kernel9Ideal.Gen.facts :=
  show @quiescent_Kernel8Ideal Kernel8Ideal.Gen.facts from fun m ρ _ => Kernel8Ideal.Gen.frame m ρ

theorem agree9 : @algebraic_Kernel9Ideal_Reference8Ideal Kernel9Ideal.Gen.facts Reference8Ideal.Gen.facts := agree8

theorem frame10 : @quiescent_Kernel10 Kernel10.Gen.facts :=
  show @quiescent_Kernel6 Kernel6.Gen.facts from fun m ρ _ => Kernel6.Gen.frame m ρ

theorem frame10Ideal : @quiescent_Kernel10Ideal Kernel10Ideal.Gen.facts :=
  show @quiescent_Kernel6Ideal Kernel6Ideal.Gen.facts from fun m ρ _ => Kernel6Ideal.Gen.frame m ρ

theorem agree10 : @algebraic_Kernel10Ideal_Reference6Ideal Kernel10Ideal.Gen.facts Reference6Ideal.Gen.facts := agree6

theorem frame12 : @quiescent_Kernel12 Kernel12.Gen.facts :=
  show @quiescent_Kernel11 Kernel11.Gen.facts from fun m ρ _ => Kernel11.Gen.frame m ρ

theorem frame12Ideal : @quiescent_Kernel12Ideal Kernel12Ideal.Gen.facts :=
  show @quiescent_Kernel11Ideal Kernel11Ideal.Gen.facts from fun m ρ _ => Kernel11Ideal.Gen.frame m ρ

theorem agree12 : @algebraic_Kernel12Ideal_Reference11Ideal Kernel12Ideal.Gen.facts Reference11Ideal.Gen.facts := agree11

theorem frame13 : @quiescent_Kernel13 Kernel13.Gen.facts :=
  show @quiescent_Kernel7 Kernel7.Gen.facts from fun m ρ _ => Kernel7.Gen.frame m ρ

theorem frame13Ideal : @quiescent_Kernel13Ideal Kernel13Ideal.Gen.facts :=
  show @quiescent_Kernel7Ideal Kernel7Ideal.Gen.facts from fun m ρ _ => Kernel7Ideal.Gen.frame m ρ

theorem agree13 : @algebraic_Kernel13Ideal_Reference7Ideal Kernel13Ideal.Gen.facts Reference7Ideal.Gen.facts := agree7

theorem frame16 : @quiescent_Kernel16 Kernel16.Gen.facts :=
  show @quiescent_Kernel14 Kernel14.Gen.facts from fun m ρ _ => Kernel14.Gen.frame m ρ

theorem frame16Ideal : @quiescent_Kernel16Ideal Kernel16Ideal.Gen.facts :=
  show @quiescent_Kernel14Ideal Kernel14Ideal.Gen.facts from fun m ρ _ => Kernel14Ideal.Gen.frame m ρ

theorem agree16 : @algebraic_Kernel16Ideal_Reference14Ideal Kernel16Ideal.Gen.facts Reference14Ideal.Gen.facts := agree14

theorem frame17 : @quiescent_Kernel17 Kernel17.Gen.facts :=
  show @quiescent_Kernel15 Kernel15.Gen.facts from fun m ρ _ => Kernel15.Gen.frame m ρ

theorem frame17Ideal : @quiescent_Kernel17Ideal Kernel17Ideal.Gen.facts :=
  show @quiescent_Kernel15Ideal Kernel15Ideal.Gen.facts from fun m ρ _ => Kernel15Ideal.Gen.frame m ρ

theorem agree17 : @algebraic_Kernel17Ideal_Reference15Ideal Kernel17Ideal.Gen.facts Reference15Ideal.Gen.facts := agree15

end SameText

theorem claim : Cert.Claim :=
  ⟨Kernel.Gen.facts, KernelIdeal.Gen.facts, ReferenceIdeal.Gen.facts,
    Kernel2.Gen.facts, Kernel2Ideal.Gen.facts, Reference2Ideal.Gen.facts,
    Kernel3.Gen.facts, Kernel3Ideal.Gen.facts, Reference3Ideal.Gen.facts,
    Kernel4.Gen.facts, Kernel4Ideal.Gen.facts, Reference4Ideal.Gen.facts,
    Kernel5.Gen.facts, Kernel5Ideal.Gen.facts, Reference5Ideal.Gen.facts,
    Kernel6.Gen.facts, Kernel6Ideal.Gen.facts, Reference6Ideal.Gen.facts,
    Kernel7.Gen.facts, Kernel7Ideal.Gen.facts, Reference7Ideal.Gen.facts,
    Kernel8.Gen.facts, Kernel8Ideal.Gen.facts, Reference8Ideal.Gen.facts,
    Kernel9.Gen.facts, Kernel9Ideal.Gen.facts,
    Kernel10.Gen.facts, Kernel10Ideal.Gen.facts,
    Kernel11.Gen.facts, Kernel11Ideal.Gen.facts, Reference11Ideal.Gen.facts,
    Kernel12.Gen.facts, Kernel12Ideal.Gen.facts,
    Kernel13.Gen.facts, Kernel13Ideal.Gen.facts,
    Kernel14.Gen.facts, Kernel14Ideal.Gen.facts, Reference14Ideal.Gen.facts,
    Kernel15.Gen.facts, Kernel15Ideal.Gen.facts, Reference15Ideal.Gen.facts,
    Kernel16.Gen.facts, Kernel16Ideal.Gen.facts, Kernel17.Gen.facts, Kernel17Ideal.Gen.facts,
    Kernel18.Gen.facts, Kernel18Ideal.Gen.facts, Reference18Ideal.Gen.facts, finiteFacts,
    fun m ρ _ => Kernel.Attn.frame m ρ,
    fun m ρ _ => KernelIdeal.Attn.frame m ρ,
    fun m ρ _ => KernelIdeal.Attn.frame m ρ,
    fun m ρ _ => refFrame m ρ trivial,
    fun m ρ _ => refFrame m ρ trivial,
    fun m ρ _ => Kernel2.Gen.frame m ρ,
    fun m ρ _ => Kernel2Ideal.Gen.frame m ρ,
    refFrame2,
    fun m ρ _ => Kernel3.Gen.frame m ρ,
    fun m ρ _ => Kernel3Ideal.Gen.frame m ρ,
    refFrame3,
    fun m ρ _ => Kernel4.Gen.frame m ρ,
    fun m ρ _ => Kernel4Ideal.Gen.frame m ρ,
    refFrame4,
    fun m ρ _ => Kernel5.Gen.frame m ρ,
    fun m ρ _ => Kernel5Ideal.Gen.frame m ρ,
    refFrame5,
    fun m ρ _ => Kernel6.Gen.frame m ρ,
    fun m ρ _ => Kernel6Ideal.Gen.frame m ρ,
    refFrame6,
    fun m ρ _ => Kernel7.Gen.frame m ρ,
    fun m ρ _ => Kernel7Ideal.Gen.frame m ρ,
    refFrame7,
    fun m ρ _ => Kernel8.Gen.frame m ρ,
    fun m ρ _ => Kernel8Ideal.Gen.frame m ρ,
    refFrame8,
    frame9, frame9Ideal, frame10, frame10Ideal,
    fun m ρ _ => Kernel11.Gen.frame m ρ,
    fun m ρ _ => Kernel11Ideal.Gen.frame m ρ,
    refFrame11, frame12, frame12Ideal, frame13, frame13Ideal,
    fun m ρ _ => Kernel14.Gen.frame m ρ, fun m ρ _ => Kernel14Ideal.Gen.frame m ρ, refFrame14,
    fun m ρ _ => Kernel15.Gen.frame m ρ, fun m ρ _ => Kernel15Ideal.Gen.frame m ρ, refFrame15,
    frame16, frame16Ideal, frame17, frame17Ideal,
    fun m ρ _ => Kernel18.Gen.frame m ρ, fun m ρ _ => Kernel18Ideal.Gen.frame m ρ, refFrame18,
    ⟨IdealRules.named_const.statement KernelIdeal.κ "s" .f32 0x3D93CD3A#32 _ rfl,
      IdealRules.named_const.statement KernelIdeal.κ "mask" .f32 0xFF7F0000#32 _ rfl⟩,
    agree, trivial, agree2, trivial, agree3, trivial, agree4, trivial, agree5, trivial, agree6, trivial, agree7, trivial, agree8,
    trivial, agree9, trivial, agree10, trivial, agree11, trivial, agree12, trivial, agree13,
    trivial, agree14, trivial, agree15, trivial, agree16, trivial, agree17, trivial, agree18⟩

end Cert.Proof

end
